-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v95)) (v1 : (c : Dev Cert.KernelIdeal.nD) → Buf (Elt Ideal) ((c.tc : Thread Cert.KernelIdeal.nD Cert.KernelIdeal.τ).loc Cert.KernelIdeal.main_v98)) (v2 : (c : Dev Cert.KernelIdeal.nD) → Buf (Elt Ideal) ((c.tc : Thread Cert.KernelIdeal.nD Cert.KernelIdeal.τ).loc Cert.KernelIdeal.main_v101)) (v3 : (c : Dev Cert.KernelIdeal.nD) → Buf (Elt Ideal) ((c.tc : Thread Cert.KernelIdeal.nD Cert.KernelIdeal.τ).loc Cert.KernelIdeal.main_v102)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_v98) = v1 c
          ∧ r.2.mem ((c.tc : Thread Cert.KernelIdeal.nD Cert.KernelIdeal.τ).loc Cert.KernelIdeal.main_v101) = v2 c
          ∧ r.2.mem ((c.tc : Thread Cert.KernelIdeal.nD Cert.KernelIdeal.τ).loc Cert.KernelIdeal.main_v102) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v51) = v2 c
          ∧ r.2.mem ((c.tc : Thread Cert.ReferenceIdeal.nD Cert.ReferenceIdeal.τ).loc Cert.ReferenceIdeal.main_v73) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def preserves_Kernel10_Kernel10Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hKernel10 : Cert.Kernel10.Facts) (hKernel10Ideal : Cert.Kernel10Ideal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel10 (hKernel10 := hKernel10)
    ∧ quiescent_Kernel10Ideal (hKernel10Ideal := hKernel10Ideal)
    ∧ preserves_Kernel_KernelIdeal
    ∧ algebraic_KernelIdeal_ReferenceIdeal_pre_all_finite (hKernelIdeal := hKernelIdeal) (hReferenceIdeal := hReferenceIdeal) (hPre_all_finite := hPre_all_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ preserves_Kernel10_Kernel10Ideal
-- ==== Pre_all_finite.lean ====
abbrev S8192x16x64 : Shape := ⟨3, ![8192, 16, 64]⟩
abbrev S8192x16 : Shape := ⟨2, ![8192, 16]⟩
abbrev S_ : Shape := ⟨0, ![]⟩

class Facts : Prop where
  bcast_S_S8192x16x64 : S_.BroadcastsInDim S8192x16x64 (![] : Fin 0 → Fin S8192x16x64.rank)
  reducesTo_S8192x16x64_S_d0_1_2 : S8192x16x64.ReducesTo [0, 1, 2] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn_part1 {F : FTy → Type} [FloatOps F] (main_arg4 : FVec F S8192x16x64 .f32) (main_v13 : IVec S_ 1) (main_v16 : IVec S8192x16 1) : IVec S_ 1 :=
  let main_c_5 : IVec S_ 1 := constantI S_ 1 1#1
  let main_v17 : IVec S_ 1 := (fun x v => Host.reduce IntOp.andi x v reducesTo_S8192x16_S_d0_1 h_S_) main_v16 main_c_5
  let main_v18 : IVec S_ 1 := andi main_v13 main_v17
  let main_v19 : FVec F S8192x16x64 .f32 := Host.absf main_arg4
  let main_cst_6 : FVec F S_ .f32 := constant S_ .f32 0x7F800000#32
  let main_v20 : FVec F S8192x16x64 .f32 := broadcastInDim S8192x16x64 ![] bcast_S_S8192x16x64 main_cst_6
  let main_v21 : IVec S8192x16x64 1 := cmpf .olt main_v19 main_v20
  let main_c_7 : IVec S_ 1 := constantI S_ 1 1#1
  let main_v22 : IVec S_ 1 := (fun x v => Host.reduce IntOp.andi x v reducesTo_S8192x16x64_S_d0_1_2 h_S_) main_v21 main_c_7
  let main_v23 : IVec S_ 1 := andi main_v18 main_v22
  main_v23

def fn {F : FTy → Type} [FloatOps F] (main_arg0 : FVec F S8192x16x64 .f32) (main_arg1 : FVec F S8192x16x64 .f32) (main_arg2 : FVec F S8192x16x64 .f32) (main_arg3 : FVec F S8192x16 .f32) (main_arg4 : FVec F S8192x16x64 .f32) : IVec S_ 1 :=
  let main_v0 : FVec F S8192x16x64 .f32 := Host.absf main_arg0
  let main_cst : FVec F S_ .f32 := constant S_ .f32 0x7F800000#32
  let main_v1 : FVec F S8192x16x64 .f32 := broadcastInDim S8192x16x64 ![] bcast_S_S8192x16x64 main_cst
  let main_v2 : IVec S8192x16x64 1 := cmpf .olt main_v0 main_v1
  let main_c : IVec S_ 1 := constantI S_ 1 1#1
  let main_v3 : IVec S_ 1 := (fun x v => Host.reduce IntOp.andi x v reducesTo_S8192x16x64_S_d0_1_2 h_S_) main_v2 main_c
  let main_v4 : FVec F S8192x16x64 .f32 := Host.absf main_arg1
  let main_cst_0 : FVec F S_ .f32 := constant S_ .f32 0x7F800000#32
  let main_v5 : FVec F S8192x16x64 .f32 := broadcastInDim S8192x16x64 ![] bcast_S_S8192x16x64 main_cst_0
  let main_v6 : IVec S8192x16x64 1 := cmpf .olt main_v4 main_v5
  let main_c_1 : IVec S_ 1 := constantI S_ 1 1#1
  let main_v7 : IVec S_ 1 := (fun x v => Host.reduce IntOp.andi x v reducesTo_S8192x16x64_S_d0_1_2 h_S_) main_v6 main_c_1
  let main_v8 : IVec S_ 1 := andi main_v3 main_v7
  let main_v9 : FVec F S8192x16x64 .f32 := Host.absf main_arg2
  let main_cst_2 : FVec F S_ .f32 := constant S_ .f32 0x7F800000#32
  let main_v10 : FVec F S8192x16x64 .f32 := broadcastInDim S8192x16x64 ![] bcast_S_S8192x16x64 main_cst_2
  let main_v11 : IVec S8192x16x64 1 := cmpf .olt main_v9 main_v10
  let main_c_3 : IVec S_ 1 := constantI S_ 1 1#1
  let main_v12 : IVec S_ 1 := (fun x v => Host.reduce IntOp.andi x v reducesTo_S8192x16x64_S_d0_1_2 h_S_) main_v11 main_c_3
  let main_v13 : IVec S_ 1 := andi main_v8 main_v12
  let main_v14 : FVec F S8192x16 .f32 := Host.absf main_arg3
  let main_cst_4 : FVec F S_ .f32 := constant S_ .f32 0x7F800000#32
  let main_v15 : FVec F S8192x16 .f32 := broadcastInDim S8192x16 ![] bcast_S_S8192x16 main_cst_4
  let main_v16 : IVec S8192x16 1 := cmpf .olt main_v14 main_v15
  fn_part1 (F := F) main_arg4 main_v13 main_v16
-- ==== Kernel.lean ====
abbrev S8192x16x64 : Shape := ⟨3, ![8192, 16, 64]⟩
abbrev S8192x16 : Shape := ⟨2, ![8192, 16]⟩
abbrev S16x8192x8192 : Shape := ⟨3, ![16, 8192, 8192]⟩
abbrev S_ : Shape := ⟨0, ![]⟩
abbrev S16x8192 : Shape := ⟨2, ![16, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S16x64x8192 : Shape := ⟨3, ![16, 64, 8192]⟩
abbrev S8192x16x1 : Shape := ⟨3, ![8192, 16, 1]⟩
abbrev S8192x16x3 : Shape := ⟨3, ![8192, 16, 3]⟩
abbrev S8192x16x55 : Shape := ⟨3, ![8192, 16, 55]⟩
abbrev S8192x16x128 : Shape := ⟨3, ![8192, 16, 128]⟩
abbrev S8192x2048 : Shape := ⟨2, ![8192, 2048]⟩
abbrev S8192x16x2 : Shape := ⟨3, ![8192, 16, 2]⟩
abbrev S8192x16x62 : Shape := ⟨3, ![8192, 16, 62]⟩
abbrev S1x8192x2048 : Shape := ⟨3, ![1, 8192, 2048]⟩
abbrev S3x8192x2048 : Shape := ⟨3, ![3, 8192, 2048]⟩
abbrev S8192x128 : Shape := ⟨2, ![8192, 128]⟩
abbrev S8192x256 : Shape := ⟨2, ![8192, 256]⟩
abbrev S1x512x256 : Shape := ⟨3, ![1, 512, 256]⟩
abbrev S512x256 : Shape := ⟨2, ![512, 256]⟩
abbrev S2x128x512 : Shape := ⟨3, ![2, 128, 512]⟩
abbrev S2x16x128x512 : Shape := ⟨4, ![2, 16, 128, 512]⟩
abbrev S512x512 : Shape := ⟨2, ![512, 512]⟩
abbrev S512x128 : Shape := ⟨2, ![512, 128]⟩
abbrev S128x512 : Shape := ⟨2, ![128, 512]⟩
abbrev S1x1x128x512 : Shape := ⟨4, ![1, 1, 128, 512]⟩
abbrev S1x512x128 : Shape := ⟨3, ![1, 512, 128]⟩
abbrev S256x128 : Shape := ⟨2, ![256, 128]⟩
abbrev S128x256 : Shape := ⟨2, ![128, 256]⟩
abbrev S1x128x256 : Shape := ⟨3, ![1, 128, 256]⟩
abbrev S256x256 : Shape := ⟨2, ![256, 256]⟩
abbrev S1x1x128x256 : Shape := ⟨4, ![1, 1, 128, 256]⟩
abbrev S1024x128 : Shape := ⟨2, ![1024, 128]⟩
abbrev S1024x512 : Shape := ⟨2, ![1024, 512]⟩
abbrev S1x128x512 : Shape := ⟨3, ![1, 128, 512]⟩
abbrev S512x1 : Shape := ⟨2, ![512, 1]⟩

abbrev nBuf : Space → Nat
  | .hbm => 126
  | .vmem => 20
  | .smem => 0
  | _ => 0

abbrev bufTy : (tb : Table) → Fin (tcTables nBuf tb) → BufTy
  | .hbm, ⟨0, _⟩ => ⟨S8192x16x64, .f32⟩
  | .hbm, ⟨1, _⟩ => ⟨S8192x16x64, .f32⟩
  | .hbm, ⟨2, _⟩ => ⟨S8192x16x64, .f32⟩
  | .hbm, ⟨3, _⟩ => ⟨S8192x16, .f32⟩
  | .hbm, ⟨4, _⟩ => ⟨S8192x16x64, .f32⟩
  | .hbm, ⟨5, _⟩ => ⟨S16x8192x8192, .f32⟩
  | .hbm, ⟨6, _⟩ => ⟨S_, .f32⟩
  | .hbm, ⟨7, _⟩ => ⟨S16x8192x8192, .f32⟩
  | .hbm, ⟨8, _⟩ => ⟨S16x8192x8192, .f32⟩
  | .hbm, ⟨9, _⟩ => ⟨S16x8192, .f32⟩
  | .hbm, ⟨10, _⟩ => ⟨S16x8192x1, .f32⟩
  | .hbm, ⟨11, _⟩ => ⟨S16x1x8192, .f32⟩
  | .hbm, ⟨12, _⟩ => ⟨S16x8192x8192, .f32⟩
  | .hbm, ⟨13, _⟩ => ⟨S16x8192x8192, .f32⟩
  | .hbm, ⟨14, _⟩ => ⟨S16x8192x8192, .f32⟩
  | .hbm, ⟨15, _⟩ => ⟨S16x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S1x8192x8192, .i1⟩
  | .hbm, ⟨23, _⟩ => ⟨S_, .f32⟩
  | .hbm, ⟨24, _⟩ => ⟨S_, .f32⟩
  | .hbm, ⟨25, _⟩ => ⟨S16x8192x8192, .i1⟩
  | .hbm, ⟨26, _⟩ => ⟨S16x8192x8192, .f32⟩
  | .hbm, ⟨27, _⟩ => ⟨S16x8192x8192, .f32⟩
  | .hbm, ⟨28, _⟩ => ⟨S_, .f32⟩
  | .hbm, ⟨29, _⟩ => ⟨S16x8192, .f32⟩
  | .hbm, ⟨30, _⟩ => ⟨S16x8192x1, .f32⟩
  | .hbm, ⟨31, _⟩ => ⟨S16x8192x8192, .f32⟩
  | .hbm, ⟨32, _⟩ => ⟨S16x8192x8192, .f32⟩
  | .hbm, ⟨33, _⟩ => ⟨S16x8192x8192, .f32⟩
  | .hbm, ⟨34, _⟩ => ⟨S_, .f32⟩
  | .hbm, ⟨35, _⟩ => ⟨S16x8192, .f32⟩
  | .hbm, ⟨36, _⟩ => ⟨S16x8192x1, .f32⟩
  | .hbm, ⟨37, _⟩ => ⟨S16x8192x1, .f32⟩
  | .hbm, ⟨38, _⟩ => ⟨S16x8192x1, .f32⟩
  | .hbm, ⟨39, _⟩ => ⟨S16x8192x8192, .f32⟩
  | .hbm, ⟨40, _⟩ => ⟨S16x8192x8192, .f32⟩
  | .hbm, ⟨41, _⟩ => ⟨S16x64x8192, .f32⟩
  | .hbm, ⟨42, _⟩ => ⟨S8192x16x64, .f32⟩
  | .hbm, ⟨43, _⟩ => ⟨S16x8192, .f32⟩
  | .hbm, ⟨44, _⟩ => ⟨S8192x16, .f32⟩
  | .hbm, ⟨45, _⟩ => ⟨S8192x16x64, .f32⟩
  | .hbm, ⟨46, _⟩ => ⟨S_, .f32⟩
  | .hbm, ⟨47, _⟩ => ⟨S8192x16, .f32⟩
  | .hbm, ⟨48, _⟩ => ⟨S8192x16x1, .f32⟩
  | .hbm, ⟨49, _⟩ => ⟨S_, .bf16⟩
  | .hbm, ⟨50, _⟩ => ⟨S8192x16x3, .bf16⟩
  | .hbm, ⟨51, _⟩ => ⟨S8192x16, .bf16⟩
  | .hbm, ⟨52, _⟩ => ⟨S8192x16, .f32⟩
  | .hbm, ⟨53, _⟩ => ⟨S8192x16, .f32⟩
  | .hbm, ⟨54, _⟩ => ⟨S8192x16, .bf16⟩
  | .hbm, ⟨55, _⟩ => ⟨S8192x16, .f32⟩
  | .hbm, ⟨56, _⟩ => ⟨S8192x16, .f32⟩
  | .hbm, ⟨57, _⟩ => ⟨S8192x16, .bf16⟩
  | .hbm, ⟨58, _⟩ => ⟨S8192x16x1, .bf16⟩
  | .hbm, ⟨59, _⟩ => ⟨S8192x16x1, .bf16⟩
  | .hbm, ⟨60, _⟩ => ⟨S8192x16x1, .bf16⟩
  | .hbm, ⟨61, _⟩ => ⟨S8192x16, .f32⟩
  | .hbm, ⟨62, _⟩ => ⟨S8192x16, .bf16⟩
  | .hbm, ⟨63, _⟩ => ⟨S8192x16, .f32⟩
  | .hbm, ⟨64, _⟩ => ⟨S8192x16, .f32⟩
  | .hbm, ⟨65, _⟩ => ⟨S8192x16, .bf16⟩
  | .hbm, ⟨66, _⟩ => ⟨S8192x16, .f32⟩
  | .hbm, ⟨67, _⟩ => ⟨S8192x16, .f32⟩
  | .hbm, ⟨68, _⟩ => ⟨S8192x16, .bf16⟩
  | .hbm, ⟨69, _⟩ => ⟨S8192x16x1, .bf16⟩
  | .hbm, ⟨70, _⟩ => ⟨S8192x16x1, .bf16⟩
  | .hbm, ⟨71, _⟩ => ⟨S8192x16x1, .bf16⟩
  | .hbm, ⟨72, _⟩ => ⟨S8192x16x1, .bf16⟩
  | .hbm, ⟨73, _⟩ => ⟨S8192x16x1, .bf16⟩
  | .hbm, ⟨74, _⟩ => ⟨S8192x16x1, .bf16⟩
  | .hbm, ⟨75, _⟩ => ⟨S8192x16x1, .bf16⟩
  | .hbm, ⟨76, _⟩ => ⟨S8192x16x1, .f32⟩
  | .hbm, ⟨77, _⟩ => ⟨S8192x16x1, .f32⟩
  | .hbm, ⟨78, _⟩ => ⟨S8192x16x1, .bf16⟩
  | .hbm, ⟨79, _⟩ => ⟨S_, .f32⟩
  | .hbm, ⟨80, _⟩ => ⟨S8192x16x64, .f32⟩
  | .hbm, ⟨81, _⟩ => ⟨S8192x16x64, .f32⟩
  | .hbm, ⟨82, _⟩ => ⟨S8192x16x64, .bf16⟩
  | .hbm, ⟨83, _⟩ => ⟨S_, .bf16⟩
  | .hbm, ⟨84, _⟩ => ⟨S8192x16x55, .bf16⟩
  | .hbm, ⟨85, _⟩ => ⟨S8192x16x128, .bf16⟩
  | .hbm, ⟨86, _⟩ => ⟨S8192x2048, .bf16⟩
  | .hbm, ⟨87, _⟩ => ⟨S8192x16x64, .bf16⟩
  | .hbm, ⟨88, _⟩ => ⟨S_, .bf16⟩
  | .hbm, ⟨89, _⟩ => ⟨S8192x16x55, .bf16⟩
  | .hbm, ⟨90, _⟩ => ⟨S8192x16x128, .bf16⟩
  | .hbm, ⟨91, _⟩ => ⟨S8192x2048, .bf16⟩
  | .hbm, ⟨92, _⟩ => ⟨S8192x16x2, .bf16⟩
  | .hbm, ⟨93, _⟩ => ⟨S8192x16x64, .bf16⟩
  | .hbm, ⟨94, _⟩ => ⟨S_, .bf16⟩
  | .hbm, ⟨95, _⟩ => ⟨S8192x16x62, .bf16⟩
  | .hbm, ⟨96, _⟩ => ⟨S8192x16x128, .bf16⟩
  | .hbm, ⟨97, _⟩ => ⟨S8192x2048, .bf16⟩
  | .hbm, ⟨98, _⟩ => ⟨S8192x16x1, .bf16⟩
  | .hbm, ⟨99, _⟩ => ⟨S8192x16x1, .bf16⟩
  | .hbm, ⟨100, _⟩ => ⟨S8192x16x64, .bf16⟩
  | .hbm, ⟨101, _⟩ => ⟨S_, .bf16⟩
  | .hbm, ⟨102, _⟩ => ⟨S8192x16x62, .bf16⟩
  | .hbm, ⟨103, _⟩ => ⟨S8192x16x128, .bf16⟩
  | .hbm, ⟨104, _⟩ => ⟨S8192x2048, .bf16⟩
  | .hbm, ⟨105, _⟩ => ⟨S1x8192x2048, .bf16⟩
  | .hbm, ⟨106, _⟩ => ⟨S1x8192x2048, .bf16⟩
  | .hbm, ⟨107, _⟩ => ⟨S1x8192x2048, .bf16⟩
  | .hbm, ⟨108, _⟩ => ⟨S3x8192x2048, .bf16⟩
  | .hbm, ⟨109, _⟩ => ⟨S8192x2048, .bf16⟩
  | .hbm, ⟨110, _⟩ => ⟨S8192x2048, .bf16⟩
  | .hbm, ⟨111, _⟩ => ⟨S8192x2048, .bf16⟩
  | .hbm, ⟨112, _⟩ => ⟨S8192x128, .f32⟩
  | .hbm, ⟨113, _⟩ => ⟨S8192x2048, .f32⟩
  | .hbm, ⟨114, _⟩ => ⟨S8192x16x128, .f32⟩
  | .hbm, ⟨115, _⟩ => ⟨S8192x16x64, .f32⟩
  | .hbm, ⟨116, _⟩ => ⟨S_, .f32⟩
  | .hbm, ⟨117, _⟩ => ⟨S8192x16x64, .f32⟩
  | .hbm, ⟨118, _⟩ => ⟨S8192x16x64, .f32⟩
  | .hbm, ⟨119, _⟩ => ⟨S8192x2048, .f32⟩
  | .hbm, ⟨120, _⟩ => ⟨S8192x16x128, .f32⟩
  | .hbm, ⟨121, _⟩ => ⟨S8192x16x64, .f32⟩
  | .hbm, ⟨122, _⟩ => ⟨S8192x2048, .f32⟩
  | .hbm, ⟨123, _⟩ => ⟨S8192x16x128, .f32⟩
  | .hbm, ⟨124, _⟩ => ⟨S8192x16x64, .f32⟩
  | .hbm, ⟨125, _⟩ => ⟨S8192x16, .f32⟩
  | .local _ .vmem, ⟨0, _⟩ => ⟨S8192x256, .bf16⟩
  | .local _ .vmem, ⟨1, _⟩ => ⟨S8192x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x256, .bf16⟩
  | .local _ .vmem, ⟨5, _⟩ => ⟨S1x512x256, .bf16⟩
  | .local _ .vmem, ⟨6, _⟩ => ⟨S8192x256, .bf16⟩
  | .local _ .vmem, ⟨7, _⟩ => ⟨S8192x256, .bf16⟩
  | .local _ .vmem, ⟨8, _⟩ => ⟨S8192x256, .bf16⟩
  | .local _ .vmem, ⟨9, _⟩ => ⟨S8192x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S8192x128, .f32⟩
  | .local _ .vmem, ⟨15, _⟩ => ⟨S8192x256, .f32⟩
  | .local _ .vmem, ⟨16, _⟩ => ⟨S2x128x512, .f32⟩
  | .local _ .vmem, ⟨17, _⟩ => ⟨S2x128x512, .f32⟩
  | .local _ .vmem, ⟨18, _⟩ => ⟨S2x16x128x512, .bf16⟩
  | .local _ .vmem, ⟨19, _⟩ => ⟨S2x16x128x512, .bf16⟩
  | _, _ => ⟨S8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_cst_5 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_6 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_7 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_8 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_cst_9 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90_0 : Ref sig .tc := ⟨.hbm, 109, rfl⟩
abbrev main_v90_1 : Ref sig .tc := ⟨.hbm, 110, rfl⟩
abbrev main_v90_2 : Ref sig .tc := ⟨.hbm, 111, rfl⟩
abbrev main_v90_3 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_10 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32_1 : BitVec 32 := 0#32
  let v11 : BitVec 1 := Scalar.cmpi .eq arg1 c0_i32_1
  let v12 : BitVec 32 := Scalar.extui v11
  let c0_i32_2 : BitVec 32 := 0#32
  let v13 : BitVec 1 := Scalar.cmpi .ne v12 c0_i32_2
  v13

@[reducible] def k0_t1_loop : Scf.Loop 32 :=
  let c0_i32_177 : BitVec 32 := 0#32
  let c16_i32 : BitVec 32 := 16#32
  let v325 : BitVec 32 := Scalar.addi c0_i32_177 c16_i32
  let c1_i32_178 : BitVec 32 := 1#32
  ⟨c0_i32_177, v325, c1_i32_178⟩
def k0_mult1 (k0_t1 : Fin k0_t1_loop.trips) : BitVec 32 :=
  let c0_i32_177 : BitVec 32 := 0#32
  let c1_i32_178 : BitVec 32 := 1#32
  let arg15 : BitVec 32 := Scf.iv c0_i32_177 c1_i32_178 k0_t1
  let c512_i32_180 : BitVec 32 := 512#32
  let v326 : BitVec 32 := Scalar.muli arg15 c512_i32_180
  v326
def k0_off1 (k0_t1 : Fin k0_t1_loop.trips) : Fin 2 → Nat :=
  let c0_i32_177 : BitVec 32 := 0#32
  let c1_i32_178 : BitVec 32 := 1#32
  let arg15 : BitVec 32 := Scf.iv c0_i32_177 c1_i32_178 k0_t1
  let c512_i32_180 : BitVec 32 := 512#32
  let v326 : BitVec 32 := Scalar.muli arg15 c512_i32_180
  let v327 : BitVec 32 := v326
  let v328 : Index := Scalar.indexCast v327
  let c0_181 : Index := 0#32
  ![v328.toNat, 0]
def k0_off2 (k0_t1 : Fin k0_t1_loop.trips) : Fin 4 → Nat :=
  let c0_182 : Index := 0#32
  let c0_i32_177 : BitVec 32 := 0#32
  let c1_i32_178 : BitVec 32 := 1#32
  let arg15 : BitVec 32 := Scf.iv c0_i32_177 c1_i32_178 k0_t1
  let v332 : Index := Scalar.indexCast arg15
  let c0_183 : Index := 0#32
  let c0_184 : Index := 0#32
  ![0, v332.toNat, 0, 0]
def k0_off3 (k0_t1 : Fin k0_t1_loop.trips) : Fin 2 → Nat :=
  let c0_i32_177 : BitVec 32 := 0#32
  let c1_i32_178 : BitVec 32 := 1#32
  let arg15 : BitVec 32 := Scf.iv c0_i32_177 c1_i32_178 k0_t1
  let c512_i32_180 : BitVec 32 := 512#32
  let v326 : BitVec 32 := Scalar.muli arg15 c512_i32_180
  let v327 : BitVec 32 := v326
  let v344 : Index := Scalar.indexCast v327
  let c128_189 : Index := 128#32
  ![v344.toNat, 128]
def k0_off4 (k0_t1 : Fin k0_t1_loop.trips) : Fin 4 → Nat :=
  let c1_190 : Index := 1#32
  let c0_i32_177 : BitVec 32 := 0#32
  let c1_i32_178 : BitVec 32 := 1#32
  let arg15 : BitVec 32 := Scf.iv c0_i32_177 c1_i32_178 k0_t1
  let v348 : Index := Scalar.indexCast arg15
  let c0_191 : Index := 0#32
  let c0_192 : Index := 0#32
  ![1, v348.toNat, 0, 0]
def k0_mult2 (i : grid0.Coords) : BitVec 32 :=
  let arg1 : BitVec 32 := BitVec.ofNat 32 (i 1).val
  let c512_i32 : BitVec 32 := 512#32
  let v19 : BitVec 32 := Scalar.muli arg1 c512_i32
  v19
def k0_mult3 (i : grid0.Coords) : BitVec 32 :=
  let arg1 : BitVec 32 := BitVec.ofNat 32 (i 1).val
  let c512_i32_16 : BitVec 32 := 512#32
  let v29 : BitVec 32 := Scalar.muli arg1 c512_i32_16
  let c0_i32_17 : BitVec 32 := 0#32
  let v30 : BitVec 32 := Scalar.addi v29 c0_i32_17
  v30
def k0_off5 (i : grid0.Coords) : Fin 2 → Nat :=
  let arg1 : BitVec 32 := BitVec.ofNat 32 (i 1).val
  let c512_i32_16 : BitVec 32 := 512#32
  let v29 : BitVec 32 := Scalar.muli arg1 c512_i32_16
  let c0_i32_17 : BitVec 32 := 0#32
  let v30 : BitVec 32 := Scalar.addi v29 c0_i32_17
  let v31 : BitVec 32 := v30
  let v32 : Index := Scalar.indexCast v31
  let c0_18 : Index := 0#32
  ![v32.toNat, 0]
def k0_off6 (i : grid0.Coords) : Fin 2 → Nat :=
  let arg1 : BitVec 32 := BitVec.ofNat 32 (i 1).val
  let c512_i32_16 : BitVec 32 := 512#32
  let v29 : BitVec 32 := Scalar.muli arg1 c512_i32_16
  let c0_i32_17 : BitVec 32 := 0#32
  let v30 : BitVec 32 := Scalar.addi v29 c0_i32_17
  let v31 : BitVec 32 := v30
  let v35 : Index := Scalar.indexCast v31
  let c128_19 : Index := 128#32
  ![v35.toNat, 128]
def k0_off7 (i : grid0.Coords) : Fin 4 → Nat :=
  let c0_29 : Index := 0#32
  let arg1 : BitVec 32 := BitVec.ofNat 32 (i 1).val
  let c0_i32_28 : BitVec 32 := 0#32
  let v66 : BitVec 32 := Scalar.addi arg1 c0_i32_28
  let v67 : Index := Scalar.indexCast v66
  let c0_30 : Index := 0#32
  let c0_31 : Index := 0#32
  ![0, v67.toNat, 0, 0]
def k0_off8 (i : grid0.Coords) : Fin 4 → Nat :=
  let c1 : Index := 1#32
  let arg1 : BitVec 32 := BitVec.ofNat 32 (i 1).val
  let c0_i32_52 : BitVec 32 := 0#32
  let v108 : BitVec 32 := Scalar.addi arg1 c0_i32_52
  let v109 : Index := Scalar.indexCast v108
  let c0_53 : Index := 0#32
  let c0_54 : Index := 0#32
  ![1, v109.toNat, 0, 0]
def k0_mult4 (i : grid0.Coords) : BitVec 32 :=
  let arg1 : BitVec 32 := BitVec.ofNat 32 (i 1).val
  let c512_i32_72 : BitVec 32 := 512#32
  let v136 : BitVec 32 := Scalar.muli arg1 c512_i32_72
  let c256_i32 : BitVec 32 := 256#32
  let v137 : BitVec 32 := Scalar.addi v136 c256_i32
  v137
def k0_off9 (i : grid0.Coords) : Fin 2 → Nat :=
  let arg1 : BitVec 32 := BitVec.ofNat 32 (i 1).val
  let c512_i32_72 : BitVec 32 := 512#32
  let v136 : BitVec 32 := Scalar.muli arg1 c512_i32_72
  let c256_i32 : BitVec 32 := 256#32
  let v137 : BitVec 32 := Scalar.addi v136 c256_i32
  let v138 : BitVec 32 := v137
  let v139 : Index := Scalar.indexCast v138
  let c0_73 : Index := 0#32
  ![v139.toNat, 0]
def k0_off10 (i : grid0.Coords) : Fin 2 → Nat :=
  let arg1 : BitVec 32 := BitVec.ofNat 32 (i 1).val
  let c512_i32_72 : BitVec 32 := 512#32
  let v136 : BitVec 32 := Scalar.muli arg1 c512_i32_72
  let c256_i32 : BitVec 32 := 256#32
  let v137 : BitVec 32 := Scalar.addi v136 c256_i32
  let v138 : BitVec 32 := v137
  let v142 : Index := Scalar.indexCast v138
  let c128_74 : Index := 128#32
  ![v142.toNat, 128]
def k0_off11 (i : grid0.Coords) : Fin 4 → Nat :=
  let c0_85 : Index := 0#32
  let arg1 : BitVec 32 := BitVec.ofNat 32 (i 1).val
  let c0_i32_84 : BitVec 32 := 0#32
  let v173 : BitVec 32 := Scalar.addi arg1 c0_i32_84
  let v174 : Index := Scalar.indexCast v173
  let c0_86 : Index := 0#32
  let c256 : Index := 256#32
  ![0, v174.toNat, 0, 256]
def k0_off12 (i : grid0.Coords) : Fin 4 → Nat :=
  let c1_108 : Index := 1#32
  let arg1 : BitVec 32 := BitVec.ofNat 32 (i 1).val
  let c0_i32_107 : BitVec 32 := 0#32
  let v215 : BitVec 32 := Scalar.addi arg1 c0_i32_107
  let v216 : Index := Scalar.indexCast v215
  let c0_109 : Index := 0#32
  let c256_110 : Index := 256#32
  ![1, v216.toNat, 0, 256]
@[reducible] def k0_t2_loop (i : grid0.Coords) : Scf.Loop 32 :=
  let c0_i32_135 : BitVec 32 := 0#32
  let c15_i32 : BitVec 32 := 15#32
  let arg1 : BitVec 32 := BitVec.ofNat 32 (i 1).val
  let v243 : BitVec 32 := Scalar.subi c15_i32 arg1
  let c0_i32_129 : BitVec 32 := 0#32
  let v245 : BitVec 1 := Scalar.cmpi .sgt v243 c0_i32_129
  let v246 : BitVec 32 := Scalar.extui v245
  let c0_i32_130 : BitVec 32 := 0#32
  let v247 : BitVec 1 := Scalar.cmpi .slt v243 c0_i32_130
  let v248 : BitVec 32 := Scalar.extui v247
  let v249 : BitVec 32 := Scalar.subi v246 v248
  let c2_i32_128 : BitVec 32 := 2#32
  let c0_i32_131 : BitVec 32 := 0#32
  let v250 : BitVec 1 := Scalar.cmpi .sgt c2_i32_128 c0_i32_131
  let v251 : BitVec 32 := Scalar.extui v250
  let c0_i32_132 : BitVec 32 := 0#32
  let v252 : BitVec 1 := Scalar.cmpi .slt c2_i32_128 c0_i32_132
  let v253 : BitVec 32 := Scalar.extui v252
  let v254 : BitVec 32 := Scalar.subi v251 v253
  let v255 : BitVec 1 := Scalar.cmpi .ne v249 v254
  let v256 : BitVec 32 := Scalar.remsi v243 c2_i32_128
  let c0_i32_133 : BitVec 32 := 0#32
  let v257 : BitVec 1 := Scalar.cmpi .ne v256 c0_i32_133
  let v258 : BitVec 1 := Scalar.andi v255 v257
  let v244 : BitVec 32 := Scalar.divsi v243 c2_i32_128
  let c1_i32_134 : BitVec 32 := 1#32
  let v259 : BitVec 32 := Scalar.subi v244 c1_i32_134
  let v260 : BitVec 32 := Scalar.select v258 v259 v244
  let v261 : BitVec 32 := Scalar.subi v260 c0_i32_135
  let c1_i32_137 : BitVec 32 := 1#32
  let v263 : BitVec 32 := Scalar.divsi v261 c1_i32_137
  let v264 : BitVec 32 := Scalar.muli v263 c1_i32_137
  let v265 : BitVec 32 := Scalar.addi c0_i32_135 v264
  let c1_i32_138 : BitVec 32 := 1#32
  ⟨c0_i32_135, v265, c1_i32_138⟩
def k0_mult5 (i : grid0.Coords) (k0_t2 : Fin (k0_t2_loop i).trips) : BitVec 32 :=
  let arg1 : BitVec 32 := BitVec.ofNat 32 (i 1).val
  let c1_i32_174 : BitVec 32 := 1#32
  let v321 : BitVec 32 := Scalar.addi arg1 c1_i32_174
  let c2_i32_175 : BitVec 32 := 2#32
  let c0_i32_135 : BitVec 32 := 0#32
  let c1_i32_138 : BitVec 32 := 1#32
  let arg15 : BitVec 32 := Scf.iv c0_i32_135 c1_i32_138 k0_t2
  let v322 : BitVec 32 := Scalar.muli c2_i32_175 arg15
  let v323 : BitVec 32 := Scalar.addi v321 v322
  let c512_i32_176 : BitVec 32 := 512#32
  let v324 : BitVec 32 := Scalar.muli v323 c512_i32_176
  let c0_i32_177 : BitVec 32 := 0#32
  let v325 : BitVec 32 := Scalar.addi v324 c0_i32_177
  v325
def k0_off13 (i : grid0.Coords) (k0_t2 : Fin (k0_t2_loop i).trips) : Fin 2 → Nat :=
  let arg1 : BitVec 32 := BitVec.ofNat 32 (i 1).val
  let c1_i32_174 : BitVec 32 := 1#32
  let v321 : BitVec 32 := Scalar.addi arg1 c1_i32_174
  let c2_i32_175 : BitVec 32 := 2#32
  let c0_i32_135 : BitVec 32 := 0#32
  let c1_i32_138 : BitVec 32 := 1#32
  let arg15 : BitVec 32 := Scf.iv c0_i32_135 c1_i32_138 k0_t2
  let v322 : BitVec 32 := Scalar.muli c2_i32_175 arg15
  let v323 : BitVec 32 := Scalar.addi v321 v322
  let c512_i32_176 : BitVec 32 := 512#32
  let v324 : BitVec 32 := Scalar.muli v323 c512_i32_176
  let c0_i32_177 : BitVec 32 := 0#32
  let v325 : BitVec 32 := Scalar.addi v324 c0_i32_177
  let v326 : BitVec 32 := v325
  let v327 : Index := Scalar.indexCast v326
  let c0_178 : Index := 0#32
  ![v327.toNat, 0]
def k0_off14 (i : grid0.Coords) (k0_t2 : Fin (k0_t2_loop i).trips) : Fin 2 → Nat :=
  let arg1 : BitVec 32 := BitVec.ofNat 32 (i 1).val
  let c1_i32_174 : BitVec 32 := 1#32
  let v321 : BitVec 32 := Scalar.addi arg1 c1_i32_174
  let c2_i32_175 : BitVec 32 := 2#32
  let c0_i32_135 : BitVec 32 := 0#32
  let c1_i32_138 : BitVec 32 := 1#32
  let arg15 : BitVec 32 := Scf.iv c0_i32_135 c1_i32_138 k0_t2
  let v322 : BitVec 32 := Scalar.muli c2_i32_175 arg15
  let v323 : BitVec 32 := Scalar.addi v321 v322
  let c512_i32_176 : BitVec 32 := 512#32
  let v324 : BitVec 32 := Scalar.muli v323 c512_i32_176
  let c0_i32_177 : BitVec 32 := 0#32
  let v325 : BitVec 32 := Scalar.addi v324 c0_i32_177
  let v326 : BitVec 32 := v325
  let v330 : Index := Scalar.indexCast v326
  let c128_179 : Index := 128#32
  ![v330.toNat, 128]
def k0_off15 (i : grid0.Coords) (k0_t2 : Fin (k0_t2_loop i).trips) (c0_i32_186 : BitVec 32) : Fin 4 → Nat :=
  let c0_187 : Index := 0#32
  let arg1 : BitVec 32 := BitVec.ofNat 32 (i 1).val
  let c1_i32_174 : BitVec 32 := 1#32
  let v321 : BitVec 32 := Scalar.addi arg1 c1_i32_174
  let c2_i32_175 : BitVec 32 := 2#32
  let c0_i32_135 : BitVec 32 := 0#32
  let c1_i32_138 : BitVec 32 := 1#32
  let arg15 : BitVec 32 := Scf.iv c0_i32_135 c1_i32_138 k0_t2
  let v322 : BitVec 32 := Scalar.muli c2_i32_175 arg15
  let v323 : BitVec 32 := Scalar.addi v321 v322
  let v348 : BitVec 32 := Scalar.addi v323 c0_i32_186
  let v349 : Index := Scalar.indexCast v348
  let c0_188 : Index := 0#32
  let c0_189 : Index := 0#32
  ![0, v349.toNat, 0, 0]
def k0_off16 (i : grid0.Coords) (k0_t2 : Fin (k0_t2_loop i).trips) (c0_i32_223 : BitVec 32) : Fin 4 → Nat :=
  let c1_224 : Index := 1#32
  let arg1 : BitVec 32 := BitVec.ofNat 32 (i 1).val
  let c1_i32_174 : BitVec 32 := 1#32
  let v321 : BitVec 32 := Scalar.addi arg1 c1_i32_174
  let c2_i32_175 : BitVec 32 := 2#32
  let c0_i32_135 : BitVec 32 := 0#32
  let c1_i32_138 : BitVec 32 := 1#32
  let arg15 : BitVec 32 := Scf.iv c0_i32_135 c1_i32_138 k0_t2
  let v322 : BitVec 32 := Scalar.muli c2_i32_175 arg15
  let v323 : BitVec 32 := Scalar.addi v321 v322
  let v403 : BitVec 32 := Scalar.addi v323 c0_i32_223
  let v404 : Index := Scalar.indexCast v403
  let c0_225 : Index := 0#32
  let c0_226 : Index := 0#32
  ![1, v404.toNat, 0, 0]
@[reducible] def k0_t3_loop (i : grid0.Coords) : Scf.Loop 32 :=
  let c0_i32_135 : BitVec 32 := 0#32
  let c15_i32 : BitVec 32 := 15#32
  let arg1 : BitVec 32 := BitVec.ofNat 32 (i 1).val
  let v243 : BitVec 32 := Scalar.subi c15_i32 arg1
  let c0_i32_129 : BitVec 32 := 0#32
  let v245 : BitVec 1 := Scalar.cmpi .sgt v243 c0_i32_129
  let v246 : BitVec 32 := Scalar.extui v245
  let c0_i32_130 : BitVec 32 := 0#32
  let v247 : BitVec 1 := Scalar.cmpi .slt v243 c0_i32_130
  let v248 : BitVec 32 := Scalar.extui v247
  let v249 : BitVec 32 := Scalar.subi v246 v248
  let c2_i32_128 : BitVec 32 := 2#32
  let c0_i32_131 : BitVec 32 := 0#32
  let v250 : BitVec 1 := Scalar.cmpi .sgt c2_i32_128 c0_i32_131
  let v251 : BitVec 32 := Scalar.extui v250
  let c0_i32_132 : BitVec 32 := 0#32
  let v252 : BitVec 1 := Scalar.cmpi .slt c2_i32_128 c0_i32_132
  let v253 : BitVec 32 := Scalar.extui v252
  let v254 : BitVec 32 := Scalar.subi v251 v253
  let v255 : BitVec 1 := Scalar.cmpi .ne v249 v254
  let v256 : BitVec 32 := Scalar.remsi v243 c2_i32_128
  let c0_i32_133 : BitVec 32 := 0#32
  let v257 : BitVec 1 := Scalar.cmpi .ne v256 c0_i32_133
  let v258 : BitVec 1 := Scalar.andi v255 v257
  let v244 : BitVec 32 := Scalar.divsi v243 c2_i32_128
  let c1_i32_134 : BitVec 32 := 1#32
  let v259 : BitVec 32 := Scalar.subi v244 c1_i32_134
  let v260 : BitVec 32 := Scalar.select v258 v259 v244
  let v261 : BitVec 32 := Scalar.subi v260 c0_i32_135
  let c1_i32_137 : BitVec 32 := 1#32
  let v263 : BitVec 32 := Scalar.divsi v261 c1_i32_137
  let v264 : BitVec 32 := Scalar.muli v263 c1_i32_137
  let v265 : BitVec 32 := Scalar.addi c0_i32_135 v264
  let v262 : BitVec 32 := Scalar.addi c0_i32_135 v261
  let c1_i32_139 : BitVec 32 := 1#32
  ⟨v265, v262, c1_i32_139⟩
def k0_mult6 (i : grid0.Coords) (k0_t3 : Fin (k0_t3_loop i).trips) : BitVec 32 :=
  let arg1 : BitVec 32 := BitVec.ofNat 32 (i 1).val
  let c1_i32_174 : BitVec 32 := 1#32
  let v321 : BitVec 32 := Scalar.addi arg1 c1_i32_174
  let c2_i32_175 : BitVec 32 := 2#32
  let c0_i32_135 : BitVec 32 := 0#32
  let c15_i32 : BitVec 32 := 15#32
  let v243 : BitVec 32 := Scalar.subi c15_i32 arg1
  let c0_i32_129 : BitVec 32 := 0#32
  let v245 : BitVec 1 := Scalar.cmpi .sgt v243 c0_i32_129
  let v246 : BitVec 32 := Scalar.extui v245
  let c0_i32_130 : BitVec 32 := 0#32
  let v247 : BitVec 1 := Scalar.cmpi .slt v243 c0_i32_130
  let v248 : BitVec 32 := Scalar.extui v247
  let v249 : BitVec 32 := Scalar.subi v246 v248
  let c2_i32_128 : BitVec 32 := 2#32
  let c0_i32_131 : BitVec 32 := 0#32
  let v250 : BitVec 1 := Scalar.cmpi .sgt c2_i32_128 c0_i32_131
  let v251 : BitVec 32 := Scalar.extui v250
  let c0_i32_132 : BitVec 32 := 0#32
  let v252 : BitVec 1 := Scalar.cmpi .slt c2_i32_128 c0_i32_132
  let v253 : BitVec 32 := Scalar.extui v252
  let v254 : BitVec 32 := Scalar.subi v251 v253
  let v255 : BitVec 1 := Scalar.cmpi .ne v249 v254
  let v256 : BitVec 32 := Scalar.remsi v243 c2_i32_128
  let c0_i32_133 : BitVec 32 := 0#32
  let v257 : BitVec 1 := Scalar.cmpi .ne v256 c0_i32_133
  let v258 : BitVec 1 := Scalar.andi v255 v257
  let v244 : BitVec 32 := Scalar.divsi v243 c2_i32_128
  let c1_i32_134 : BitVec 32 := 1#32
  let v259 : BitVec 32 := Scalar.subi v244 c1_i32_134
  let v260 : BitVec 32 := Scalar.select v258 v259 v244
  let v261 : BitVec 32 := Scalar.subi v260 c0_i32_135
  let c1_i32_137 : BitVec 32 := 1#32
  let v263 : BitVec 32 := Scalar.divsi v261 c1_i32_137
  let v264 : BitVec 32 := Scalar.muli v263 c1_i32_137
  let v265 : BitVec 32 := Scalar.addi c0_i32_135 v264
  let c1_i32_139 : BitVec 32 := 1#32
  let arg15 : BitVec 32 := Scf.iv v265 c1_i32_139 k0_t3
  let v322 : BitVec 32 := Scalar.muli c2_i32_175 arg15
  let v323 : BitVec 32 := Scalar.addi v321 v322
  let c512_i32_176 : BitVec 32 := 512#32
  let v324 : BitVec 32 := Scalar.muli v323 c512_i32_176
  let c0_i32_177 : BitVec 32 := 0#32
  let v325 : BitVec 32 := Scalar.addi v324 c0_i32_177
  v325
def k0_off17 (i : grid0.Coords) (k0_t3 : Fin (k0_t3_loop i).trips) : Fin 2 → Nat :=
  let arg1 : BitVec 32 := BitVec.ofNat 32 (i 1).val
  let c1_i32_174 : BitVec 32 := 1#32
  let v321 : BitVec 32 := Scalar.addi arg1 c1_i32_174
  let c2_i32_175 : BitVec 32 := 2#32
  let c0_i32_135 : BitVec 32 := 0#32
  let c15_i32 : BitVec 32 := 15#32
  let v243 : BitVec 32 := Scalar.subi c15_i32 arg1
  let c0_i32_129 : BitVec 32 := 0#32
  let v245 : BitVec 1 := Scalar.cmpi .sgt v243 c0_i32_129
  let v246 : BitVec 32 := Scalar.extui v245
  let c0_i32_130 : BitVec 32 := 0#32
  let v247 : BitVec 1 := Scalar.cmpi .slt v243 c0_i32_130
  let v248 : BitVec 32 := Scalar.extui v247
  let v249 : BitVec 32 := Scalar.subi v246 v248
  let c2_i32_128 : BitVec 32 := 2#32
  let c0_i32_131 : BitVec 32 := 0#32
  let v250 : BitVec 1 := Scalar.cmpi .sgt c2_i32_128 c0_i32_131
  let v251 : BitVec 32 := Scalar.extui v250
  let c0_i32_132 : BitVec 32 := 0#32
  let v252 : BitVec 1 := Scalar.cmpi .slt c2_i32_128 c0_i32_132
  let v253 : BitVec 32 := Scalar.extui v252
  let v254 : BitVec 32 := Scalar.subi v251 v253
  let v255 : BitVec 1 := Scalar.cmpi .ne v249 v254
  let v256 : BitVec 32 := Scalar.remsi v243 c2_i32_128
  let c0_i32_133 : BitVec 32 := 0#32
  let v257 : BitVec 1 := Scalar.cmpi .ne v256 c0_i32_133
  let v258 : BitVec 1 := Scalar.andi v255 v257
  let v244 : BitVec 32 := Scalar.divsi v243 c2_i32_128
  let c1_i32_134 : BitVec 32 := 1#32
  let v259 : BitVec 32 := Scalar.subi v244 c1_i32_134
  let v260 : BitVec 32 := Scalar.select v258 v259 v244
  let v261 : BitVec 32 := Scalar.subi v260 c0_i32_135
  let c1_i32_137 : BitVec 32 := 1#32
  let v263 : BitVec 32 := Scalar.divsi v261 c1_i32_137
  let v264 : BitVec 32 := Scalar.muli v263 c1_i32_137
  let v265 : BitVec 32 := Scalar.addi c0_i32_135 v264
  let c1_i32_139 : BitVec 32 := 1#32
  let arg15 : BitVec 32 := Scf.iv v265 c1_i32_139 k0_t3
  let v322 : BitVec 32 := Scalar.muli c2_i32_175 arg15
  let v323 : BitVec 32 := Scalar.addi v321 v322
  let c512_i32_176 : BitVec 32 := 512#32
  let v324 : BitVec 32 := Scalar.muli v323 c512_i32_176
  let c0_i32_177 : BitVec 32 := 0#32
  let v325 : BitVec 32 := Scalar.addi v324 c0_i32_177
  let v326 : BitVec 32 := v325
  let v327 : Index := Scalar.indexCast v326
  let c0_178 : Index := 0#32
  ![v327.toNat, 0]
def k0_off18 (i : grid0.Coords) (k0_t3 : Fin (k0_t3_loop i).trips) : Fin 2 → Nat :=
  let arg1 : BitVec 32 := BitVec.ofNat 32 (i 1).val
  let c1_i32_174 : BitVec 32 := 1#32
  let v321 : BitVec 32 := Scalar.addi arg1 c1_i32_174
  let c2_i32_175 : BitVec 32 := 2#32
  let c0_i32_135 : BitVec 32 := 0#32
  let c15_i32 : BitVec 32 := 15#32
  let v243 : BitVec 32 := Scalar.subi c15_i32 arg1
  let c0_i32_129 : BitVec 32 := 0#32
  let v245 : BitVec 1 := Scalar.cmpi .sgt v243 c0_i32_129
  let v246 : BitVec 32 := Scalar.extui v245
  let c0_i32_130 : BitVec 32 := 0#32
  let v247 : BitVec 1 := Scalar.cmpi .slt v243 c0_i32_130
  let v248 : BitVec 32 := Scalar.extui v247
  let v249 : BitVec 32 := Scalar.subi v246 v248
  let c2_i32_128 : BitVec 32 := 2#32
  let c0_i32_131 : BitVec 32 := 0#32
  let v250 : BitVec 1 := Scalar.cmpi .sgt c2_i32_128 c0_i32_131
  let v251 : BitVec 32 := Scalar.extui v250
  let c0_i32_132 : BitVec 32 := 0#32
  let v252 : BitVec 1 := Scalar.cmpi .slt c2_i32_128 c0_i32_132
  let v253 : BitVec 32 := Scalar.extui v252
  let v254 : BitVec 32 := Scalar.subi v251 v253
  let v255 : BitVec 1 := Scalar.cmpi .ne v249 v254
  let v256 : BitVec 32 := Scalar.remsi v243 c2_i32_128
  let c0_i32_133 : BitVec 32 := 0#32
  let v257 : BitVec 1 := Scalar.cmpi .ne v256 c0_i32_133
  let v258 : BitVec 1 := Scalar.andi v255 v257
  let v244 : BitVec 32 := Scalar.divsi v243 c2_i32_128
  let c1_i32_134 : BitVec 32 := 1#32
  let v259 : BitVec 32 := Scalar.subi v244 c1_i32_134
  let v260 : BitVec 32 := Scalar.select v258 v259 v244
  let v261 : BitVec 32 := Scalar.subi v260 c0_i32_135
  let c1_i32_137 : BitVec 32 := 1#32
  let v263 : BitVec 32 := Scalar.divsi v261 c1_i32_137
  let v264 : BitVec 32 := Scalar.muli v263 c1_i32_137
  let v265 : BitVec 32 := Scalar.addi c0_i32_135 v264
  let c1_i32_139 : BitVec 32 := 1#32
  let arg15 : BitVec 32 := Scf.iv v265 c1_i32_139 k0_t3
  let v322 : BitVec 32 := Scalar.muli c2_i32_175 arg15
  let v323 : BitVec 32 := Scalar.addi v321 v322
  let c512_i32_176 : BitVec 32 := 512#32
  let v324 : BitVec 32 := Scalar.muli v323 c512_i32_176
  let c0_i32_177 : BitVec 32 := 0#32
  let v325 : BitVec 32 := Scalar.addi v324 c0_i32_177
  let v326 : BitVec 32 := v325
  let v330 : Index := Scalar.indexCast v326
  let c128_179 : Index := 128#32
  ![v330.toNat, 128]
def k0_off19 (i : grid0.Coords) (k0_t3 : Fin (k0_t3_loop i).trips) (c0_i32_186 : BitVec 32) : Fin 4 → Nat :=
  let c0_187 : Index := 0#32
  let arg1 : BitVec 32 := BitVec.ofNat 32 (i 1).val
  let c1_i32_174 : BitVec 32 := 1#32
  let v321 : BitVec 32 := Scalar.addi arg1 c1_i32_174
  let c2_i32_175 : BitVec 32 := 2#32
  let c0_i32_135 : BitVec 32 := 0#32
  let c15_i32 : BitVec 32 := 15#32
  let v243 : BitVec 32 := Scalar.subi c15_i32 arg1
  let c0_i32_129 : BitVec 32 := 0#32
  let v245 : BitVec 1 := Scalar.cmpi .sgt v243 c0_i32_129
  let v246 : BitVec 32 := Scalar.extui v245
  let c0_i32_130 : BitVec 32 := 0#32
  let v247 : BitVec 1 := Scalar.cmpi .slt v243 c0_i32_130
  let v248 : BitVec 32 := Scalar.extui v247
  let v249 : BitVec 32 := Scalar.subi v246 v248
  let c2_i32_128 : BitVec 32 := 2#32
  let c0_i32_131 : BitVec 32 := 0#32
  let v250 : BitVec 1 := Scalar.cmpi .sgt c2_i32_128 c0_i32_131
  let v251 : BitVec 32 := Scalar.extui v250
  let c0_i32_132 : BitVec 32 := 0#32
  let v252 : BitVec 1 := Scalar.cmpi .slt c2_i32_128 c0_i32_132
  let v253 : BitVec 32 := Scalar.extui v252
  let v254 : BitVec 32 := Scalar.subi v251 v253
  let v255 : BitVec 1 := Scalar.cmpi .ne v249 v254
  let v256 : BitVec 32 := Scalar.remsi v243 c2_i32_128
  let c0_i32_133 : BitVec 32 := 0#32
  let v257 : BitVec 1 := Scalar.cmpi .ne v256 c0_i32_133
  let v258 : BitVec 1 := Scalar.andi v255 v257
  let v244 : BitVec 32 := Scalar.divsi v243 c2_i32_128
  let c1_i32_134 : BitVec 32 := 1#32
  let v259 : BitVec 32 := Scalar.subi v244 c1_i32_134
  let v260 : BitVec 32 := Scalar.select v258 v259 v244
  let v261 : BitVec 32 := Scalar.subi v260 c0_i32_135
  let c1_i32_137 : BitVec 32 := 1#32
  let v263 : BitVec 32 := Scalar.divsi v261 c1_i32_137
  let v264 : BitVec 32 := Scalar.muli v263 c1_i32_137
  let v265 : BitVec 32 := Scalar.addi c0_i32_135 v264
  let c1_i32_139 : BitVec 32 := 1#32
  let arg15 : BitVec 32 := Scf.iv v265 c1_i32_139 k0_t3
  let v322 : BitVec 32 := Scalar.muli c2_i32_175 arg15
  let v323 : BitVec 32 := Scalar.addi v321 v322
  let v348 : BitVec 32 := Scalar.addi v323 c0_i32_186
  let v349 : Index := Scalar.indexCast v348
  let c0_188 : Index := 0#32
  let c0_189 : Index := 0#32
  ![0, v349.toNat, 0, 0]
def k0_off20 (i : grid0.Coords) (k0_t3 : Fin (k0_t3_loop i).trips) (c0_i32_223 : BitVec 32) : Fin 4 → Nat :=
  let c1_224 : Index := 1#32
  let arg1 : BitVec 32 := BitVec.ofNat 32 (i 1).val
  let c1_i32_174 : BitVec 32 := 1#32
  let v321 : BitVec 32 := Scalar.addi arg1 c1_i32_174
  let c2_i32_175 : BitVec 32 := 2#32
  let c0_i32_135 : BitVec 32 := 0#32
  let c15_i32 : BitVec 32 := 15#32
  let v243 : BitVec 32 := Scalar.subi c15_i32 arg1
  let c0_i32_129 : BitVec 32 := 0#32
  let v245 : BitVec 1 := Scalar.cmpi .sgt v243 c0_i32_129
  let v246 : BitVec 32 := Scalar.extui v245
  let c0_i32_130 : BitVec 32 := 0#32
  let v247 : BitVec 1 := Scalar.cmpi .slt v243 c0_i32_130
  let v248 : BitVec 32 := Scalar.extui v247
  let v249 : BitVec 32 := Scalar.subi v246 v248
  let c2_i32_128 : BitVec 32 := 2#32
  let c0_i32_131 : BitVec 32 := 0#32
  let v250 : BitVec 1 := Scalar.cmpi .sgt c2_i32_128 c0_i32_131
  let v251 : BitVec 32 := Scalar.extui v250
  let c0_i32_132 : BitVec 32 := 0#32
  let v252 : BitVec 1 := Scalar.cmpi .slt c2_i32_128 c0_i32_132
  let v253 : BitVec 32 := Scalar.extui v252
  let v254 : BitVec 32 := Scalar.subi v251 v253
  let v255 : BitVec 1 := Scalar.cmpi .ne v249 v254
  let v256 : BitVec 32 := Scalar.remsi v243 c2_i32_128
  let c0_i32_133 : BitVec 32 := 0#32
  let v257 : BitVec 1 := Scalar.cmpi .ne v256 c0_i32_133
  let v258 : BitVec 1 := Scalar.andi v255 v257
  let v244 : BitVec 32 := Scalar.divsi v243 c2_i32_128
  let c1_i32_134 : BitVec 32 := 1#32
  let v259 : BitVec 32 := Scalar.subi v244 c1_i32_134
  let v260 : BitVec 32 := Scalar.select v258 v259 v244
  let v261 : BitVec 32 := Scalar.subi v260 c0_i32_135
  let c1_i32_137 : BitVec 32 := 1#32
  let v263 : BitVec 32 := Scalar.divsi v261 c1_i32_137
  let v264 : BitVec 32 := Scalar.muli v263 c1_i32_137
  let v265 : BitVec 32 := Scalar.addi c0_i32_135 v264
  let c1_i32_139 : BitVec 32 := 1#32
  let arg15 : BitVec 32 := Scf.iv v265 c1_i32_139 k0_t3
  let v322 : BitVec 32 := Scalar.muli c2_i32_175 arg15
  let v323 : BitVec 32 := Scalar.addi v321 v322
  let v403 : BitVec 32 := Scalar.addi v323 c0_i32_223
  let v404 : Index := Scalar.indexCast v403
  let c0_225 : Index := 0#32
  let c0_226 : Index := 0#32
  ![1, v404.toNat, 0, 0]
def k0_cond3 (i : grid0.Coords) : BitVec 1 :=
  let c15_i32 : BitVec 32 := 15#32
  let arg1 : BitVec 32 := BitVec.ofNat 32 (i 1).val
  let v243 : BitVec 32 := Scalar.subi c15_i32 arg1
  let c2_i32_140 : BitVec 32 := 2#32
  let c0_i32_141 : BitVec 32 := 0#32
  let v268 : BitVec 1 := Scalar.cmpi .eq c2_i32_140 c0_i32_141
  let c1_i32_142 : BitVec 32 := 1#32
  let v269 : BitVec 32 := Scalar.select v268 c1_i32_142 c2_i32_140
  let v270 : BitVec 32 := Scalar.remsi v243 v269
  let c0_i32_144 : BitVec 32 := 0#32
  let v272 : BitVec 1 := Scalar.cmpi .slt v270 c0_i32_144
  let c0_i32_145 : BitVec 32 := 0#32
  let v273 : BitVec 1 := Scalar.cmpi .slt v269 c0_i32_145
  let v274 : BitVec 1 := Scalar.xori v272 v273
  let c0_i32_143 : BitVec 32 := 0#32
  let v271 : BitVec 1 := Scalar.cmpi .ne v270 c0_i32_143
  let v275 : BitVec 1 := Scalar.andi v274 v271
  let v276 : BitVec 32 := Scalar.addi v270 v269
  let v277 : BitVec 32 := Scalar.select v275 v276 v270
  let c1_i32_146 : BitVec 32 := 1#32
  let v278 : BitVec 1 := Scalar.cmpi .eq v277 c1_i32_146
  let v279 : BitVec 32 := Scalar.extui v278
  let c0_i32_147 : BitVec 32 := 0#32
  let v280 : BitVec 1 := Scalar.cmpi .ne v279 c0_i32_147
  v280

def k0_mult7 : BitVec 32 :=
  let c7680_i32 : BitVec 32 := 7680#32
  c7680_i32
def k0_off21 (i : grid0.Coords) : Fin 2 → Nat :=
  let arg1 : BitVec 32 := BitVec.ofNat 32 (i 1).val
  let c512_i32 : BitVec 32 := 512#32
  let v19 : BitVec 32 := Scalar.muli arg1 c512_i32
  let v20 : BitVec 32 := v19
  let v281 : Index := Scalar.indexCast v20
  let c0_148 : Index := 0#32
  ![v281.toNat, 0]
def k0_cond4 (i : grid0.Coords) : BitVec 1 :=
  let arg1 : BitVec 32 := BitVec.ofNat 32 (i 1).val
  let c15_i32_172 : BitVec 32 := 15#32
  let v318 : BitVec 1 := Scalar.cmpi .eq arg1 c15_i32_172
  let v319 : BitVec 32 := Scalar.extui v318
  let c0_i32_173 : BitVec 32 := 0#32
  let v320 : BitVec 1 := Scalar.cmpi .ne v319 c0_i32_173
  v320

@[reducible] def k0_t4_loop : Scf.Loop 32 :=
  let c0_i32_174 : BitVec 32 := 0#32
  let c16_i32 : BitVec 32 := 16#32
  let v321 : BitVec 32 := Scalar.addi c0_i32_174 c16_i32
  let c1_i32_175 : BitVec 32 := 1#32
  ⟨c0_i32_174, v321, c1_i32_175⟩
def k0_mult8 (k0_t4 : Fin k0_t4_loop.trips) : BitVec 32 :=
  let c0_i32_174 : BitVec 32 := 0#32
  let c1_i32_175 : BitVec 32 := 1#32
  let arg15 : BitVec 32 := Scf.iv c0_i32_174 c1_i32_175 k0_t4
  let c512_i32_177 : BitVec 32 := 512#32
  let v322 : BitVec 32 := Scalar.muli arg15 c512_i32_177
  v322
def k0_off22 (k0_t4 : Fin k0_t4_loop.trips) : Fin 2 → Nat :=
  let c0_i32_174 : BitVec 32 := 0#32
  let c1_i32_175 : BitVec 32 := 1#32
  let arg15 : BitVec 32 := Scf.iv c0_i32_174 c1_i32_175 k0_t4
  let c512_i32_177 : BitVec 32 := 512#32
  let v322 : BitVec 32 := Scalar.muli arg15 c512_i32_177
  let v323 : BitVec 32 := v322
  let v324 : Index := Scalar.indexCast v323
  let c0_178 : Index := 0#32
  ![v324.toNat, 0]
def k0_off23 (k0_t4 : Fin k0_t4_loop.trips) : Fin 2 → Nat :=
  let c0_i32_174 : BitVec 32 := 0#32
  let c1_i32_175 : BitVec 32 := 1#32
  let arg15 : BitVec 32 := Scf.iv c0_i32_174 c1_i32_175 k0_t4
  let c512_i32_177 : BitVec 32 := 512#32
  let v322 : BitVec 32 := Scalar.muli arg15 c512_i32_177
  let v323 : BitVec 32 := v322
  let v327 : Index := Scalar.indexCast v323
  let c0_179 : Index := 0#32
  ![v327.toNat, 0]
def k0_off24 (k0_t4 : Fin k0_t4_loop.trips) : Fin 2 → Nat :=
  let c0_i32_174 : BitVec 32 := 0#32
  let c1_i32_175 : BitVec 32 := 1#32
  let arg15 : BitVec 32 := Scf.iv c0_i32_174 c1_i32_175 k0_t4
  let c512_i32_177 : BitVec 32 := 512#32
  let v322 : BitVec 32 := Scalar.muli arg15 c512_i32_177
  let v323 : BitVec 32 := v322
  let v338 : Index := Scalar.indexCast v323
  let c128_182 : Index := 128#32
  ![v338.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![c2_i32.toNat, arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8192x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S8192x16x64 : Shape := ⟨3, ![8192, 16, 64]⟩
abbrev S8192x16 : Shape := ⟨2, ![8192, 16]⟩
abbrev S16x8192x8192 : Shape := ⟨3, ![16, 8192, 8192]⟩
abbrev S_ : Shape := ⟨0, ![]⟩
abbrev S16x8192 : Shape := ⟨2, ![16, 8192]⟩
abbrev S16x8192x1 : Shape := ⟨3, ![16, 8192, 1]⟩
abbrev S16x1x8192 : Shape := ⟨3, ![16, 1, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S16x64x8192 : Shape := ⟨3, ![16, 64, 8192]⟩
abbrev S16x8192x64 : Shape := ⟨3, ![16, 8192, 64]⟩

abbrev nBuf : Space → Nat
  | .hbm => 111
  | .vmem => 0
  | .smem => 0
  | _ => 0

abbrev bufTy : (tb : Table) → Fin (tcTables nBuf tb) → BufTy
  | .hbm, ⟨0, _⟩ => ⟨S8192x16x64, .f32⟩
  | .hbm, ⟨1, _⟩ => ⟨S8192x16x64, .f32⟩
  | .hbm, ⟨2, _⟩ => ⟨S8192x16x64, .f32⟩
  | .hbm, ⟨3, _⟩ => ⟨S8192x16, .f32⟩
  | .hbm, ⟨4, _⟩ => ⟨S8192x16x64, .f32⟩
  | .hbm, ⟨5, _⟩ => ⟨S16x8192x8192, .f32⟩
  | .hbm, ⟨6, _⟩ => ⟨S_, .f32⟩
  | .hbm, ⟨7, _⟩ => ⟨S16x8192x8192, .f32⟩
  | .hbm, ⟨8, _⟩ => ⟨S16x8192x8192, .f32⟩
  | .hbm, ⟨9, _⟩ => ⟨S16x8192, .f32⟩
  | .hbm, ⟨10, _⟩ => ⟨S16x8192x1, .f32⟩
  | .hbm, ⟨11, _⟩ => ⟨S16x1x8192, .f32⟩
  | .hbm, ⟨12, _⟩ => ⟨S16x8192x8192, .f32⟩
  | .hbm, ⟨13, _⟩ => ⟨S16x8192x8192, .f32⟩
  | .hbm, ⟨14, _⟩ => ⟨S16x8192x8192, .f32⟩
  | .hbm, ⟨15, _⟩ => ⟨S16x8192x8192, .f32⟩
  | .hbm, ⟨16, _⟩ => ⟨S8192, .i32⟩
  | .hbm, ⟨17, _⟩ => ⟨S1x8192, .i32⟩
  | .hbm, ⟨18, _⟩ => ⟨S8192x1, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S1x8192x8192, .i1⟩
  | .hbm, ⟨23, _⟩ => ⟨S_, .f32⟩
  | .hbm, ⟨24, _⟩ => ⟨S_, .f32⟩
  | .hbm, ⟨25, _⟩ => ⟨S16x8192x8192, .i1⟩
  | .hbm, ⟨26, _⟩ => ⟨S16x8192x8192, .f32⟩
  | .hbm, ⟨27, _⟩ => ⟨S16x8192x8192, .f32⟩
  | .hbm, ⟨28, _⟩ => ⟨S_, .f32⟩
  | .hbm, ⟨29, _⟩ => ⟨S16x8192x8192, .f32⟩
  | .hbm, ⟨30, _⟩ => ⟨S_, .f32⟩
  | .hbm, ⟨31, _⟩ => ⟨S16x8192, .f32⟩
  | .hbm, ⟨32, _⟩ => ⟨S16x8192x1, .f32⟩
  | .hbm, ⟨33, _⟩ => ⟨S16x8192x8192, .f32⟩
  | .hbm, ⟨34, _⟩ => ⟨S16x8192x8192, .i1⟩
  | .hbm, ⟨35, _⟩ => ⟨S16x8192x8192, .f32⟩
  | .hbm, ⟨36, _⟩ => ⟨S_, .f32⟩
  | .hbm, ⟨37, _⟩ => ⟨S16x8192, .f32⟩
  | .hbm, ⟨38, _⟩ => ⟨S_, .f32⟩
  | .hbm, ⟨39, _⟩ => ⟨S16x8192, .f32⟩
  | .hbm, ⟨40, _⟩ => ⟨S16x8192, .f32⟩
  | .hbm, ⟨41, _⟩ => ⟨S_, .f32⟩
  | .hbm, ⟨42, _⟩ => ⟨S16x8192, .f32⟩
  | .hbm, ⟨43, _⟩ => ⟨S16x8192, .i1⟩
  | .hbm, ⟨44, _⟩ => ⟨S_, .f32⟩
  | .hbm, ⟨45, _⟩ => ⟨S16x8192, .f32⟩
  | .hbm, ⟨46, _⟩ => ⟨S16x8192, .i1⟩
  | .hbm, ⟨47, _⟩ => ⟨S_, .f32⟩
  | .hbm, ⟨48, _⟩ => ⟨S16x8192, .f32⟩
  | .hbm, ⟨49, _⟩ => ⟨S_, .f32⟩
  | .hbm, ⟨50, _⟩ => ⟨S16x8192, .f32⟩
  | .hbm, ⟨51, _⟩ => ⟨S_, .f32⟩
  | .hbm, ⟨52, _⟩ => ⟨S16x8192, .f32⟩
  | .hbm, ⟨53, _⟩ => ⟨S16x8192, .f32⟩
  | .hbm, ⟨54, _⟩ => ⟨S16x8192, .f32⟩
  | .hbm, ⟨55, _⟩ => ⟨S16x8192x1, .f32⟩
  | .hbm, ⟨56, _⟩ => ⟨S16x8192x8192, .f32⟩
  | .hbm, ⟨57, _⟩ => ⟨S16x8192x8192, .f32⟩
  | .hbm, ⟨58, _⟩ => ⟨S16x8192x8192, .f32⟩
  | .hbm, ⟨59, _⟩ => ⟨S_, .f32⟩
  | .hbm, ⟨60, _⟩ => ⟨S16x8192, .f32⟩
  | .hbm, ⟨61, _⟩ => ⟨S16x8192x1, .f32⟩
  | .hbm, ⟨62, _⟩ => ⟨S16x8192x8192, .f32⟩
  | .hbm, ⟨63, _⟩ => ⟨S16x8192x8192, .f32⟩
  | .hbm, ⟨64, _⟩ => ⟨S16x8192x1, .f32⟩
  | .hbm, ⟨65, _⟩ => ⟨S_, .f32⟩
  | .hbm, ⟨66, _⟩ => ⟨S16x8192x1, .f32⟩
  | .hbm, ⟨67, _⟩ => ⟨S16x8192x1, .f32⟩
  | .hbm, ⟨68, _⟩ => ⟨S16x64x8192, .f32⟩
  | .hbm, ⟨69, _⟩ => ⟨S8192x16x64, .f32⟩
  | .hbm, ⟨70, _⟩ => ⟨S16x64x8192, .f32⟩
  | .hbm, ⟨71, _⟩ => ⟨S16x8192x8192, .f32⟩
  | .hbm, ⟨72, _⟩ => ⟨S16x64x8192, .f32⟩
  | .hbm, ⟨73, _⟩ => ⟨S8192x16x64, .f32⟩
  | .hbm, ⟨74, _⟩ => ⟨S16x8192x8192, .f32⟩
  | .hbm, ⟨75, _⟩ => ⟨S16x8192x8192, .f32⟩
  | .hbm, ⟨76, _⟩ => ⟨S16x8192x8192, .f32⟩
  | .hbm, ⟨77, _⟩ => ⟨S_, .f32⟩
  | .hbm, ⟨78, _⟩ => ⟨S16x8192, .f32⟩
  | .hbm, ⟨79, _⟩ => ⟨S16x8192x1, .f32⟩
  | .hbm, ⟨80, _⟩ => ⟨S16x8192x1, .f32⟩
  | .hbm, ⟨81, _⟩ => ⟨S16x8192x8192, .f32⟩
  | .hbm, ⟨82, _⟩ => ⟨S16x8192x8192, .f32⟩
  | .hbm, ⟨83, _⟩ => ⟨S_, .f32⟩
  | .hbm, ⟨84, _⟩ => ⟨S16x8192, .f32⟩
  | .hbm, ⟨85, _⟩ => ⟨S16x8192x8192, .f32⟩
  | .hbm, ⟨86, _⟩ => ⟨S16x8192x8192, .f32⟩
  | .hbm, ⟨87, _⟩ => ⟨S16x8192x8192, .f32⟩
  | .hbm, ⟨88, _⟩ => ⟨S_, .f32⟩
  | .hbm, ⟨89, _⟩ => ⟨S16x8192x8192, .f32⟩
  | .hbm, ⟨90, _⟩ => ⟨S16x8192x8192, .f32⟩
  | .hbm, ⟨91, _⟩ => ⟨S_, .f32⟩
  | .hbm, ⟨92, _⟩ => ⟨S16x8192, .f32⟩
  | .hbm, ⟨93, _⟩ => ⟨S16x8192x1, .f32⟩
  | .hbm, ⟨94, _⟩ => ⟨S16x8192x8192, .f32⟩
  | .hbm, ⟨95, _⟩ => ⟨S_, .f32⟩
  | .hbm, ⟨96, _⟩ => ⟨S16x8192, .f32⟩
  | .hbm, ⟨97, _⟩ => ⟨S16x1x8192, .f32⟩
  | .hbm, ⟨98, _⟩ => ⟨S_, .f32⟩
  | .hbm, ⟨99, _⟩ => ⟨S16x8192, .f32⟩
  | .hbm, ⟨100, _⟩ => ⟨S_, .f32⟩
  | .hbm, ⟨101, _⟩ => ⟨S16x8192, .f32⟩
  | .hbm, ⟨102, _⟩ => ⟨S16x8192, .f32⟩
  | .hbm, ⟨103, _⟩ => ⟨S8192x16, .f32⟩
  | .hbm, ⟨104, _⟩ => ⟨S_, .f32⟩
  | .hbm, ⟨105, _⟩ => ⟨S16x8192x8192, .f32⟩
  | .hbm, ⟨106, _⟩ => ⟨S16x8192x8192, .f32⟩
  | .hbm, ⟨107, _⟩ => ⟨S16x8192x64, .f32⟩
  | .hbm, ⟨108, _⟩ => ⟨S8192x16x64, .f32⟩
  | .hbm, ⟨109, _⟩ => ⟨S16x8192x64, .f32⟩
  | .hbm, ⟨110, _⟩ => ⟨S8192x16x64, .f32⟩
  | _, _ => ⟨S8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_call0_v0 : Ref sig .tc := ⟨.hbm, 24, rfl⟩
abbrev main_v17_1 : Ref sig .tc := ⟨.hbm, 25, rfl⟩
abbrev main_call0_v2 : Ref sig .tc := ⟨.hbm, 26, rfl⟩
abbrev main_v17_0 : Ref sig .tc := ⟨.hbm, 27, rfl⟩
abbrev main_call0_cst : Ref sig .tc := ⟨.hbm, 28, rfl⟩
abbrev main_v17_2 : Ref sig .tc := ⟨.hbm, 29, rfl⟩
abbrev main_cst_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_cst_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call1_cst : Ref sig .tc := ⟨.hbm, 88, rfl⟩
abbrev main_call1_v0 : Ref sig .tc := ⟨.hbm, 89, rfl⟩
abbrev main_v64 : Ref sig .tc := ⟨.hbm, 90, rfl⟩
abbrev main_cst_13 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_cst_16 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_17 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]
-- ==== Kernel2.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference2Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 15
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S1024x1024, .f32⟩
  | .hbm, ⟨14, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel3.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference3Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8192x1024 : Shape := ⟨2, ![8192, 1024]⟩
abbrev S8192x3072 : Shape := ⟨2, ![8192, 3072]⟩
abbrev S8x1024x384 : Shape := ⟨3, ![8, 1024, 384]⟩
abbrev S2048x1024 : Shape := ⟨2, ![2048, 1024]⟩
abbrev S2048x3072 : Shape := ⟨2, ![2048, 3072]⟩
abbrev S1024x3072 : Shape := ⟨2, ![1024, 3072]⟩
abbrev S1x1024x384 : Shape := ⟨3, ![1, 1024, 384]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S8x1024x384, .f32⟩
  | .local _ .vmem, ⟨0, _⟩ => ⟨S2048x1024, .bf16⟩
  | .local _ .vmem, ⟨1, _⟩ => ⟨S2048x1024, .bf16⟩
  | .local _ .vmem, ⟨2, _⟩ => ⟨S2048x3072, .bf16⟩
  | .local _ .vmem, ⟨3, _⟩ => ⟨S2048x3072, .bf16⟩
  | .local _ .vmem, ⟨4, _⟩ => ⟨S8x1024x384, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x8x384, .f32⟩
  | .hbm, ⟨10, _⟩ => ⟨S8x1024x384, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8192x1536 : Shape := ⟨2, ![8192, 1536]⟩
abbrev S8192x1024 : Shape := ⟨2, ![8192, 1024]⟩
abbrev S1536x1024 : Shape := ⟨2, ![1536, 1024]⟩
abbrev S2048x1536 : Shape := ⟨2, ![2048, 1536]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S1536x1024, .f32⟩
  | .local _ .vmem, ⟨0, _⟩ => ⟨S2048x1536, .bf16⟩
  | .local _ .vmem, ⟨1, _⟩ => ⟨S2048x1536, .bf16⟩
  | .local _ .vmem, ⟨2, _⟩ => ⟨S2048x1024, .bf16⟩
  | .local _ .vmem, ⟨3, _⟩ => ⟨S2048x1024, .bf16⟩
  | .local _ .vmem, ⟨4, _⟩ => ⟨S1536x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference5Ideal.lean ====
abbrev S8192x1536 : Shape := ⟨2, ![8192, 1536]⟩
abbrev S8192x1024 : Shape := ⟨2, ![8192, 1024]⟩
abbrev S_ : Shape := ⟨0, ![]⟩
abbrev S1536x1024 : Shape := ⟨2, ![1536, 1024]⟩
abbrev S1024x1536 : Shape := ⟨2, ![1024, 1536]⟩

abbrev nBuf : Space → Nat
  | .hbm => 9
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1024, .bf16⟩
  | .hbm, ⟨2, _⟩ => ⟨S_, .f32⟩
  | .hbm, ⟨3, _⟩ => ⟨S1536x1024, .f32⟩
  | .hbm, ⟨4, _⟩ => ⟨S8192x1536, .f32⟩
  | .hbm, ⟨5, _⟩ => ⟨S8192x1024, .f32⟩
  | .hbm, ⟨6, _⟩ => ⟨S8192x1024, .f32⟩
  | .hbm, ⟨7, _⟩ => ⟨S1024x1536, .f32⟩
  | .hbm, ⟨8, _⟩ => ⟨S1536x1024, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x1024 : Shape := ⟨2, ![8192, 1024]⟩
abbrev S8192x128 : Shape := ⟨2, ![8192, 128]⟩
abbrev S1024x128 : Shape := ⟨2, ![1024, 128]⟩
abbrev S2048x1024 : Shape := ⟨2, ![2048, 1024]⟩
abbrev S2048x128 : Shape := ⟨2, ![2048, 128]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x128, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .bf16⟩
  | .local _ .vmem, ⟨3, _⟩ => ⟨S2048x128, .bf16⟩
  | .local _ .vmem, ⟨4, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S8192x1024 : Shape := ⟨2, ![8192, 1024]⟩
abbrev S8192x128 : Shape := ⟨2, ![8192, 128]⟩
abbrev S_ : Shape := ⟨0, ![]⟩
abbrev S1024x128 : Shape := ⟨2, ![1024, 128]⟩
abbrev S128x1024 : Shape := ⟨2, ![128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S_, .f32⟩
  | .hbm, ⟨3, _⟩ => ⟨S1024x128, .f32⟩
  | .hbm, ⟨4, _⟩ => ⟨S8192x1024, .f32⟩
  | .hbm, ⟨5, _⟩ => ⟨S8192x128, .f32⟩
  | .hbm, ⟨6, _⟩ => ⟨S8192x128, .f32⟩
  | .hbm, ⟨7, _⟩ => ⟨S128x1024, .f32⟩
  | .hbm, ⟨8, _⟩ => ⟨S1024x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x1024 : Shape := ⟨2, ![8192, 1024]⟩
abbrev S1024x4112 : Shape := ⟨2, ![1024, 4112]⟩
abbrev S1x8192x2048 : Shape := ⟨3, ![1, 8192, 2048]⟩
abbrev S512x1024 : Shape := ⟨2, ![512, 1024]⟩
abbrev S1024x1024 : Shape := ⟨2, ![1024, 1024]⟩
abbrev S1x512x2048 : Shape := ⟨3, ![1, 512, 2048]⟩
abbrev S512x128 : Shape := ⟨2, ![512, 128]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x4112, .bf16⟩
  | .hbm, ⟨2, _⟩ => ⟨S1x8192x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x512x2048, .f32⟩
  | .local _ .vmem, ⟨4, _⟩ => ⟨S1x512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  let c0_i32_0 : BitVec 32 := 0#32
  ![c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x1024 : Shape := ⟨2, ![8192, 1024]⟩
abbrev S1024x4112 : Shape := ⟨2, ![1024, 4112]⟩
abbrev S1024x1024 : Shape := ⟨2, ![1024, 1024]⟩
abbrev S8192x16x64 : Shape := ⟨3, ![8192, 16, 64]⟩
abbrev S_ : Shape := ⟨0, ![]⟩
abbrev S8192x16x128 : Shape := ⟨3, ![8192, 16, 128]⟩
abbrev S8192x2048 : Shape := ⟨2, ![8192, 2048]⟩
abbrev S1x8192x2048 : Shape := ⟨3, ![1, 8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4112, .bf16⟩
  | .hbm, ⟨2, _⟩ => ⟨S8192x1024, .f32⟩
  | .hbm, ⟨3, _⟩ => ⟨S1024x1024, .bf16⟩
  | .hbm, ⟨4, _⟩ => ⟨S1024x1024, .f32⟩
  | .hbm, ⟨5, _⟩ => ⟨S8192x1024, .f32⟩
  | .hbm, ⟨6, _⟩ => ⟨S8192x16x64, .f32⟩
  | .hbm, ⟨7, _⟩ => ⟨S_, .i32⟩
  | .hbm, ⟨8, _⟩ => ⟨S_, .f32⟩
  | .hbm, ⟨9, _⟩ => ⟨S8192x16x128, .f32⟩
  | .hbm, ⟨10, _⟩ => ⟨S8192x2048, .f32⟩
  | .hbm, ⟨11, _⟩ => ⟨S1x8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel8.lean ====
abbrev S8192x1024 : Shape := ⟨2, ![8192, 1024]⟩
abbrev S8192x128 : Shape := ⟨2, ![8192, 128]⟩
abbrev S1024x4112 : Shape := ⟨2, ![1024, 4112]⟩
abbrev S3x128x2048 : Shape := ⟨3, ![3, 128, 2048]⟩
abbrev S3x1x2048 : Shape := ⟨3, ![3, 1, 2048]⟩
abbrev S3x8192x2048 : Shape := ⟨3, ![3, 8192, 2048]⟩
abbrev S512x1024 : Shape := ⟨2, ![512, 1024]⟩
abbrev S512x128 : Shape := ⟨2, ![512, 128]⟩
abbrev S1024x1024 : Shape := ⟨2, ![1024, 1024]⟩
abbrev S1x128x2048 : Shape := ⟨3, ![1, 128, 2048]⟩
abbrev S1x1x2048 : Shape := ⟨3, ![1, 1, 2048]⟩
abbrev S1x512x2048 : Shape := ⟨3, ![1, 512, 2048]⟩
abbrev S512x2048 : Shape := ⟨2, ![512, 2048]⟩
abbrev S128x2048 : Shape := ⟨2, ![128, 2048]⟩
abbrev S1x2048 : Shape := ⟨2, ![1, 2048]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x4112, .bf16⟩
  | .hbm, ⟨3, _⟩ => ⟨S3x128x2048, .bf16⟩
  | .hbm, ⟨4, _⟩ => ⟨S3x1x2048, .f32⟩
  | .hbm, ⟨5, _⟩ => ⟨S3x8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x128, .bf16⟩
  | .local _ .vmem, ⟨3, _⟩ => ⟨S512x128, .bf16⟩
  | .local _ .vmem, ⟨4, _⟩ => ⟨S1024x1024, .bf16⟩
  | .local _ .vmem, ⟨5, _⟩ => ⟨S1024x1024, .bf16⟩
  | .local _ .vmem, ⟨6, _⟩ => ⟨S1x128x2048, .bf16⟩
  | .local _ .vmem, ⟨7, _⟩ => ⟨S1x128x2048, .bf16⟩
  | .local _ .vmem, ⟨8, _⟩ => ⟨S1x1x2048, .f32⟩
  | .local _ .vmem, ⟨9, _⟩ => ⟨S1x1x2048, .f32⟩
  | .local _ .vmem, ⟨10, _⟩ => ⟨S1x512x2048, .bf16⟩
  | .local _ .vmem, ⟨11, _⟩ => ⟨S1x512x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![3, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S8192x1024 : Shape := ⟨2, ![8192, 1024]⟩
abbrev S8192x128 : Shape := ⟨2, ![8192, 128]⟩
abbrev S1024x4112 : Shape := ⟨2, ![1024, 4112]⟩
abbrev S3x128x2048 : Shape := ⟨3, ![3, 128, 2048]⟩
abbrev S3x1x2048 : Shape := ⟨3, ![3, 1, 2048]⟩
abbrev S8192x4112 : Shape := ⟨2, ![8192, 4112]⟩
abbrev S_ : Shape := ⟨0, ![]⟩
abbrev S3x2048x8192 : Shape := ⟨3, ![3, 2048, 8192]⟩
abbrev S3x8192x2048 : Shape := ⟨3, ![3, 8192, 2048]⟩
abbrev S8192x16x64 : Shape := ⟨3, ![8192, 16, 64]⟩
abbrev S8192x16x128 : Shape := ⟨3, ![8192, 16, 128]⟩
abbrev S8192x2048 : Shape := ⟨2, ![8192, 2048]⟩
abbrev S1x8192x2048 : Shape := ⟨3, ![1, 8192, 2048]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x128, .bf16⟩
  | .hbm, ⟨2, _⟩ => ⟨S1024x4112, .bf16⟩
  | .hbm, ⟨3, _⟩ => ⟨S3x128x2048, .bf16⟩
  | .hbm, ⟨4, _⟩ => ⟨S3x1x2048, .f32⟩
  | .hbm, ⟨5, _⟩ => ⟨S8192x1024, .f32⟩
  | .hbm, ⟨6, _⟩ => ⟨S1024x4112, .f32⟩
  | .hbm, ⟨7, _⟩ => ⟨S8192x4112, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S8192x128, .f32⟩
  | .hbm, ⟨15, _⟩ => ⟨S3x128x2048, .f32⟩
  | .hbm, ⟨16, _⟩ => ⟨S3x2048x8192, .f32⟩
  | .hbm, ⟨17, _⟩ => ⟨S3x8192x2048, .f32⟩
  | .hbm, ⟨18, _⟩ => ⟨S3x8192x2048, .f32⟩
  | .hbm, ⟨19, _⟩ => ⟨S3x8192x2048, .f32⟩
  | .hbm, ⟨20, _⟩ => ⟨S8192x16x64, .f32⟩
  | .hbm, ⟨21, _⟩ => ⟨S_, .i32⟩
  | .hbm, ⟨22, _⟩ => ⟨S_, .f32⟩
  | .hbm, ⟨23, _⟩ => ⟨S8192x16x128, .f32⟩
  | .hbm, ⟨24, _⟩ => ⟨S8192x2048, .f32⟩
  | .hbm, ⟨25, _⟩ => ⟨S8192x16x64, .f32⟩
  | .hbm, ⟨26, _⟩ => ⟨S_, .i32⟩
  | .hbm, ⟨27, _⟩ => ⟨S_, .f32⟩
  | .hbm, ⟨28, _⟩ => ⟨S8192x16x128, .f32⟩
  | .hbm, ⟨29, _⟩ => ⟨S8192x2048, .f32⟩
  | .hbm, ⟨30, _⟩ => ⟨S8192x16x64, .f32⟩
  | .hbm, ⟨31, _⟩ => ⟨S_, .i32⟩
  | .hbm, ⟨32, _⟩ => ⟨S_, .f32⟩
  | .hbm, ⟨33, _⟩ => ⟨S8192x16x128, .f32⟩
  | .hbm, ⟨34, _⟩ => ⟨S8192x2048, .f32⟩
  | .hbm, ⟨35, _⟩ => ⟨S1x8192x2048, .f32⟩
  | .hbm, ⟨36, _⟩ => ⟨S1x8192x2048, .f32⟩
  | .hbm, ⟨37, _⟩ => ⟨S1x8192x2048, .f32⟩
  | .hbm, ⟨38, _⟩ => ⟨S3x8192x2048, .f32⟩
  | .hbm, ⟨39, _⟩ => ⟨S3x8192x2048, .f32⟩
  | .hbm, ⟨40, _⟩ => ⟨S3x8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c_1 : Ref sig .tc := ⟨.hbm, 31, rfl⟩
abbrev main_call2_v0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩
abbrev S8192x2048 : Shape := ⟨2, ![8192, 2048]⟩
abbrev S256x1024 : Shape := ⟨2, ![256, 1024]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x2048, .bf16⟩
  | .hbm, ⟨3, _⟩ => ⟨S8192x2048, .f32⟩
  | .hbm, ⟨4, _⟩ => ⟨S8192x2048, .bf16⟩
  | .hbm, ⟨5, _⟩ => ⟨S8192x2048, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel10.lean ====
abbrev S8192x2048 : Shape := ⟨2, ![8192, 2048]⟩
abbrev S1024x4112 : Shape := ⟨2, ![1024, 4112]⟩
abbrev S1024x128 : Shape := ⟨2, ![1024, 128]⟩
abbrev S8192x128 : Shape := ⟨2, ![8192, 128]⟩
abbrev S8192x1024 : Shape := ⟨2, ![8192, 1024]⟩
abbrev S1x1024 : Shape := ⟨2, ![1, 1024]⟩
abbrev S1x128 : Shape := ⟨2, ![1, 128]⟩
abbrev S256x2048 : Shape := ⟨2, ![256, 2048]⟩
abbrev S256x128 : Shape := ⟨2, ![256, 128]⟩
abbrev S256x1024 : Shape := ⟨2, ![256, 1024]⟩
abbrev S8x128 : Shape := ⟨2, ![8, 128]⟩
abbrev S1024x1024 : Shape := ⟨2, ![1024, 1024]⟩
abbrev S256 : Shape := ⟨1, ![256]⟩
abbrev S256x1 : Shape := ⟨2, ![256, 1]⟩
abbrev S1024 : Shape := ⟨1, ![1024]⟩
abbrev S128 : Shape := ⟨1, ![128]⟩

abbrev nBuf : Space → Nat
  | .hbm => 20
  | .vmem => 36
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S8192x2048, .bf16⟩
  | .hbm, ⟨3, _⟩ => ⟨S8192x2048, .bf16⟩
  | .hbm, ⟨4, _⟩ => ⟨S1024x4112, .bf16⟩
  | .hbm, ⟨5, _⟩ => ⟨S1024x128, .bf16⟩
  | .hbm, ⟨6, _⟩ => ⟨S8192x128, .f32⟩
  | .hbm, ⟨7, _⟩ => ⟨S8192x128, .f32⟩
  | .hbm, ⟨8, _⟩ => ⟨S8192x1024, .f32⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .bf16⟩
  | .hbm, ⟨13, _⟩ => ⟨S8192x128, .bf16⟩
  | .hbm, ⟨14, _⟩ => ⟨S8192x1024, .bf16⟩
  | .hbm, ⟨15, _⟩ => ⟨S8192x1024, .bf16⟩
  | .hbm, ⟨16, _⟩ => ⟨S8192x1024, .bf16⟩
  | .hbm, ⟨17, _⟩ => ⟨S8192x1024, .bf16⟩
  | .hbm, ⟨18, _⟩ => ⟨S1x1024, .f32⟩
  | .hbm, ⟨19, _⟩ => ⟨S1x128, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1024x4112, .bf16⟩
  | .local _ .vmem, ⟨9, _⟩ => ⟨S1024x128, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S256x128, .bf16⟩
  | .local _ .vmem, ⟨24, _⟩ => ⟨S256x128, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .bf16⟩
  | .local _ .vmem, ⟨31, _⟩ => ⟨S256x1024, .bf16⟩
  | .local _ .vmem, ⟨32, _⟩ => ⟨S256x1024, .bf16⟩
  | .local _ .vmem, ⟨33, _⟩ => ⟨S1x1024, .f32⟩
  | .local _ .vmem, ⟨34, _⟩ => ⟨S1x128, .f32⟩
  | .local _ .vmem, ⟨35, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg19_0 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem19_0 : DmaSem sig := 34

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_14 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_16 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_17 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4112 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== Proof.Blocks.lean ====
/-
  The pipeline's grid coordinates, and what a point's input windows hold: blocks of the arrays the host lines before
  the call computed.
-/
module

public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.FrameBody
public import Idealize.ShloMosaic.Lib.Pointwise

@[expose] public section

set_option maxRecDepth 8192

noncomputable section

namespace Cert.KernelIdeal.Bwd

open Idealize.ShloMosaic Idealize.ShloMosaic.TcCoe
open Cert.KernelIdeal Cert.KernelIdeal.Gen

theorem N_eq : cfg0.N = 128 := N_0

theorem coords_fst (t : Fin cfg0.N) : ((grid0.coords t) 0).val = t.val / 16 := by
  have h : ∀ t : Fin grid0.N, ((grid0.coords t) 0).val = t.val / 16 := by decide +kernel
  exact h t

theorem coords_snd (t : Fin cfg0.N) : ((grid0.coords t) 1).val = t.val % 16 := by
  have h : ∀ t : Fin grid0.N, ((grid0.coords t) 1).val = t.val % 16 := by decide +kernel
  exact h t

theorem lt_128 (t : Fin cfg0.N) : t.val < 128 := N_eq ▸ t.isLt

variable {F : FTy → Type} [FloatOps F]
variable (m : (ℓ : Loc nD τ sig) → Buf (Elt F) ℓ)

theorem index0_0 (t : Fin cfg0.N) : win0_0.index t 0 = 0 ∧ win0_0.index t 1 = t.val / 16 := by
  have h : ∀ t : Fin grid0.N, win0_0.index t 0 = 0 ∧ win0_0.index t 1 = t.val / 16 := by decide +kernel
  exact h t
theorem index0_1 (t : Fin cfg0.N) : win0_1.index t 0 = 1 ∧ win0_1.index t 1 = t.val % 16 ∧ win0_1.index t 2 = t.val / 16 := by
  have h : ∀ t : Fin grid0.N, win0_1.index t 0 = 1 ∧ win0_1.index t 1 = t.val % 16 ∧ win0_1.index t 2 = t.val / 16 := by decide +kernel
  exact h t
theorem index0_2 (t : Fin cfg0.N) : win0_2.index t 0 = 2 ∧ win0_2.index t 1 = t.val % 16 ∧ win0_2.index t 2 = t.val / 16 := by
  have h : ∀ t : Fin grid0.N, win0_2.index t 0 = 2 ∧ win0_2.index t 1 = t.val % 16 ∧ win0_2.index t 2 = t.val / 16 := by decide +kernel
  exact h t
theorem index0_3 (t : Fin cfg0.N) : win0_3.index t 0 = 0 ∧ win0_3.index t 1 = t.val / 16 := by
  have h : ∀ t : Fin grid0.N, win0_3.index t 0 = 0 ∧ win0_3.index t 1 = t.val / 16 := by decide +kernel
  exact h t

theorem iblk0_0 (c : Dev nD) (t : Fin cfg0.N) (y : S8192x256.Idx) :
    (iblk m c 0 t : Vec F S8192x256 .bf16) y = V m c main_v70 (ix2 ⟨(y 0).val, (y 0).isLt⟩
      ⟨256 * (t.val / 16) + (y 1).val, by have := lt_128 t; have h : (y 1).val < 256 := (y 1).isLt; omega⟩) := by
  unfold iblk
  rw [View.read_apply]
  show V m c main_v70 _ = _
  congr 1
  funext a
  apply Fin.ext
  match a with
  | ⟨0, _⟩ => show win0_0.index t 0 * 8192 + 1 * (y 0).val = (y 0).val; rw [(index0_0 t).1]; omega
  | ⟨1, _⟩ => show win0_0.index t 1 * 256 + 1 * (y 1).val = 256 * (t.val / 16) + (y 1).val; rw [(index0_0 t).2]; omega

theorem iblk0_3 (c : Dev nD) (t : Fin cfg0.N) (y : S8192x256.Idx) :
    (iblk m c 3 t : Vec F S8192x256 .bf16) y = V m c main_v85 (ix2 ⟨(y 0).val, (y 0).isLt⟩
      ⟨256 * (t.val / 16) + (y 1).val, by have := lt_128 t; have h : (y 1).val < 256 := (y 1).isLt; omega⟩) := by
  unfold iblk
  rw [View.read_apply]
  show V m c main_v85 _ = _
  congr 1
  funext a
  apply Fin.ext
  match a with
  | ⟨0, _⟩ => show win0_3.index t 0 * 8192 + 1 * (y 0).val = (y 0).val; rw [(index0_3 t).1]; omega
  | ⟨1, _⟩ => show win0_3.index t 1 * 256 + 1 * (y 1).val = 256 * (t.val / 16) + (y 1).val; rw [(index0_3 t).2]; omega

theorem iblk0_1 (c : Dev nD) (t : Fin cfg0.N) (y : S1x512x256.Idx) :
    (iblk m c 1 t : Vec F S1x512x256 .bf16) y = V m c main_v89 (ix3 1
      ⟨512 * (t.val % 16) + (y 1).val, by have := lt_128 t; have h : (y 1).val < 512 := (y 1).isLt; omega⟩
      ⟨256 * (t.val / 16) + (y 2).val, by have := lt_128 t; have h : (y 2).val < 256 := (y 2).isLt; omega⟩) := by
  have h0 : (y 0).val < 1 := (y 0).isLt
  unfold iblk
  rw [View.read_apply]
  show V m c main_v89 _ = _
  congr 1
  funext a
  apply Fin.ext
  match a with
  | ⟨0, _⟩ => show win0_1.index t 0 * 1 + 1 * (y 0).val = 1; rw [(index0_1 t).1]; omega
  | ⟨1, _⟩ => show win0_1.index t 1 * 512 + 1 * (y 1).val = 512 * (t.val % 16) + (y 1).val; rw [(index0_1 t).2.1]; omega
  | ⟨2, _⟩ => show win0_1.index t 2 * 256 + 1 * (y 2).val = 256 * (t.val / 16) + (y 2).val; rw [(index0_1 t).2.2]; omega

theorem iblk0_2 (c : Dev nD) (t : Fin cfg0.N) (y : S1x512x256.Idx) :
    (iblk m c 2 t : Vec F S1x512x256 .bf16) y = V m c main_v89 (ix3 2
      ⟨512 * (t.val % 16) + (y 1).val, by have := lt_128 t; have h : (y 1).val < 512 := (y 1).isLt; omega⟩
      ⟨256 * (t.val / 16) + (y 2).val, by have := lt_128 t; have h : (y 2).val < 256 := (y 2).isLt; omega⟩) := by
  have h0 : (y 0).val < 1 := (y 0).isLt
  unfold iblk
  rw [View.read_apply]
  show V m c main_v89 _ = _
  congr 1
  funext a
  apply Fin.ext
  match a with
  | ⟨0, _⟩ => show win0_2.index t 0 * 1 + 1 * (y 0).val = 2; rw [(index0_2 t).1]; omega
  | ⟨1, _⟩ => show win0_2.index t 1 * 512 + 1 * (y 1).val = 512 * (t.val % 16) + (y 1).val; rw [(index0_2 t).2.1]; omega
  | ⟨2, _⟩ => show win0_2.index t 2 * 256 + 1 * (y 2).val = 256 * (t.val / 16) + (y 2).val; rw [(index0_2 t).2.2]; omega

theorem iblk0_0_congr (c : Dev nD) (t t' : Fin cfg0.N) (h : t.val / 16 = t'.val / 16) :
    (iblk m c 0 t : Vec F S8192x256 .bf16) = iblk m c 0 t' := by
  funext y
  exact (iblk0_0 m c t y).trans (by rw [iblk0_0]; congr 4; omega)

theorem iblk0_3_congr (c : Dev nD) (t t' : Fin cfg0.N) (h : t.val / 16 = t'.val / 16) :
    (iblk m c 3 t : Vec F S8192x256 .bf16) = iblk m c 3 t' := by
  funext y
  exact (iblk0_3 m c t y).trans (by rw [iblk0_3]; congr 4; omega)

end Cert.KernelIdeal.Bwd
end
-- ==== Proof.Offsets.lean ====
/-
  The offsets of the loop over the later query blocks: the accesses whose closed form depends on the loop's own trip.
-/
module

public import proofs.«01_k».proof.Proof.Gen.KernelIdeal.Skeleton
public import Idealize.ShloMosaic.Lib.Exec
public import Idealize.ShloMosaic.Lib.Tactic

@[expose] public section

namespace Cert.KernelIdeal.Bwd

open Idealize.ShloMosaic

/-- The loop over the later query blocks takes them two at a time. -/
theorem t2_trips (i : grid0.Coords) : (k0_t2_loop i).trips = (15 - (i 1).val) / 2 := by
  revert i; decide +kernel

theorem off13_eq (i : grid0.Coords) (k : Fin (k0_t2_loop i).trips) :
    k0_off13 i k = ![512 * ((i 1).val + 1 + 2 * k.val), 0] := by
  revert k; revert i; decide +kernel

theorem off14_eq (i : grid0.Coords) (k : Fin (k0_t2_loop i).trips) :
    k0_off14 i k = ![512 * ((i 1).val + 1 + 2 * k.val), 128] := by
  revert k; revert i; decide +kernel

theorem off15_eq (i : grid0.Coords) (k : Fin (k0_t2_loop i).trips) (r : Fin 2) :
    k0_off15 i k (BitVec.ofNat 32 r.val) = ![0, (i 1).val + 1 + 2 * k.val + r.val, 0, 0] := by
  revert r; revert k; revert i; decide +kernel

theorem off16_eq (i : grid0.Coords) (k : Fin (k0_t2_loop i).trips) (r : Fin 2) :
    k0_off16 i k (BitVec.ofNat 32 r.val) = ![1, (i 1).val + 1 + 2 * k.val + r.val, 0, 0] := by
  revert r; revert k; revert i; decide +kernel

instance (i : grid0.Coords) (k : Fin (k0_t2_loop i).trips) : ClosedOff (k0_off13 i k) := ⟨_, off13_eq i k⟩
instance (i : grid0.Coords) (k : Fin (k0_t2_loop i).trips) : ClosedOff (k0_off14 i k) := ⟨_, off14_eq i k⟩
instance (i : grid0.Coords) (k : Fin (k0_t2_loop i).trips) : ClosedOff (k0_off15 i k 0#32) := ⟨_, off15_eq i k 0⟩
instance (i : grid0.Coords) (k : Fin (k0_t2_loop i).trips) : ClosedOff (k0_off15 i k 1#32) := ⟨_, off15_eq i k 1⟩
instance (i : grid0.Coords) (k : Fin (k0_t2_loop i).trips) : ClosedOff (k0_off16 i k 0#32) := ⟨_, off16_eq i k 0⟩
instance (i : grid0.Coords) (k : Fin (k0_t2_loop i).trips) : ClosedOff (k0_off16 i k 1#32) := ⟨_, off16_eq i k 1⟩

end Cert.KernelIdeal.Bwd
end
-- ==== Proof.Model.lean ====
/-
  What the kernel computes at one grid point, as plain functions of the values in its buffers. No memory is spoken of
  here: a load is a window of a value, a store is a value with a window put over it.

  The names follow the kernel: `q` and `d` are the queries and the output gradient of the head pair (8192 rows, two heads
  of 128 lanes), `kb` and `vb` the point's block of 512 keys and values, `qt` and `dt` the transposed copies of `q` and
  `d`, and an `Acc` holds the three running sums, of the query gradient and of the transposed key and value gradients.
-/
module

public import proofs.«01_k».proof.Proof.Gen.KernelIdeal.Skeleton
public import proofs.«01_k».proof.Proof.Offsets
public import Idealize.ShloMosaic.Lib.VecWindow
public import Idealize.ShloMosaic.Lib.PointwiseCore

@[expose] public section

set_option maxRecDepth 8192

noncomputable section

namespace Cert.KernelIdeal.Bwd

open Idealize.ShloMosaic Idealize.ShloMosaic.VecWindow
open Cert.KernelIdeal Cert.KernelIdeal.Gen

variable {F : FTy → Type} [FloatOps F]

/-- The running sums of a grid point: query gradient, transposed key gradient, transposed value gradient. -/
structure Acc (F : FTy → Type) where
  dq : Vec F S8192x256 .f32
  dk : Vec F S2x128x512 .f32
  dv : Vec F S2x128x512 .f32

/-- The values of a grid point that no step changes. -/
structure Ins (F : FTy → Type) where
  q : Vec F S8192x256 .bf16
  k : Vec F S1x512x256 .bf16
  v : Vec F S1x512x256 .bf16
  d : Vec F S8192x256 .bf16
  qt : Vec F S2x16x128x512 .bf16
  dt : Vec F S2x16x128x512 .bf16

/-- The transposed copy the kernel keeps of its 8192 rows: head, block of 512 rows, lane, row within the block. -/
def transposed (x : Vec F S8192x256 .bf16) : Vec F S2x16x128x512 .bf16 := fun y =>
  x (ix2 (⟨512 * (y 1).val + (y 3).val, by have h1 : (y 1).val < 16 := (y 1).isLt; have h3 : (y 3).val < 512 := (y 3).isLt; omega⟩ : Fin 8192)
    (⟨128 * (y 0).val + (y 2).val, by have h0 : (y 0).val < 2 := (y 0).isLt; have h2 : (y 2).val < 128 := (y 2).isLt; omega⟩ : Fin 256))

namespace Ins

variable (I : Ins F)

/-- The keys of the first head of the pair. -/
def k0 : FVec F S512x128 .bf16 := k0_pay53 (window I.k ![0, 0, 0] S1x512x128.size inb_S1x512x256_S1x512x128_0_0_0)
/-- The keys of the second head. -/
def k1 : FVec F S512x128 .bf16 := k0_pay54 (window I.k ![0, 0, 128] S1x512x128.size inb_S1x512x256_S1x512x128_0_0_128)
/-- The values of the first head. -/
def v0 : FVec F S512x128 .bf16 := k0_pay55 (window I.v ![0, 0, 0] S1x512x128.size inb_S1x512x256_S1x512x128_0_0_0)
/-- The values of the second head. -/
def v1 : FVec F S512x128 .bf16 := k0_pay56 (window I.v ![0, 0, 128] S1x512x128.size inb_S1x512x256_S1x512x128_0_0_128)

end Ins

/-! ### One step over two later query blocks -/

section Later
variable (i : grid0.Coords) (I : Ins F) (n : Fin (k0_t2_loop i).trips)

def laterP0 : FVec F S1024x512 .bf16 := k0_pay10 I.k0 (window I.q (k0_off13 i n) S1024x128.size (k0_off13_inb i n))
def laterS0 : FVec F S1024x512 .bf16 :=
  k0_pay11 I.k0 I.v0 (window I.q (k0_off13 i n) S1024x128.size (k0_off13_inb i n)) (window I.d (k0_off13 i n) S1024x128.size (k0_off13_inb i n))
def laterL1 : FVec F S1024x512 .f32 := k0_pay8 I.k1 (window I.q (k0_off14 i n) S1024x128.size (k0_off14_inb i n))
def laterS1 : FVec F S1024x512 .bf16 :=
  k0_pay17 (laterL1 i I n) (k0_pay9 I.v1 (window I.d (k0_off14 i n) S1024x128.size (k0_off14_inb i n)))

/-- The running sums after the step. -/
def later (A : Acc F) : Acc F where
  dq := put (put A.dq (k0_off13 i n) S1024x128.size
      (k0_pay15 I.k0 (laterS0 i I n) (window A.dq (k0_off13 i n) S1024x128.size (k0_off13_inb i n))))
    (k0_off14 i n) S1024x128.size
      (k0_pay93 I.k1 (laterS1 i I n) (window A.dq (k0_off14 i n) S1024x128.size (k0_off14_inb i n)))
  dk := put (put A.dk ![0, 0, 0] S1x128x512.size
      (k0_pay14 (laterS0 i I n) (window I.qt (k0_off15 i n 0#32) S1x1x128x512.size (k0_off15_inb i n 0))
        (window I.qt (k0_off15 i n 1#32) S1x1x128x512.size (k0_off15_inb i n 1))
        (window A.dk ![0, 0, 0] S1x128x512.size inb_S2x128x512_S1x128x512_0_0_0)))
    ![1, 0, 0] S1x128x512.size
      (k0_pay92 (laterS1 i I n)
        (k0_pay19 (laterL1 i I n) (k0_pay9 I.v1 (window I.d (k0_off14 i n) S1024x128.size (k0_off14_inb i n)))
          (window I.qt (k0_off16 i n 0#32) S1x1x128x512.size (k0_off16_inb i n 0)))
        (window I.qt (k0_off16 i n 1#32) S1x1x128x512.size (k0_off16_inb i n 1))
        (window A.dk ![1, 0, 0] S1x128x512.size inb_S2x128x512_S1x128x512_1_0_0))
  dv := put (put A.dv ![0, 0, 0] S1x128x512.size
      (k0_pay13 (laterP0 i I n)
        (k0_pay12 I.k0 (window I.q (k0_off13 i n) S1024x128.size (k0_off13_inb i n))
          (window I.dt (k0_off15 i n 0#32) S1x1x128x512.size (k0_off15_inb i n 0)))
        (window I.dt (k0_off15 i n 1#32) S1x1x128x512.size (k0_off15_inb i n 1))
        (window A.dv ![0, 0, 0] S1x128x512.size inb_S2x128x512_S1x128x512_0_0_0)))
    ![1, 0, 0] S1x128x512.size
      (k0_pay91 (k0_pay18 (laterL1 i I n) (window I.dt (k0_off16 i n 0#32) S1x1x128x512.size (k0_off16_inb i n 0))
          (window I.dt (k0_off16 i n 1#32) S1x1x128x512.size (k0_off16_inb i n 1)))
        (window A.dv ![1, 0, 0] S1x128x512.size inb_S2x128x512_S1x128x512_1_0_0))

end Later

/-- The running sums after the first `n` steps over later query blocks. -/
def laterN (i : grid0.Coords) (I : Ins F) (A : Acc F) : ℕ → Acc F
  | 0 => A
  | n + 1 => if h : n < (k0_t2_loop i).trips then later i I ⟨n, h⟩ (laterN i I A n) else laterN i I A n

theorem laterN_succ (i : grid0.Coords) (I : Ins F) (A : Acc F) (n : Fin (k0_t2_loop i).trips) :
    laterN i I A (n.val + 1) = later i I n (laterN i I A n.val) := dif_pos n.isLt

/-! ### The last query block, taken alone -/

/-- The running sums after the single last query block, rows 7680 and on. -/
def last (I : Ins F) (A : Acc F) : Acc F :=
  let q0 := window I.q ![7680, 0] S512x128.size inb_S8192x256_S512x128_7680_0
  let q1 := window I.q ![7680, 128] S512x128.size inb_S8192x256_S512x128_7680_128
  let d0 := window I.d ![7680, 0] S512x128.size inb_S8192x256_S512x128_7680_0
  let d1 := window I.d ![7680, 128] S512x128.size inb_S8192x256_S512x128_7680_128
  let dt0 := window I.dt ![0, 15, 0, 0] S1x1x128x512.size inb_S2x16x128x512_S1x1x128x512_0_15_0_0
  let qt0 := window I.qt ![0, 15, 0, 0] S1x1x128x512.size inb_S2x16x128x512_S1x1x128x512_0_15_0_0
  let dt1 := window I.dt ![1, 15, 0, 0] S1x1x128x512.size inb_S2x16x128x512_S1x1x128x512_1_15_0_0
  let qt1 := window I.qt ![1, 15, 0, 0] S1x1x128x512.size inb_S2x16x128x512_S1x1x128x512_1_15_0_0
  { dq := put (put A.dq ![7680, 0] S512x128.size
        (k0_pay40 I.k0 (k0_pay35 I.k0 I.v0 q0 d0) (window A.dq ![7680, 0] S512x128.size inb_S8192x256_S512x128_7680_0)))
      ![7680, 128] S512x128.size
        (k0_pay99 I.k1 (k0_pay42 (k0_pay32 I.k1 q1) (k0_pay33 I.v1 d1))
          (window A.dq ![7680, 128] S512x128.size inb_S8192x256_S512x128_7680_128))
    dk := put (put A.dk ![0, 0, 0] S1x128x512.size
        (k0_pay39 (k0_pay36 I.k0 I.v0 q0 d0 qt0) (window A.dk ![0, 0, 0] S1x128x512.size inb_S2x128x512_S1x128x512_0_0_0)))
      ![1, 0, 0] S1x128x512.size
        (k0_pay98 (k0_pay44 (k0_pay32 I.k1 q1) (k0_pay33 I.v1 d1) qt1)
          (window A.dk ![1, 0, 0] S1x128x512.size inb_S2x128x512_S1x128x512_1_0_0))
    dv := put (put A.dv ![0, 0, 0] S1x128x512.size
        (k0_pay38 (k0_pay37 I.k0 q0 dt0 (window A.dv ![0, 0, 0] S1x128x512.size inb_S2x128x512_S1x128x512_0_0_0))))
      ![1, 0, 0] S1x128x512.size
        (k0_pay97 (k0_pay43 (k0_pay32 I.k1 q1) dt1)
          (window A.dv ![1, 0, 0] S1x128x512.size inb_S2x128x512_S1x128x512_1_0_0)) }

end Cert.KernelIdeal.Bwd
end
-- ==== Proof.Win.lean ====
/-
  Windows and puts (Lib/VecWindow.lean) read at an index given by its coordinates.
-/
module

public import Idealize.ShloMosaic.Lib.VecWindow
public import Idealize.ShloMosaic.Lib.PointwiseCore

@[expose] public section

namespace Cert.KernelIdeal.Bwd

open Idealize.ShloMosaic Idealize.ShloMosaic.VecWindow

variable {α : Type}

theorem window_ix2 {A B m n o0 o1 : ℕ} (x : (⟨2, ![A, B]⟩ : Shape).Idx → α) {off : Fin 2 → ℕ} (h : off = ![o0, o1])
    (inb : ∀ a, off a + (![m, n] : Fin 2 → ℕ) a ≤ (⟨2, ![A, B]⟩ : Shape).size a) (h0 : o0 + m ≤ A) (h1 : o1 + n ≤ B) (r : Fin m) (c : Fin n) :
    window x off ![m, n] inb (ix2 r c) = x (ix2 ⟨o0 + r.val, by omega⟩ ⟨o1 + c.val, by omega⟩) := by
  subst h
  refine congrArg x (funext fun a => Fin.ext ?_)
  match a with
  | 0 => exact congrArg (o0 + ·) (Nat.one_mul _)
  | 1 => exact congrArg (o1 + ·) (Nat.one_mul _)

theorem window_ix3 {A B C l m n o0 o1 o2 : ℕ} (x : (⟨3, ![A, B, C]⟩ : Shape).Idx → α) {off : Fin 3 → ℕ} (h : off = ![o0, o1, o2])
    (inb : ∀ a, off a + (![l, m, n] : Fin 3 → ℕ) a ≤ (⟨3, ![A, B, C]⟩ : Shape).size a) (h0 : o0 + l ≤ A) (h1 : o1 + m ≤ B) (h2 : o2 + n ≤ C)
    (p : Fin l) (r : Fin m) (c : Fin n) :
    window x off ![l, m, n] inb (ix3 p r c) = x (ix3 ⟨o0 + p.val, by omega⟩ ⟨o1 + r.val, by omega⟩ ⟨o2 + c.val, by omega⟩) := by
  subst h
  refine congrArg x (funext fun a => Fin.ext ?_)
  match a with
  | 0 => exact congrArg (o0 + ·) (Nat.one_mul _)
  | 1 => exact congrArg (o1 + ·) (Nat.one_mul _)
  | 2 => exact congrArg (o2 + ·) (Nat.one_mul _)

theorem window_ix4 {A B C D k l m n o0 o1 o2 o3 : ℕ} (x : (⟨4, ![A, B, C, D]⟩ : Shape).Idx → α) {off : Fin 4 → ℕ} (h : off = ![o0, o1, o2, o3])
    (inb : ∀ a, off a + (![k, l, m, n] : Fin 4 → ℕ) a ≤ (⟨4, ![A, B, C, D]⟩ : Shape).size a)
    (h0 : o0 + k ≤ A) (h1 : o1 + l ≤ B) (h2 : o2 + m ≤ C) (h3 : o3 + n ≤ D) (u : Fin k) (p : Fin l) (r : Fin m) (c : Fin n) :
    window x off ![k, l, m, n] inb (ix4 u p r c)
      = x (ix4 ⟨o0 + u.val, by omega⟩ ⟨o1 + p.val, by omega⟩ ⟨o2 + r.val, by omega⟩ ⟨o3 + c.val, by omega⟩) := by
  subst h
  refine congrArg x (funext fun a => Fin.ext ?_)
  match a with
  | 0 => exact congrArg (o0 + ·) (Nat.one_mul _)
  | 1 => exact congrArg (o1 + ·) (Nat.one_mul _)
  | 2 => exact congrArg (o2 + ·) (Nat.one_mul _)
  | 3 => exact congrArg (o3 + ·) (Nat.one_mul _)

theorem put_ix2 {A B m n o0 o1 : ℕ} (x : (⟨2, ![A, B]⟩ : Shape).Idx → α) {off : Fin 2 → ℕ} (h : off = ![o0, o1])
    (w : (⟨2, ![m, n]⟩ : Shape).Idx → α) (r : Fin A) (c : Fin B) :
    put x off ![m, n] w (ix2 r c)
      = if h : (o0 ≤ r.val ∧ r.val < o0 + m) ∧ (o1 ≤ c.val ∧ c.val < o1 + n)
        then w (ix2 ⟨r.val - o0, by omega⟩ ⟨c.val - o1, by omega⟩) else x (ix2 r c) := by
  subst h
  unfold put
  have key : (∀ a : Fin 2, (![o0, o1] : Fin 2 → ℕ) a ≤ ((ix2 r c : (⟨2, ![A, B]⟩ : Shape).Idx) a).val
      ∧ ((ix2 r c : (⟨2, ![A, B]⟩ : Shape).Idx) a).val < (![o0, o1] : Fin 2 → ℕ) a + (![m, n] : Fin 2 → ℕ) a)
      ↔ ((o0 ≤ r.val ∧ r.val < o0 + m) ∧ (o1 ≤ c.val ∧ c.val < o1 + n)) := Fin.forall_fin_two
  by_cases hk : (o0 ≤ r.val ∧ r.val < o0 + m) ∧ (o1 ≤ c.val ∧ c.val < o1 + n)
  · rw [dif_pos hk, dif_pos (key.mpr hk)]
    refine congrArg w (funext fun a => ?_)
    match a with
    | 0 => rfl
    | 1 => rfl
  · rw [dif_neg hk, dif_neg (fun h => hk (key.mp h))]

theorem put_ix3 {A B C l m n o0 o1 o2 : ℕ} (x : (⟨3, ![A, B, C]⟩ : Shape).Idx → α) {off : Fin 3 → ℕ} (h : off = ![o0, o1, o2])
    (w : (⟨3, ![l, m, n]⟩ : Shape).Idx → α) (p : Fin A) (r : Fin B) (c : Fin C) :
    put x off ![l, m, n] w (ix3 p r c)
      = if h : (o0 ≤ p.val ∧ p.val < o0 + l) ∧ (o1 ≤ r.val ∧ r.val < o1 + m) ∧ (o2 ≤ c.val ∧ c.val < o2 + n)
        then w (ix3 ⟨p.val - o0, by omega⟩ ⟨r.val - o1, by omega⟩ ⟨c.val - o2, by omega⟩) else x (ix3 p r c) := by
  subst h
  unfold put
  have key : (∀ a : Fin 3, (![o0, o1, o2] : Fin 3 → ℕ) a ≤ ((ix3 p r c : (⟨3, ![A, B, C]⟩ : Shape).Idx) a).val
      ∧ ((ix3 p r c : (⟨3, ![A, B, C]⟩ : Shape).Idx) a).val < (![o0, o1, o2] : Fin 3 → ℕ) a + (![l, m, n] : Fin 3 → ℕ) a)
      ↔ ((o0 ≤ p.val ∧ p.val < o0 + l) ∧ (o1 ≤ r.val ∧ r.val < o1 + m) ∧ (o2 ≤ c.val ∧ c.val < o2 + n)) :=
    ⟨fun h => ⟨h 0, h 1, h 2⟩, fun h a => match a with | 0 => h.1 | 1 => h.2.1 | 2 => h.2.2⟩
  by_cases hk : (o0 ≤ p.val ∧ p.val < o0 + l) ∧ (o1 ≤ r.val ∧ r.val < o1 + m) ∧ (o2 ≤ c.val ∧ c.val < o2 + n)
  · rw [dif_pos hk, dif_pos (key.mpr hk)]
    refine congrArg w (funext fun a => ?_)
    match a with
    | 0 => rfl
    | 1 => rfl
    | 2 => rfl
  · rw [dif_neg hk, dif_neg (fun h => hk (key.mp h))]

theorem put_ix4 {A B C D k l m n o0 o1 o2 o3 : ℕ} (x : (⟨4, ![A, B, C, D]⟩ : Shape).Idx → α) {off : Fin 4 → ℕ} (h : off = ![o0, o1, o2, o3])
    (w : (⟨4, ![k, l, m, n]⟩ : Shape).Idx → α) (u : Fin A) (p : Fin B) (r : Fin C) (c : Fin D) :
    put x off ![k, l, m, n] w (ix4 u p r c)
      = if h : (o0 ≤ u.val ∧ u.val < o0 + k) ∧ (o1 ≤ p.val ∧ p.val < o1 + l) ∧ (o2 ≤ r.val ∧ r.val < o2 + m) ∧ (o3 ≤ c.val ∧ c.val < o3 + n)
        then w (ix4 ⟨u.val - o0, by omega⟩ ⟨p.val - o1, by omega⟩ ⟨r.val - o2, by omega⟩ ⟨c.val - o3, by omega⟩) else x (ix4 u p r c) := by
  subst h
  unfold put
  have key : (∀ a : Fin 4, (![o0, o1, o2, o3] : Fin 4 → ℕ) a ≤ ((ix4 u p r c : (⟨4, ![A, B, C, D]⟩ : Shape).Idx) a).val
      ∧ ((ix4 u p r c : (⟨4, ![A, B, C, D]⟩ : Shape).Idx) a).val < (![o0, o1, o2, o3] : Fin 4 → ℕ) a + (![k, l, m, n] : Fin 4 → ℕ) a)
      ↔ ((o0 ≤ u.val ∧ u.val < o0 + k) ∧ (o1 ≤ p.val ∧ p.val < o1 + l) ∧ (o2 ≤ r.val ∧ r.val < o2 + m) ∧ (o3 ≤ c.val ∧ c.val < o3 + n)) :=
    ⟨fun h => ⟨h 0, h 1, h 2, h 3⟩, fun h a => match a with | 0 => h.1 | 1 => h.2.1 | 2 => h.2.2.1 | 3 => h.2.2.2⟩
  by_cases hk : (o0 ≤ u.val ∧ u.val < o0 + k) ∧ (o1 ≤ p.val ∧ p.val < o1 + l) ∧ (o2 ≤ r.val ∧ r.val < o2 + m) ∧ (o3 ≤ c.val ∧ c.val < o3 + n)
  · rw [dif_pos hk, dif_pos (key.mpr hk)]
    refine congrArg w (funext fun a => ?_)
    match a with
    | 0 => rfl
    | 1 => rfl
    | 2 => rfl
    | 3 => rfl
  · rw [dif_neg hk, dif_neg (fun h => hk (key.mp h))]

end Cert.KernelIdeal.Bwd
end
-- ==== Proof.Copies.lean ====
/-
  The transposed copies the kernel makes of the queries and of the output gradient, one block of 512 rows at a time.
-/
module

public import proofs.«01_k».proof.Proof.Model
public import proofs.«01_k».proof.Proof.Win

@[expose] public section

set_option maxRecDepth 16384
set_option maxHeartbeats 1000000

noncomputable section

namespace Cert.KernelIdeal.Bwd

open Idealize.ShloMosaic Idealize.ShloMosaic.VecWindow
open Cert.KernelIdeal Cert.KernelIdeal.Gen

variable {F : FTy → Type} [FloatOps F]

/-- The first `n` blocks copied, the rest as in `x`. -/
def transposedN (q : Vec F S8192x256 .bf16) (x : Vec F S2x16x128x512 .bf16) (n : ℕ) : Vec F S2x16x128x512 .bf16 :=
  fun y => if (y 1).val < n then transposed q y else x y

theorem transposedN_zero (q : Vec F S8192x256 .bf16) (x : Vec F S2x16x128x512 .bf16) : transposedN q x 0 = x :=
  funext fun _ => if_neg (Nat.not_lt_zero _)

theorem t1_trips : k0_t1_loop.trips = 16 := by decide

theorem transposedN_all (q : Vec F S8192x256 .bf16) (x : Vec F S2x16x128x512 .bf16) :
    transposedN q x k0_t1_loop.trips = transposed q :=
  funext fun y => if_pos (lt_of_lt_of_eq (y 1).isLt t1_trips.symm)

theorem pay48_apply (w : Vec F S512x128 .bf16) (u p : Fin 1) (c : Fin 128) (r : Fin 512) :
    k0_pay48 w (ix4 u p c r) = w (ix2 r c) := by
  unfold k0_pay48
  pointwise

theorem transposed_apply (q : Vec F S8192x256 .bf16) (e : Fin 2) (j : Fin 16) (c : Fin 128) (r : Fin 512) :
    transposed q (ix4 e j c r) = q (ix2 ⟨512 * j.val + r.val, by omega⟩ ⟨128 * e.val + c.val, by omega⟩) := rfl

theorem transposedN_apply (q : Vec F S8192x256 .bf16) (x : Vec F S2x16x128x512 .bf16) (n : ℕ) (e : Fin 2) (j : Fin 16)
    (c : Fin 128) (r : Fin 512) :
    transposedN q x n (ix4 e j c r) = if j.val < n then transposed q (ix4 e j c r) else x (ix4 e j c r) := rfl

theorem transposedN_succ (q : Vec F S8192x256 .bf16) (x : Vec F S2x16x128x512 .bf16) (i : grid0.Coords)
    (n : Fin k0_t1_loop.trips) (h : k0_cond1 i = 1#1) :
    put (put (transposedN q x n.val) (k0_off2 n) S1x1x128x512.size
        (k0_pay48 (window q (k0_off1 n) S512x128.size (k0_off1_inb i n h))))
      (k0_off4 n) S1x1x128x512.size (k0_pay48 (window q (k0_off3 n) S512x128.size (k0_off3_inb i n h)))
    = transposedN q x (n.val + 1) := by
  have hn : n.val < 16 := lt_of_lt_of_eq n.isLt t1_trips
  funext y
  rw [eq_ix4 y]
  generalize y 0 = e, y 1 = j, y 2 = c, y 3 = r
  change Fin 2 at e; change Fin 16 at j; change Fin 128 at c; change Fin 512 at r
  refine (put_ix4 _ (k0_off4_eq n) _ e j c r).trans (Eq.trans ?_ (transposedN_apply q x (n.val + 1) e j c r).symm)
  by_cases hj : j.val = n.val
  · by_cases he : e.val = 1
    · rw [dif_pos ⟨by omega, by omega, by omega, by omega⟩, if_pos (show j.val < n.val + 1 by omega), transposed_apply]
      refine (pay48_apply _ _ _ _ _).trans ((window_ix2 _ (k0_off3_eq n) _ (by omega) (by omega) _ _).trans (congrArg q ?_))
      rw [ix2_inj]
      exact ⟨Fin.ext (by simp; omega), Fin.ext (by simp; omega)⟩
    · rw [dif_neg (by omega)]
      refine (put_ix4 _ (k0_off2_eq n) _ e j c r).trans ?_
      rw [dif_pos ⟨by omega, by omega, by omega, by omega⟩, if_pos (show j.val < n.val + 1 by omega), transposed_apply]
      refine (pay48_apply _ _ _ _ _).trans ((window_ix2 _ (k0_off1_eq n) _ (by omega) (by omega) _ _).trans (congrArg q ?_))
      rw [ix2_inj]
      exact ⟨Fin.ext (by simp; omega), Fin.ext (by simp; omega)⟩
  · rw [dif_neg (by omega)]
    refine (put_ix4 _ (k0_off2_eq n) _ e j c r).trans ?_
    rw [dif_neg (by omega), transposedN_apply]
    by_cases hl : j.val < n.val
    · rw [if_pos (show j.val < n.val by omega), if_pos (show j.val < n.val + 1 by omega)]
    · rw [if_neg (show ¬ j.val < n.val by omega), if_neg (show ¬ j.val < n.val + 1 by omega)]

end Cert.KernelIdeal.Bwd
end
-- ==== Proof.Rows.lean ====
/-
  The end of a head pair: the query gradient is narrowed into its output and its lane 64 added into the running
  derivative of the decay, one block of 512 rows at a time.
-/
module

public import proofs.«01_k».proof.Proof.Model
public import proofs.«01_k».proof.Proof.Win

@[expose] public section

set_option maxRecDepth 16384
set_option maxHeartbeats 1000000

noncomputable section

namespace Cert.KernelIdeal.Bwd

open Idealize.ShloMosaic Idealize.ShloMosaic.VecWindow
open Cert.KernelIdeal Cert.KernelIdeal.Gen

variable {F : FTy → Type} [FloatOps F]

/-- The query gradient at the width of its output. -/
def narrow (x : Vec F S8192x256 .f32) : Vec F S8192x256 .bf16 := fun y => FloatOps.truncf .bf16 (by decide) (x y)

/-- The first `512 * n` rows narrowed, the rest as in `z`. -/
def narrowN (x : Vec F S8192x256 .f32) (z : Vec F S8192x256 .bf16) (n : ℕ) : Vec F S8192x256 .bf16 :=
  fun y => if (y 0).val < 512 * n then narrow x y else z y

/-- Block `j` of 512 rows and the 128 lanes from `o` on. -/
def rowBlock {B : ℕ} (x : Vec F (⟨2, ![8192, B]⟩ : Shape) .f32) (j : ℕ) (o : ℕ) (hj : j < 16) (ho : o + 128 ≤ B) : Vec F S512x128 .f32 :=
  fun z => x (ix2 ⟨512 * j + (z 0).val, by have h0 : (z 0).val < 512 := (z 0).isLt; omega⟩
    ⟨o + (z 1).val, by have h1 : (z 1).val < 128 := (z 1).isLt; omega⟩)

/-- The running derivative of the decay after lane 64 of the query gradient is added into the pair's two lanes. -/
def dcEnd (i : grid0.Coords) (x : Vec F S8192x256 .f32) (z : Vec F S8192x128 .f32) : Vec F S8192x128 .f32 := fun y =>
  have h0 : (y 0).val < 8192 := (y 0).isLt
  k0_pay7 (k0_pay45 i) (k0_pay46 i) (rowBlock z ((y 0).val / 512) 0 (by omega) (by omega))
    (rowBlock x ((y 0).val / 512) 0 (by omega) (by omega)) (rowBlock x ((y 0).val / 512) 128 (by omega) (by omega))
    (ix2 ⟨(y 0).val % 512, by omega⟩ (y 1))

/-- The same for the first `512 * n` rows, the rest as in `z`. -/
def dcEndN (i : grid0.Coords) (x : Vec F S8192x256 .f32) (z : Vec F S8192x128 .f32) (n : ℕ) : Vec F S8192x128 .f32 :=
  fun y => if (y 0).val < 512 * n then dcEnd i x z y else z y

theorem narrowN_zero (x : Vec F S8192x256 .f32) (z : Vec F S8192x256 .bf16) : narrowN x z 0 = z :=
  funext fun _ => if_neg (Nat.not_lt_zero _)

theorem dcEndN_zero (i : grid0.Coords) (x : Vec F S8192x256 .f32) (z : Vec F S8192x128 .f32) : dcEndN i x z 0 = z :=
  funext fun _ => if_neg (Nat.not_lt_zero _)

theorem t4_trips : k0_t4_loop.trips = 16 := by decide

theorem narrowN_all (x : Vec F S8192x256 .f32) (z : Vec F S8192x256 .bf16) : narrowN x z k0_t4_loop.trips = narrow x :=
  funext fun y => if_pos (by rw [t4_trips]; exact (y 0).isLt)

theorem dcEndN_all (i : grid0.Coords) (x : Vec F S8192x256 .f32) (z : Vec F S8192x128 .f32) :
    dcEndN i x z k0_t4_loop.trips = dcEnd i x z :=
  funext fun y => if_pos (by rw [t4_trips]; exact (y 0).isLt)

theorem narrowN_apply (x : Vec F S8192x256 .f32) (z : Vec F S8192x256 .bf16) (n : ℕ) (r : Fin 8192) (c : Fin 256) :
    narrowN x z n (ix2 r c) = if r.val < 512 * n then FloatOps.truncf .bf16 (by decide) (x (ix2 r c)) else z (ix2 r c) := rfl

theorem dcEndN_apply (i : grid0.Coords) (x : Vec F S8192x256 .f32) (z : Vec F S8192x128 .f32) (n : ℕ) (r : Fin 8192) (c : Fin 128) :
    dcEndN i x z n (ix2 r c) = if r.val < 512 * n then dcEnd i x z (ix2 r c) else z (ix2 r c) := rfl

theorem dcEnd_apply (i : grid0.Coords) (x : Vec F S8192x256 .f32) (z : Vec F S8192x128 .f32) (r : Fin 8192) (c : Fin 128) :
    dcEnd i x z (ix2 r c) = k0_pay7 (k0_pay45 i) (k0_pay46 i) (rowBlock z (r.val / 512) 0 (by omega) (by omega))
      (rowBlock x (r.val / 512) 0 (by omega) (by omega)) (rowBlock x (r.val / 512) 128 (by omega) (by omega))
      (ix2 ⟨r.val % 512, by omega⟩ c) := rfl

theorem window_rowBlock {B o : ℕ} (x : Vec F (⟨2, ![8192, B]⟩ : Shape) .f32) (j : ℕ) (hj : j < 16) (ho : o + 128 ≤ B) {off : Fin 2 → ℕ}
    (h : off = ![512 * j, o]) (inb : ∀ a, off a + (![512, 128] : Fin 2 → ℕ) a ≤ (⟨2, ![8192, B]⟩ : Shape).size a) :
    window x off ![512, 128] inb = rowBlock x j o hj ho := by
  funext z
  rw [eq_ix2 z]
  exact window_ix2 x h inb (by omega) (by omega) (z 0) (z 1)

theorem rowBlock_congr {B o : ℕ} (x : Vec F (⟨2, ![8192, B]⟩ : Shape) .f32) {j j' : ℕ} (h : j = j') (hj : j < 16) (hj' : j' < 16)
    (ho : o + 128 ≤ B) : rowBlock x j o hj ho = rowBlock x j' o hj' ho := by
  subst h
  rfl

theorem narrowN_succ (x : Vec F S8192x256 .f32) (z : Vec F S8192x256 .bf16) (i : grid0.Coords) (n : Fin k0_t4_loop.trips)
    (h : k0_cond4 i = 1#1) :
    put (put (narrowN x z n.val) (k0_off23 n) S512x128.size (k0_pay5 (window x (k0_off23 n) S512x128.size (k0_off23_inb i n h))))
      (k0_off24 n) S512x128.size (k0_pay6 (window x (k0_off24 n) S512x128.size (k0_off24_inb i n h)))
    = narrowN x z (n.val + 1) := by
  have hn : n.val < 16 := lt_of_lt_of_eq n.isLt t4_trips
  funext y
  rw [eq_ix2 y]
  generalize y 0 = r, y 1 = c
  change Fin 8192 at r; change Fin 256 at c
  refine (put_ix2 _ (k0_off24_eq n) _ r c).trans (Eq.trans ?_ (narrowN_apply x z (n.val + 1) r c).symm)
  by_cases hr : 512 * n.val ≤ r.val ∧ r.val < 512 * n.val + 512
  · rw [if_pos (by omega)]
    by_cases hc : 128 ≤ c.val
    · rw [dif_pos ⟨hr, by omega⟩]
      refine congrArg (FloatOps.truncf .bf16 (by decide)) ((window_ix2 _ (k0_off24_eq n) _ (by omega) (by omega) _ _).trans (congrArg x ?_))
      rw [ix2_inj]
      exact ⟨Fin.ext (by simp; omega), Fin.ext (by simp; omega)⟩
    · rw [dif_neg (by omega)]
      refine (put_ix2 _ (k0_off23_eq n) _ r c).trans ?_
      rw [dif_pos ⟨hr, by omega⟩]
      refine congrArg (FloatOps.truncf .bf16 (by decide)) ((window_ix2 _ (k0_off23_eq n) _ (by omega) (by omega) _ _).trans (congrArg x ?_))
      rw [ix2_inj]
      exact ⟨Fin.ext (by simp; omega), Fin.ext (by simp)⟩
  · rw [dif_neg (fun h => hr h.1)]
    refine (put_ix2 _ (k0_off23_eq n) _ r c).trans ?_
    rw [dif_neg (fun h => hr h.1), narrowN_apply]
    by_cases hl : r.val < 512 * n.val
    · rw [if_pos hl, if_pos (by omega)]
    · rw [if_neg hl, if_neg (by omega)]

theorem dcEndN_succ (x : Vec F S8192x256 .f32) (z : Vec F S8192x128 .f32) (i : grid0.Coords) (n : Fin k0_t4_loop.trips)
    (h : k0_cond4 i = 1#1) :
    put (dcEndN i x z n.val) (k0_off22 n) S512x128.size
      (k0_pay7 (k0_pay45 i) (k0_pay46 i) (window (dcEndN i x z n.val) (k0_off22 n) S512x128.size (k0_off22_inb i n h))
        (window x (k0_off23 n) S512x128.size (k0_off23_inb i n h)) (window x (k0_off24 n) S512x128.size (k0_off24_inb i n h)))
    = dcEndN i x z (n.val + 1) := by
  have hn : n.val < 16 := lt_of_lt_of_eq n.isLt t4_trips
  funext y
  rw [eq_ix2 y]
  generalize y 0 = r, y 1 = c
  change Fin 8192 at r; change Fin 128 at c
  refine (put_ix2 _ (k0_off22_eq n) _ r c).trans (Eq.trans ?_ (dcEndN_apply i x z (n.val + 1) r c).symm)
  by_cases hr : 512 * n.val ≤ r.val ∧ r.val < 512 * n.val + 512
  · rw [if_pos (by omega), dif_pos ⟨hr, by omega⟩, dcEnd_apply]
    have e22 : window (dcEndN i x z n.val) (k0_off22 n) S512x128.size (k0_off22_inb i n h) = rowBlock z n.val 0 hn (by omega) := by
      refine (window_rowBlock _ n.val hn (by omega) (k0_off22_eq n) _).trans (funext fun w => ?_)
      exact if_neg (by have : ∀ a b : ℕ, ¬ (a + b < a) := by omega
                       exact this _ _)
    have e23 : window x (k0_off23 n) S512x128.size (k0_off23_inb i n h) = rowBlock x n.val 0 hn (by omega) :=
      window_rowBlock x n.val hn (by omega) (k0_off23_eq n) _
    have e24 : window x (k0_off24 n) S512x128.size (k0_off24_inb i n h) = rowBlock x n.val 128 hn (by omega) :=
      window_rowBlock x n.val hn (by omega) (k0_off24_eq n) _
    have hd : n.val = r.val / 512 := by omega
    rw [e22, e23, e24, rowBlock_congr z hd hn (by omega), rowBlock_congr x hd hn (by omega), rowBlock_congr x hd hn (by omega)]
    refine congrArg _ ?_
    rw [ix2_inj]
    exact ⟨Fin.ext (by simp; omega), Fin.ext (by simp)⟩
  · rw [dif_neg (fun h => hr h.1), dcEndN_apply]
    by_cases hl : r.val < 512 * n.val
    · rw [if_pos hl, if_pos (by omega)]
    · rw [if_neg hl, if_neg (by omega)]

end Cert.KernelIdeal.Bwd
end
-- ==== Proof.Point.lean ====
/-
  A whole grid point as a function of values: which of its parts it takes, the masked diagonal block, and what it leaves
  in each buffer.
-/
module

public import proofs.«01_k».proof.Proof.Copies
public import proofs.«01_k».proof.Proof.Rows

@[expose] public section

set_option maxRecDepth 16384
set_option maxHeartbeats 1000000

noncomputable section

namespace Cert.KernelIdeal.Bwd

open Idealize.ShloMosaic Idealize.ShloMosaic.VecWindow
open Cert.KernelIdeal Cert.KernelIdeal.Gen

variable {F : FTy → Type} [FloatOps F]

/-! ### The conditions -/

theorem cond1_iff (i : grid0.Coords) : k0_cond1 i = 1#1 ↔ (i 1).val = 0 := by
  unfold k0_cond1
  generalize i 1 = n
  revert n
  decide

theorem cond4_iff (i : grid0.Coords) : k0_cond4 i = 1#1 ↔ (i 1).val = 15 := by
  unfold k0_cond4
  generalize i 1 = n
  revert n
  decide

theorem cond3_iff (i : grid0.Coords) : k0_cond3 i = 1#1 ↔ (15 - (i 1).val) % 2 = 1 := by
  unfold k0_cond3
  generalize i 1 = n
  revert n
  decide

/-- The condition under which the running derivative of the decay is cleared, as the kernel computes it. -/
def firstBit (i : grid0.Coords) : BitVec 1 :=
  Scalar.cmpi .ne (Scalar.extui (Scalar.andi (Scalar.cmpi .eq (BitVec.ofNat 32 (i 0).val) 0#32)
    (Scalar.cmpi .eq (BitVec.ofNat 32 (i 1).val) 0#32)) : BitVec 32) 0#32

theorem firstBit_iff (i : grid0.Coords) : firstBit i = 1#1 ↔ (i 0).val = 0 ∧ (i 1).val = 0 := by
  unfold firstBit
  generalize i 1 = n
  generalize i 0 = m
  revert n m
  decide

/-! ### The diagonal block -/

/-- The row numbers of a block. -/
abbrev rowIota : IVec S512x512 32 := iota .tc S512x512 32 [0] iota_S512x512_d0_w32
/-- The column numbers of a block. -/
abbrev colIota : IVec S512x512 32 := iota .tc S512x512 32 [1] iota_S512x512_d1_w32

section Diag
variable (i : grid0.Coords) (I : Ins F)

def diagQ0 : Vec F S512x128 .bf16 := window I.q (k0_off5 i) S512x128.size (k0_off5_inb i)
def diagQ1 : Vec F S512x128 .bf16 := window I.q (k0_off6 i) S512x128.size (k0_off6_inb i)
def diagD0 : Vec F S512x128 .bf16 := window I.d (k0_off5 i) S512x128.size (k0_off5_inb i)
def diagD1 : Vec F S512x128 .bf16 := window I.d (k0_off6 i) S512x128.size (k0_off6_inb i)
/-- The score gradients of all rows against the first half of the keys, first head. -/
def diagS0 : FVec F S512x256 .bf16 := k0_pay62 rowIota colIota I.k0 I.v0 (diagQ0 i I) (diagD0 i I)
/-- The probabilities, second head. -/
def diagP1 : FVec F S512x256 .bf16 := k0_pay67 rowIota colIota (k0_pay59 I.k1 (diagQ1 i I))
/-- The score gradients, second head. -/
def diagS1 : FVec F S512x256 .bf16 := k0_pay68 rowIota colIota (k0_pay59 I.k1 (diagQ1 i I)) (k0_pay60 I.v1 (diagD1 i I))
def lowQ0 : FVec F S256x128 .bf16 := k0_pay72 (window I.q (k0_off9 i) S256x128.size (k0_off9_inb i))
def lowQ1 : FVec F S256x128 .bf16 := k0_pay73 (window I.q (k0_off10 i) S256x128.size (k0_off10_inb i))
def lowD0 : Vec F S256x128 .bf16 := window I.d (k0_off9 i) S256x128.size (k0_off9_inb i)
def lowD1 : Vec F S256x128 .bf16 := window I.d (k0_off10 i) S256x128.size (k0_off10_inb i)
/-- The score gradients of the lower rows against the second half of the keys, first head. -/
def lowS0 : FVec F S256x256 .bf16 := k0_pay79 rowIota colIota I.k0 I.v0 (lowQ0 i I) (lowD0 i I)
/-- The same, second head. -/
def lowS1 : FVec F S256x256 .bf16 := k0_pay86 rowIota colIota (k0_pay76 I.k1 (lowQ1 i I)) (k0_pay77 I.v1 (lowD1 i I))

/-- The query gradient after the diagonal block. -/
def diagDq (x : Vec F S8192x256 .f32) : Vec F S8192x256 .f32 :=
  let x2 := put (put x (k0_off5 i) S512x128.size (k0_pay66 (k0_pay57 I.k0) (diagS0 i I) (window x (k0_off5 i) S512x128.size (k0_off5_inb i))))
    (k0_off6 i) S512x128.size (k0_pay71 (k0_pay58 I.k1) (diagS1 i I) (window x (k0_off6 i) S512x128.size (k0_off6_inb i)))
  put (put x2 (k0_off9 i) S256x128.size (k0_pay84 (k0_pay74 I.k0) (lowS0 i I) (window x2 (k0_off9 i) S256x128.size (k0_off9_inb i))))
    (k0_off10 i) S256x128.size (k0_pay90 (k0_pay75 I.k1) (lowS1 i I) (window x2 (k0_off10 i) S256x128.size (k0_off10_inb i)))

/-- Two heads' transposed gradients from their four quarters: head, then half of the keys. -/
def quarters (a b a' b' : Vec F S1x128x256 .f32) : Vec F S2x128x512 .f32 := fun y =>
  have h1 : (y 1).val < 128 := (y 1).isLt
  have h2 : (y 2).val < 512 := (y 2).isLt
  if h : (y 2).val < 256 then (if (y 0).val = 0 then a else b) (ix3 0 ⟨(y 1).val, h1⟩ ⟨(y 2).val, h⟩)
  else (if (y 0).val = 0 then a' else b') (ix3 0 ⟨(y 1).val, h1⟩ ⟨(y 2).val - 256, by omega⟩)

theorem quarters_of_puts (x : Vec F S2x128x512 .f32) (a b a' b' : Vec F S1x128x256 .f32) :
    put (put (put (put x ![0, 0, 0] S1x128x256.size a) ![1, 0, 0] S1x128x256.size b) ![0, 0, 256] S1x128x256.size a')
      ![1, 0, 256] S1x128x256.size b' = quarters a b a' b' := by
  funext y
  rw [eq_ix3 y]
  generalize y 0 = e, y 1 = r, y 2 = c
  change Fin 2 at e; change Fin 128 at r; change Fin 512 at c
  have hq : quarters a b a' b' (ix3 e r c) = if h : c.val < 256 then (if e.val = 0 then a else b) (ix3 0 r ⟨c.val, h⟩)
      else (if e.val = 0 then a' else b') (ix3 0 r ⟨c.val - 256, by omega⟩) := rfl
  rw [hq]
  refine (put_ix3 _ rfl _ e r c).trans ?_
  by_cases hc : c.val < 256
  · rw [dif_neg (by omega), dif_pos hc]
    refine (put_ix3 _ rfl _ e r c).trans ?_
    rw [dif_neg (by omega)]
    refine (put_ix3 _ rfl _ e r c).trans ?_
    by_cases he : e.val = 0
    · rw [dif_neg (by omega), if_pos he]
      refine (put_ix3 _ rfl _ e r c).trans ?_
      rw [dif_pos ⟨by omega, by omega, by omega⟩]
      refine congrArg a ?_
      rw [ix3_inj]
      exact ⟨Fin.ext (by simp [he]), Fin.ext (by simp), Fin.ext (by simp)⟩
    · rw [dif_pos ⟨by omega, by omega, by omega⟩, if_neg he]
      refine congrArg b ?_
      rw [ix3_inj]
      exact ⟨Fin.ext (by simp; omega), Fin.ext (by simp), Fin.ext (by simp)⟩
  · rw [dif_neg hc]
    by_cases he : e.val = 0
    · rw [dif_neg (by omega), if_pos he]
      refine (put_ix3 _ rfl _ e r c).trans ?_
      rw [dif_pos ⟨by omega, by omega, by omega⟩]
      refine congrArg a' ?_
      rw [ix3_inj]
      exact ⟨Fin.ext (by simp [he]), Fin.ext (by simp), Fin.ext (by simp)⟩
    · rw [dif_pos ⟨by omega, by omega, by omega⟩, if_neg he]
      refine congrArg b' ?_
      rw [ix3_inj]
      exact ⟨Fin.ext (by simp; omega), Fin.ext (by simp), Fin.ext (by simp)⟩

/-- The zero the kernel adds a product onto. -/
def zeroF : F .f32 := Scalar.ofBits .f32 0x00000000#32

/-- The running sums after the diagonal block, the query gradient being `x` before it. -/
def diag (x : Vec F S8192x256 .f32) : Acc F where
  dq := diagDq i I x
  dk := quarters
    (k0_pay65 (diagS0 i I) (window I.qt (k0_off7 i) S1x1x128x512.size (k0_off7_inb i)))
    (k0_pay70 (diagS1 i I) (window I.qt (k0_off8 i) S1x1x128x512.size (k0_off8_inb i)))
    (k0_pay83 (k0_pay81 rowIota colIota I.k0 I.v0 (lowQ0 i I) (lowD0 i I) (window I.qt (k0_off11 i) S1x1x128x256.size (k0_off11_inb i))) zeroF)
    (k0_pay89 (lowS1 i I) (window I.qt (k0_off12 i) S1x1x128x256.size (k0_off12_inb i)))
  dv := quarters
    (k0_pay64 (k0_pay63 rowIota colIota I.k0 (diagQ0 i I) (window I.dt (k0_off7 i) S1x1x128x512.size (k0_off7_inb i))))
    (k0_pay69 (diagP1 i I) (window I.dt (k0_off8 i) S1x1x128x512.size (k0_off8_inb i)))
    (k0_pay82 (k0_pay80 rowIota colIota I.k0 (lowQ0 i I) (window I.dt (k0_off11 i) S1x1x128x256.size (k0_off11_inb i))))
    (k0_pay88 (k0_pay87 rowIota colIota (k0_pay76 I.k1 (lowQ1 i I)) (window I.dt (k0_off12 i) S1x1x128x256.size (k0_off12_inb i))))

end Diag

/-! ### The whole point -/

/-- The query gradient a point starts from. -/
def startDq (i : grid0.Coords) (x : Vec F S8192x256 .f32) : Vec F S8192x256 .f32 := if (i 1).val = 0 then k0_pay47 else x

/-- The derivative of the decay a point starts from. -/
def startDc (i : grid0.Coords) (z : Vec F S8192x128 .f32) : Vec F S8192x128 .f32 :=
  if (i 0).val = 0 ∧ (i 1).val = 0 then k0_pay52 else z

/-- The running sums after all the later query blocks. -/
def sums (i : grid0.Coords) (I : Ins F) (A : Acc F) : Acc F :=
  if (15 - (i 1).val) % 2 = 1 then last I (laterN i I A (k0_t2_loop i).trips) else laterN i I A (k0_t2_loop i).trips

/-- The running sums at the end of a point whose query gradient was `x` before. -/
def point (i : grid0.Coords) (I : Ins F) (x : Vec F S8192x256 .f32) : Acc F := sums i I (diag i I (startDq i x))

/-- Two heads side by side. -/
def pair (a b : Vec F S512x128 .bf16) : Vec F S512x256 .bf16 := fun y =>
  have h0 : (y 0).val < 512 := (y 0).isLt
  have h1 : (y 1).val < 256 := (y 1).isLt
  if h : (y 1).val < 128 then a (ix2 ⟨(y 0).val, h0⟩ ⟨(y 1).val, h⟩) else b (ix2 ⟨(y 0).val, h0⟩ ⟨(y 1).val - 128, by omega⟩)

theorem pair_of_puts (x : Vec F S512x256 .bf16) (a b : Vec F S512x128 .bf16) :
    put (put x ![0, 0] S512x128.size a) ![0, 128] S512x128.size b = pair a b := by
  funext y
  rw [eq_ix2 y]
  generalize y 0 = r, y 1 = c
  change Fin 512 at r; change Fin 256 at c
  have hp : pair a b (ix2 r c) = if h : c.val < 128 then a (ix2 r ⟨c.val, h⟩) else b (ix2 r ⟨c.val - 128, by omega⟩) := rfl
  rw [hp]
  refine (put_ix2 _ rfl _ r c).trans ?_
  by_cases hc : c.val < 128
  · rw [dif_neg (by omega), dif_pos hc]
    refine (put_ix2 _ rfl _ r c).trans ?_
    rw [dif_pos ⟨by omega, by omega⟩]
    refine congrArg a ?_
    rw [ix2_inj]
    exact ⟨Fin.ext (by simp), Fin.ext (by simp)⟩
  · rw [dif_pos ⟨by omega, by omega⟩, dif_neg hc]
    refine congrArg b ?_
    rw [ix2_inj]
    exact ⟨Fin.ext (by simp), Fin.ext (by simp)⟩

/-- One head's part of a transposed gradient. -/
def head (x : Vec F S2x128x512 .f32) : Fin 2 → Vec F S1x128x512 .f32
  | 0 => window x ![0, 0, 0] S1x128x512.size inb_S2x128x512_S1x128x512_0_0_0
  | 1 => window x ![1, 0, 0] S1x128x512.size inb_S2x128x512_S1x128x512_1_0_0

theorem head_puts_0 (x : Vec F S2x128x512 .f32) (a b : Vec F S1x128x512 .f32) :
    head (put (put x ![0, 0, 0] S1x128x512.size a) ![1, 0, 0] S1x128x512.size b) 0 = a := by
  unfold head
  rw [window_put_of_disjoint _ _ _ _ _ _ _ 0 (.inl (by decide))]
  exact window_put_same _ _ _ _ _

theorem last_head_dk (I : Ins F) (A : Acc F) : head (last I A).dk 0
    = k0_pay39 (k0_pay36 I.k0 I.v0 (window I.q ![7680, 0] S512x128.size inb_S8192x256_S512x128_7680_0)
        (window I.d ![7680, 0] S512x128.size inb_S8192x256_S512x128_7680_0)
        (window I.qt ![0, 15, 0, 0] S1x1x128x512.size inb_S2x16x128x512_S1x1x128x512_0_15_0_0))
      (window A.dk ![0, 0, 0] S1x128x512.size inb_S2x128x512_S1x128x512_0_0_0) :=
  head_puts_0 _ _ _

theorem last_head_dv (I : Ins F) (A : Acc F) : head (last I A).dv 0
    = k0_pay38 (k0_pay37 I.k0 (window I.q ![7680, 0] S512x128.size inb_S8192x256_S512x128_7680_0)
        (window I.dt ![0, 15, 0, 0] S1x1x128x512.size inb_S2x16x128x512_S1x1x128x512_0_15_0_0)
        (window A.dv ![0, 0, 0] S1x128x512.size inb_S2x128x512_S1x128x512_0_0_0)) :=
  head_puts_0 _ _ _

/-- The key gradient as it is written out. -/
def outDk (x : Vec F S2x128x512 .f32) : Vec F S512x256 .bf16 := pair (k0_pay102 (head x 0)) (k0_pay2 (head x 1))
/-- The value gradient as it is written out. -/
def outDv (x : Vec F S2x128x512 .f32) : Vec F S512x256 .bf16 := pair (k0_pay103 (head x 0)) (k0_pay3 (head x 1))

/-- The derivative of the decay after the keys' part is put into it. -/
def keyDc (i : grid0.Coords) (x : Vec F S2x128x512 .f32) (z : Vec F S8192x128 .f32) : Vec F S8192x128 .f32 :=
  put z (k0_off21 i) S512x128.size
    (k0_pay4 (k0_pay45 i) (k0_pay46 i) (k0_pay100 (window z (k0_off21 i) S512x128.size (k0_off21_inb i))) (k0_pay101 (head x 0)) (head x 1))

/-- The derivative of the decay at the end of a point, from the sums there. -/
def endDc (i : grid0.Coords) (A : Acc F) (z : Vec F S8192x128 .f32) : Vec F S8192x128 .f32 :=
  if (i 1).val = 15 then dcEnd i A.dq (keyDc i A.dk (startDc i z)) else keyDc i A.dk (startDc i z)

/-- The query gradient's output at the end of a point. -/
def endDq (i : grid0.Coords) (A : Acc F) (z : Vec F S8192x256 .bf16) : Vec F S8192x256 .bf16 :=
  if (i 1).val = 15 then narrow A.dq else z

end Cert.KernelIdeal.Bwd
end
-- ==== Proof.Prologue.lean ====
/-
  The start of a head pair's points: the loop that fills the transposed copies.
-/
module

public import proofs.«01_k».proof.Proof.Gen.KernelIdeal.Launch
public import proofs.«01_k».proof.Proof.Gen.KernelIdeal.Loops
public import proofs.«01_k».proof.Proof.Copies
public import Idealize.ShloMosaic.Lib.Pipeline.FrameBody
public import Idealize.ShloMosaic.Lib.VecWindow
public import Idealize.ShloMosaic.Lib.Tactic

@[expose] public section

set_option maxRecDepth 8192
set_option maxHeartbeats 4000000

noncomputable section

namespace Cert.KernelIdeal.Bwd

open Idealize.ShloMosaic Idealize.ShloMosaic.TcCoe Idealize.ShloMosaic.Tactic Idealize.ShloMosaic.VecWindow
open Idealize.SL Idealize.SL.RA Idealize.SL.BI
open Idealize.SL.BI (sProp bigSep)
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The buffers of the copying loop: `arg13` and `arg14` hold the first `n` blocks transposed. -/
abbrev HeldT (c : Dev nD) (arg2 arg5 : Memref sig .tc .vmem S8192x256 .bf16) (arg13 arg14 : Memref sig .tc .vmem S2x16x128x512 .bf16)
    (f2 : BufTy.Contents (Elt F) arg2.view.ty) (f5 : BufTy.Contents (Elt F) arg5.view.ty)
    (x13 x14 : Vec F S2x16x128x512 .bf16) (n : ℕ) : sProp 𝕄 :=
  iprop((arg2.view.loc (c : Thread nD τ) ↦[arg2.view.set]{fullShare} f2)
    ∗ (arg5.view.loc (c : Thread nD τ) ↦[arg5.view.set]{fullShare} f5)
    ∗ (∃ f, (arg13.view.loc (c : Thread nD τ) ↦[arg13.view.set]{fullShare} f) ∗ ⌜arg13.view.read (Elt F) f = transposedN (arg2.view.read (Elt F) f2) x13 n⌝)
    ∗ (∃ f, (arg14.view.loc (c : Thread nD τ) ↦[arg14.view.set]{fullShare} f) ∗ ⌜arg14.view.read (Elt F) f = transposedN (arg5.view.read (Elt F) f5) x14 n⌝))

theorem copies_run (𝒱 : Variants) (c : Dev nD) (bd : Option 𝒱.V) (E : Set ℕ) (i : grid0.Coords) (arg2 : Memref sig .tc .vmem S8192x256 .bf16) (harg2 : arg2.IsWhole) (arg3 : Memref sig .tc .vmem S1x512x256 .bf16) (harg3 : arg3.IsWhole) (arg4 : Memref sig .tc .vmem S1x512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S8192x128 .f32) (harg9 : arg9.IsWhole) (arg10 : Memref sig .tc .vmem S8192x256 .f32) (harg10 : arg10.IsWhole) (arg11 : Memref sig .tc .vmem S2x128x512 .f32) (harg11 : arg11.IsWhole) (arg12 : Memref sig .tc .vmem S2x128x512 .f32) (harg12 : arg12.IsWhole) (arg13 : Memref sig .tc .vmem S2x16x128x512 .bf16) (harg13 : arg13.IsWhole) (arg14 : Memref sig .tc .vmem S2x16x128x512 .bf16) (harg14 : arg14.IsWhole) (h1 : k0_cond1 i = 1#1)
    (f2 : BufTy.Contents (Elt F) arg2.view.ty) (f5 : BufTy.Contents (Elt F) arg5.view.ty)
    (x13 x14 : Vec F S2x16x128x512 .bf16) (k : Fin k0_t1_loop.trips) (acc : Unit) :
    HeldT c arg2 arg5 arg13 arg14 f2 f5 x13 x14 k.val
    ⊢ wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg12 harg12 arg13 harg13 arg14 harg14 h1 k acc)
        (fun _ => HeldT c arg2 arg5 arg13 arg14 f2 f5 x13 x14 (k.val + 1)) := by
  have hk : k.val < 16 := lt_of_lt_of_eq k.isLt t1_trips
  unfold k0_t1_body
  iintro ⟨H2, H5, ⟨%f13, H13, %h13⟩, ⟨%f14, H14, %h14⟩⟩
  sl_exec
  sl_step
  isplitl [H2]; · iexact H2
  isplitl [H5]; · iexact H5
  isplitl [H13]
  · iexists _; isplitl [H13]; · iexact H13
    ipureintro
    rw [View.read_writes_cons_put _ _ _ _ _ rfl, View.read_writes_cons_put _ _ _ _ _ rfl, View.writes_nil, h13,
      ← transposedN_succ _ _ i k h1]
    rfl
  iexists _; isplitl [H14]; · iexact H14
  ipureintro
  rw [View.read_writes_cons_put _ _ _ _ _ rfl, View.read_writes_cons_put _ _ _ _ _ rfl, View.writes_nil, h14,
    ← transposedN_succ _ _ i k h1]
  rfl

set_option warn.classDefReducibility false in
/-- The copying loop by its invariant. -/
@[sl_loop] def loopInv_k0_t1 (𝒱 : Variants) (c : Dev nD) (bd : Option 𝒱.V) (E : Set ℕ) (i : grid0.Coords) (arg2 : Memref sig .tc .vmem S8192x256 .bf16) (harg2 : arg2.IsWhole) (arg3 : Memref sig .tc .vmem S1x512x256 .bf16) (harg3 : arg3.IsWhole) (arg4 : Memref sig .tc .vmem S1x512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S8192x128 .f32) (harg9 : arg9.IsWhole) (arg10 : Memref sig .tc .vmem S8192x256 .f32) (harg10 : arg10.IsWhole) (arg11 : Memref sig .tc .vmem S2x128x512 .f32) (harg11 : arg11.IsWhole) (arg12 : Memref sig .tc .vmem S2x128x512 .f32) (harg12 : arg12.IsWhole) (arg13 : Memref sig .tc .vmem S2x16x128x512 .bf16) (harg13 : arg13.IsWhole) (arg14 : Memref sig .tc .vmem S2x16x128x512 .bf16) (harg14 : arg14.IsWhole) (h1 : k0_cond1 i = 1#1)
    (f2 : BufTy.Contents (Elt F) arg2.view.ty) (f5 : BufTy.Contents (Elt F) arg5.view.ty) (x13 x14 : Vec F S2x16x128x512 .bf16) :
    LoopInvTy_k0_t1 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 h1 where
  inv := fun n _ => HeldT c arg2 arg5 arg13 arg14 f2 f5 x13 x14 n
  step k acc := copies_run 𝒱 c bd E i arg2 harg2 arg3 harg3 arg4 harg4 arg5 harg5 arg6 harg6 arg7 harg7 arg8 harg8 arg9 harg9 arg10 harg10 arg11 harg11 arg12 harg12 arg13 harg13 arg14 harg14 h1 f2 f5 x13 x14 k acc

end Cert.KernelIdeal.Bwd
end
-- ==== Proof.Epilogue.lean ====
/-
  The loop at the end of a head pair: one step handles one block of 512 rows.
-/
module

public import proofs.«01_k».proof.Proof.Gen.KernelIdeal.Launch
public import proofs.«01_k».proof.Proof.Gen.KernelIdeal.Loops
public import proofs.«01_k».proof.Proof.Rows
public import Idealize.ShloMosaic.Lib.Pipeline.FrameBody
public import Idealize.ShloMosaic.Lib.VecWindow
public import Idealize.ShloMosaic.Lib.Tactic

@[expose] public section

set_option maxRecDepth 8192
set_option maxHeartbeats 4000000

noncomputable section

namespace Cert.KernelIdeal.Bwd

open Idealize.ShloMosaic Idealize.ShloMosaic.TcCoe Idealize.ShloMosaic.Tactic Idealize.ShloMosaic.VecWindow
open Idealize.SL Idealize.SL.RA Idealize.SL.BI
open Idealize.SL.BI (sProp bigSep)
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The buffers of the loop: `arg6` and `arg9` are done for the first `512 * n` rows. -/
abbrev HeldR (c : Dev nD) (i : grid0.Coords) (arg6 : Memref sig .tc .vmem S8192x256 .bf16) (arg9 : Memref sig .tc .vmem S8192x128 .f32)
    (arg10 : Memref sig .tc .vmem S8192x256 .f32) (f10 : BufTy.Contents (Elt F) arg10.view.ty)
    (z6 : Vec F S8192x256 .bf16) (z9 : Vec F S8192x128 .f32) (n : ℕ) : sProp 𝕄 :=
  iprop((arg10.view.loc (c : Thread nD τ) ↦[arg10.view.set]{fullShare} f10)
    ∗ (∃ f, (arg6.view.loc (c : Thread nD τ) ↦[arg6.view.set]{fullShare} f) ∗ ⌜arg6.view.read (Elt F) f = narrowN (arg10.view.read (Elt F) f10) z6 n⌝)
    ∗ (∃ f, (arg9.view.loc (c : Thread nD τ) ↦[arg9.view.set]{fullShare} f) ∗ ⌜arg9.view.read (Elt F) f = dcEndN i (arg10.view.read (Elt F) f10) z9 n⌝))

theorem rows_run (𝒱 : Variants) (c : Dev nD) (bd : Option 𝒱.V) (E : Set ℕ) (i : grid0.Coords) (arg2 : Memref sig .tc .vmem S8192x256 .bf16) (harg2 : arg2.IsWhole) (arg3 : Memref sig .tc .vmem S1x512x256 .bf16) (harg3 : arg3.IsWhole) (arg4 : Memref sig .tc .vmem S1x512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S8192x128 .f32) (harg9 : arg9.IsWhole) (arg10 : Memref sig .tc .vmem S8192x256 .f32) (harg10 : arg10.IsWhole) (arg11 : Memref sig .tc .vmem S2x128x512 .f32) (harg11 : arg11.IsWhole) (arg12 : Memref sig .tc .vmem S2x128x512 .f32) (harg12 : arg12.IsWhole) (arg13 : Memref sig .tc .vmem S2x16x128x512 .bf16) (harg13 : arg13.IsWhole) (arg14 : Memref sig .tc .vmem S2x16x128x512 .bf16) (harg14 : arg14.IsWhole) (h4 : k0_cond4 i = 1#1)
    (f10 : BufTy.Contents (Elt F) arg10.view.ty) (z6 : Vec F S8192x256 .bf16) (z9 : Vec F S8192x128 .f32)
    (k : Fin k0_t4_loop.trips) (acc : Unit) :
    HeldR c i arg6 arg9 arg10 f10 z6 z9 k.val
    ⊢ wp frame (wpE (defs₀ (F := F)) 𝒱 (c : Thread nD τ) bd) E (k0_t4_body (F := F) i arg2 harg2 arg3 harg3 arg4 harg4 arg5 harg5 arg6 harg6 arg7 harg7 arg8 harg8 arg9 harg9 arg10 harg10 arg11 harg11 arg12 harg12 arg13 harg13 arg14 harg14 (k0_pay45 i) (k0_pay46 i) h4 k acc)
        (fun _ => HeldR c i arg6 arg9 arg10 f10 z6 z9 (k.val + 1)) := by
  have hk : k.val < 16 := lt_of_lt_of_eq k.isLt t4_trips
  unfold k0_t4_body
  iintro ⟨H10, ⟨%f6, H6, %h6⟩, ⟨%f9, H9, %h9⟩⟩
  sl_exec
  sl_step
  isplitl [H10]; · iexact H10
  isplitl [H6]
  · iexists _; isplitl [H6]; · iexact H6
    ipureintro
    rw [View.read_writes_cons_put _ _ _ _ _ rfl, View.read_writes_cons_put _ _ _ _ _ rfl, View.writes_nil, h6,
      ← narrowN_succ _ _ i k h4]
    rfl
  iexists _; isplitl [H9]; · iexact H9
  ipureintro
  rw [View.read_writes_cons_put _ _ _ _ _ rfl, View.writes_nil, ← dcEndN_succ _ _ i k h4, ← h9]
  rfl

set_option warn.classDefReducibility false in
/-- The loop over row blocks by its invariant. -/
@[sl_loop] def loopInv_k0_t4 (𝒱 : Variants) (c : Dev nD) (bd : Option 𝒱.V) (E : Set ℕ) (i : grid0.Coords) (arg2 : Memref sig .tc .vmem S8192x256 .bf16) (harg2 : arg2.IsWhole) (arg3 : Memref sig .tc .vmem S1x512x256 .bf16) (harg3 : arg3.IsWhole) (arg4 : Memref sig .tc .vmem S1x512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S8192x128 .f32) (harg9 : arg9.IsWhole) (arg10 : Memref sig .tc .vmem S8192x256 .f32) (harg10 : arg10.IsWhole) (arg11 : Memref sig .tc .vmem S2x128x512 .f32) (harg11 : arg11.IsWhole) (arg12 : Memref sig .tc .vmem S2x128x512 .f32) (harg12 : arg12.IsWhole) (arg13 : Memref sig .tc .vmem S2x16x128x512 .bf16) (harg13 : arg13.IsWhole) (arg14 : Memref sig .tc .vmem S2x16x128x512 .bf16) (harg14 : arg14.IsWhole) (h4 : k0_cond4 i = 1#1)
    (f10 : BufTy.Contents (Elt F) arg10.view.ty) (z6 : Vec F S8192x256 .bf16) (z9 : Vec F S8192x128 .f32) :
    LoopInvTy_k0_t4 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 (k0_pay45 i) (k0_pay46 i) h4 where
  inv := fun n _ => HeldR c i arg6 arg9 arg10 f10 z6 z9 n
  step k acc := rows_run 𝒱 c bd E i arg2 harg2 arg3 harg3 arg4 harg4 arg5 harg5 arg6 harg6 arg7 harg7 arg8 harg8 arg9 harg9 arg10 harg10 arg11 harg11 arg12 harg12 arg13 harg13 arg14 harg14 h4 f10 z6 z9 k acc

end Cert.KernelIdeal.Bwd
end
-- ==== Proof.Later.lean ====
/-
  The loop over the later query blocks: one step runs as `later`, so `n` steps run as `laterN`.
-/
module

public import proofs.«01_k».proof.Proof.Gen.KernelIdeal.Launch
public import proofs.«01_k».proof.Proof.Gen.KernelIdeal.Loops
public import proofs.«01_k».proof.Proof.Model
public import Idealize.ShloMosaic.Lib.Pipeline.FrameBody
public import Idealize.ShloMosaic.Lib.VecWindow
public import Idealize.ShloMosaic.Lib.Tactic

@[expose] public section

set_option maxRecDepth 8192
set_option maxHeartbeats 4000000

noncomputable section

namespace Cert.KernelIdeal.Bwd

open Idealize.ShloMosaic Idealize.ShloMosaic.TcCoe Idealize.ShloMosaic.Tactic Idealize.ShloMosaic.VecWindow
open Idealize.SL Idealize.SL.RA Idealize.SL.BI
open Idealize.SL.BI (sProp bigSep)
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- The buffers of the loop hold these contents. -/
abbrev Held2 (c : Dev nD) (arg2 arg5 : Memref sig .tc .vmem S8192x256 .bf16) (arg10 : Memref sig .tc .vmem S8192x256 .f32)
    (arg11 arg12 : Memref sig .tc .vmem S2x128x512 .f32) (arg13 arg14 : Memref sig .tc .vmem S2x16x128x512 .bf16)
    (f2 : BufTy.Contents (Elt F) arg2.view.ty) (f5 : BufTy.Contents (Elt F) arg5.view.ty)
    (f13 : BufTy.Contents (Elt F) arg13.view.ty) (f14 : BufTy.Contents (Elt F) arg14.view.ty) (A : Acc F) : sProp 𝕄 :=
  iprop((arg2.view.loc (c : Thread nD τ) ↦[arg2.view.set]{fullShare} f2)
    ∗ (arg5.view.loc (c : Thread nD τ) ↦[arg5.view.set]{fullShare} f5)
    ∗ (arg13.view.loc (c : Thread nD τ) ↦[arg13.view.set]{fullShare} f13)
    ∗ (arg14.view.loc (c : Thread nD τ) ↦[arg14.view.set]{fullShare} f14)
    ∗ (∃ f, (arg10.view.loc (c : Thread nD τ) ↦[arg10.view.set]{fullShare} f) ∗ ⌜arg10.view.read (Elt F) f = A.dq⌝)
    ∗ (∃ f, (arg11.view.loc (c : Thread nD τ) ↦[arg11.view.set]{fullShare} f) ∗ ⌜arg11.view.read (Elt F) f = A.dk⌝)
    ∗ (∃ f, (arg12.view.loc (c : Thread nD τ) ↦[arg12.view.set]{fullShare} f) ∗ ⌜arg12.view.read (Elt F) f = A.dv⌝))

theorem later_run (𝒱 : Variants) (c : Dev nD) (bd : Option 𝒱.V) (E : Set ℕ) (i : grid0.Coords) (arg2 : Memref sig .tc .vmem S8192x256 .bf16) (harg2 : arg2.IsWhole) (arg3 : Memref sig .tc .vmem S1x512x256 .bf16) (harg3 : arg3.IsWhole) (arg4 : Memref sig .tc .vmem S1x512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S8192x128 .f32) (harg9 : arg9.IsWhole) (arg10 : Memref sig .tc .vmem S8192x256 .f32) (harg10 : arg10.IsWhole) (arg11 : Memref sig .tc .vmem S2x128x512 .f32) (harg11 : arg11.IsWhole) (arg12 : Memref sig .tc .vmem S2x128x512 .f32) (harg12 : arg12.IsWhole) (arg13 : Memref sig .tc .vmem S2x16x128x512 .bf16) (harg13 : arg13.IsWhole) (arg14 : Memref sig .tc .vmem S2x16x128x512 .bf16) (harg14 : arg14.IsWhole)
    (arg1 v20 : BitVec 32) (I : Ins F) (v243 v244 : BitVec 32) (v258 : BitVec 1)
    (f2 : BufTy.Contents (Elt F) arg2.view.ty) (f5 : BufTy.Contents (Elt F) arg5.view.ty)
    (f13 : BufTy.Contents (Elt F) arg13.view.ty) (f14 : BufTy.Contents (Elt F) arg14.view.ty)
    (h2 : arg2.view.read (Elt F) f2 = I.q) (h5 : arg5.view.read (Elt F) f5 = I.d)
    (h13 : arg13.view.read (Elt F) f13 = I.qt) (h14 : arg14.view.read (Elt F) f14 = I.dt)
    (k : Fin (k0_t2_loop i).trips) (acc : BitVec 32) (A : Acc F) :
    Held2 c arg2 arg5 arg10 arg11 arg12 arg13 arg14 f2 f5 f13 f14 A
    ⊢ wp frame (wpE (defs₀ (F := F)) 𝒱 (c : Thread nD τ) bd) E
        (k0_t2_body (F := F) i arg2 harg2 arg3 harg3 arg4 harg4 arg5 harg5 arg6 harg6 arg7 harg7 arg8 harg8 arg9 harg9 arg10 harg10 arg11 harg11 arg12 harg12 arg13 harg13 arg14 harg14 arg1 v20 I.k0 I.k1 I.v0 I.v1 v243 v244 v258 k acc)
        (fun _ => Held2 c arg2 arg5 arg10 arg11 arg12 arg13 arg14 f2 f5 f13 f14 (later i I k A)) := by
  have hk : k.val < 8 := lt_of_lt_of_eq k.isLt (t2_trips i) |>.trans_le (by omega)
  have hk' : (i 1).val + 1 + 2 * k.val + 2 ≤ 16 := by have := lt_of_lt_of_eq k.isLt (t2_trips i); omega
  unfold k0_t2_body
  iintro ⟨H2, H5, H13, H14, ⟨%f10, H10, %h10⟩, ⟨%f11, H11, %h11⟩, ⟨%f12, H12, %h12⟩⟩
  sl_exec
  sl_step
  isplitl [H2]; · iexact H2
  isplitl [H5]; · iexact H5
  isplitl [H13]; · iexact H13
  isplitl [H14]; · iexact H14
  isplitl [H10]
  · iexists _; isplitl [H10]; · iexact H10
    ipureintro
    rw [View.read_writes_cons_put _ _ _ _ _ rfl, View.read_writes_cons_put _ _ _ _ _ rfl, View.writes_nil]
    unfold later laterS0 laterS1 laterL1
    rw [← h10, ← h2, ← h5]
    rfl
  isplitl [H11]
  · iexists _; isplitl [H11]; · iexact H11
    ipureintro
    rw [View.read_writes_cons_put _ _ _ _ _ rfl, View.read_writes_cons_put _ _ _ _ _ rfl, View.writes_nil]
    unfold later laterS0 laterS1 laterL1
    rw [← h11, ← h2, ← h5, ← h13]
    rfl
  iexists _; isplitl [H12]; · iexact H12
  ipureintro
  rw [View.read_writes_cons_put _ _ _ _ _ rfl, View.read_writes_cons_put _ _ _ _ _ rfl, View.writes_nil]
  unfold later laterP0 laterL1
  rw [← h12, ← h2, ← h14]
  rfl

set_option warn.classDefReducibility false in
/-- The loop by its invariant: before step `n` the running sums are those of `laterN`. -/
@[sl_loop] def loopInv_k0_t2 (𝒱 : Variants) (c : Dev nD) (bd : Option 𝒱.V) (E : Set ℕ) (i : grid0.Coords) (arg2 : Memref sig .tc .vmem S8192x256 .bf16) (harg2 : arg2.IsWhole) (arg3 : Memref sig .tc .vmem S1x512x256 .bf16) (harg3 : arg3.IsWhole) (arg4 : Memref sig .tc .vmem S1x512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S8192x128 .f32) (harg9 : arg9.IsWhole) (arg10 : Memref sig .tc .vmem S8192x256 .f32) (harg10 : arg10.IsWhole) (arg11 : Memref sig .tc .vmem S2x128x512 .f32) (harg11 : arg11.IsWhole) (arg12 : Memref sig .tc .vmem S2x128x512 .f32) (harg12 : arg12.IsWhole) (arg13 : Memref sig .tc .vmem S2x16x128x512 .bf16) (harg13 : arg13.IsWhole) (arg14 : Memref sig .tc .vmem S2x16x128x512 .bf16) (harg14 : arg14.IsWhole)
    (arg1 v20 : BitVec 32) (I : Ins F) (v243 v244 : BitVec 32) (v258 : BitVec 1)
    (f2 : BufTy.Contents (Elt F) arg2.view.ty) (f5 : BufTy.Contents (Elt F) arg5.view.ty)
    (f13 : BufTy.Contents (Elt F) arg13.view.ty) (f14 : BufTy.Contents (Elt F) arg14.view.ty)
    (h2 : arg2.view.read (Elt F) f2 = I.q) (h5 : arg5.view.read (Elt F) f5 = I.d)
    (h13 : arg13.view.read (Elt F) f13 = I.qt) (h14 : arg14.view.read (Elt F) f14 = I.dt) (x : Vec F S8192x256 .f32) (y z : Vec F S2x128x512 .f32) (init : BitVec 32) :
    LoopInvTy_k0_t2 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg1 v20 I.k0 I.k1 I.v0 I.v1 v243 v244 v258 init where
  inv := fun n _ => Held2 c arg2 arg5 arg10 arg11 arg12 arg13 arg14 f2 f5 f13 f14 (laterN i I ⟨x, y, z⟩ n)
  step k acc := by
    rw [laterN_succ]
    exact later_run 𝒱 c bd E i arg2 harg2 arg3 harg3 arg4 harg4 arg5 harg5 arg6 harg6 arg7 harg7 arg8 harg8 arg9 harg9 arg10 harg10 arg11 harg11 arg12 harg12 arg13 harg13 arg14 harg14 arg1 v20 I v243 v244 v258 f2 f5 f13 f14 h2 h5 h13 h14 k acc (laterN i I ⟨x, y, z⟩ k.val)

end Cert.KernelIdeal.Bwd
end
-- ==== Proof.Start.lean ====
/-
  The first part of a grid point: the sums are cleared and the transposed copies made where a head pair begins, and the
  point's keys and values are read.
-/
module

public import proofs.«01_k».proof.Proof.Gen.KernelIdeal.Launch
public import proofs.«01_k».proof.Proof.Gen.KernelIdeal.Loops
public import proofs.«01_k».proof.Proof.Point
public import proofs.«01_k».proof.Proof.Prologue
public import proofs.«01_k».proof.Proof.Epilogue
public import proofs.«01_k».proof.Proof.Later
public import Idealize.ShloMosaic.Lib.Pipeline.FrameBody
public import Idealize.ShloMosaic.Lib.VecWindow
public import Idealize.ShloMosaic.Lib.Tactic

@[expose] public section

set_option maxRecDepth 8192
set_option maxHeartbeats 4000000

noncomputable section

namespace Cert.KernelIdeal.Bwd

open Idealize.ShloMosaic Idealize.ShloMosaic.TcCoe Idealize.ShloMosaic.Tactic Idealize.ShloMosaic.VecWindow
open Idealize.SL Idealize.SL.RA Idealize.SL.BI
open Idealize.SL.BI (sProp bigSep)
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- What the first part returns: numbers of the point, row and column numbers, the pair's lanes, keys and values. -/
abbrev startVal (i : grid0.Coords) (I : Ins F) : Σ' (_ : BitVec 32) (_ : IVec S512x512 32) (_ : IVec S512x512 32) (_ : IVec S512x128 1)
    (_ : IVec S512x128 1) (_ : BitVec 32) (_ : FVec F S512x128 .bf16) (_ : FVec F S512x128 .bf16) (_ : FVec F S512x128 .bf16)
    (_ : FVec F S512x128 .bf16), BitVec 32 :=
  ⟨BitVec.ofNat 32 (i 1).val, rowIota, colIota, k0_pay45 i, k0_pay46 i, Scalar.muli (BitVec.ofNat 32 (i 1).val) 512#32,
    I.k0, I.k1, I.v0, I.v1, Scalar.addi (Scalar.muli (BitVec.ofNat 32 (i 1).val) 512#32) 0#32⟩

/-- The buffers the first part reads. -/
abbrev Reads (c : Dev nD) (arg2 arg5 : Memref sig .tc .vmem S8192x256 .bf16) (arg3 arg4 : Memref sig .tc .vmem S1x512x256 .bf16)
    (f2 : BufTy.Contents (Elt F) arg2.view.ty) (f3 : BufTy.Contents (Elt F) arg3.view.ty)
    (f4 : BufTy.Contents (Elt F) arg4.view.ty) (f5 : BufTy.Contents (Elt F) arg5.view.ty) : sProp 𝕄 :=
  iprop((arg2.view.loc (c : Thread nD τ) ↦[arg2.view.set]{fullShare} f2)
    ∗ (arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5))

theorem start_run (𝒱 : Variants) (c : Dev nD) (bd : Option 𝒱.V) (E : Set ℕ) (i : grid0.Coords) (arg2 : Memref sig .tc .vmem S8192x256 .bf16) (harg2 : arg2.IsWhole) (arg3 : Memref sig .tc .vmem S1x512x256 .bf16) (harg3 : arg3.IsWhole) (arg4 : Memref sig .tc .vmem S1x512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S8192x128 .f32) (harg9 : arg9.IsWhole) (arg10 : Memref sig .tc .vmem S8192x256 .f32) (harg10 : arg10.IsWhole) (arg11 : Memref sig .tc .vmem S2x128x512 .f32) (harg11 : arg11.IsWhole) (arg12 : Memref sig .tc .vmem S2x128x512 .f32) (harg12 : arg12.IsWhole) (arg13 : Memref sig .tc .vmem S2x16x128x512 .bf16) (harg13 : arg13.IsWhole) (arg14 : Memref sig .tc .vmem S2x16x128x512 .bf16) (harg14 : arg14.IsWhole) (I : Ins F)
    (f2 : BufTy.Contents (Elt F) arg2.view.ty) (f3 : BufTy.Contents (Elt F) arg3.view.ty)
    (f4 : BufTy.Contents (Elt F) arg4.view.ty) (f5 : BufTy.Contents (Elt F) arg5.view.ty)
    (f9 : BufTy.Contents (Elt F) arg9.view.ty) (f10 : BufTy.Contents (Elt F) arg10.view.ty)
    (f13 : BufTy.Contents (Elt F) arg13.view.ty) (f14 : BufTy.Contents (Elt F) arg14.view.ty)
    (h2 : arg2.view.read (Elt F) f2 = I.q) (h3 : arg3.view.read (Elt F) f3 = I.k) (h4 : arg4.view.read (Elt F) f4 = I.v)
    (h5 : arg5.view.read (Elt F) f5 = I.d) (hqt : I.qt = transposed I.q) (hdt : I.dt = transposed I.d)
    (h13 : (i 1).val ≠ 0 → arg13.view.read (Elt F) f13 = I.qt) (h14 : (i 1).val ≠ 0 → arg14.view.read (Elt F) f14 = I.dt) :
    iprop(Reads c arg2 arg5 arg3 arg4 f2 f3 f4 f5
      ∗ (arg9.view.loc (c : Thread nD τ) ↦[arg9.view.set]{fullShare} f9)
      ∗ (arg10.view.loc (c : Thread nD τ) ↦[arg10.view.set]{fullShare} f10)
      ∗ (arg13.view.loc (c : Thread nD τ) ↦[arg13.view.set]{fullShare} f13)
      ∗ (arg14.view.loc (c : Thread nD τ) ↦[arg14.view.set]{fullShare} f14))
    ⊢ wp frame (wpE (defs₀ (F := F)) 𝒱 (c : Thread nD τ) bd) E (k0_part9 (F := F) i arg2 harg2 arg3 harg3 arg4 harg4 arg5 harg5 arg6 harg6 arg7 harg7 arg8 harg8 arg9 harg9 arg10 harg10 arg11 harg11 arg12 harg12 arg13 harg13 arg14 harg14)
        (fun r => (iprop(⌜r = startVal i I⌝ ∗ Reads c arg2 arg5 arg3 arg4 f2 f3 f4 f5
          ∗ (∃ f, (arg9.view.loc (c : Thread nD τ) ↦[arg9.view.set]{fullShare} f) ∗ ⌜arg9.view.read (Elt F) f = startDc i (arg9.view.read (Elt F) f9)⌝)
          ∗ (∃ f, (arg10.view.loc (c : Thread nD τ) ↦[arg10.view.set]{fullShare} f) ∗ ⌜arg10.view.read (Elt F) f = startDq i (arg10.view.read (Elt F) f10)⌝)
          ∗ (∃ f, (arg13.view.loc (c : Thread nD τ) ↦[arg13.view.set]{fullShare} f) ∗ ⌜arg13.view.read (Elt F) f = I.qt⌝)
          ∗ (∃ f, (arg14.view.loc (c : Thread nD τ) ↦[arg14.view.set]{fullShare} f) ∗ ⌜arg14.view.read (Elt F) f = I.dt⌝)) : sProp 𝕄)) := by
  rw [k0_part9_eq_skeleton]
  unfold k0_part9_skel
  by_cases c1 : (i 1).val = 0
  · have hc1 : k0_cond1 i = 1#1 := (cond1_iff i).mpr c1
    by_cases c0 : (i 0).val = 0
    · have hb : firstBit i = 1#1 := (firstBit_iff i).mpr ⟨c0, c1⟩
      unfold firstBit at hb
      iintro ⟨⟨H2, H3, H4, H5⟩, H9, H10, H13, H14⟩
      sl_exec
      sl_step
      isplitr
      · ipureintro; rw [startVal, Ins.k0, Ins.k1, Ins.v0, Ins.v1, ← h3, ← h4]; rfl
      isplitl [H2 H3 H4 H5]
      · isplitl [H2]; · iexact H2
        isplitl [H3]; · iexact H3
        isplitl [H4]; · iexact H4
        iexact H5
      isplitl [H9]
      · iexists _; isplitl [H9]; · iexact H9
        ipureintro
        rw [startDc, if_pos ⟨c0, c1⟩]; exact View.read_writes_full _ _ _ _ _
      isplitl [H10]
      · iexists _; isplitl [H10]; · iexact H10
        ipureintro
        rw [startDq, if_pos c1]; exact View.read_writes_full _ _ _ _ _
      isplitl [H13]
      · iexists _; isplitl [H13]; · iexact H13
        ipureintro
        rw [hqt, ← h2]; exact hL3.trans (transposedN_all _ _)
      iexists _; isplitl [H14]; · iexact H14
      ipureintro
      rw [hdt, ← h5]; exact hL5.trans (transposedN_all _ _)
    · have hb : ¬ firstBit i = 1#1 := fun h => c0 ((firstBit_iff i).mp h).1
      unfold firstBit at hb
      iintro ⟨⟨H2, H3, H4, H5⟩, H9, H10, H13, H14⟩
      sl_exec
      sl_step
      isplitr
      · ipureintro; rw [startVal, Ins.k0, Ins.k1, Ins.v0, Ins.v1, ← h3, ← h4]; rfl
      isplitl [H2 H3 H4 H5]
      · isplitl [H2]; · iexact H2
        isplitl [H3]; · iexact H3
        isplitl [H4]; · iexact H4
        iexact H5
      isplitl [H9]
      · iexists _; isplitl [H9]; · iexact H9
        ipureintro
        rw [startDc, if_neg (fun h => c0 h.1)]
      isplitl [H10]
      · iexists _; isplitl [H10]; · iexact H10
        ipureintro
        rw [startDq, if_pos c1]; exact View.read_writes_full _ _ _ _ _
      isplitl [H13]
      · iexists _; isplitl [H13]; · iexact H13
        ipureintro
        rw [hqt, ← h2]; exact hL3.trans (transposedN_all _ _)
      iexists _; isplitl [H14]; · iexact H14
      ipureintro
      rw [hdt, ← h5]; exact hL5.trans (transposedN_all _ _)
  · have hc1 : ¬ k0_cond1 i = 1#1 := fun h => c1 ((cond1_iff i).mp h)
    have hb : ¬ firstBit i = 1#1 := fun h => c1 ((firstBit_iff i).mp h).2
    unfold firstBit at hb
    iintro ⟨⟨H2, H3, H4, H5⟩, H9, H10, H13, H14⟩
    sl_exec
    sl_step
    isplitr
    · ipureintro; rw [startVal, Ins.k0, Ins.k1, Ins.v0, Ins.v1, ← h3, ← h4]; rfl
    isplitl [H2 H3 H4 H5]
    · isplitl [H2]; · iexact H2
      isplitl [H3]; · iexact H3
      isplitl [H4]; · iexact H4
      iexact H5
    isplitl [H9]
    · iexists _; isplitl [H9]; · iexact H9
      ipureintro
      rw [startDc, if_neg (fun h => c1 h.2)]
    isplitl [H10]
    · iexists _; isplitl [H10]; · iexact H10
      ipureintro
      rw [startDq, if_neg c1]
    isplitl [H13]
    · iexists _; isplitl [H13]; · iexact H13
      ipureintro
      exact h13 c1
    iexists _; isplitl [H14]; · iexact H14
    ipureintro
    exact h14 c1

end Cert.KernelIdeal.Bwd
end
-- ==== Proof.Rest.lean ====
/-
  The part of a grid point after its diagonal block: all later query blocks, and the first head's gradients read back.
-/
module

public import proofs.«01_k».proof.Proof.Gen.KernelIdeal.Launch
public import proofs.«01_k».proof.Proof.Gen.KernelIdeal.Loops
public import proofs.«01_k».proof.Proof.Point
public import proofs.«01_k».proof.Proof.Prologue
public import proofs.«01_k».proof.Proof.Epilogue
public import proofs.«01_k».proof.Proof.Later
public import Idealize.ShloMosaic.Lib.Pipeline.FrameBody
public import Idealize.ShloMosaic.Lib.VecWindow
public import Idealize.ShloMosaic.Lib.Tactic
public import Idealize.ShloMosaic.Lib.LoopRemainder

@[expose] public section

set_option maxRecDepth 8192
set_option maxHeartbeats 4000000

noncomputable section

namespace Cert.KernelIdeal.Bwd

open Idealize.ShloMosaic Idealize.ShloMosaic.TcCoe Idealize.ShloMosaic.Tactic Idealize.ShloMosaic.VecWindow
open Idealize.SL Idealize.SL.RA Idealize.SL.BI
open Idealize.SL.BI (sProp bigSep)
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

/-- What the part returns: the decay's rows of this block, and the first head's key and value gradient. -/
abbrev restVal (i : grid0.Coords) (z : Vec F S8192x128 .f32) (A : Acc F) :
    Σ' (_ : FVec F S512x128 .f32) (_ : FVec F S512x128 .f32), FVec F S512x128 .bf16 :=
  ⟨k0_pay100 (window z (k0_off21 i) S512x128.size (k0_off21_inb i)), k0_pay101 (head A.dk 0), k0_pay103 (head A.dv 0)⟩

/-- After both heads are stored the first head reads back what was stored into it. -/
theorem readCov_head (v : View sig .tc .vmem S2x128x512 .f32) (a b : Vec F S1x128x512 .f32) :
    v.readCov (Val := Elt F) [⟨Rect.unit (s := S2x128x512) ![1, 0, 0] S1x128x512.size inb_S2x128x512_S1x128x512_1_0_0, b⟩,
        ⟨Rect.unit (s := S2x128x512) ![0, 0, 0] S1x128x512.size inb_S2x128x512_S1x128x512_0_0_0, a⟩]
      (Rect.unit (s := S2x128x512) ![0, 0, 0] S1x128x512.size inb_S2x128x512_S1x128x512_0_0_0).toLoadRect = a := by
  refine (View.readAt_unit v _ _ rfl inb_S2x128x512_S1x128x512_0_0_0).trans ?_
  rw [View.read_writes_cons_put _ _ _ _ _ rfl, View.read_writes_cons_put _ _ _ _ _ rfl]
  exact head_puts_0 _ _ _

theorem restVal_congr {a a' b b' : FVec F S512x128 .f32} {c c' : FVec F S512x128 .bf16} (ha : a = a') (hb : b = b') (hc : c = c') :
    (⟨a, b, c⟩ : Σ' (_ : FVec F S512x128 .f32) (_ : FVec F S512x128 .f32), FVec F S512x128 .bf16) = ⟨a', b', c'⟩ := by
  subst ha hb hc
  rfl

theorem rest_run (𝒱 : Variants) (c : Dev nD) (bd : Option 𝒱.V) (E : Set ℕ) (i : grid0.Coords) (arg2 : Memref sig .tc .vmem S8192x256 .bf16) (harg2 : arg2.IsWhole) (arg3 : Memref sig .tc .vmem S1x512x256 .bf16) (harg3 : arg3.IsWhole) (arg4 : Memref sig .tc .vmem S1x512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S8192x128 .f32) (harg9 : arg9.IsWhole) (arg10 : Memref sig .tc .vmem S8192x256 .f32) (harg10 : arg10.IsWhole) (arg11 : Memref sig .tc .vmem S2x128x512 .f32) (harg11 : arg11.IsWhole) (arg12 : Memref sig .tc .vmem S2x128x512 .f32) (harg12 : arg12.IsWhole) (arg13 : Memref sig .tc .vmem S2x16x128x512 .bf16) (harg13 : arg13.IsWhole) (arg14 : Memref sig .tc .vmem S2x16x128x512 .bf16) (harg14 : arg14.IsWhole) (I : Ins F)
    (arg1 v20 v243 v244 : BitVec 32) (v258 : BitVec 1)
    (f2 : BufTy.Contents (Elt F) arg2.view.ty) (f5 : BufTy.Contents (Elt F) arg5.view.ty)
    (f13 : BufTy.Contents (Elt F) arg13.view.ty) (f14 : BufTy.Contents (Elt F) arg14.view.ty)
    (f7 : BufTy.Contents (Elt F) arg7.view.ty) (f9 : BufTy.Contents (Elt F) arg9.view.ty)
    (h2 : arg2.view.read (Elt F) f2 = I.q) (h5 : arg5.view.read (Elt F) f5 = I.d)
    (h13 : arg13.view.read (Elt F) f13 = I.qt) (h14 : arg14.view.read (Elt F) f14 = I.dt) (A : Acc F) :
    iprop(Held2 c arg2 arg5 arg10 arg11 arg12 arg13 arg14 f2 f5 f13 f14 A
      ∗ (arg7.view.loc (c : Thread nD τ) ↦[arg7.view.set]{fullShare} f7)
      ∗ (arg9.view.loc (c : Thread nD τ) ↦[arg9.view.set]{fullShare} f9))
    ⊢ wp frame (wpE (defs₀ (F := F)) 𝒱 (c : Thread nD τ) bd) E
        (k0_part16 (F := F) i arg2 harg2 arg3 harg3 arg4 harg4 arg5 harg5 arg6 harg6 arg7 harg7 arg8 harg8 arg9 harg9 arg10 harg10 arg11 harg11 arg12 harg12 arg13 harg13 arg14 harg14 arg1 v20 I.k0 I.k1 I.v0 I.v1 v243 v244 v258)
        (fun r => (iprop(⌜r = restVal i (arg9.view.read (Elt F) f9) (sums i I A)⌝
          ∗ Held2 c arg2 arg5 arg10 arg11 arg12 arg13 arg14 f2 f5 f13 f14 (sums i I A)
          ∗ (∃ f, (arg7.view.loc (c : Thread nD τ) ↦[arg7.view.set]{fullShare} f)
              ∗ ⌜arg7.view.read (Elt F) f = put (arg7.view.read (Elt F) f7) ![0, 0] S512x128.size (k0_pay102 (head (sums i I A).dk 0))⌝)
          ∗ (arg9.view.loc (c : Thread nD τ) ↦[arg9.view.set]{fullShare} f9)) : sProp 𝕄)) := by
  rw [k0_part16_eq_skeleton]
  unfold k0_part16_skel
  by_cases c3 : (15 - (i 1).val) % 2 = 1
  · have hc3 : k0_cond3 i = 1#1 := (cond3_iff i).mpr c3
    have hs : sums i I A = last I (laterN i I A (k0_t2_loop i).trips) := if_pos c3
    iintro ⟨⟨H2, H5, H13, H14, ⟨%f10, H10, %h10⟩, ⟨%f11, H11, %h11⟩, ⟨%f12, H12, %h12⟩⟩, H7, H9⟩
    sl_exec
    have hA : (⟨arg10.view.read (Elt F) f10, arg11.view.read (Elt F) f11, arg12.view.read (Elt F) f12⟩ : Acc F) = A := by
      rw [h10, h11, h12]
    have g10 : arg10.view.read (Elt F) fL0 = (laterN i I A (k0_t2_loop i).trips).dq := hL5.trans (by rw [← hA]; rfl)
    have g11 : arg11.view.read (Elt F) fL1 = (laterN i I A (k0_t2_loop i).trips).dk := hL7.trans (by rw [← hA]; rfl)
    have g12 : arg12.view.read (Elt F) fL2 = (laterN i I A (k0_t2_loop i).trips).dv := hL9.trans (by rw [← hA]; rfl)
    clear hL5 hL7 hL9
    generalize laterN i I A (k0_t2_loop i).trips = B at hs g10 g11 g12
    sl_step
    isplitr
    · ipureintro
      rw [restVal, hs, last_head_dk, last_head_dv, ← g11, ← g12, ← h2, ← h5, ← h13, ← h14]
      exact restVal_congr rfl (congrArg k0_pay101 (readCov_head arg11.view _ _)) (congrArg k0_pay103 (readCov_head arg12.view _ _))
    isplitl [H2 H5 H13 H14 H10 H11 H12]
    · isplitl [H2]; · iexact H2
      isplitl [H5]; · iexact H5
      isplitl [H13]; · iexact H13
      isplitl [H14]; · iexact H14
      isplitl [H10]
      · iexists _; isplitl [H10]; · iexact H10
        ipureintro
        refine (View.read_writes_cons_put _ _ _ _ _ rfl).trans ?_
        rw [View.read_writes_cons_put _ _ _ _ _ rfl, View.writes_nil, hs]
        unfold last
        rw [← g10, ← h2, ← h5]
        rfl
      isplitl [H11]
      · iexists _; isplitl [H11]; · iexact H11
        ipureintro
        refine (View.read_writes_cons_put _ _ _ _ _ rfl).trans ?_
        rw [View.read_writes_cons_put _ _ _ _ _ rfl, View.writes_nil, hs]
        unfold last
        rw [← g11, ← h2, ← h5, ← h13]
        rfl
      iexists _; isplitl [H12]; · iexact H12
      ipureintro
      refine (View.read_writes_cons_put _ _ _ _ _ rfl).trans ?_
      rw [View.read_writes_cons_put _ _ _ _ _ rfl, View.writes_nil, hs]
      unfold last
      rw [← g12, ← h2, ← h14]
      rfl
    isplitl [H7]
    · iexists _; isplitl [H7]; · iexact H7
      ipureintro
      rw [View.read_writes_cons_put _ _ _ _ _ rfl, View.writes_nil, hs, last_head_dk, ← g11, ← h2, ← h5, ← h13]
      exact congrArg (fun z : Vec F S1x128x512 .f32 => put (arg7.view.read (Elt F) f7) ![0, 0] S512x128.size (k0_pay102 z)) (readCov_head arg11.view _ _)
    iexact H9
  · have hc3 : ¬ k0_cond3 i = 1#1 := fun h => c3 ((cond3_iff i).mp h)
    have hs : sums i I A = laterN i I A (k0_t2_loop i).trips := if_neg c3
    iintro ⟨⟨H2, H5, H13, H14, ⟨%f10, H10, %h10⟩, ⟨%f11, H11, %h11⟩, ⟨%f12, H12, %h12⟩⟩, H7, H9⟩
    sl_exec
    have hA : (⟨arg10.view.read (Elt F) f10, arg11.view.read (Elt F) f11, arg12.view.read (Elt F) f12⟩ : Acc F) = A := by
      rw [h10, h11, h12]
    have g10 : arg10.view.read (Elt F) fL0 = (laterN i I A (k0_t2_loop i).trips).dq := hL5.trans (by rw [← hA]; rfl)
    have g11 : arg11.view.read (Elt F) fL1 = (laterN i I A (k0_t2_loop i).trips).dk := hL7.trans (by rw [← hA]; rfl)
    have g12 : arg12.view.read (Elt F) fL2 = (laterN i I A (k0_t2_loop i).trips).dv := hL9.trans (by rw [← hA]; rfl)
    clear hL5 hL7 hL9
    have w10 := g10.trans (congrArg Acc.dq hs.symm)
    have w11 := g11.trans (congrArg Acc.dk hs.symm)
    have w12 := g12.trans (congrArg Acc.dv hs.symm)
    sl_step
    isplitr
    · ipureintro
      rw [restVal, head, head, ← w11, ← w12]
      rfl
    isplitl [H2 H5 H13 H14 H10 H11 H12]
    · isplitl [H2]; · iexact H2
      isplitl [H5]; · iexact H5
      isplitl [H13]; · iexact H13
      isplitl [H14]; · iexact H14
      isplitl [H10]; · iexists _; isplitl [H10]; · iexact H10
                       ipureintro; exact w10
      isplitl [H11]; · iexists _; isplitl [H11]; · iexact H11
                       ipureintro; exact w11
      iexists _; isplitl [H12]; · iexact H12
      ipureintro; exact w12
    isplitl [H7]
    · iexists _; isplitl [H7]; · iexact H7
      ipureintro
      rw [View.read_writes_cons_put _ _ _ _ _ rfl, View.writes_nil, ← w11]
      rfl
    iexact H9

end Cert.KernelIdeal.Bwd
end
-- ==== Proof.Body.lean ====
/-
  A whole grid point run: from any contents its buffers end as the functions of `Point` say.
-/
module

public import proofs.«01_k».proof.Proof.Gen.KernelIdeal.Launch
public import proofs.«01_k».proof.Proof.Gen.KernelIdeal.Loops
public import proofs.«01_k».proof.Proof.Point
public import proofs.«01_k».proof.Proof.Prologue
public import proofs.«01_k».proof.Proof.Epilogue
public import proofs.«01_k».proof.Proof.Start
public import proofs.«01_k».proof.Proof.Rest
public import Idealize.ShloMosaic.Lib.Pipeline.FrameBody
public import Idealize.ShloMosaic.Lib.VecWindow
public import Idealize.ShloMosaic.Lib.Tactic
public import Idealize.ShloMosaic.Lib.LoopRemainder

@[expose] public section

set_option maxRecDepth 8192
set_option maxHeartbeats 4000000

noncomputable section

namespace Cert.KernelIdeal.Bwd

open Idealize.ShloMosaic Idealize.ShloMosaic.TcCoe Idealize.ShloMosaic.Tactic Idealize.ShloMosaic.VecWindow
open Idealize.SL Idealize.SL.RA Idealize.SL.BI
open Idealize.SL.BI (sProp bigSep)
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

theorem window_half0 (x x' : Vec F S8192x256 .f32) (i : grid0.Coords) (a b : Vec F S512x128 .f32) :
    window (put (put x (k0_off5 i) S512x128.size a) (k0_off6 i) S512x128.size b) (k0_off9 i) S256x128.size (k0_off9_inb i)
      = window (put (put x' (k0_off5 i) S512x128.size a) (k0_off6 i) S512x128.size b) (k0_off9 i) S256x128.size (k0_off9_inb i) := by
  have hd : (k0_off6 i) 1 + S512x128.size 1 ≤ (k0_off9 i) 1 ∨ (k0_off9 i) 1 + S256x128.size 1 ≤ (k0_off6 i) 1 := by
    rw [k0_off9_eq, k0_off6_eq]; exact .inr (show 0 + 128 ≤ 128 from Nat.le_refl _)
  have hi : ∀ a, (k0_off5 i) a ≤ (k0_off9 i) a ∧ (k0_off9 i) a + S256x128.size a ≤ (k0_off5 i) a + S512x128.size a := by
    rw [k0_off9_eq, k0_off5_eq]
    exact Fin.forall_fin_two.mpr ⟨⟨Nat.le_add_right _ _, show 512 * (i 1).val + 256 + 256 ≤ 512 * (i 1).val + 512 by omega⟩,
      ⟨Nat.le_refl _, Nat.le_refl _⟩⟩
  have e (z : Vec F S8192x256 .f32) : window (put z (k0_off6 i) S512x128.size b) (k0_off9 i) S256x128.size (k0_off9_inb i)
      = window z (k0_off9 i) S256x128.size (k0_off9_inb i) := window_put_of_disjoint _ _ _ _ _ _ _ 1 hd.symm
  rw [e, e]
  exact (window_put_of_inside x (k0_off5 i) S512x128.size (k0_off9 i) S256x128.size (k0_off9_inb i) a hi).trans
    (window_put_of_inside x' (k0_off5 i) S512x128.size (k0_off9 i) S256x128.size (k0_off9_inb i) a hi).symm

theorem window_half1 (x x' : Vec F S8192x256 .f32) (i : grid0.Coords) (b : Vec F S512x128 .f32) (c : Vec F S256x128 .f32) :
    window (put (put x (k0_off6 i) S512x128.size b) (k0_off9 i) S256x128.size c) (k0_off10 i) S256x128.size (k0_off10_inb i)
      = window (put x' (k0_off6 i) S512x128.size b) (k0_off10 i) S256x128.size (k0_off10_inb i) := by
  have hd : (k0_off10 i) 1 + S256x128.size 1 ≤ (k0_off9 i) 1 ∨ (k0_off9 i) 1 + S256x128.size 1 ≤ (k0_off10 i) 1 := by
    rw [k0_off9_eq, k0_off10_eq]; exact .inr (show 0 + 128 ≤ 128 from Nat.le_refl _)
  have hi : ∀ a, (k0_off6 i) a ≤ (k0_off10 i) a ∧ (k0_off10 i) a + S256x128.size a ≤ (k0_off6 i) a + S512x128.size a := by
    rw [k0_off10_eq, k0_off6_eq]
    exact Fin.forall_fin_two.mpr ⟨⟨Nat.le_add_right _ _, show 512 * (i 1).val + 256 + 256 ≤ 512 * (i 1).val + 512 by omega⟩,
      ⟨Nat.le_refl _, Nat.le_refl _⟩⟩
  exact (window_put_of_disjoint _ _ _ _ _ _ _ 1 hd).trans
    ((window_put_of_inside x (k0_off6 i) S512x128.size (k0_off10 i) S256x128.size (k0_off10_inb i) b hi).trans
      (window_put_of_inside x' (k0_off6 i) S512x128.size (k0_off10 i) S256x128.size (k0_off10_inb i) b hi).symm)

/-- What the diagonal block's four stores leave: the lower half of each head's rows is read back and stored again. -/
theorem writes_diag (v : View sig .tc .vmem S8192x256 .f32) (g : v.ty.Contents (Elt F)) (i : grid0.Coords) (a b : Vec F S512x128 .f32)
    (c d : Vec F S256x128 .f32 → Vec F S256x128 .f32) :
    let c' := c (v.readCov (Val := Elt F) [⟨Rect.unit (s := S8192x256) (k0_off6 i) S512x128.size (k0_off6_inb i), b⟩,
      ⟨Rect.unit (s := S8192x256) (k0_off5 i) S512x128.size (k0_off5_inb i), a⟩]
      (Rect.unit (s := S8192x256) (k0_off9 i) S256x128.size (k0_off9_inb i)).toLoadRect)
    v.read (Elt F) (v.writes (Elt F) g [⟨Rect.unit (s := S8192x256) (k0_off10 i) S256x128.size (k0_off10_inb i),
        d (v.readCov (Val := Elt F) [⟨Rect.unit (s := S8192x256) (k0_off9 i) S256x128.size (k0_off9_inb i), c'⟩,
            ⟨Rect.unit (s := S8192x256) (k0_off6 i) S512x128.size (k0_off6_inb i), b⟩,
            ⟨Rect.unit (s := S8192x256) (k0_off5 i) S512x128.size (k0_off5_inb i), a⟩]
          (Rect.unit (s := S8192x256) (k0_off10 i) S256x128.size (k0_off10_inb i)).toLoadRect)⟩,
      ⟨Rect.unit (s := S8192x256) (k0_off9 i) S256x128.size (k0_off9_inb i), c'⟩,
      ⟨Rect.unit (s := S8192x256) (k0_off6 i) S512x128.size (k0_off6_inb i), b⟩,
      ⟨Rect.unit (s := S8192x256) (k0_off5 i) S512x128.size (k0_off5_inb i), a⟩])
    = (let x2 := put (put (v.read (Elt F) g) (k0_off5 i) S512x128.size a) (k0_off6 i) S512x128.size b
       put (put x2 (k0_off9 i) S256x128.size (c (window x2 (k0_off9 i) S256x128.size (k0_off9_inb i))))
         (k0_off10 i) S256x128.size (d (window x2 (k0_off10 i) S256x128.size (k0_off10_inb i)))) := by
  intro c'
  have e0 : c' = c (window (put (put (v.read (Elt F) g) (k0_off5 i) S512x128.size a) (k0_off6 i) S512x128.size b)
      (k0_off9 i) S256x128.size (k0_off9_inb i)) := by
    refine congrArg c ?_
    refine (View.readAt_unit v _ _ rfl (k0_off9_inb i)).trans ?_
    rw [View.read_writes_cons_put _ _ _ _ _ rfl, View.read_writes_cons_put _ _ _ _ _ rfl]
    exact window_half0 _ _ i a b
  have e1 : v.readCov (Val := Elt F) [⟨Rect.unit (s := S8192x256) (k0_off9 i) S256x128.size (k0_off9_inb i), c'⟩,
        ⟨Rect.unit (s := S8192x256) (k0_off6 i) S512x128.size (k0_off6_inb i), b⟩,
        ⟨Rect.unit (s := S8192x256) (k0_off5 i) S512x128.size (k0_off5_inb i), a⟩]
        (Rect.unit (s := S8192x256) (k0_off10 i) S256x128.size (k0_off10_inb i)).toLoadRect
      = window (put (put (v.read (Elt F) g) (k0_off5 i) S512x128.size a) (k0_off6 i) S512x128.size b)
        (k0_off10 i) S256x128.size (k0_off10_inb i) := by
    refine (View.readAt_unit v _ _ rfl (k0_off10_inb i)).trans ?_
    rw [View.read_writes_cons_put _ _ _ _ _ rfl, View.read_writes_cons_put _ _ _ _ _ rfl]
    exact window_half1 _ _ i b c'
  rw [e1, View.read_writes_cons_put _ _ _ _ _ rfl, View.read_writes_cons_put _ _ _ _ _ rfl,
    View.read_writes_cons_put _ _ _ _ _ rfl, View.read_writes_cons_put _ _ _ _ _ rfl, View.writes_nil]
  dsimp only
  rw [← e0]

theorem body_run (𝒱 : Variants) (c : Dev nD) (bd : Option 𝒱.V) (E : Set ℕ) (i : grid0.Coords) (arg2 : Memref sig .tc .vmem S8192x256 .bf16) (harg2 : arg2.IsWhole) (arg3 : Memref sig .tc .vmem S1x512x256 .bf16) (harg3 : arg3.IsWhole) (arg4 : Memref sig .tc .vmem S1x512x256 .bf16) (harg4 : arg4.IsWhole) (arg5 : Memref sig .tc .vmem S8192x256 .bf16) (harg5 : arg5.IsWhole) (arg6 : Memref sig .tc .vmem S8192x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S8192x128 .f32) (harg9 : arg9.IsWhole) (arg10 : Memref sig .tc .vmem S8192x256 .f32) (harg10 : arg10.IsWhole) (arg11 : Memref sig .tc .vmem S2x128x512 .f32) (harg11 : arg11.IsWhole) (arg12 : Memref sig .tc .vmem S2x128x512 .f32) (harg12 : arg12.IsWhole) (arg13 : Memref sig .tc .vmem S2x16x128x512 .bf16) (harg13 : arg13.IsWhole) (arg14 : Memref sig .tc .vmem S2x16x128x512 .bf16) (harg14 : arg14.IsWhole) (I : Ins F)
    (f2 : BufTy.Contents (Elt F) arg2.view.ty) (f3 : BufTy.Contents (Elt F) arg3.view.ty)
    (f4 : BufTy.Contents (Elt F) arg4.view.ty) (f5 : BufTy.Contents (Elt F) arg5.view.ty)
    (f6 : BufTy.Contents (Elt F) arg6.view.ty) (f7 : BufTy.Contents (Elt F) arg7.view.ty)
    (f8 : BufTy.Contents (Elt F) arg8.view.ty)
    (f9 : BufTy.Contents (Elt F) arg9.view.ty) (f10 : BufTy.Contents (Elt F) arg10.view.ty)
    (f11 : BufTy.Contents (Elt F) arg11.view.ty) (f12 : BufTy.Contents (Elt F) arg12.view.ty)
    (f13 : BufTy.Contents (Elt F) arg13.view.ty) (f14 : BufTy.Contents (Elt F) arg14.view.ty)
    (h2 : arg2.view.read (Elt F) f2 = I.q) (h3 : arg3.view.read (Elt F) f3 = I.k) (h4 : arg4.view.read (Elt F) f4 = I.v)
    (h5 : arg5.view.read (Elt F) f5 = I.d) (hqt : I.qt = transposed I.q) (hdt : I.dt = transposed I.d)
    (h13 : (i 1).val ≠ 0 → arg13.view.read (Elt F) f13 = I.qt) (h14 : (i 1).val ≠ 0 → arg14.view.read (Elt F) f14 = I.dt) :
    iprop(Reads c arg2 arg5 arg3 arg4 f2 f3 f4 f5
      ∗ (arg6.view.loc (c : Thread nD τ) ↦[arg6.view.set]{fullShare} f6)
      ∗ (arg7.view.loc (c : Thread nD τ) ↦[arg7.view.set]{fullShare} f7)
      ∗ (arg8.view.loc (c : Thread nD τ) ↦[arg8.view.set]{fullShare} f8)
      ∗ (arg9.view.loc (c : Thread nD τ) ↦[arg9.view.set]{fullShare} f9)
      ∗ (arg10.view.loc (c : Thread nD τ) ↦[arg10.view.set]{fullShare} f10)
      ∗ (arg11.view.loc (c : Thread nD τ) ↦[arg11.view.set]{fullShare} f11)
      ∗ (arg12.view.loc (c : Thread nD τ) ↦[arg12.view.set]{fullShare} f12)
      ∗ (arg13.view.loc (c : Thread nD τ) ↦[arg13.view.set]{fullShare} f13)
      ∗ (arg14.view.loc (c : Thread nD τ) ↦[arg14.view.set]{fullShare} f14))
    ⊢ wp frame (wpE (defs₀ (F := F)) 𝒱 (c : Thread nD τ) bd) E (cc0_attn_bwd (F := F) i arg2 harg2 arg3 harg3 arg4 harg4 arg5 harg5 arg6 harg6 arg7 harg7 arg8 harg8 arg9 harg9 arg10 harg10 arg11 harg11 arg12 harg12 arg13 harg13 arg14 harg14)
        (fun _ => (iprop(Reads c arg2 arg5 arg3 arg4 f2 f3 f4 f5
          ∗ (∃ f, (arg6.view.loc (c : Thread nD τ) ↦[arg6.view.set]{fullShare} f)
              ∗ ⌜arg6.view.read (Elt F) f = endDq i (point i I (arg10.view.read (Elt F) f10)) (arg6.view.read (Elt F) f6)⌝)
          ∗ (∃ f, (arg7.view.loc (c : Thread nD τ) ↦[arg7.view.set]{fullShare} f)
              ∗ ⌜arg7.view.read (Elt F) f = outDk (point i I (arg10.view.read (Elt F) f10)).dk⌝)
          ∗ (∃ f, (arg8.view.loc (c : Thread nD τ) ↦[arg8.view.set]{fullShare} f)
              ∗ ⌜arg8.view.read (Elt F) f = outDv (point i I (arg10.view.read (Elt F) f10)).dv⌝)
          ∗ (∃ f, (arg9.view.loc (c : Thread nD τ) ↦[arg9.view.set]{fullShare} f)
              ∗ ⌜arg9.view.read (Elt F) f = endDc i (point i I (arg10.view.read (Elt F) f10)) (arg9.view.read (Elt F) f9)⌝)
          ∗ (∃ f, (arg10.view.loc (c : Thread nD τ) ↦[arg10.view.set]{fullShare} f)
              ∗ ⌜arg10.view.read (Elt F) f = (point i I (arg10.view.read (Elt F) f10)).dq⌝)
          ∗ (∃ f, (arg11.view.loc (c : Thread nD τ) ↦[arg11.view.set]{fullShare} f))
          ∗ (∃ f, (arg12.view.loc (c : Thread nD τ) ↦[arg12.view.set]{fullShare} f))
          ∗ (∃ f, (arg13.view.loc (c : Thread nD τ) ↦[arg13.view.set]{fullShare} f) ∗ ⌜arg13.view.read (Elt F) f = I.qt⌝)
          ∗ (∃ f, (arg14.view.loc (c : Thread nD τ) ↦[arg14.view.set]{fullShare} f) ∗ ⌜arg14.view.read (Elt F) f = I.dt⌝)) : sProp 𝕄)) := by
  generalize hX : arg10.view.read (Elt F) f10 = X
  rw [cc0_attn_bwd_eq_skeleton]
  unfold cc0_attn_bwd_skel
  iintro ⟨⟨H2, H3, H4, H5⟩, H6, H7, H8, H9, H10, H11, H12, H13, H14⟩
  rw [wp_bind]
  iapply (wp_wand_r frame (wpE (defs₀ (F := F)) 𝒱 (c : Thread nD τ) bd) E)
  isplitl [H2 H3 H4 H5 H9 H10 H13 H14]
  · iapply (start_run 𝒱 c bd E i arg2 harg2 arg3 harg3 arg4 harg4 arg5 harg5 arg6 harg6 arg7 harg7 arg8 harg8 arg9 harg9 arg10 harg10 arg11 harg11 arg12 harg12 arg13 harg13 arg14 harg14 I f2 f3 f4 f5 f9 f10 f13 f14 h2 h3 h4 h5 hqt hdt h13 h14)
    isplitl [H2 H3 H4 H5]
    · isplitl [H2]; · iexact H2
      isplitl [H3]; · iexact H3
      isplitl [H4]; · iexact H4
      iexact H5
    isplitl [H9]; · iexact H9
    isplitl [H10]; · iexact H10
    isplitl [H13]; · iexact H13
    iexact H14
  iintro %r ⟨%hr, ⟨H2, H3, H4, H5⟩, ⟨%g9, H9, %hg9⟩, ⟨%g10, H10, %hg10⟩, ⟨%g13, H13, %hg13⟩, ⟨%g14, H14, %hg14⟩⟩
  subst hr
  set_option sl_exec.stopBefore "k0_part16" in sl_exec
  have w10 : arg10.view.read (Elt F) g10 = startDq i X := hg10.trans (congrArg (startDq i) hX)
  rw [wp_bind]
  iapply (wp_wand_r frame (wpE (defs₀ (F := F)) 𝒱 (c : Thread nD τ) bd) E)
  isplitl [H2 H5 H7 H9 H10 H11 H12 H13 H14]
  · iapply (rest_run 𝒱 c bd E i arg2 harg2 arg3 harg3 arg4 harg4 arg5 harg5 arg6 harg6 arg7 harg7 arg8 harg8 arg9 harg9 arg10 harg10 arg11 harg11 arg12 harg12 arg13 harg13 arg14 harg14 I _ _ _ _ _ f2 f5 g13 g14 f7 g9 h2 h5 hg13 hg14 (diag i I (startDq i X)))
    isplitl [H2 H5 H10 H11 H12 H13 H14]
    · isplitl [H2]; · iexact H2
      isplitl [H5]; · iexact H5
      isplitl [H13]; · iexact H13
      isplitl [H14]; · iexact H14
      isplitl [H10]
      · iexists _; isplitl [H10]; · iexact H10
        ipureintro
        refine (writes_diag arg10.view g10 i _ _ (fun z => k0_pay84 _ _ z) (fun z => k0_pay90 _ _ z)).trans ?_
        unfold diag diagDq diagS0 diagS1 diagQ0 diagQ1 diagD0 diagD1 lowS0 lowS1 lowQ0 lowQ1 lowD0 lowD1
        rw [← w10, ← h2, ← h5]
        rfl
      isplitl [H11]
      · iexists _; isplitl [H11]; · iexact H11
        ipureintro
        rw [View.read_writes_cons_put _ _ _ _ _ rfl, View.read_writes_cons_put _ _ _ _ _ rfl,
          View.read_writes_cons_put _ _ _ _ _ rfl, View.read_writes_cons_put _ _ _ _ _ rfl, View.writes_nil, quarters_of_puts]
        unfold diag diagS0 diagS1 diagQ0 diagQ1 diagD0 diagD1 lowS1 lowQ0 lowQ1 lowD0 lowD1
        rw [← h2, ← h5, ← hg13]
        rfl
      iexists _; isplitl [H12]; · iexact H12
      ipureintro
      rw [View.read_writes_cons_put _ _ _ _ _ rfl, View.read_writes_cons_put _ _ _ _ _ rfl,
        View.read_writes_cons_put _ _ _ _ _ rfl, View.read_writes_cons_put _ _ _ _ _ rfl, View.writes_nil, quarters_of_puts]
      unfold diag diagP1 diagQ0 diagQ1 lowQ0 lowQ1
      rw [← h2, ← hg14]
      rfl
    isplitl [H7]; · iexact H7
    iexact H9
  rw [show sums i I (diag i I (startDq i X)) = point i I X from rfl]
  generalize point i I X = A
  iintro %r ⟨%hr, ⟨H2, H5, H13, H14, ⟨%k10, H10, %hk10⟩, ⟨%k11, H11, %hk11⟩, ⟨%k12, H12, %hk12⟩⟩, ⟨%g7, H7, %hg7⟩, H9⟩
  subst hr
  by_cases c4 : (i 1).val = 15
  · have hc4 : k0_cond4 i = 1#1 := (cond4_iff i).mpr c4
    sl_exec
    have e9 : arg9.view.read (Elt F) (arg9.view.writes (Elt F) g9 [⟨Rect.unit (s := S8192x128) (k0_off21 i) S512x128.size (k0_off21_inb i),
        k0_pay4 (k0_pay45 i) (k0_pay46 i) (k0_pay100 (window (arg9.view.read (Elt F) g9) (k0_off21 i) S512x128.size (k0_off21_inb i)))
          (k0_pay101 (head A.dk 0)) (arg11.view.readAt (Elt F)
            (Rect.unit (s := S2x128x512) ![1, 0, 0] S1x128x512.size inb_S2x128x512_S1x128x512_1_0_0).toLoadRect k11)⟩])
        = keyDc i A.dk (startDc i (arg9.view.read (Elt F) f9)) := by
      rw [View.read_writes_cons_put _ _ _ _ _ rfl, View.writes_nil, keyDc, ← hg9, ← hk11]
      rfl
    sl_step
    isplitl [H2 H3 H4 H5]
    · isplitl [H2]; · iexact H2
      isplitl [H3]; · iexact H3
      isplitl [H4]; · iexact H4
      iexact H5
    isplitl [H6]
    · iexists _; isplitl [H6]; · iexact H6
      ipureintro
      rw [endDq, if_pos c4, ← hk10]
      exact hL2.trans (narrowN_all _ _)
    isplitl [H7]
    · iexists _; isplitl [H7]; · iexact H7
      ipureintro
      rw [View.read_writes_cons_put _ _ _ _ _ rfl, View.writes_nil, hg7, pair_of_puts, outDk, ← hk11]
      rfl
    isplitl [H8]
    · iexists _; isplitl [H8]; · iexact H8
      ipureintro
      refine (View.read_writes_cons_put _ _ _ _ _ rfl).trans ?_
      rw [View.read_writes_cons_put _ _ _ _ _ rfl, View.writes_nil, pair_of_puts, outDv, ← hk12]
      rfl
    isplitl [H9]
    · iexists _; isplitl [H9]; · iexact H9
      ipureintro
      rw [endDc, if_pos c4, ← hk10, ← e9]
      exact hL4.trans (dcEndN_all _ _ _)
    isplitl [H10]
    · iexists _; isplitl [H10]; · iexact H10
      ipureintro
      exact hk10
    isplitl [H11]; · iexists _; iexact H11
    isplitl [H12]; · iexists _; iexact H12
    isplitl [H13]
    · iexists _; isplitl [H13]; · iexact H13
      ipureintro
      exact hg13
    iexists _; isplitl [H14]; · iexact H14
    ipureintro
    exact hg14
  · have hc4 : ¬ k0_cond4 i = 1#1 := fun h => c4 ((cond4_iff i).mp h)
    sl_exec
    have e9 : arg9.view.read (Elt F) (arg9.view.writes (Elt F) g9 [⟨Rect.unit (s := S8192x128) (k0_off21 i) S512x128.size (k0_off21_inb i),
        k0_pay4 (k0_pay45 i) (k0_pay46 i) (k0_pay100 (window (arg9.view.read (Elt F) g9) (k0_off21 i) S512x128.size (k0_off21_inb i)))
          (k0_pay101 (head A.dk 0)) (arg11.view.readAt (Elt F)
            (Rect.unit (s := S2x128x512) ![1, 0, 0] S1x128x512.size inb_S2x128x512_S1x128x512_1_0_0).toLoadRect k11)⟩])
        = keyDc i A.dk (startDc i (arg9.view.read (Elt F) f9)) := by
      rw [View.read_writes_cons_put _ _ _ _ _ rfl, View.writes_nil, keyDc, ← hg9, ← hk11]
      rfl
    sl_step
    isplitl [H2 H3 H4 H5]
    · isplitl [H2]; · iexact H2
      isplitl [H3]; · iexact H3
      isplitl [H4]; · iexact H4
      iexact H5
    isplitl [H6]
    · iexists _; isplitl [H6]; · iexact H6
      ipureintro
      exact (if_neg c4).symm
    isplitl [H7]
    · iexists _; isplitl [H7]; · iexact H7
      ipureintro
      rw [View.read_writes_cons_put _ _ _ _ _ rfl, View.writes_nil, hg7, pair_of_puts, outDk, ← hk11]
      rfl
    isplitl [H8]
    · iexists _; isplitl [H8]; · iexact H8
      ipureintro
      rw [View.read_writes_cons_put _ _ _ _ _ rfl, View.read_writes_cons_put _ _ _ _ _ rfl, View.writes_nil, pair_of_puts, outDv, ← hk12]
      rfl
    isplitl [H9]
    · iexists _; isplitl [H9]; · iexact H9
      ipureintro
      exact e9.trans (if_neg c4).symm
    isplitl [H10]
    · iexists _; isplitl [H10]; · iexact H10
      ipureintro
      exact hk10
    isplitl [H11]; · iexists _; iexact H11
    isplitl [H12]; · iexists _; iexact H12
    isplitl [H13]
    · iexists _; isplitl [H13]; · iexact H13
      ipureintro
      exact hg13
    iexists _; isplitl [H14]; · iexact H14
    ipureintro
    exact hg14

end Cert.KernelIdeal.Bwd
end
-- ==== Proof.Data.lean ====
/-
  The pipeline's proof data: what each staging buffer and each scratch buffer holds at every grid point, and that the
  kernel body takes one point's contents to the next.
-/
module

public import proofs.«01_k».proof.Proof.Blocks
public import proofs.«01_k».proof.Proof.Body

@[expose] public section

set_option maxRecDepth 8192
set_option maxHeartbeats 4000000

noncomputable section

namespace Cert.KernelIdeal.Bwd

open Idealize.ShloMosaic Idealize.ShloMosaic.TcCoe Idealize.ShloMosaic.Tactic Idealize.ShloMosaic.VecWindow
open Idealize.ShloMosaic.Pipeline (Dat BodyObligation)
open Idealize.SL Idealize.SL.RA Idealize.SL.BI
open Idealize.SL.BI (sProp bigSep)
open scoped Idealize.SL.BI
open Idealize.SL.BI.BIBase Idealize.SL.BI.Laws Idealize.SL.ProofMode Idealize.SL.Sem
open Cert.KernelIdeal Cert.KernelIdeal.Gen

variable {F : FTy → Type} [FloatOps F]
variable (m : (ℓ : Loc nD τ sig) → Buf (Elt F) ℓ)

local notation "𝕄" => MT nD τ sig Unit (Elt F) ℕ (UR sig nD τ) ℕ

/-- A point's inputs. -/
def ins (c : Dev nD) (t : Fin cfg0.N) : Ins F where
  q := iblk m c 0 t
  k := iblk m c 1 t
  v := iblk m c 2 t
  d := iblk m c 3 t
  qt := transposed (iblk m c 0 t : Vec F S8192x256 .bf16)
  dt := transposed (iblk m c 3 t : Vec F S8192x256 .bf16)

theorem ins_qt (c : Dev nD) (t t' : Fin cfg0.N) (h : t.val / 16 = t'.val / 16) : (ins m c t).qt = (ins m c t').qt :=
  congrArg (fun x : Vec F S8192x256 .bf16 => transposed x) (iblk0_0_congr m c t t' h)
theorem ins_dt (c : Dev nD) (t t' : Fin cfg0.N) (h : t.val / 16 = t'.val / 16) : (ins m c t).dt = (ins m c t').dt :=
  congrArg (fun x : Vec F S8192x256 .bf16 => transposed x) (iblk0_3_congr m c t t' h)

/-- The query gradient's running sum before point `n`. -/
def dqN (c : Dev nD) : ℕ → Vec F S8192x256 .f32
  | 0 => fun _ => zeroF
  | n + 1 => if h : n < cfg0.N then (point (grid0.coords ⟨n, h⟩) (ins m c ⟨n, h⟩) (dqN c n)).dq else dqN c n

/-- The running sums at the end of a point. -/
def pt (c : Dev nD) (t : Fin cfg0.N) : Acc F := point (grid0.coords t) (ins m c t) (dqN m c t.val)

theorem dqN_succ (c : Dev nD) (t : Fin cfg0.N) : dqN m c (t.val + 1) = (pt m c t).dq := by
  show (if h : t.val < cfg0.N then _ else _) = _
  rw [dif_pos t.isLt]; rfl

/-- The derivative of the decay before point `n`. -/
def dcN (c : Dev nD) : ℕ → Vec F S8192x128 .f32
  | 0 => fun _ => zeroF
  | n + 1 => if h : n < cfg0.N then endDc (grid0.coords ⟨n, h⟩) (pt m c ⟨n, h⟩) (dcN c n) else dcN c n

theorem dcN_succ (c : Dev nD) (t : Fin cfg0.N) : dcN m c (t.val + 1) = endDc (grid0.coords t) (pt m c t) (dcN m c t.val) := by
  show (if h : t.val < cfg0.N then _ else _) = _
  rw [dif_pos t.isLt]

/-- A point of a head pair's first key block starts from zero whatever was there. -/
theorem point_eq (c : Dev nD) (t : Fin cfg0.N) (x : Vec F S8192x256 .f32) (h : t.val % 16 ≠ 0 → x = dqN m c t.val) :
    point (grid0.coords t) (ins m c t) x = pt m c t := by
  unfold pt point
  by_cases h0 : t.val % 16 = 0
  · have e : ((grid0.coords t) 1).val = 0 := (coords_snd t).trans h0
    unfold startDq
    rw [if_pos e, if_pos e]
  · rw [h h0]

theorem endDc_eq (c : Dev nD) (t : Fin cfg0.N) (z : Vec F S8192x128 .f32) (h : t.val ≠ 0 → z = dcN m c t.val) :
    endDc (grid0.coords t) (pt m c t) z = dcN m c (t.val + 1) := by
  rw [dcN_succ]
  by_cases h0 : t.val = 0
  · have e : ((grid0.coords t) 0).val = 0 ∧ ((grid0.coords t) 1).val = 0 :=
      ⟨(coords_fst t).trans (by rw [h0]), (coords_snd t).trans (by rw [h0])⟩
    unfold endDc startDc
    rw [if_pos e, if_pos e]
  · rw [h h0]

/-! ### The scratch buffers between points -/

abbrev sc0 : Memref sig .tc .vmem S8192x256 .f32 := Memref.whole cc0_scratch0
abbrev sc1 : Memref sig .tc .vmem S2x128x512 .f32 := Memref.whole cc0_scratch1
abbrev sc2 : Memref sig .tc .vmem S2x128x512 .f32 := Memref.whole cc0_scratch2
abbrev sc3 : Memref sig .tc .vmem S2x16x128x512 .bf16 := Memref.whole cc0_scratch3
abbrev sc4 : Memref sig .tc .vmem S2x16x128x512 .bf16 := Memref.whole cc0_scratch4

/-- What the scratch buffers hold before point `n`: within a head pair, the running query gradient and the two
    transposed inputs. -/
def scratch (c : Dev nD) (n : ℕ) : sProp 𝕄 :=
  iprop((∃ f, (sc0.view.loc (c : Thread nD τ) ↦[sc0.view.set]{fullShare} f)
      ∗ ⌜n % 16 ≠ 0 → sc0.view.read (Elt F) f = dqN m c n⌝)
    ∗ (∃ f, (sc1.view.loc (c : Thread nD τ) ↦[sc1.view.set]{fullShare} f))
    ∗ (∃ f, (sc2.view.loc (c : Thread nD τ) ↦[sc2.view.set]{fullShare} f))
    ∗ (∃ f, (sc3.view.loc (c : Thread nD τ) ↦[sc3.view.set]{fullShare} f)
      ∗ ⌜∀ h : n < cfg0.N, n % 16 ≠ 0 → sc3.view.read (Elt F) f = (ins m c ⟨n, h⟩).qt⌝)
    ∗ (∃ f, (sc4.view.loc (c : Thread nD τ) ↦[sc4.view.set]{fullShare} f)
      ∗ ⌜∀ h : n < cfg0.N, n % 16 ≠ 0 → sc4.view.read (Elt F) f = (ins m c ⟨n, h⟩).dt⌝))

/-- The pipeline's proof data. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => narrow (pt m c t).dq
    | ⟨5, _⟩ => outDk (pt m c t).dk
    | ⟨6, _⟩ => outDv (pt m c t).dv
    | ⟨7, _⟩ => dcN m c (t.val + 1)
    | ⟨n + 8, h⟩ => absurd h (Nat.not_lt.2 (Nat.le_add_left _ _))
  Φ n := iprop(scratch m c n.val ∗ ∃ r, prngReg c r)
  q := Pipeline.shareOf spec0
  owed _ := 0

theorem A_eq (c : Dev nD) (w : Fin cfg0.W) : (dats m 0 c).A w = V m c (Pipeline.arrRef spec0 w) := by dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = narrow (pt m c t).dq := by dsimp only [dats]
theorem after_5 (c : Dev nD) (t : Fin cfg0.N) : (dats m 0 c).after 5 t = outDk (pt m c t).dk := by dsimp only [dats]
theorem after_6 (c : Dev nD) (t : Fin cfg0.N) : (dats m 0 c).after 6 t = outDv (pt m c t).dv := by dsimp only [dats]
theorem after_7 (c : Dev nD) (t : Fin cfg0.N) : (dats m 0 c).after 7 t = dcN m c (t.val + 1) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

theorem before_7 (c : Dev nD) (t : Fin cfg0.N) (ht : t.val ≠ 0) (d) : (dats m 0 c).before 7 t d = dcN m c t.val := by
  have hN := lt_128 t
  have hlt : t.val - 1 < cfg0.N := (show t.val - 1 < 128 by omega).trans_eq N_eq.symm
  have hfl : (cfg0.win 7).flush ⟨t.val - 1, hlt⟩ = false := by
    rw [← Bool.not_eq_true, flush0_7]
    show ¬ (t.val - 1) % 128 = 127
    omega
  refine ((dats m 0 c).before_out_kept 7 rfl t ht hfl (fun _ => rfl) (fun _ _ => rfl) d).trans ?_
  refine (after_7 m c _).trans ?_
  show dcN m c (t.val - 1 + 1) = _
  rw [Nat.sub_add_cancel (Nat.pos_of_ne_zero ht)]

/-- What a point is run from. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- The query gradient's staging buffer after a point: written at the last key block only. -/
def post4 (c : Dev nD) (t : Fin cfg0.N) : sProp 𝕄 :=
  match cfg0.idle 4 (cfg0.grid.coords t) with
  | true =>
    match (cfg0.win 4).flush t with
    | false => iprop(∃ d, owns (c : Thread nD τ) (st0_4 t) fullShare ((dats m 0 c).before 4 t d))
    | true => owns (c : Thread nD τ) (st0_4 t) fullShare ((dats m 0 c).after 4 t)
  | false => owns (c : Thread nD τ) (st0_4 t) fullShare ((dats m 0 c).after 4 t)

/-- What a point ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ post4 m c t
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem idle4 (t : Fin cfg0.N) : cfg0.idle 4 (cfg0.grid.coords t) = !decide (t.val % 16 = 15) := by
  show (!(k0_cond4 (grid0.coords t) == 1#1)) = _
  rw [← coords_snd t]
  refine congrArg _ ?_
  rw [Bool.eq_iff_iff, beq_iff_eq, decide_eq_true_iff]
  exact cond4_iff _

theorem sound_body (c : Dev nD) (t : Fin cfg0.N) :
    bodyPre m c t ⊢ wp frame (wpE (defs₀ (F := F)) Variants.none c none) Set.univ (bodyAt0 t) (fun _ => bodyPost m c t) := by
  have hN := lt_128 t
  unfold bodyPre bodyPost bodyAt0
  rw [show (dats m 0 c).Φ t.succ = iprop(scratch m c (t.val + 1) ∗ ∃ r, prngReg c r) from rfl,
    show (dats m 0 c).Φ t.castSucc = iprop(scratch m c t.val ∗ ∃ r, prngReg c r) from rfl]
  unfold Dat.owesAt Pipeline.owesWithin
  rw [show (dats m 0 c).owed t.castSucc = 0 from rfl, show (dats m 0 c).owed t.succ = 0 from rfl,
    after_0, after_1, after_2, after_3, after_5, after_6, after_7]
  simp only [before_0, before_1, before_2, before_3]
  unfold scratch owns
  iintro ⟨⟨⟨⟨%f10, H10, %h10⟩, ⟨%f11, H11⟩, ⟨%f12, H12⟩, ⟨%f13, H13, %h13⟩, ⟨%f14, H14, %h14⟩⟩, Hg⟩, HW, ⟨%d0, %f2, %h2, H2⟩,
    ⟨%d1, %f3, %h3, H3⟩, ⟨%d2, %f4, %h4, H4⟩, ⟨%d3, %f5, %h5, H5⟩, ⟨%d4, %f6, %h6, H6⟩, ⟨%d5, %f7, %h7, H7⟩,
    ⟨%d6, %f8, %h8, H8⟩, ⟨%d7, %f9, %h9, H9⟩⟩
  iapply (wp_wand_r frame (wpE (defs₀ (F := F)) Variants.none (c : Thread nD τ) none) Set.univ)
  isplitl [H2 H3 H4 H5 H6 H7 H8 H9 H10 H11 H12 H13 H14]
  · iapply (body_run Variants.none c none Set.univ (grid0.coords t) (st0_0 t) _ (st0_1 t) _ (st0_2 t) _ (st0_3 t) _ (st0_4 t) _
      (st0_5 t) _ (st0_6 t) _ (st0_7 t) _ sc0 _ sc1 _ sc2 _ sc3 _ sc4 _ (ins m c t) f2 f3 f4 f5 f6 f7 f8 f9 f10 f11 f12 f13 f14
      h2 h3 h4 h5 rfl rfl (fun h => h13 t.isLt (fun e => h ((coords_snd t).trans e)))
      (fun h => h14 t.isLt (fun e => h ((coords_snd t).trans e))))
    unfold Reads
    isplitl [H2 H3 H4 H5]
    · isplitl [H2]; · iexact H2
      isplitl [H3]; · iexact H3
      isplitl [H4]; · iexact H4
      iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  have ep := point_eq m c t (sc0.view.read (Elt F) f10) h10
  rw [ep]
  have h9' : t.val ≠ 0 → (st0_7 t).view.read (Elt F) f9 = dcN m c t.val := fun h => h9.trans (before_7 m c t h d7)
  rw [endDc_eq m c t _ h9']
  unfold Reads
  iintro %r ⟨⟨H2, H3, H4, H5⟩, ⟨%g6, H6, %e6⟩, ⟨%g7, H7, %e7⟩, ⟨%g8, H8, %e8⟩, ⟨%g9, H9, %e9⟩, ⟨%g10, H10, %e10⟩, ⟨%g11, H11⟩,
    ⟨%g12, H12⟩, ⟨%g13, H13, %e13⟩, ⟨%g14, H14, %e14⟩⟩
  isplitl [H10 H11 H12 H13 H14 Hg]
  · isplitl [H10 H11 H12 H13 H14]
    · isplitl [H10]
      · iexists _; isplitl [H10]; · iexact H10
        ipureintro; exact fun _ => e10.trans (dqN_succ m c t).symm
      isplitl [H11]; · iexists _; iexact H11
      isplitl [H12]; · iexists _; iexact H12
      isplitl [H13]
      · iexists _; isplitl [H13]; · iexact H13
        ipureintro; exact fun hlt h => e13.trans (ins_qt m c t ⟨t.val + 1, hlt⟩ (by show t.val / 16 = (t.val + 1) / 16; omega))
      iexists _; isplitl [H14]; · iexact H14
      ipureintro; exact fun hlt h => e14.trans (ins_dt m c t ⟨t.val + 1, hlt⟩ (by show t.val / 16 = (t.val + 1) / 16; omega))
    iexact Hg
  isplitl [HW]; · iexact HW
  isplitl [H2]; · iexists _; isplitr; (swap; · iexact H2); ipureintro; exact h2
  isplitl [H3]; · iexists _; isplitr; (swap; · iexact H3); ipureintro; exact h3
  isplitl [H4]; · iexists _; isplitr; (swap; · iexact H4); ipureintro; exact h4
  isplitl [H5]; · iexists _; isplitr; (swap; · iexact H5); ipureintro; exact h5
  isplitl [H6]
  · unfold post4
    by_cases hk : t.val % 16 = 15
    · have e : ((grid0.coords t) 1).val = 15 := (coords_snd t).trans hk
      unfold endDq at e6
      rw [if_pos e] at e6
      rw [idle4, decide_eq_true hk, after_4]
      unfold owns
      simp only [Bool.not_true]
      iexists _; isplitr; (swap; · iexact H6); ipureintro; exact e6
    · have e : ¬ ((grid0.coords t) 1).val = 15 := fun h => hk ((coords_snd t).symm.trans h)
      unfold endDq at e6
      rw [if_neg e] at e6
      have hf : (cfg0.win 4).flush t = false := by rw [← Bool.not_eq_true, flush0_4]; exact hk
      rw [idle4, decide_eq_false hk, hf]
      unfold owns
      simp only [Bool.not_false]
      iexists d4; iexists _; isplitr; (swap; · iexact H6); ipureintro; exact e6.trans h6
  isplitl [H7]; · iexists _; isplitr; (swap; · iexact H7); ipureintro; exact e7
  isplitl [H8]; · iexists _; isplitr; (swap; · iexact H8); ipureintro; exact e8
  iexists _; isplitr; (swap; · iexact H9); ipureintro; exact e9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.KernelIdeal.Bwd
end
-- ==== Proof.Run.lean ====
/-
  The whole program run: from the launch to the return, the buffers the pipeline does not touch as the host lines leave
  them, its result arrays as its proof data say, and every counter zero.
-/
module

public import proofs.«01_k».proof.Proof.Data
public import Idealize.ShloMosaic.Lib.Pipeline.Quiescent

@[expose] public section

set_option maxRecDepth 8192
set_option maxHeartbeats 4000000

noncomputable section

namespace Cert.KernelIdeal.Bwd

open Idealize.ShloMosaic Idealize.ShloMosaic.TcCoe Idealize.ShloMosaic.Tactic
open Idealize.ShloMosaic.Pipeline (Dat BodyObligation)
open Idealize.SL Idealize.SL.RA Idealize.SL.BI
open Idealize.SL.BI (sProp bigSep)
open scoped Idealize.SL.BI
open Idealize.SL.BI.BIBase Idealize.SL.BI.Laws Idealize.SL.ProofMode Idealize.SL.Sem
open Cert.KernelIdeal Cert.KernelIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

theorem scratch_in (c : Dev nD) : (Pipeline.ΦA spec0 c : sProp 𝕄) ⊢ (dats m 0 c).Φ 0 := by
  rw [show (dats m 0 c).Φ 0 = iprop(scratch m c 0 ∗ ∃ r, prngReg c r) from rfl]
  unfold Pipeline.ΦA scratch
  rw [scopedRest0_eq]
  simp only [Memref.view_whole, View.set_whole]
  iintro ⟨⟨⟨%f0, H0⟩, ⟨%f1, H1⟩, ⟨%f2, H2⟩, ⟨%f3, H3⟩, ⟨%f4, H4⟩⟩, Hg⟩
  isplitl [H0 H1 H2 H3 H4]
  · isplitl [H0]
    · iexists f0; isplitl [H0]; · iexact H0
      ipureintro; exact fun h => absurd rfl h
    isplitl [H1]; · iexists f1; iexact H1
    isplitl [H2]; · iexists f2; iexact H2
    isplitl [H3]
    · iexists f3; isplitl [H3]; · iexact H3
      ipureintro; exact fun _ h => absurd rfl h
    iexists f4; isplitl [H4]; · iexact H4
    ipureintro; exact fun _ h => absurd rfl h
  iexact Hg

theorem scratch_out (c : Dev nD) : (dats m 0 c).Φ (Fin.last cfg0.N) ⊢ (Pipeline.ΦA spec0 c : sProp 𝕄) := by
  rw [show (dats m 0 c).Φ (Fin.last cfg0.N) = iprop(scratch m c cfg0.N ∗ ∃ r, prngReg c r) from rfl]
  unfold Pipeline.ΦA scratch
  rw [scopedRest0_eq]
  simp only [Memref.view_whole, View.set_whole]
  iintro ⟨⟨⟨%f0, H0, -⟩, ⟨%f1, H1⟩, ⟨%f2, H2⟩, ⟨%f3, H3, -⟩, ⟨%f4, H4, -⟩⟩, Hg⟩
  isplitl [H0 H1 H2 H3 H4]
  · isplitl [H0]; · iexists f0; iexact H0
    isplitl [H1]; · iexists f1; iexact H1
    isplitl [H2]; · iexists f2; iexact H2
    isplitl [H3]; · iexists f3; iexact H3
    iexists f4; iexact H4
  iexact Hg

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared cfgs (dats m) (0 : Fin 1) launch₀0 defs₀ Variants.none m ρ main
    (fun c => (body_obligation m c).loose) (fun _ _ _ => rfl) (fun _ _ => rfl) (V0 m) [hostOps1] sfx_sub sfx_fresh sfx_keeps
    (hmain m Variants.none) (A_eq m) (scratch_in m) (scratch_out m) (Q' := _) (fun _ h => h)

/-- The arguments as they were, every counter zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_with_sems (frame_of m ρ (dats m) (A_eq m)) (run_main m ρ)

end Cert.KernelIdeal.Bwd
end
-- ==== Proof.Same.lean ====
/-
  The two prints of the kernel's program, before and after idealization, are the same program: the idealized one was
  made by no rewrite. So a run of the one is a run of the other, over any float values.
-/
module

public import proofs.«01_k».proof.Proof.Gen.Kernel
public import proofs.«01_k».proof.Proof.Gen.KernelIdeal

@[expose] public section

set_option maxRecDepth 16384
set_option maxHeartbeats 8000000

noncomputable section

namespace Cert.KernelIdeal.Bwd

open Idealize.ShloMosaic Idealize.ShloMosaic.TcCoe Idealize.SL.Sem

variable {F : FTy → Type} [FloatOps F]

theorem kernel_bodies : @Cert.Kernel.defs₀ F _ _ = @Cert.KernelIdeal.defs₀ F _ _ := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l a
  match l, a with
  | 0, (t, s) => rfl

theorem kernel_defs : @Cert.Kernel.defs F _ _ = @Cert.KernelIdeal.defs F _ _ := by
  unfold Cert.Kernel.defs Cert.KernelIdeal.defs
  rw [kernel_bodies]
  rfl

theorem kernel_where (a b c) : Cert.Kernel.fn_where.body (F := F) a b c Cert.Kernel.main_call0
    = Cert.KernelIdeal.fn_where.body (F := F) a b c Cert.KernelIdeal.main_call0 := by
  unfold Cert.Kernel.fn_where.body Cert.KernelIdeal.fn_where.body
  rfl

theorem kernel_part0 : @Cert.Kernel.main_part0 F _ _ = @Cert.KernelIdeal.main_part0 F _ _ := by
  unfold Cert.Kernel.main_part0 Cert.KernelIdeal.main_part0
  simp only [kernel_where]
  rfl

theorem kernel_part1 : @Cert.Kernel.main_part1 F _ _ = @Cert.KernelIdeal.main_part1 F _ _ := by
  unfold Cert.Kernel.main_part1 Cert.KernelIdeal.main_part1
  rfl

theorem kernel_main : @Cert.Kernel.main F _ _ = @Cert.KernelIdeal.main F _ _ := by
  unfold Cert.Kernel.main Cert.KernelIdeal.main
  rw [kernel_part0, kernel_part1]
  rfl

/-- What holds at the end of every run of the idealized print holds at the end of every run of the other. -/
theorem kernel_run (s) (Q)
    (h : θ_run (Cert.KernelIdeal.defs (F := F)) (onTc (τ := Cert.KernelIdeal.τ) (Cert.KernelIdeal.main (F := F))) s Q) :
    θ_run (Cert.Kernel.defs (F := F)) (onTc (τ := Cert.Kernel.τ) (Cert.Kernel.main (F := F))) s Q := by
  rw [kernel_defs, kernel_main]
  exact h

end Cert.KernelIdeal.Bwd
end
-- ==== Proof.Lines.lean ====
/-
  Reading a straight line of host operations in which every buffer is written once: what a buffer holds at the end is
  its one writer's result of what the operands hold at the end.
-/
module

public import Idealize.ShloMosaic.Lib.StableHlo.RunRead
public import Idealize.ShloMosaic.Lib.Pointwise

@[expose] public section

namespace Cert.Lines

open Idealize.ShloMosaic Idealize.ShloMosaic.StableHlo

variable {τ : Topo} {sig : RefSig} {Val : EltTy → Type}

theorem forall_drop {W : List (Ref sig .tc)} {ops : List (HloOp τ sig Val)}
    (hW : ops.map HloOp.writes = W.map fun w => {Proc.devRef (τ := τ) .tc w}) (i : ℕ) :
    (ops.drop i).map HloOp.writes = (W.drop i).map fun w => {Proc.devRef (τ := τ) .tc w} := by
  rw [List.map_drop, List.map_drop, hW]

/-- The buffer written at position `i` and not after it. -/
theorem read_line {W : List (Ref sig .tc)} {ops : List (HloOp τ sig Val)}
    (hW : ops.map HloOp.writes = W.map fun w => {Proc.devRef (τ := τ) .tc w}) (V : Valuation τ sig Val) (i : ℕ)
    {op : HloOp τ sig Val} (hop : ops[i]? = some op) {r : Ref sig .tc} (hr : r ∉ W.drop (i + 1)) :
    after ops V (Proc.devRef .tc r) = op.result (upto ops V i) (Proc.devRef .tc r) := by
  obtain ⟨hi, he⟩ := List.getElem?_eq_some_iff.mp hop
  exact after_last_write (W.drop (i + 1)) (by rw [List.drop_eq_getElem_cons hi, he]) (forall_drop hW (i + 1)) hr V

/-- A buffer not written from position `i` on holds there what it holds at the end. -/
theorem operand_line {W : List (Ref sig .tc)} {ops : List (HloOp τ sig Val)}
    (hW : ops.map HloOp.writes = W.map fun w => {Proc.devRef (τ := τ) .tc w}) (V : Valuation τ sig Val) (i : ℕ)
    {r : Ref sig .tc} (hr : r ∉ W.drop i) :
    upto ops V i (Proc.devRef .tc r) = after ops V (Proc.devRef .tc r) := by
  have h : after ops V = after (ops.drop i) (after (ops.take i) V) := by
    have app : ∀ (l₁ l₂ : List (HloOp τ sig Val)) (V : Valuation τ sig Val), after (l₁ ++ l₂) V = after l₂ (after l₁ V) := by
      intro l₁
      induction l₁ with
      | nil => intro _ _; rfl
      | cons op l ih => intro l₂ V; exact ih l₂ _
    rw [← app, List.take_append_drop]
  rw [h, after_of_writes_sub (ops.drop i) _ (forall_writes_sub_of_map (forall_drop hW i)) hr]
  rfl

end Cert.Lines
end
-- ==== Proof.HostSteps.lean ====
/-
  The host operations before the call, one at a time: what each result holds, from what its
  operands hold.
-/
module

public import proofs.«01_k».proof.Proof.Gen.KernelIdeal.Launch
public import proofs.«01_k».proof.Proof.Lines

@[expose] public section

set_option maxRecDepth 16384
set_option maxHeartbeats 4000000

noncomputable section

namespace Cert.KernelIdeal.HostIn

open Idealize.ShloMosaic Idealize.ShloMosaic.TcCoe Idealize.ShloMosaic.StableHlo Cert.Lines
open Cert.KernelIdeal Cert.KernelIdeal.Gen

variable {F : FTy → Type} [FloatOps F]

/-- The host operations, in order. -/
def linesIn : List (HloOp τ sig (Elt F)) := List.flatten [hostOps0, hostOps0_1, hostOps0_2]

/-- The buffers they write, in order. -/
def linesInOut : List (Ref sig .tc) :=
  [main_v0, main_cst, main_v1, main_v2, main_v3, main_v4, main_v5, main_v6, main_v7, main_v8,
   main_v9, main_v10, main_v11, main_v12, main_v13, main_v14, main_v15, main_v16, main_cst_0, main_call0_v0,
   main_call0_v1, main_call0_v2, main_v17, main_cst_1, main_v18, main_v19, main_v20, main_v21, main_v22, main_cst_2,
   main_v23, main_v24, main_v25, main_v26, main_v27, main_v28, main_v29, main_v30, main_v31, main_v32,
   main_v33, main_cst_3, main_v34, main_v35, main_cst_4, main_v36, main_v37, main_v38, main_v39, main_v40,
   main_v41, main_v42, main_v43, main_v44, main_v45, main_v46, main_v47, main_v48, main_v49, main_v50,
   main_v51, main_v52, main_v53, main_v54, main_v55, main_v56, main_v57, main_v58, main_v59, main_v60,
   main_v61, main_v62, main_v63, main_v64, main_cst_5, main_v65, main_v66, main_v67, main_cst_6, main_v68,
   main_v69, main_v70, main_v71, main_cst_7, main_v72, main_v73, main_v74, main_v75, main_v76, main_cst_8,
   main_v77, main_v78, main_v79, main_v80, main_v81, main_v82, main_cst_9, main_v83, main_v84, main_v85,
   main_v86, main_v87, main_v88, main_v89]

theorem linesIn_writes : (linesIn (F := F)).map HloOp.writes = linesInOut.map fun w => {Proc.devRef (τ := τ) .tc w} := rfl

variable (V : Valuation τ sig (Elt F))

/-- What a buffer holds after the operations. -/
def st (r : Ref sig .tc) : r.ty.Contents (Elt F) := after linesIn V (Proc.devRef .tc r)

theorem eq_v0 : st V main_v0 = (((fun l r => Host.dotGeneral dot_S8192x16x64_S8192x16x64_S16x8192x8192_2_2_0_0_1_1 none l r) : (⟨S8192x16x64, .f32⟩ : BufTy).Contents (Elt F) → (⟨S8192x16x64, .f32⟩ : BufTy).Contents (Elt F) → (⟨S16x8192x8192, .f32⟩ : BufTy).Contents (Elt F)) (st V main_arg0) (st V main_arg1)) := by
  rw [st, read_line linesIn_writes V 0 rfl (by decide)]
  rw [binary_result]
  rw [operand_line linesIn_writes V 0 (r := main_arg0) (by decide), operand_line linesIn_writes V 0 (r := main_arg1) (by decide)]
  rfl

theorem eq_cst : st V main_cst = ((constant S_ .f32 0x3E000000#32)) := by
  rw [st, read_line linesIn_writes V 1 rfl (by decide)]
  rw [nullary_result]

theorem eq_v1 : st V main_v1 = ((broadcastInDim S16x8192x8192 ![] bcast_S_S16x8192x8192 : (⟨S_, .f32⟩ : BufTy).Contents (Elt F) → (⟨S16x8192x8192, .f32⟩ : BufTy).Contents (Elt F)) (st V main_cst)) := by
  rw [st, read_line linesIn_writes V 2 rfl (by decide)]
  rw [unary_result]
  rw [operand_line linesIn_writes V 2 (r := main_cst) (by decide)]
  rfl

theorem eq_v2 : st V main_v2 = ((mulf : (⟨S16x8192x8192, .f32⟩ : BufTy).Contents (Elt F) → (⟨S16x8192x8192, .f32⟩ : BufTy).Contents (Elt F) → (⟨S16x8192x8192, .f32⟩ : BufTy).Contents (Elt F)) (st V main_v0) (st V main_v1)) := by
  rw [st, read_line linesIn_writes V 3 rfl (by decide)]
  rw [binary_result]
  rw [operand_line linesIn_writes V 3 (r := main_v0) (by decide), operand_line linesIn_writes V 3 (r := main_v1) (by decide)]
  rfl

theorem eq_v3 : st V main_v3 = (((transpose S16x8192 [1, 0] · transposes_S8192x16_S16x8192_1_0) : (⟨S8192x16, .f32⟩ : BufTy).Contents (Elt F) → (⟨S16x8192, .f32⟩ : BufTy).Contents (Elt F)) (st V main_arg3)) := by
  rw [st, read_line linesIn_writes V 4 rfl (by decide)]
  rw [unary_result]
  rw [operand_line linesIn_writes V 4 (r := main_arg3) (by decide)]
  rfl

theorem eq_v4 : st V main_v4 = ((broadcastInDim S16x8192x1 ![0, 1] bcast_S16x8192_S16x8192x1_0_1 : (⟨S16x8192, .f32⟩ : BufTy).Contents (Elt F) → (⟨S16x8192x1, .f32⟩ : BufTy).Contents (Elt F)) (st V main_v3)) := by
  rw [st, read_line linesIn_writes V 5 rfl (by decide)]
  rw [unary_result]
  rw [operand_line linesIn_writes V 5 (r := main_v3) (by decide)]
  rfl

theorem eq_v5 : st V main_v5 = ((broadcastInDim S16x1x8192 ![0, 2] bcast_S16x8192_S16x1x8192_0_2 : (⟨S16x8192, .f32⟩ : BufTy).Contents (Elt F) → (⟨S16x1x8192, .f32⟩ : BufTy).Contents (Elt F)) (st V main_v3)) := by
  rw [st, read_line linesIn_writes V 6 rfl (by decide)]
  rw [unary_result]
  rw [operand_line linesIn_writes V 6 (r := main_v3) (by decide)]
  rfl

theorem eq_v6 : st V main_v6 = ((broadcastInDim S16x8192x8192 ![0, 1, 2] bcast_S16x8192x1_S16x8192x8192_0_1_2 : (⟨S16x8192x1, .f32⟩ : BufTy).Contents (Elt F) → (⟨S16x8192x8192, .f32⟩ : BufTy).Contents (Elt F)) (st V main_v4)) := by
  rw [st, read_line linesIn_writes V 7 rfl (by decide)]
  rw [unary_result]
  rw [operand_line linesIn_writes V 7 (r := main_v4) (by decide)]
  rfl

theorem eq_v7 : st V main_v7 = ((broadcastInDim S16x8192x8192 ![0, 1, 2] bcast_S16x1x8192_S16x8192x8192_0_1_2 : (⟨S16x1x8192, .f32⟩ : BufTy).Contents (Elt F) → (⟨S16x8192x8192, .f32⟩ : BufTy).Contents (Elt F)) (st V main_v5)) := by
  rw [st, read_line linesIn_writes V 8 rfl (by decide)]
  rw [unary_result]
  rw [operand_line linesIn_writes V 8 (r := main_v5) (by decide)]
  rfl

theorem eq_v8 : st V main_v8 = ((subf : (⟨S16x8192x8192, .f32⟩ : BufTy).Contents (Elt F) → (⟨S16x8192x8192, .f32⟩ : BufTy).Contents (Elt F) → (⟨S16x8192x8192, .f32⟩ : BufTy).Contents (Elt F)) (st V main_v6) (st V main_v7)) := by
  rw [st, read_line linesIn_writes V 9 rfl (by decide)]
  rw [binary_result]
  rw [operand_line linesIn_writes V 9 (r := main_v6) (by decide), operand_line linesIn_writes V 9 (r := main_v7) (by decide)]
  rfl

theorem eq_v9 : st V main_v9 = ((addf : (⟨S16x8192x8192, .f32⟩ : BufTy).Contents (Elt F) → (⟨S16x8192x8192, .f32⟩ : BufTy).Contents (Elt F) → (⟨S16x8192x8192, .f32⟩ : BufTy).Contents (Elt F)) (st V main_v2) (st V main_v8)) := by
  rw [st, read_line linesIn_writes V 10 rfl (by decide)]
  rw [binary_result]
  rw [operand_line linesIn_writes V 10 (r := main_v2) (by decide), operand_line linesIn_writes V 10 (r := main_v8) (by decide)]
  rfl

theorem eq_v10 : st V main_v10 = ((iotaInDim S8192 32 0)) := by
  rw [st, read_line linesIn_writes V 11 rfl (by decide)]
  rw [nullary_result]

theorem eq_v11 : st V main_v11 = ((broadcastInDim S1x8192 ![1] bcast_S8192_S1x8192_1 : (⟨S8192, .i32⟩ : BufTy).Contents (Elt F) → (⟨S1x8192, .i32⟩ : BufTy).Contents (Elt F)) (st V main_v10)) := by
  rw [st, read_line linesIn_writes V 12 rfl (by decide)]
  rw [unary_result]
  rw [operand_line linesIn_writes V 12 (r := main_v10) (by decide)]
  rfl

theorem eq_v12 : st V main_v12 = ((broadcastInDim S8192x1 ![0] bcast_S8192_S8192x1_0 : (⟨S8192, .i32⟩ : BufTy).Contents (Elt F) → (⟨S8192x1, .i32⟩ : BufTy).Contents (Elt F)) (st V main_v10)) := by
  rw [st, read_line linesIn_writes V 13 rfl (by decide)]
  rw [unary_result]
  rw [operand_line linesIn_writes V 13 (r := main_v10) (by decide)]
  rfl

theorem eq_v13 : st V main_v13 = ((broadcastInDim S8192x8192 ![0, 1] bcast_S1x8192_S8192x8192_0_1 : (⟨S1x8192, .i32⟩ : BufTy).Contents (Elt F) → (⟨S8192x8192, .i32⟩ : BufTy).Contents (Elt F)) (st V main_v11)) := by
  rw [st, read_line linesIn_writes V 14 rfl (by decide)]
  rw [unary_result]
  rw [operand_line linesIn_writes V 14 (r := main_v11) (by decide)]
  rfl

theorem eq_v14 : st V main_v14 = ((broadcastInDim S8192x8192 ![0, 1] bcast_S8192x1_S8192x8192_0_1 : (⟨S8192x1, .i32⟩ : BufTy).Contents (Elt F) → (⟨S8192x8192, .i32⟩ : BufTy).Contents (Elt F)) (st V main_v12)) := by
  rw [st, read_line linesIn_writes V 15 rfl (by decide)]
  rw [unary_result]
  rw [operand_line linesIn_writes V 15 (r := main_v12) (by decide)]
  rfl

theorem eq_v15 : st V main_v15 = ((cmpi .sle : (⟨S8192x8192, .i32⟩ : BufTy).Contents (Elt F) → (⟨S8192x8192, .i32⟩ : BufTy).Contents (Elt F) → (⟨S8192x8192, .i1⟩ : BufTy).Contents (Elt F)) (st V main_v13) (st V main_v14)) := by
  rw [st, read_line linesIn_writes V 16 rfl (by decide)]
  rw [binary_result]
  rw [operand_line linesIn_writes V 16 (r := main_v13) (by decide), operand_line linesIn_writes V 16 (r := main_v14) (by decide)]
  rfl

theorem eq_v16 : st V main_v16 = ((broadcastInDim S1x8192x8192 ![1, 2] bcast_S8192x8192_S1x8192x8192_1_2 : (⟨S8192x8192, .i1⟩ : BufTy).Contents (Elt F) → (⟨S1x8192x8192, .i1⟩ : BufTy).Contents (Elt F)) (st V main_v15)) := by
  rw [st, read_line linesIn_writes V 17 rfl (by decide)]
  rw [unary_result]
  rw [operand_line linesIn_writes V 17 (r := main_v15) (by decide)]
  rfl

theorem eq_cst_0 : st V main_cst_0 = ((constant S_ .f32 0xFF800000#32)) := by
  rw [st, read_line linesIn_writes V 18 rfl (by decide)]
  rw [nullary_result]

theorem eq_call0_v0 : st V main_call0_v0 = ((st V main_cst_0)) := by
  rw [st, read_line linesIn_writes V 19 rfl (by decide)]
  simp only [TRef.unary, TRef.toBuf, TRef.ofBuf, cast_eq]
  rw [unary_result]
  rw [operand_line linesIn_writes V 19 (r := main_cst_0) (by decide)]
  rfl

theorem eq_call0_v1 : st V main_call0_v1 = ((broadcastInDim S16x8192x8192 ![0, 1, 2] bcast_S1x8192x8192_S16x8192x8192_0_1_2) (st V main_v16)) := by
  rw [st, read_line linesIn_writes V 20 rfl (by decide)]
  simp only [TRef.unary, TRef.toBuf, TRef.ofBuf, cast_eq]
  rw [unary_result]
  rw [operand_line linesIn_writes V 20 (r := main_v16) (by decide)]
  rfl

theorem eq_call0_v2 : st V main_call0_v2 = ((broadcastInDim S16x8192x8192 ![] bcast_S_S16x8192x8192) (st V main_call0_v0)) := by
  rw [st, read_line linesIn_writes V 21 rfl (by decide)]
  simp only [TRef.unary, TRef.toBuf, TRef.ofBuf, cast_eq]
  rw [unary_result]
  rw [operand_line linesIn_writes V 21 (r := main_call0_v0) (by decide)]
  rfl

theorem eq_v17 : st V main_v17 = (select (st V main_call0_v1) (st V main_v9) (st V main_call0_v2)) := by
  rw [st, read_line linesIn_writes V 22 rfl (by decide)]
  simp only [TRef.ternary, TRef.toBuf, TRef.ofBuf, cast_eq]
  rw [ternary_result]
  rw [operand_line linesIn_writes V 22 (r := main_call0_v1) (by decide), operand_line linesIn_writes V 22 (r := main_v9) (by decide), operand_line linesIn_writes V 22 (r := main_call0_v2) (by decide)]
  rfl

theorem eq_cst_1 : st V main_cst_1 = ((constant S_ .f32 0xFF800000#32)) := by
  rw [st, read_line linesIn_writes V 23 rfl (by decide)]
  rw [nullary_result]

theorem eq_v18 : st V main_v18 = (((fun x v => Host.reduce FloatOps.maximumf x v reducesTo_S16x8192x8192_S16x8192_d2 h_S_) : (⟨S16x8192x8192, .f32⟩ : BufTy).Contents (Elt F) → (⟨S_, .f32⟩ : BufTy).Contents (Elt F) → (⟨S16x8192, .f32⟩ : BufTy).Contents (Elt F)) (st V main_v17) (st V main_cst_1)) := by
  rw [st, read_line linesIn_writes V 24 rfl (by decide)]
  rw [binary_result]
  rw [operand_line linesIn_writes V 24 (r := main_v17) (by decide), operand_line linesIn_writes V 24 (r := main_cst_1) (by decide)]
  rfl

theorem eq_v19 : st V main_v19 = ((broadcastInDim S16x8192x1 ![0, 1] bcast_S16x8192_S16x8192x1_0_1 : (⟨S16x8192, .f32⟩ : BufTy).Contents (Elt F) → (⟨S16x8192x1, .f32⟩ : BufTy).Contents (Elt F)) (st V main_v18)) := by
  rw [st, read_line linesIn_writes V 25 rfl (by decide)]
  rw [unary_result]
  rw [operand_line linesIn_writes V 25 (r := main_v18) (by decide)]
  rfl

theorem eq_v20 : st V main_v20 = ((broadcastInDim S16x8192x8192 ![0, 1, 2] bcast_S16x8192x1_S16x8192x8192_0_1_2 : (⟨S16x8192x1, .f32⟩ : BufTy).Contents (Elt F) → (⟨S16x8192x8192, .f32⟩ : BufTy).Contents (Elt F)) (st V main_v19)) := by
  rw [st, read_line linesIn_writes V 26 rfl (by decide)]
  rw [unary_result]
  rw [operand_line linesIn_writes V 26 (r := main_v19) (by decide)]
  rfl

theorem eq_v21 : st V main_v21 = ((subf : (⟨S16x8192x8192, .f32⟩ : BufTy).Contents (Elt F) → (⟨S16x8192x8192, .f32⟩ : BufTy).Contents (Elt F) → (⟨S16x8192x8192, .f32⟩ : BufTy).Contents (Elt F)) (st V main_v17) (st V main_v20)) := by
  rw [st, read_line linesIn_writes V 27 rfl (by decide)]
  rw [binary_result]
  rw [operand_line linesIn_writes V 27 (r := main_v17) (by decide), operand_line linesIn_writes V 27 (r := main_v20) (by decide)]
  rfl

theorem eq_v22 : st V main_v22 = ((Host.exp : (⟨S16x8192x8192, .f32⟩ : BufTy).Contents (Elt F) → (⟨S16x8192x8192, .f32⟩ : BufTy).Contents (Elt F)) (st V main_v21)) := by
  rw [st, read_line linesIn_writes V 28 rfl (by decide)]
  rw [unary_result]
  rw [operand_line linesIn_writes V 28 (r := main_v21) (by decide)]
  rfl

theorem eq_cst_2 : st V main_cst_2 = ((constant S_ .f32 0x00000000#32)) := by
  rw [st, read_line linesIn_writes V 29 rfl (by decide)]
  rw [nullary_result]

theorem eq_v23 : st V main_v23 = (((fun x v => Host.reduceAdd x v reducesTo_S16x8192x8192_S16x8192_d2 h_S_) : (⟨S16x8192x8192, .f32⟩ : BufTy).Contents (Elt F) → (⟨S_, .f32⟩ : BufTy).Contents (Elt F) → (⟨S16x8192, .f32⟩ : BufTy).Contents (Elt F)) (st V main_v22) (st V main_cst_2)) := by
  rw [st, read_line linesIn_writes V 30 rfl (by decide)]
  rw [binary_result]
  rw [operand_line linesIn_writes V 30 (r := main_v22) (by decide), operand_line linesIn_writes V 30 (r := main_cst_2) (by decide)]
  rfl

theorem eq_v24 : st V main_v24 = ((broadcastInDim S16x8192x1 ![0, 1] bcast_S16x8192_S16x8192x1_0_1 : (⟨S16x8192, .f32⟩ : BufTy).Contents (Elt F) → (⟨S16x8192x1, .f32⟩ : BufTy).Contents (Elt F)) (st V main_v23)) := by
  rw [st, read_line linesIn_writes V 31 rfl (by decide)]
  rw [unary_result]
  rw [operand_line linesIn_writes V 31 (r := main_v23) (by decide)]
  rfl

theorem eq_v25 : st V main_v25 = ((Host.log : (⟨S16x8192x1, .f32⟩ : BufTy).Contents (Elt F) → (⟨S16x8192x1, .f32⟩ : BufTy).Contents (Elt F)) (st V main_v24)) := by
  rw [st, read_line linesIn_writes V 32 rfl (by decide)]
  rw [unary_result]
  rw [operand_line linesIn_writes V 32 (r := main_v24) (by decide)]
  rfl

theorem eq_v26 : st V main_v26 = ((addf : (⟨S16x8192x1, .f32⟩ : BufTy).Contents (Elt F) → (⟨S16x8192x1, .f32⟩ : BufTy).Contents (Elt F) → (⟨S16x8192x1, .f32⟩ : BufTy).Contents (Elt F)) (st V main_v19) (st V main_v25)) := by
  rw [st, read_line linesIn_writes V 33 rfl (by decide)]
  rw [binary_result]
  rw [operand_line linesIn_writes V 33 (r := main_v19) (by decide), operand_line linesIn_writes V 33 (r := main_v25) (by decide)]
  rfl

theorem eq_v27 : st V main_v27 = ((broadcastInDim S16x8192x8192 ![0, 1, 2] bcast_S16x8192x1_S16x8192x8192_0_1_2 : (⟨S16x8192x1, .f32⟩ : BufTy).Contents (Elt F) → (⟨S16x8192x8192, .f32⟩ : BufTy).Contents (Elt F)) (st V main_v24)) := by
  rw [st, read_line linesIn_writes V 34 rfl (by decide)]
  rw [unary_result]
  rw [operand_line linesIn_writes V 34 (r := main_v24) (by decide)]
  rfl

theorem eq_v28 : st V main_v28 = ((Host.divf : (⟨S16x8192x8192, .f32⟩ : BufTy).Contents (Elt F) → (⟨S16x8192x8192, .f32⟩ : BufTy).Contents (Elt F) → (⟨S16x8192x8192, .f32⟩ : BufTy).Contents (Elt F)) (st V main_v22) (st V main_v27)) := by
  rw [st, read_line linesIn_writes V 35 rfl (by decide)]
  rw [binary_result]
  rw [operand_line linesIn_writes V 35 (r := main_v22) (by decide), operand_line linesIn_writes V 35 (r := main_v27) (by decide)]
  rfl

theorem eq_v29 : st V main_v29 = (((fun l r => Host.dotGeneral dot_S8192x16x64_S16x8192x8192_S16x64x8192_0_2_2_1_1_0 none l r) : (⟨S8192x16x64, .f32⟩ : BufTy).Contents (Elt F) → (⟨S16x8192x8192, .f32⟩ : BufTy).Contents (Elt F) → (⟨S16x64x8192, .f32⟩ : BufTy).Contents (Elt F)) (st V main_arg2) (st V main_v28)) := by
  rw [st, read_line linesIn_writes V 36 rfl (by decide)]
  rw [binary_result]
  rw [operand_line linesIn_writes V 36 (r := main_arg2) (by decide), operand_line linesIn_writes V 36 (r := main_v28) (by decide)]
  rfl

theorem eq_v30 : st V main_v30 = (((transpose S8192x16x64 [2, 0, 1] · transposes_S16x64x8192_S8192x16x64_2_0_1) : (⟨S16x64x8192, .f32⟩ : BufTy).Contents (Elt F) → (⟨S8192x16x64, .f32⟩ : BufTy).Contents (Elt F)) (st V main_v29)) := by
  rw [st, read_line linesIn_writes V 37 rfl (by decide)]
  rw [unary_result]
  rw [operand_line linesIn_writes V 37 (r := main_v29) (by decide)]
  rfl

theorem eq_v31 : st V main_v31 = (shapeCast S16x8192 (st V main_v26) shapeCasts_S16x8192x1_S16x8192) := by
  rw [st, read_line linesIn_writes V 38 rfl (by decide)]
  rw [reshape_result]
  rw [operand_line linesIn_writes V 38 (r := main_v26) (by decide)]
  rfl

theorem eq_v32 : st V main_v32 = (((transpose S8192x16 [1, 0] · transposes_S16x8192_S8192x16_1_0) : (⟨S16x8192, .f32⟩ : BufTy).Contents (Elt F) → (⟨S8192x16, .f32⟩ : BufTy).Contents (Elt F)) (st V main_v31)) := by
  rw [st, read_line linesIn_writes V 39 rfl (by decide)]
  rw [unary_result]
  rw [operand_line linesIn_writes V 39 (r := main_v31) (by decide)]
  rfl

theorem eq_v33 : st V main_v33 = ((mulf : (⟨S8192x16x64, .f32⟩ : BufTy).Contents (Elt F) → (⟨S8192x16x64, .f32⟩ : BufTy).Contents (Elt F) → (⟨S8192x16x64, .f32⟩ : BufTy).Contents (Elt F)) (st V main_arg4) (st V main_v30)) := by
  rw [st, read_line linesIn_writes V 40 rfl (by decide)]
  rw [binary_result]
  rw [operand_line linesIn_writes V 40 (r := main_arg4) (by decide), operand_line linesIn_writes V 40 (r := main_v30) (by decide)]
  rfl

theorem eq_cst_3 : st V main_cst_3 = ((constant S_ .f32 0x00000000#32)) := by
  rw [st, read_line linesIn_writes V 41 rfl (by decide)]
  rw [nullary_result]

theorem eq_v34 : st V main_v34 = (((fun x v => Host.reduceAdd x v reducesTo_S8192x16x64_S8192x16_d2 h_S_) : (⟨S8192x16x64, .f32⟩ : BufTy).Contents (Elt F) → (⟨S_, .f32⟩ : BufTy).Contents (Elt F) → (⟨S8192x16, .f32⟩ : BufTy).Contents (Elt F)) (st V main_v33) (st V main_cst_3)) := by
  rw [st, read_line linesIn_writes V 42 rfl (by decide)]
  rw [binary_result]
  rw [operand_line linesIn_writes V 42 (r := main_v33) (by decide), operand_line linesIn_writes V 42 (r := main_cst_3) (by decide)]
  rfl

theorem eq_v35 : st V main_v35 = ((broadcastInDim S8192x16x1 ![0, 1] bcast_S8192x16_S8192x16x1_0_1 : (⟨S8192x16, .f32⟩ : BufTy).Contents (Elt F) → (⟨S8192x16x1, .f32⟩ : BufTy).Contents (Elt F)) (st V main_v34)) := by
  rw [st, read_line linesIn_writes V 43 rfl (by decide)]
  rw [unary_result]
  rw [operand_line linesIn_writes V 43 (r := main_v34) (by decide)]
  rfl

theorem eq_cst_4 : st V main_cst_4 = ((constant S_ .bf16 0x3F80#16)) := by
  rw [st, read_line linesIn_writes V 44 rfl (by decide)]
  rw [nullary_result]

theorem eq_v36 : st V main_v36 = ((broadcastInDim S8192x16x3 ![] bcast_S_S8192x16x3 : (⟨S_, .bf16⟩ : BufTy).Contents (Elt F) → (⟨S8192x16x3, .bf16⟩ : BufTy).Contents (Elt F)) (st V main_cst_4)) := by
  rw [st, read_line linesIn_writes V 45 rfl (by decide)]
  rw [unary_result]
  rw [operand_line linesIn_writes V 45 (r := main_cst_4) (by decide)]
  rfl

theorem eq_v37 : st V main_v37 = (((truncf .bf16 · bitsLt_bf16_f32) : (⟨S8192x16, .f32⟩ : BufTy).Contents (Elt F) → (⟨S8192x16, .bf16⟩ : BufTy).Contents (Elt F)) (st V main_arg3)) := by
  rw [st, read_line linesIn_writes V 46 rfl (by decide)]
  rw [unary_result]
  rw [operand_line linesIn_writes V 46 (r := main_arg3) (by decide)]
  rfl

theorem eq_v38 : st V main_v38 = (((extf .f32 · bitsLt_bf16_f32) : (⟨S8192x16, .bf16⟩ : BufTy).Contents (Elt F) → (⟨S8192x16, .f32⟩ : BufTy).Contents (Elt F)) (st V main_v37)) := by
  rw [st, read_line linesIn_writes V 47 rfl (by decide)]
  rw [unary_result]
  rw [operand_line linesIn_writes V 47 (r := main_v37) (by decide)]
  rfl

theorem eq_v39 : st V main_v39 = ((subf : (⟨S8192x16, .f32⟩ : BufTy).Contents (Elt F) → (⟨S8192x16, .f32⟩ : BufTy).Contents (Elt F) → (⟨S8192x16, .f32⟩ : BufTy).Contents (Elt F)) (st V main_arg3) (st V main_v38)) := by
  rw [st, read_line linesIn_writes V 48 rfl (by decide)]
  rw [binary_result]
  rw [operand_line linesIn_writes V 48 (r := main_arg3) (by decide), operand_line linesIn_writes V 48 (r := main_v38) (by decide)]
  rfl

theorem eq_v40 : st V main_v40 = (((truncf .bf16 · bitsLt_bf16_f32) : (⟨S8192x16, .f32⟩ : BufTy).Contents (Elt F) → (⟨S8192x16, .bf16⟩ : BufTy).Contents (Elt F)) (st V main_v39)) := by
  rw [st, read_line linesIn_writes V 49 rfl (by decide)]
  rw [unary_result]
  rw [operand_line linesIn_writes V 49 (r := main_v39) (by decide)]
  rfl

theorem eq_v41 : st V main_v41 = (((extf .f32 · bitsLt_bf16_f32) : (⟨S8192x16, .bf16⟩ : BufTy).Contents (Elt F) → (⟨S8192x16, .f32⟩ : BufTy).Contents (Elt F)) (st V main_v40)) := by
  rw [st, read_line linesIn_writes V 50 rfl (by decide)]
  rw [unary_result]
  rw [operand_line linesIn_writes V 50 (r := main_v40) (by decide)]
  rfl

theorem eq_v42 : st V main_v42 = ((subf : (⟨S8192x16, .f32⟩ : BufTy).Contents (Elt F) → (⟨S8192x16, .f32⟩ : BufTy).Contents (Elt F) → (⟨S8192x16, .f32⟩ : BufTy).Contents (Elt F)) (st V main_v39) (st V main_v41)) := by
  rw [st, read_line linesIn_writes V 51 rfl (by decide)]
  rw [binary_result]
  rw [operand_line linesIn_writes V 51 (r := main_v39) (by decide), operand_line linesIn_writes V 51 (r := main_v41) (by decide)]
  rfl

theorem eq_v43 : st V main_v43 = (((truncf .bf16 · bitsLt_bf16_f32) : (⟨S8192x16, .f32⟩ : BufTy).Contents (Elt F) → (⟨S8192x16, .bf16⟩ : BufTy).Contents (Elt F)) (st V main_v42)) := by
  rw [st, read_line linesIn_writes V 52 rfl (by decide)]
  rw [unary_result]
  rw [operand_line linesIn_writes V 52 (r := main_v42) (by decide)]
  rfl

theorem eq_v44 : st V main_v44 = ((broadcastInDim S8192x16x1 ![0, 1] bcast_S8192x16_S8192x16x1_0_1 : (⟨S8192x16, .bf16⟩ : BufTy).Contents (Elt F) → (⟨S8192x16x1, .bf16⟩ : BufTy).Contents (Elt F)) (st V main_v37)) := by
  rw [st, read_line linesIn_writes V 53 rfl (by decide)]
  rw [unary_result]
  rw [operand_line linesIn_writes V 53 (r := main_v37) (by decide)]
  rfl

theorem eq_v45 : st V main_v45 = ((broadcastInDim S8192x16x1 ![0, 1] bcast_S8192x16_S8192x16x1_0_1 : (⟨S8192x16, .bf16⟩ : BufTy).Contents (Elt F) → (⟨S8192x16x1, .bf16⟩ : BufTy).Contents (Elt F)) (st V main_v40)) := by
  rw [st, read_line linesIn_writes V 54 rfl (by decide)]
  rw [unary_result]
  rw [operand_line linesIn_writes V 54 (r := main_v40) (by decide)]
  rfl

theorem eq_v46 : st V main_v46 = ((broadcastInDim S8192x16x1 ![0, 1] bcast_S8192x16_S8192x16x1_0_1 : (⟨S8192x16, .bf16⟩ : BufTy).Contents (Elt F) → (⟨S8192x16x1, .bf16⟩ : BufTy).Contents (Elt F)) (st V main_v43)) := by
  rw [st, read_line linesIn_writes V 55 rfl (by decide)]
  rw [unary_result]
  rw [operand_line linesIn_writes V 55 (r := main_v43) (by decide)]
  rfl

theorem eq_v47 : st V main_v47 = ((Host.negf : (⟨S8192x16, .f32⟩ : BufTy).Contents (Elt F) → (⟨S8192x16, .f32⟩ : BufTy).Contents (Elt F)) (st V main_v32)) := by
  rw [st, read_line linesIn_writes V 56 rfl (by decide)]
  rw [unary_result]
  rw [operand_line linesIn_writes V 56 (r := main_v32) (by decide)]
  rfl

theorem eq_v48 : st V main_v48 = (((truncf .bf16 · bitsLt_bf16_f32) : (⟨S8192x16, .f32⟩ : BufTy).Contents (Elt F) → (⟨S8192x16, .bf16⟩ : BufTy).Contents (Elt F)) (st V main_v47)) := by
  rw [st, read_line linesIn_writes V 57 rfl (by decide)]
  rw [unary_result]
  rw [operand_line linesIn_writes V 57 (r := main_v47) (by decide)]
  rfl

theorem eq_v49 : st V main_v49 = (((extf .f32 · bitsLt_bf16_f32) : (⟨S8192x16, .bf16⟩ : BufTy).Contents (Elt F) → (⟨S8192x16, .f32⟩ : BufTy).Contents (Elt F)) (st V main_v48)) := by
  rw [st, read_line linesIn_writes V 58 rfl (by decide)]
  rw [unary_result]
  rw [operand_line linesIn_writes V 58 (r := main_v48) (by decide)]
  rfl

theorem eq_v50 : st V main_v50 = ((subf : (⟨S8192x16, .f32⟩ : BufTy).Contents (Elt F) → (⟨S8192x16, .f32⟩ : BufTy).Contents (Elt F) → (⟨S8192x16, .f32⟩ : BufTy).Contents (Elt F)) (st V main_v47) (st V main_v49)) := by
  rw [st, read_line linesIn_writes V 59 rfl (by decide)]
  rw [binary_result]
  rw [operand_line linesIn_writes V 59 (r := main_v47) (by decide), operand_line linesIn_writes V 59 (r := main_v49) (by decide)]
  rfl

theorem eq_v51 : st V main_v51 = (((truncf .bf16 · bitsLt_bf16_f32) : (⟨S8192x16, .f32⟩ : BufTy).Contents (Elt F) → (⟨S8192x16, .bf16⟩ : BufTy).Contents (Elt F)) (st V main_v50)) := by
  rw [st, read_line linesIn_writes V 60 rfl (by decide)]
  rw [unary_result]
  rw [operand_line linesIn_writes V 60 (r := main_v50) (by decide)]
  rfl

theorem eq_v52 : st V main_v52 = (((extf .f32 · bitsLt_bf16_f32) : (⟨S8192x16, .bf16⟩ : BufTy).Contents (Elt F) → (⟨S8192x16, .f32⟩ : BufTy).Contents (Elt F)) (st V main_v51)) := by
  rw [st, read_line linesIn_writes V 61 rfl (by decide)]
  rw [unary_result]
  rw [operand_line linesIn_writes V 61 (r := main_v51) (by decide)]
  rfl

theorem eq_v53 : st V main_v53 = ((subf : (⟨S8192x16, .f32⟩ : BufTy).Contents (Elt F) → (⟨S8192x16, .f32⟩ : BufTy).Contents (Elt F) → (⟨S8192x16, .f32⟩ : BufTy).Contents (Elt F)) (st V main_v50) (st V main_v52)) := by
  rw [st, read_line linesIn_writes V 62 rfl (by decide)]
  rw [binary_result]
  rw [operand_line linesIn_writes V 62 (r := main_v50) (by decide), operand_line linesIn_writes V 62 (r := main_v52) (by decide)]
  rfl

theorem eq_v54 : st V main_v54 = (((truncf .bf16 · bitsLt_bf16_f32) : (⟨S8192x16, .f32⟩ : BufTy).Contents (Elt F) → (⟨S8192x16, .bf16⟩ : BufTy).Contents (Elt F)) (st V main_v53)) := by
  rw [st, read_line linesIn_writes V 63 rfl (by decide)]
  rw [unary_result]
  rw [operand_line linesIn_writes V 63 (r := main_v53) (by decide)]
  rfl

theorem eq_v55 : st V main_v55 = ((broadcastInDim S8192x16x1 ![0, 1] bcast_S8192x16_S8192x16x1_0_1 : (⟨S8192x16, .bf16⟩ : BufTy).Contents (Elt F) → (⟨S8192x16x1, .bf16⟩ : BufTy).Contents (Elt F)) (st V main_v48)) := by
  rw [st, read_line linesIn_writes V 64 rfl (by decide)]
  rw [unary_result]
  rw [operand_line linesIn_writes V 64 (r := main_v48) (by decide)]
  rfl

theorem eq_v56 : st V main_v56 = ((broadcastInDim S8192x16x1 ![0, 1] bcast_S8192x16_S8192x16x1_0_1 : (⟨S8192x16, .bf16⟩ : BufTy).Contents (Elt F) → (⟨S8192x16x1, .bf16⟩ : BufTy).Contents (Elt F)) (st V main_v51)) := by
  rw [st, read_line linesIn_writes V 65 rfl (by decide)]
  rw [unary_result]
  rw [operand_line linesIn_writes V 65 (r := main_v51) (by decide)]
  rfl

theorem eq_v57 : st V main_v57 = ((broadcastInDim S8192x16x1 ![0, 1] bcast_S8192x16_S8192x16x1_0_1 : (⟨S8192x16, .bf16⟩ : BufTy).Contents (Elt F) → (⟨S8192x16x1, .bf16⟩ : BufTy).Contents (Elt F)) (st V main_v54)) := by
  rw [st, read_line linesIn_writes V 66 rfl (by decide)]
  rw [unary_result]
  rw [operand_line linesIn_writes V 66 (r := main_v54) (by decide)]
  rfl

theorem eq_v58 : st V main_v58 = ((Host.negf : (⟨S8192x16x1, .bf16⟩ : BufTy).Contents (Elt F) → (⟨S8192x16x1, .bf16⟩ : BufTy).Contents (Elt F)) (st V main_v44)) := by
  rw [st, read_line linesIn_writes V 67 rfl (by decide)]
  rw [unary_result]
  rw [operand_line linesIn_writes V 67 (r := main_v44) (by decide)]
  rfl

theorem eq_v59 : st V main_v59 = ((Host.negf : (⟨S8192x16x1, .bf16⟩ : BufTy).Contents (Elt F) → (⟨S8192x16x1, .bf16⟩ : BufTy).Contents (Elt F)) (st V main_v45)) := by
  rw [st, read_line linesIn_writes V 68 rfl (by decide)]
  rw [unary_result]
  rw [operand_line linesIn_writes V 68 (r := main_v45) (by decide)]
  rfl

theorem eq_v60 : st V main_v60 = ((Host.negf : (⟨S8192x16x1, .bf16⟩ : BufTy).Contents (Elt F) → (⟨S8192x16x1, .bf16⟩ : BufTy).Contents (Elt F)) (st V main_v46)) := by
  rw [st, read_line linesIn_writes V 69 rfl (by decide)]
  rw [unary_result]
  rw [operand_line linesIn_writes V 69 (r := main_v46) (by decide)]
  rfl

theorem eq_v61 : st V main_v61 = (((truncf .bf16 · bitsLt_bf16_f32) : (⟨S8192x16x1, .f32⟩ : BufTy).Contents (Elt F) → (⟨S8192x16x1, .bf16⟩ : BufTy).Contents (Elt F)) (st V main_v35)) := by
  rw [st, read_line linesIn_writes V 70 rfl (by decide)]
  rw [unary_result]
  rw [operand_line linesIn_writes V 70 (r := main_v35) (by decide)]
  rfl

theorem eq_v62 : st V main_v62 = (((extf .f32 · bitsLt_bf16_f32) : (⟨S8192x16x1, .bf16⟩ : BufTy).Contents (Elt F) → (⟨S8192x16x1, .f32⟩ : BufTy).Contents (Elt F)) (st V main_v61)) := by
  rw [st, read_line linesIn_writes V 71 rfl (by decide)]
  rw [unary_result]
  rw [operand_line linesIn_writes V 71 (r := main_v61) (by decide)]
  rfl

theorem eq_v63 : st V main_v63 = ((subf : (⟨S8192x16x1, .f32⟩ : BufTy).Contents (Elt F) → (⟨S8192x16x1, .f32⟩ : BufTy).Contents (Elt F) → (⟨S8192x16x1, .f32⟩ : BufTy).Contents (Elt F)) (st V main_v35) (st V main_v62)) := by
  rw [st, read_line linesIn_writes V 72 rfl (by decide)]
  rw [binary_result]
  rw [operand_line linesIn_writes V 72 (r := main_v35) (by decide), operand_line linesIn_writes V 72 (r := main_v62) (by decide)]
  rfl

theorem eq_v64 : st V main_v64 = (((truncf .bf16 · bitsLt_bf16_f32) : (⟨S8192x16x1, .f32⟩ : BufTy).Contents (Elt F) → (⟨S8192x16x1, .bf16⟩ : BufTy).Contents (Elt F)) (st V main_v63)) := by
  rw [st, read_line linesIn_writes V 73 rfl (by decide)]
  rw [unary_result]
  rw [operand_line linesIn_writes V 73 (r := main_v63) (by decide)]
  rfl

theorem eq_cst_5 : st V main_cst_5 = ((constant S_ .f32 0x3E000000#32)) := by
  rw [st, read_line linesIn_writes V 74 rfl (by decide)]
  rw [nullary_result]

theorem eq_v65 : st V main_v65 = ((broadcastInDim S8192x16x64 ![] bcast_S_S8192x16x64 : (⟨S_, .f32⟩ : BufTy).Contents (Elt F) → (⟨S8192x16x64, .f32⟩ : BufTy).Contents (Elt F)) (st V main_cst_5)) := by
  rw [st, read_line linesIn_writes V 75 rfl (by decide)]
  rw [unary_result]
  rw [operand_line linesIn_writes V 75 (r := main_cst_5) (by decide)]
  rfl

theorem eq_v66 : st V main_v66 = ((mulf : (⟨S8192x16x64, .f32⟩ : BufTy).Contents (Elt F) → (⟨S8192x16x64, .f32⟩ : BufTy).Contents (Elt F) → (⟨S8192x16x64, .f32⟩ : BufTy).Contents (Elt F)) (st V main_arg0) (st V main_v65)) := by
  rw [st, read_line linesIn_writes V 76 rfl (by decide)]
  rw [binary_result]
  rw [operand_line linesIn_writes V 76 (r := main_arg0) (by decide), operand_line linesIn_writes V 76 (r := main_v65) (by decide)]
  rfl

theorem eq_v67 : st V main_v67 = (((truncf .bf16 · bitsLt_bf16_f32) : (⟨S8192x16x64, .f32⟩ : BufTy).Contents (Elt F) → (⟨S8192x16x64, .bf16⟩ : BufTy).Contents (Elt F)) (st V main_v66)) := by
  rw [st, read_line linesIn_writes V 77 rfl (by decide)]
  rw [unary_result]
  rw [operand_line linesIn_writes V 77 (r := main_v66) (by decide)]
  rfl

theorem eq_cst_6 : st V main_cst_6 = ((constant S_ .bf16 0x0000#16)) := by
  rw [st, read_line linesIn_writes V 78 rfl (by decide)]
  rw [nullary_result]

theorem eq_v68 : st V main_v68 = ((broadcastInDim S8192x16x55 ![] bcast_S_S8192x16x55 : (⟨S_, .bf16⟩ : BufTy).Contents (Elt F) → (⟨S8192x16x55, .bf16⟩ : BufTy).Contents (Elt F)) (st V main_cst_6)) := by
  rw [st, read_line linesIn_writes V 79 rfl (by decide)]
  rw [unary_result]
  rw [operand_line linesIn_writes V 79 (r := main_cst_6) (by decide)]
  rfl

theorem eq_v69 : st V main_v69 = (((concatenate S8192x16x128 2 [⟨S8192x16x64, (st V main_v67 : (⟨S8192x16x64, .bf16⟩ : BufTy).Contents (Elt F))⟩, ⟨S8192x16x1, (st V main_v44 : (⟨S8192x16x1, .bf16⟩ : BufTy).Contents (Elt F))⟩, ⟨S8192x16x1, (st V main_v45 : (⟨S8192x16x1, .bf16⟩ : BufTy).Contents (Elt F))⟩, ⟨S8192x16x1, (st V main_v46 : (⟨S8192x16x1, .bf16⟩ : BufTy).Contents (Elt F))⟩, ⟨S8192x16x3, (st V main_v36 : (⟨S8192x16x3, .bf16⟩ : BufTy).Contents (Elt F))⟩, ⟨S8192x16x1, (st V main_v55 : (⟨S8192x16x1, .bf16⟩ : BufTy).Contents (Elt F))⟩, ⟨S8192x16x1, (st V main_v56 : (⟨S8192x16x1, .bf16⟩ : BufTy).Contents (Elt F))⟩, ⟨S8192x16x1, (st V main_v57 : (⟨S8192x16x1, .bf16⟩ : BufTy).Contents (Elt F))⟩, ⟨S8192x16x55, (st V main_v68 : (⟨S8192x16x55, .bf16⟩ : BufTy).Contents (Elt F))⟩] concatenates_S8192x16x64_S8192x16x1_S8192x16x1_S8192x16x1_S8192x16x3_S8192x16x1_S8192x16x1_S8192x16x1_S8192x16x55_S8192x16x128_d2 : (⟨S8192x16x128, .bf16⟩ : BufTy).Contents (Elt F)))) := by
  rw [st, read_line linesIn_writes V 80 rfl (by decide)]
  refine (nary_result ..).trans ?_
  simp only [st]
  rw [← operand_line linesIn_writes V 80 (r := main_v67) (by decide), ← operand_line linesIn_writes V 80 (r := main_v44) (by decide), ← operand_line linesIn_writes V 80 (r := main_v45) (by decide), ← operand_line linesIn_writes V 80 (r := main_v46) (by decide), ← operand_line linesIn_writes V 80 (r := main_v36) (by decide), ← operand_line linesIn_writes V 80 (r := main_v55) (by decide), ← operand_line linesIn_writes V 80 (r := main_v56) (by decide), ← operand_line linesIn_writes V 80 (r := main_v57) (by decide), ← operand_line linesIn_writes V 80 (r := main_v68) (by decide)]
  rfl

theorem eq_v70 : st V main_v70 = (shapeCast S8192x2048 (st V main_v69) shapeCasts_S8192x16x128_S8192x2048) := by
  rw [st, read_line linesIn_writes V 81 rfl (by decide)]
  rw [reshape_result]
  rw [operand_line linesIn_writes V 81 (r := main_v69) (by decide)]
  rfl

theorem eq_v71 : st V main_v71 = (((truncf .bf16 · bitsLt_bf16_f32) : (⟨S8192x16x64, .f32⟩ : BufTy).Contents (Elt F) → (⟨S8192x16x64, .bf16⟩ : BufTy).Contents (Elt F)) (st V main_arg1)) := by
  rw [st, read_line linesIn_writes V 82 rfl (by decide)]
  rw [unary_result]
  rw [operand_line linesIn_writes V 82 (r := main_arg1) (by decide)]
  rfl

theorem eq_cst_7 : st V main_cst_7 = ((constant S_ .bf16 0x0000#16)) := by
  rw [st, read_line linesIn_writes V 83 rfl (by decide)]
  rw [nullary_result]

theorem eq_v72 : st V main_v72 = ((broadcastInDim S8192x16x55 ![] bcast_S_S8192x16x55 : (⟨S_, .bf16⟩ : BufTy).Contents (Elt F) → (⟨S8192x16x55, .bf16⟩ : BufTy).Contents (Elt F)) (st V main_cst_7)) := by
  rw [st, read_line linesIn_writes V 84 rfl (by decide)]
  rw [unary_result]
  rw [operand_line linesIn_writes V 84 (r := main_cst_7) (by decide)]
  rfl

theorem eq_v73 : st V main_v73 = (((concatenate S8192x16x128 2 [⟨S8192x16x64, (st V main_v71 : (⟨S8192x16x64, .bf16⟩ : BufTy).Contents (Elt F))⟩, ⟨S8192x16x3, (st V main_v36 : (⟨S8192x16x3, .bf16⟩ : BufTy).Contents (Elt F))⟩, ⟨S8192x16x1, (st V main_v58 : (⟨S8192x16x1, .bf16⟩ : BufTy).Contents (Elt F))⟩, ⟨S8192x16x1, (st V main_v59 : (⟨S8192x16x1, .bf16⟩ : BufTy).Contents (Elt F))⟩, ⟨S8192x16x1, (st V main_v60 : (⟨S8192x16x1, .bf16⟩ : BufTy).Contents (Elt F))⟩, ⟨S8192x16x3, (st V main_v36 : (⟨S8192x16x3, .bf16⟩ : BufTy).Contents (Elt F))⟩, ⟨S8192x16x55, (st V main_v72 : (⟨S8192x16x55, .bf16⟩ : BufTy).Contents (Elt F))⟩] concatenates_S8192x16x64_S8192x16x3_S8192x16x1_S8192x16x1_S8192x16x1_S8192x16x3_S8192x16x55_S8192x16x128_d2 : (⟨S8192x16x128, .bf16⟩ : BufTy).Contents (Elt F)))) := by
  rw [st, read_line linesIn_writes V 85 rfl (by decide)]
  refine (nary_result ..).trans ?_
  simp only [st]
  rw [← operand_line linesIn_writes V 85 (r := main_v71) (by decide), ← operand_line linesIn_writes V 85 (r := main_v36) (by decide), ← operand_line linesIn_writes V 85 (r := main_v58) (by decide), ← operand_line linesIn_writes V 85 (r := main_v59) (by decide), ← operand_line linesIn_writes V 85 (r := main_v60) (by decide), ← operand_line linesIn_writes V 85 (r := main_v72) (by decide)]
  rfl

theorem eq_v74 : st V main_v74 = (shapeCast S8192x2048 (st V main_v73) shapeCasts_S8192x16x128_S8192x2048) := by
  rw [st, read_line linesIn_writes V 86 rfl (by decide)]
  rw [reshape_result]
  rw [operand_line linesIn_writes V 86 (r := main_v73) (by decide)]
  rfl

theorem eq_v75 : st V main_v75 = (((extractStridedSlice S8192x16x2 ![0, 0, 0] · slices_S8192x16x3_S8192x16x2_0_0_0) : (⟨S8192x16x3, .bf16⟩ : BufTy).Contents (Elt F) → (⟨S8192x16x2, .bf16⟩ : BufTy).Contents (Elt F)) (st V main_v36)) := by
  rw [st, read_line linesIn_writes V 87 rfl (by decide)]
  rw [unary_result]
  rw [operand_line linesIn_writes V 87 (r := main_v36) (by decide)]
  rfl

theorem eq_v76 : st V main_v76 = (((truncf .bf16 · bitsLt_bf16_f32) : (⟨S8192x16x64, .f32⟩ : BufTy).Contents (Elt F) → (⟨S8192x16x64, .bf16⟩ : BufTy).Contents (Elt F)) (st V main_arg2)) := by
  rw [st, read_line linesIn_writes V 88 rfl (by decide)]
  rw [unary_result]
  rw [operand_line linesIn_writes V 88 (r := main_arg2) (by decide)]
  rfl

theorem eq_cst_8 : st V main_cst_8 = ((constant S_ .bf16 0x0000#16)) := by
  rw [st, read_line linesIn_writes V 89 rfl (by decide)]
  rw [nullary_result]

theorem eq_v77 : st V main_v77 = ((broadcastInDim S8192x16x62 ![] bcast_S_S8192x16x62 : (⟨S_, .bf16⟩ : BufTy).Contents (Elt F) → (⟨S8192x16x62, .bf16⟩ : BufTy).Contents (Elt F)) (st V main_cst_8)) := by
  rw [st, read_line linesIn_writes V 90 rfl (by decide)]
  rw [unary_result]
  rw [operand_line linesIn_writes V 90 (r := main_cst_8) (by decide)]
  rfl

theorem eq_v78 : st V main_v78 = (((concatenate S8192x16x128 2 [⟨S8192x16x64, (st V main_v76 : (⟨S8192x16x64, .bf16⟩ : BufTy).Contents (Elt F))⟩, ⟨S8192x16x2, (st V main_v75 : (⟨S8192x16x2, .bf16⟩ : BufTy).Contents (Elt F))⟩, ⟨S8192x16x62, (st V main_v77 : (⟨S8192x16x62, .bf16⟩ : BufTy).Contents (Elt F))⟩] concatenates_S8192x16x64_S8192x16x2_S8192x16x62_S8192x16x128_d2 : (⟨S8192x16x128, .bf16⟩ : BufTy).Contents (Elt F)))) := by
  rw [st, read_line linesIn_writes V 91 rfl (by decide)]
  refine (nary_result ..).trans ?_
  simp only [st]
  rw [← operand_line linesIn_writes V 91 (r := main_v76) (by decide), ← operand_line linesIn_writes V 91 (r := main_v75) (by decide), ← operand_line linesIn_writes V 91 (r := main_v77) (by decide)]
  rfl

theorem eq_v79 : st V main_v79 = (shapeCast S8192x2048 (st V main_v78) shapeCasts_S8192x16x128_S8192x2048) := by
  rw [st, read_line linesIn_writes V 92 rfl (by decide)]
  rw [reshape_result]
  rw [operand_line linesIn_writes V 92 (r := main_v78) (by decide)]
  rfl

theorem eq_v80 : st V main_v80 = ((Host.negf : (⟨S8192x16x1, .bf16⟩ : BufTy).Contents (Elt F) → (⟨S8192x16x1, .bf16⟩ : BufTy).Contents (Elt F)) (st V main_v61)) := by
  rw [st, read_line linesIn_writes V 93 rfl (by decide)]
  rw [unary_result]
  rw [operand_line linesIn_writes V 93 (r := main_v61) (by decide)]
  rfl

theorem eq_v81 : st V main_v81 = ((Host.negf : (⟨S8192x16x1, .bf16⟩ : BufTy).Contents (Elt F) → (⟨S8192x16x1, .bf16⟩ : BufTy).Contents (Elt F)) (st V main_v64)) := by
  rw [st, read_line linesIn_writes V 94 rfl (by decide)]
  rw [unary_result]
  rw [operand_line linesIn_writes V 94 (r := main_v64) (by decide)]
  rfl

theorem eq_v82 : st V main_v82 = (((truncf .bf16 · bitsLt_bf16_f32) : (⟨S8192x16x64, .f32⟩ : BufTy).Contents (Elt F) → (⟨S8192x16x64, .bf16⟩ : BufTy).Contents (Elt F)) (st V main_arg4)) := by
  rw [st, read_line linesIn_writes V 95 rfl (by decide)]
  rw [unary_result]
  rw [operand_line linesIn_writes V 95 (r := main_arg4) (by decide)]
  rfl

theorem eq_cst_9 : st V main_cst_9 = ((constant S_ .bf16 0x0000#16)) := by
  rw [st, read_line linesIn_writes V 96 rfl (by decide)]
  rw [nullary_result]

theorem eq_v83 : st V main_v83 = ((broadcastInDim S8192x16x62 ![] bcast_S_S8192x16x62 : (⟨S_, .bf16⟩ : BufTy).Contents (Elt F) → (⟨S8192x16x62, .bf16⟩ : BufTy).Contents (Elt F)) (st V main_cst_9)) := by
  rw [st, read_line linesIn_writes V 97 rfl (by decide)]
  rw [unary_result]
  rw [operand_line linesIn_writes V 97 (r := main_cst_9) (by decide)]
  rfl

theorem eq_v84 : st V main_v84 = (((concatenate S8192x16x128 2 [⟨S8192x16x64, (st V main_v82 : (⟨S8192x16x64, .bf16⟩ : BufTy).Contents (Elt F))⟩, ⟨S8192x16x1, (st V main_v80 : (⟨S8192x16x1, .bf16⟩ : BufTy).Contents (Elt F))⟩, ⟨S8192x16x1, (st V main_v81 : (⟨S8192x16x1, .bf16⟩ : BufTy).Contents (Elt F))⟩, ⟨S8192x16x62, (st V main_v83 : (⟨S8192x16x62, .bf16⟩ : BufTy).Contents (Elt F))⟩] concatenates_S8192x16x64_S8192x16x1_S8192x16x1_S8192x16x62_S8192x16x128_d2 : (⟨S8192x16x128, .bf16⟩ : BufTy).Contents (Elt F)))) := by
  rw [st, read_line linesIn_writes V 98 rfl (by decide)]
  refine (nary_result ..).trans ?_
  simp only [st]
  rw [← operand_line linesIn_writes V 98 (r := main_v82) (by decide), ← operand_line linesIn_writes V 98 (r := main_v80) (by decide), ← operand_line linesIn_writes V 98 (r := main_v81) (by decide), ← operand_line linesIn_writes V 98 (r := main_v83) (by decide)]
  rfl

theorem eq_v85 : st V main_v85 = (shapeCast S8192x2048 (st V main_v84) shapeCasts_S8192x16x128_S8192x2048) := by
  rw [st, read_line linesIn_writes V 99 rfl (by decide)]
  rw [reshape_result]
  rw [operand_line linesIn_writes V 99 (r := main_v84) (by decide)]
  rfl

theorem eq_v86 : st V main_v86 = ((broadcastInDim S1x8192x2048 ![1, 2] bcast_S8192x2048_S1x8192x2048_1_2 : (⟨S8192x2048, .bf16⟩ : BufTy).Contents (Elt F) → (⟨S1x8192x2048, .bf16⟩ : BufTy).Contents (Elt F)) (st V main_v70)) := by
  rw [st, read_line linesIn_writes V 100 rfl (by decide)]
  rw [unary_result]
  rw [operand_line linesIn_writes V 100 (r := main_v70) (by decide)]
  rfl

theorem eq_v87 : st V main_v87 = ((broadcastInDim S1x8192x2048 ![1, 2] bcast_S8192x2048_S1x8192x2048_1_2 : (⟨S8192x2048, .bf16⟩ : BufTy).Contents (Elt F) → (⟨S1x8192x2048, .bf16⟩ : BufTy).Contents (Elt F)) (st V main_v74)) := by
  rw [st, read_line linesIn_writes V 101 rfl (by decide)]
  rw [unary_result]
  rw [operand_line linesIn_writes V 101 (r := main_v74) (by decide)]
  rfl

theorem eq_v88 : st V main_v88 = ((broadcastInDim S1x8192x2048 ![1, 2] bcast_S8192x2048_S1x8192x2048_1_2 : (⟨S8192x2048, .bf16⟩ : BufTy).Contents (Elt F) → (⟨S1x8192x2048, .bf16⟩ : BufTy).Contents (Elt F)) (st V main_v79)) := by
  rw [st, read_line linesIn_writes V 102 rfl (by decide)]
  rw [unary_result]
  rw [operand_line linesIn_writes V 102 (r := main_v79) (by decide)]
  rfl

theorem eq_v89 : st V main_v89 = (((concatenate S3x8192x2048 0 [⟨S1x8192x2048, (st V main_v86 : (⟨S1x8192x2048, .bf16⟩ : BufTy).Contents (Elt F))⟩, ⟨S1x8192x2048, (st V main_v87 : (⟨S1x8192x2048, .bf16⟩ : BufTy).Contents (Elt F))⟩, ⟨S1x8192x2048, (st V main_v88 : (⟨S1x8192x2048, .bf16⟩ : BufTy).Contents (Elt F))⟩] concatenates_S1x8192x2048_S1x8192x2048_S1x8192x2048_S3x8192x2048_d0 : (⟨S3x8192x2048, .bf16⟩ : BufTy).Contents (Elt F)))) := by
  rw [st, read_line linesIn_writes V 103 rfl (by decide)]
  refine (nary_result ..).trans ?_
  simp only [st]
  rw [← operand_line linesIn_writes V 103 (r := main_v86) (by decide), ← operand_line linesIn_writes V 103 (r := main_v87) (by decide), ← operand_line linesIn_writes V 103 (r := main_v88) (by decide)]
  rfl

end Cert.KernelIdeal.HostIn
end
-- ==== Proof.Spec.lean ====
/-
  The gradients of causal attention with cumulative log gates, over the reals: for a head, a query row and a key, the
  masked softmax of the logits, its gradient, and the four results. Both programs are shown to compute these.
-/
module

public import Idealize.ShloMosaic.Lib.Pointwise

@[expose] public section

noncomputable section

namespace Cert.Spec

open Idealize.ShloMosaic

/-- Queries, keys, values and the gradient of the result, by row, head and lane; the cumulative log gates by row and head. -/
structure Inputs where
  q : Fin 8192 → Fin 16 → Fin 64 → ℝ
  k : Fin 8192 → Fin 16 → Fin 64 → ℝ
  v : Fin 8192 → Fin 16 → Fin 64 → ℝ
  d : Fin 8192 → Fin 16 → Fin 64 → ℝ
  c : Fin 8192 → Fin 16 → ℝ

namespace Inputs
variable (a : Inputs) (h : Fin 16) (r x : Fin 8192)

def logit : ℝ := (∑ l, a.q r h l * a.k x h l) * (1 / 8) + (a.c r h - a.c x h)
/-- The logit, or minus infinity for a key after the row. -/
def masked : EReal := if x.val ≤ r.val then (a.logit h r x : EReal) else ⊥
/-- The largest logit of a row. -/
def top : ℝ := (Finset.univ.fold max ⊥ fun x => a.masked h r x).toReal
def ex : ℝ := if x.val ≤ r.val then Real.exp (a.logit h r x - a.top h r) else 0
def tot : ℝ := ∑ x, a.ex h r x
/-- The softmax. -/
def p : ℝ := a.ex h r x / a.tot h r
def out (l : Fin 64) : ℝ := ∑ x, a.v x h l * a.p h r x
/-- The result's product with its gradient, summed over the lanes. -/
def delta : ℝ := ∑ l, a.d r h l * a.out h r l
/-- The gradient of the softmax. -/
def dp : ℝ := ∑ l, a.d r h l * a.v x h l
/-- The gradient of the logits. -/
def ds : ℝ := a.p h r x * (a.dp h r x - a.delta h r)

/-- The gradients of queries, keys, values and cumulative log gates. -/
def dq (l : Fin 64) : ℝ := ∑ x, a.ds h r x * a.k x h l * (1 / 8)
def dk (l : Fin 64) : ℝ := ∑ r, a.ds h r x * a.q r h l * (1 / 8)
def dv (l : Fin 64) : ℝ := ∑ r, a.d r h l * a.p h r x
def dc : ℝ := (∑ x, a.ds h r x) - ∑ s, a.ds h s r

theorem fold_top : (Finset.univ.fold max ⊥ fun x => a.masked h r x) = (a.top h r : EReal) := by
  refine (EReal.coe_toReal ?_ ?_).symm
  · refine ne_of_lt ((Finset.fold_max_lt _).mpr ⟨bot_lt_top, fun x _ => ?_⟩)
    unfold masked
    split
    · exact EReal.coe_lt_top _
    · exact bot_lt_top
  · refine ne_of_gt ((Finset.lt_fold_max _).mpr (Or.inr ⟨r, Finset.mem_univ _, ?_⟩))
    rw [masked, if_pos le_rfl]
    exact EReal.bot_lt_coe _

theorem exp_masked : Ideal.exp (a.masked h r x - (a.top h r : EReal)) = (a.ex h r x : EReal) := by
  unfold masked ex
  split
  · rw [← EReal.coe_sub, Ideal.exp_coe]
  · rw [EReal.bot_sub, Ideal.exp_bot, EReal.coe_zero]

theorem ex_nonneg : 0 ≤ a.ex h r x := by
  unfold ex
  split
  · exact (Real.exp_pos _).le
  · exact le_rfl

theorem tot_pos : 0 < a.tot h r := by
  refine Finset.sum_pos' (fun x _ => a.ex_nonneg h r x) ⟨r, Finset.mem_univ _, ?_⟩
  rw [ex, if_pos le_rfl]
  exact Real.exp_pos _

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The logarithm of a row's sum of exponentials. -/
def lse : ℝ := a.top h r + Real.log (a.tot h r)

theorem log_tot : Ideal.log (a.tot h r : EReal) = (Real.log (a.tot h r) : EReal) := by
  rw [Ideal.log_coe, if_neg (not_le.mpr (a.tot_pos h r))]

theorem div_tot (y : ℝ) : Ideal.div (y : EReal) (a.tot h r : EReal) = ((y / a.tot h r : ℝ) : EReal) := by
  rw [Ideal.div_coe (a.tot_pos h r).ne', ← EReal.coe_mul, mul_one_div]

/-- The softmax from the saved logarithm. -/
theorem exp_lse (hx : x.val ≤ r.val) : Real.exp (a.logit h r x - a.lse h r) = a.p h r x := by
  rw [p, ex, if_pos hx, lse, ← sub_sub, Real.exp_sub, Real.exp_log (a.tot_pos h r)]

theorem p_after (hx : ¬ x.val ≤ r.val) : a.p h r x = 0 := by
  rw [p, ex, if_neg hx, zero_div]

/-- The delta from the softmax and its gradient. -/
theorem delta_eq : a.delta h r = ∑ x, a.dp h r x * a.p h r x := by
  unfold delta out dp
  simp only [Finset.mul_sum, Finset.sum_mul]
  rw [Finset.sum_comm]
  exact Finset.sum_congr rfl fun x _ => Finset.sum_congr rfl fun l _ => by ring

end Inputs

end Cert.Spec
end
-- ==== Proof.HostAt.lean ====
/-
  What the host operations before the call compute from finite inputs: the saved softmax, its logarithm and delta, and
  the padded lanes of the arrays the call reads.
-/
module

public import proofs.«01_k».proof.Proof.HostSteps
public import proofs.«01_k».proof.Proof.Spec
public import Idealize.ShloMosaic.Lib.IdealHost

@[expose] public section

set_option maxRecDepth 16384
set_option maxHeartbeats 1000000

noncomputable section

namespace Cert.Spec

open Idealize.ShloMosaic

theorem ofBits_eighth : Ideal.ofBits .f32 0x3E000000#32 = ((1 / 8 : ℝ) : EReal) := by
  simp [Ideal.ofBits, Ideal.ieee, -EReal.coe_mul]; norm_num

theorem ofBits_bot : Ideal.ofBits .f32 0xFF800000#32 = ⊥ := by
  simp [Ideal.ofBits, Ideal.ieee]

/-- A number read from a buffer, as an extended real. -/
abbrev num (x : EReal) : EReal := x

/-- The comparison of two positions as words. -/
theorem sle_word {x r : ℕ} (hx : x < 8192) (hr : r < 8192) :
    IntOp.cmpi .sle (BitVec.ofNat 32 x) (BitVec.ofNat 32 r) = if x ≤ r then 1#1 else 0#1 := by
  have ex : (BitVec.ofNat 32 x).toInt = x := by
    rw [BitVec.toInt_eq_toNat_of_lt] <;> rw [BitVec.toNat_ofNat] <;> omega
  have er : (BitVec.ofNat 32 r).toInt = r := by
    rw [BitVec.toInt_eq_toNat_of_lt] <;> rw [BitVec.toNat_ofNat] <;> omega
  by_cases h : x ≤ r
  · rw [if_pos h]
    simp [IntOp.cmpi, BitVec.sle, ex, er, h]
  · rw [if_neg h]
    simp [IntOp.cmpi, BitVec.sle, ex, er, h]

theorem select_word {α : Type} {x r : ℕ} (hx : x < 8192) (hr : r < 8192) (a b : α) :
    Scalar.select (IntOp.cmpi .sle (BitVec.ofNat 32 x) (BitVec.ofNat 32 r)) a b = if x ≤ r then a else b := by
  rw [sle_word hx hr]
  split <;> rfl

end Cert.Spec

namespace Cert.KernelIdeal.HostIn

open Idealize.ShloMosaic Idealize.ShloMosaic.TcCoe Idealize.ShloMosaic.StableHlo Cert.Lines Cert.Spec
open Cert.KernelIdeal Cert.KernelIdeal.Gen

variable {V : Valuation τ sig (Elt Ideal)} {a : Inputs}

/-- The arguments hold these numbers. -/
structure Holds (V : Valuation τ sig (Elt Ideal)) (a : Inputs) : Prop where
  q : ∀ r h l, st V main_arg0 (ix3 r h l) = ((a.q r h l : ℝ) : EReal)
  k : ∀ r h l, st V main_arg1 (ix3 r h l) = ((a.k r h l : ℝ) : EReal)
  v : ∀ r h l, st V main_arg2 (ix3 r h l) = ((a.v r h l : ℝ) : EReal)
  c : ∀ r h, st V main_arg3 (ix2 r h) = ((a.c r h : ℝ) : EReal)
  d : ∀ r h l, st V main_arg4 (ix3 r h l) = ((a.d r h l : ℝ) : EReal)

variable (H : Holds V a)
include H

theorem at_v9 (h : Fin 16) (r x : Fin 8192) : st V main_v9 (ix3 h r x) = (a.logit h r x : EReal) := by
  have e : st V main_v9 (ix3 h r x)
      = ((∑ l, num (st V main_arg0 (ix3 r h l)) * num (st V main_arg1 (ix3 x h l))) * Ideal.ofBits .f32 0x3E000000#32
        + (num (st V main_arg3 (ix2 r h)) - num (st V main_arg3 (ix2 x h))) : EReal) := by
    rw [eq_v9, eq_v2, eq_v8, eq_v7, eq_v6, eq_v5, eq_v4, eq_v3, eq_v1, eq_v0, eq_cst]
    generalize st V main_arg0 = y0
    generalize st V main_arg1 = y1
    generalize st V main_arg3 = y2
    pointwise [num]
  refine e.trans ?_
  simp only [num]
  simp only [H.q, H.k, H.c, ofBits_eighth, ← EReal.coe_mul, ← EReal.coe_sub, ← EReal.coe_add, ← Inputs.coe_sum]
  rfl

theorem at_v17 (h : Fin 16) (r x : Fin 8192) : st V main_v17 (ix3 h r x) = (a.masked h r x : EReal) := by
  have e : st V main_v17 (ix3 h r x)
      = (Scalar.select (IntOp.cmpi .sle (BitVec.ofNat 32 x.val) (BitVec.ofNat 32 r.val)) (num (st V main_v9 (ix3 h r x)))
          (Ideal.ofBits .f32 0xFF800000#32) : EReal) := by
    rw [eq_v17, eq_call0_v1, eq_call0_v2, eq_call0_v0, eq_cst_0, eq_v16, eq_v15, eq_v14, eq_v13, eq_v12, eq_v11, eq_v10]
    generalize st V main_v9 = y0
    pointwise [num]
  refine e.trans ?_
  simp only [num]
  rw [select_word x.isLt r.isLt, at_v9 H, ofBits_bot]
  rfl

theorem at_v18 (h : Fin 16) (r : Fin 8192) : st V main_v18 (ix2 h r) = (a.top h r : EReal) := by
  have e : st V main_v18 (ix2 h r)
      = (Finset.fold max (Ideal.ofBits .f32 0xFF800000#32) (fun x => num (st V main_v17 (ix3 h r x))) Finset.univ : EReal) := by
    rw [eq_v18, eq_cst_1]
    generalize st V main_v17 = y0
    pointwise [num]
  refine e.trans ?_
  simp only [num]
  simp only [at_v17 H, ofBits_bot]
  exact a.fold_top h r

theorem at_v22 (h : Fin 16) (r x : Fin 8192) : st V main_v22 (ix3 h r x) = (a.ex h r x : EReal) := by
  have e : st V main_v22 (ix3 h r x) = (Ideal.exp (num (st V main_v17 (ix3 h r x)) - num (st V main_v18 (ix2 h r))) : EReal) := by
    rw [eq_v22, eq_v21, eq_v20, eq_v19]
    generalize st V main_v17 = y0
    generalize st V main_v18 = y1
    pointwise [num]
  refine e.trans ?_
  simp only [num]
  rw [at_v17 H, at_v18 H, a.exp_masked]

theorem at_v23 (h : Fin 16) (r : Fin 8192) : st V main_v23 (ix2 h r) = (a.tot h r : EReal) := by
  have e : st V main_v23 (ix2 h r) = (∑ x, num (st V main_v22 (ix3 h r x)) : EReal) := by
    rw [eq_v23, eq_cst_2]
    generalize st V main_v22 = y0
    pointwise [num]
  refine e.trans ?_
  simp only [num]
  simp only [at_v22 H, ← Inputs.coe_sum]
  rfl

omit H in
theorem lse_at (y z : FVec Ideal S16x8192 .f32) (h : Fin 16) (r : Fin 8192) :
    addf (broadcastInDim S16x8192x1 ![0, 1] bcast_S16x8192_S16x8192x1_0_1 y)
        (Host.log (broadcastInDim S16x8192x1 ![0, 1] bcast_S16x8192_S16x8192x1_0_1 z)) (ix3 h r 0)
      = y (ix2 h r) + Ideal.log (z (ix2 h r)) := by
  pointwise []

theorem at_v26 (h : Fin 16) (r : Fin 8192) : st V main_v26 (ix3 h r 0) = (a.lse h r : EReal) := by
  have e : st V main_v26 (ix3 h r 0) = (num (st V main_v18 (ix2 h r)) + Ideal.log (num (st V main_v23 (ix2 h r))) : EReal) := by
    rw [eq_v26, eq_v25, eq_v24, eq_v19]
    exact lse_at _ _ h r
  refine e.trans ?_
  simp only [num]
  rw [at_v18 H, at_v23 H, a.log_tot, ← EReal.coe_add, Inputs.lse]

theorem at_v31 (h : Fin 16) (r : Fin 8192) : st V main_v31 (ix2 h r) = (a.lse h r : EReal) := by
  have e : st V main_v31 (ix2 h r) = (num (st V main_v26 (ix3 h r 0)) : EReal) := by
    rw [eq_v31]
    generalize st V main_v26 = y0
    pointwise [num]
  exact e.trans (at_v26 H h r)

theorem at_v32 (h : Fin 16) (r : Fin 8192) : st V main_v32 (ix2 r h) = (a.lse h r : EReal) := by
  have e : st V main_v32 (ix2 r h) = (num (st V main_v31 (ix2 h r)) : EReal) := by
    rw [eq_v32]
    generalize st V main_v31 = y0
    pointwise [num]
  exact e.trans (at_v31 H h r)

theorem at_v28 (h : Fin 16) (r x : Fin 8192) : st V main_v28 (ix3 h r x) = (a.p h r x : EReal) := by
  have e : st V main_v28 (ix3 h r x) = (Ideal.div (num (st V main_v22 (ix3 h r x))) (num (st V main_v23 (ix2 h r))) : EReal) := by
    rw [eq_v28, eq_v27, eq_v24]
    generalize st V main_v22 = y0
    generalize st V main_v23 = y1
    pointwise [num]
  refine e.trans ?_
  simp only [num]
  rw [at_v22 H, at_v23 H, a.div_tot]
  rfl

omit H in
theorem dot_v (y : FVec Ideal S8192x16x64 .f32) (z : FVec Ideal S16x8192x8192 .f32) (h : Fin 16) (r : Fin 8192) (l : Fin 64) :
    Host.dotGeneral dot_S8192x16x64_S16x8192x8192_S16x64x8192_0_2_2_1_1_0 none y z (ix3 h l r)
      = ∑ x, y (ix3 x h l) * z (ix3 h r x) := by
  pointwise []

theorem at_v30 (h : Fin 16) (r : Fin 8192) (l : Fin 64) : st V main_v30 (ix3 r h l) = (a.out h r l : EReal) := by
  have e : st V main_v30 (ix3 r h l) = (num (st V main_v29 (ix3 h l r)) : EReal) := by
    rw [eq_v30]
    generalize st V main_v29 = y0
    pointwise [num]
  refine e.trans ?_
  simp only [num]
  rw [eq_v29]
  refine (dot_v _ _ h r l).trans ?_
  simp only [at_v28 H, H.v, ← EReal.coe_mul, ← Inputs.coe_sum]
  rfl

theorem at_v35 (h : Fin 16) (r : Fin 8192) : st V main_v35 (ix3 r h 0) = (a.delta h r : EReal) := by
  have e : st V main_v35 (ix3 r h 0) = (∑ l : Fin 64, num (st V main_arg4 (ix3 r h l)) * num (st V main_v30 (ix3 r h l)) : EReal) := by
    rw [eq_v35, eq_v34, eq_cst_3, eq_v33]
    generalize st V main_arg4 = y0
    generalize st V main_v30 = y1
    pointwise [num]
  refine e.trans ?_
  simp only [num]
  simp only [at_v30 H, H.d, ← EReal.coe_mul, ← Inputs.coe_sum]
  rfl

/-! ### The three parts of a number -/

theorem at_v44 (h : Fin 16) (r : Fin 8192) : st V main_v44 (ix3 r h 0) = (a.c r h : EReal) := by
  have e : st V main_v44 (ix3 r h 0) = (num (st V main_arg3 (ix2 r h)) : EReal) := by
    rw [eq_v44, eq_v37]
    generalize st V main_arg3 = y0
    pointwise [num]
  exact e.trans (H.c r h)

theorem at_v39 (h : Fin 16) (r : Fin 8192) : st V main_v39 (ix2 r h) = (0 : EReal) := by
  have e : st V main_v39 (ix2 r h) = (num (st V main_arg3 (ix2 r h)) - num (st V main_arg3 (ix2 r h)) : EReal) := by
    rw [eq_v39, eq_v38, eq_v37]
    generalize st V main_arg3 = y0
    pointwise [num]
  refine e.trans ?_
  simp only [num]
  rw [H.c, ← EReal.coe_sub, sub_self, EReal.coe_zero]

theorem at_v45 (h : Fin 16) (r : Fin 8192) : st V main_v45 (ix3 r h 0) = (0 : EReal) := by
  have e : st V main_v45 (ix3 r h 0) = (num (st V main_v39 (ix2 r h)) : EReal) := by
    rw [eq_v45, eq_v40]
    generalize st V main_v39 = y0
    pointwise [num]
  exact e.trans (at_v39 H h r)

theorem at_v46 (h : Fin 16) (r : Fin 8192) : st V main_v46 (ix3 r h 0) = (0 : EReal) := by
  have e : st V main_v46 (ix3 r h 0) = (num (st V main_v39 (ix2 r h)) - num (st V main_v39 (ix2 r h)) : EReal) := by
    rw [eq_v46, eq_v43, eq_v42, eq_v41, eq_v40]
    generalize st V main_v39 = y0
    pointwise [num]
  refine e.trans ?_
  simp only [num]
  rw [at_v39 H, sub_zero]

omit H in
theorem first_at (y : FVec Ideal S8192x16 .f32) (h : Fin 16) (r : Fin 8192) :
    broadcastInDim S8192x16x1 ![0, 1] bcast_S8192x16_S8192x16x1_0_1 (truncf .bf16 (Host.negf y) bitsLt_bf16_f32) (ix3 r h 0)
      = -y (ix2 r h) := by
  pointwise []

theorem at_v55 (h : Fin 16) (r : Fin 8192) : st V main_v55 (ix3 r h 0) = ((-a.lse h r : ℝ) : EReal) := by
  have e : st V main_v55 (ix3 r h 0) = (-num (st V main_v32 (ix2 r h)) : EReal) := by
    rw [eq_v55, eq_v48, eq_v47]
    exact first_at _ h r
  refine e.trans ?_
  simp only [num]
  rw [at_v32 H, EReal.coe_neg]

omit H in
theorem second_at (y : FVec Ideal S8192x16 .f32) (h : Fin 16) (r : Fin 8192) :
    subf (Host.negf y) (extf .f32 (truncf .bf16 (Host.negf y) bitsLt_bf16_f32) bitsLt_bf16_f32) (ix2 r h)
      = -y (ix2 r h) - -y (ix2 r h) := by
  pointwise []

theorem at_v50 (h : Fin 16) (r : Fin 8192) : st V main_v50 (ix2 r h) = (0 : EReal) := by
  have e : st V main_v50 (ix2 r h) = (-num (st V main_v32 (ix2 r h)) - -num (st V main_v32 (ix2 r h)) : EReal) := by
    rw [eq_v50, eq_v49, eq_v48, eq_v47]
    exact second_at _ h r
  refine e.trans ?_
  simp only [num]
  rw [at_v32 H, ← EReal.coe_neg, ← EReal.coe_sub, sub_self, EReal.coe_zero]

theorem at_v56 (h : Fin 16) (r : Fin 8192) : st V main_v56 (ix3 r h 0) = (0 : EReal) := by
  have e : st V main_v56 (ix3 r h 0) = (num (st V main_v50 (ix2 r h)) : EReal) := by
    rw [eq_v56, eq_v51]
    generalize st V main_v50 = y0
    pointwise [num]
  exact e.trans (at_v50 H h r)

omit H in
theorem third_at (y : FVec Ideal S8192x16 .f32) (h : Fin 16) (r : Fin 8192) :
    broadcastInDim S8192x16x1 ![0, 1] bcast_S8192x16_S8192x16x1_0_1
        (truncf .bf16 (subf y (extf .f32 (truncf .bf16 y bitsLt_bf16_f32) bitsLt_bf16_f32)) bitsLt_bf16_f32) (ix3 r h 0)
      = y (ix2 r h) - y (ix2 r h) := by
  pointwise []

theorem at_v57 (h : Fin 16) (r : Fin 8192) : st V main_v57 (ix3 r h 0) = (0 : EReal) := by
  have e : st V main_v57 (ix3 r h 0) = (num (st V main_v50 (ix2 r h)) - num (st V main_v50 (ix2 r h)) : EReal) := by
    rw [eq_v57, eq_v54, eq_v53, eq_v52, eq_v51]
    exact third_at _ h r
  refine e.trans ?_
  simp only [num]
  rw [at_v50 H, sub_zero]

theorem at_v58 (h : Fin 16) (r : Fin 8192) : st V main_v58 (ix3 r h 0) = ((-a.c r h : ℝ) : EReal) := by
  have e : st V main_v58 (ix3 r h 0) = (-num (st V main_v44 (ix3 r h 0)) : EReal) := by
    rw [eq_v58]
    generalize st V main_v44 = y0
    pointwise [num]
  refine e.trans ?_
  simp only [num]
  rw [at_v44 H, EReal.coe_neg]

theorem at_v59 (h : Fin 16) (r : Fin 8192) : st V main_v59 (ix3 r h 0) = (0 : EReal) := by
  have e : st V main_v59 (ix3 r h 0) = (-num (st V main_v45 (ix3 r h 0)) : EReal) := by
    rw [eq_v59]
    generalize st V main_v45 = y0
    pointwise [num]
  refine e.trans ?_
  simp only [num]
  rw [at_v45 H, neg_zero]

theorem at_v60 (h : Fin 16) (r : Fin 8192) : st V main_v60 (ix3 r h 0) = (0 : EReal) := by
  have e : st V main_v60 (ix3 r h 0) = (-num (st V main_v46 (ix3 r h 0)) : EReal) := by
    rw [eq_v60]
    generalize st V main_v46 = y0
    pointwise [num]
  refine e.trans ?_
  simp only [num]
  rw [at_v46 H, neg_zero]

theorem at_v80 (h : Fin 16) (r : Fin 8192) : st V main_v80 (ix3 r h 0) = ((-a.delta h r : ℝ) : EReal) := by
  have e : st V main_v80 (ix3 r h 0) = (-num (st V main_v35 (ix3 r h 0)) : EReal) := by
    rw [eq_v80, eq_v61]
    generalize st V main_v35 = y0
    pointwise [num]
  refine e.trans ?_
  simp only [num]
  rw [at_v35 H, EReal.coe_neg]

theorem at_v81 (h : Fin 16) (r : Fin 8192) : st V main_v81 (ix3 r h 0) = (0 : EReal) := by
  have e : st V main_v81 (ix3 r h 0) = (-(num (st V main_v35 (ix3 r h 0)) - num (st V main_v35 (ix3 r h 0))) : EReal) := by
    rw [eq_v81, eq_v64, eq_v63, eq_v62, eq_v61]
    generalize st V main_v35 = y0
    pointwise [num]
  refine e.trans ?_
  simp only [num]
  rw [at_v35 H, ← EReal.coe_sub, sub_self, EReal.coe_zero, neg_zero]

theorem at_v67 (h : Fin 16) (r : Fin 8192) (l : Fin 64) : st V main_v67 (ix3 r h l) = ((a.q r h l * (1 / 8) : ℝ) : EReal) := by
  have e : st V main_v67 (ix3 r h l) = (num (st V main_arg0 (ix3 r h l)) * Ideal.ofBits .f32 0x3E000000#32 : EReal) := by
    rw [eq_v67, eq_v66, eq_v65, eq_cst_5]
    generalize st V main_arg0 = y0
    pointwise [num]
  refine e.trans ?_
  simp only [num]
  rw [H.q, ofBits_eighth, ← EReal.coe_mul]

omit H in
theorem at_v36 (h : Fin 16) (r : Fin 8192) (l : Fin 3) : st V main_v36 (ix3 r h l) = (1 : EReal) := by
  have e : st V main_v36 (ix3 r h l) = (Ideal.ofBits .bf16 0x3F80#16 : EReal) := by
    rw [eq_v36, eq_cst_4]
    pointwise [num]
  exact e.trans Ideal.ofBits_one_bf16

omit H in
theorem at_v68 (h : Fin 16) (r : Fin 8192) (l : Fin 55) : st V main_v68 (ix3 r h l) = (0 : EReal) := by
  have e : st V main_v68 (ix3 r h l) = (Ideal.ofBits .bf16 0x0000#16 : EReal) := by
    rw [eq_v68, eq_cst_6]
    pointwise [num]
  exact e.trans Ideal.ofBits_zero_bf16

omit H in
theorem at_v72 (h : Fin 16) (r : Fin 8192) (l : Fin 55) : st V main_v72 (ix3 r h l) = (0 : EReal) := by
  have e : st V main_v72 (ix3 r h l) = (Ideal.ofBits .bf16 0x0000#16 : EReal) := by
    rw [eq_v72, eq_cst_7]
    pointwise [num]
  exact e.trans Ideal.ofBits_zero_bf16

omit H in
theorem at_v75 (h : Fin 16) (r : Fin 8192) (l : Fin 2) : st V main_v75 (ix3 r h l) = (1 : EReal) := by
  have e : st V main_v75 (ix3 r h l) = (Ideal.ofBits .bf16 0x3F80#16 : EReal) := by
    rw [eq_v75, eq_v36, eq_cst_4]
    pointwise [num]
  exact e.trans Ideal.ofBits_one_bf16

omit H in
theorem at_v77 (h : Fin 16) (r : Fin 8192) (l : Fin 62) : st V main_v77 (ix3 r h l) = (0 : EReal) := by
  have e : st V main_v77 (ix3 r h l) = (Ideal.ofBits .bf16 0x0000#16 : EReal) := by
    rw [eq_v77, eq_cst_8]
    pointwise [num]
  exact e.trans Ideal.ofBits_zero_bf16

omit H in
theorem at_v83 (h : Fin 16) (r : Fin 8192) (l : Fin 62) : st V main_v83 (ix3 r h l) = (0 : EReal) := by
  have e : st V main_v83 (ix3 r h l) = (Ideal.ofBits .bf16 0x0000#16 : EReal) := by
    rw [eq_v83, eq_cst_9]
    pointwise [num]
  exact e.trans Ideal.ofBits_zero_bf16

theorem at_v71 (h : Fin 16) (r : Fin 8192) (l : Fin 64) : st V main_v71 (ix3 r h l) = (a.k r h l : EReal) := by
  have e : st V main_v71 (ix3 r h l) = (num (st V main_arg1 (ix3 r h l)) : EReal) := by
    rw [eq_v71]
    generalize st V main_arg1 = y0
    pointwise [num]
  exact e.trans (H.k r h l)

theorem at_v76 (h : Fin 16) (r : Fin 8192) (l : Fin 64) : st V main_v76 (ix3 r h l) = (a.v r h l : EReal) := by
  have e : st V main_v76 (ix3 r h l) = (num (st V main_arg2 (ix3 r h l)) : EReal) := by
    rw [eq_v76]
    generalize st V main_arg2 = y0
    pointwise [num]
  exact e.trans (H.v r h l)

theorem at_v82 (h : Fin 16) (r : Fin 8192) (l : Fin 64) : st V main_v82 (ix3 r h l) = (a.d r h l : EReal) := by
  have e : st V main_v82 (ix3 r h l) = (num (st V main_arg4 (ix3 r h l)) : EReal) := by
    rw [eq_v82]
    generalize st V main_arg4 = y0
    pointwise [num]
  exact e.trans (H.d r h l)

end Cert.KernelIdeal.HostIn
end
-- ==== Proof.LaneSums.lean ====
/-
  The padded lanes of a head, over the reals: 64 lanes of data, then the lanes that carry the cumulative log gates, the
  saved logarithm and delta, each against a lane of ones on the other side. Summed over all 128 lanes, the query and key
  lanes give the logit less the saved logarithm, and the two others the gradient of the softmax less delta.
-/
module

public import proofs.«01_k».proof.Proof.Spec

@[expose] public section

noncomputable section

namespace Cert.Spec.Inputs

variable (a : Inputs) (h : Fin 16) (r x : Fin 8192)

def qL (l : ℕ) : ℝ := if hl : l < 64 then a.q r h ⟨l, hl⟩ * (1 / 8) else if l = 64 then a.c r h else if l < 67 then 0
  else if l < 70 then 1 else if l = 70 then -a.lse h r else 0
def kL (l : ℕ) : ℝ := if hl : l < 64 then a.k x h ⟨l, hl⟩ else if l < 67 then 1 else if l = 67 then -a.c x h
  else if l < 70 then 0 else if l < 73 then 1 else 0
def vL (l : ℕ) : ℝ := if hl : l < 64 then a.v x h ⟨l, hl⟩ else if l < 66 then 1 else 0
def dL (l : ℕ) : ℝ := if hl : l < 64 then a.d r h ⟨l, hl⟩ else if l = 64 then -a.delta h r else 0

theorem sum_lanes (f : ℕ → ℝ) : ∑ l : Fin 128, f l.val = (∑ l : Fin 64, f l.val) + ∑ l ∈ Finset.range 64, f (64 + l) := by
  rw [Fin.sum_univ_eq_sum_range, Fin.sum_univ_eq_sum_range, show (128 : ℕ) = 64 + 64 from rfl, Finset.sum_range_add]

theorem score_lanes : ∑ l : Fin 128, a.qL h r l.val * a.kL h x l.val = a.logit h r x - a.lse h r := by
  rw [sum_lanes fun l => a.qL h r l * a.kL h x l]
  have e1 : (∑ l : Fin 64, a.qL h r l.val * a.kL h x l.val) = (∑ l, a.q r h l * a.k x h l) * (1 / 8) := by
    rw [Finset.sum_mul]
    refine Finset.sum_congr rfl fun l _ => ?_
    rw [qL, kL, dif_pos l.isLt, dif_pos l.isLt]
    ring
  have e2 : ∀ l ∈ Finset.range 64, a.qL h r (64 + l) * a.kL h x (64 + l)
      = (if l = 0 then a.c r h else 0) + (if l = 3 then -a.c x h else 0) + (if l = 6 then -a.lse h r else 0) := by
    intro l _
    rw [qL, kL, dif_neg (by omega), dif_neg (by omega)]
    by_cases h0 : l = 0
    · subst h0; norm_num
    by_cases h3 : l = 3
    · subst h3; norm_num
    by_cases h6 : l = 6
    · subst h6; norm_num
    rw [if_neg h0, if_neg h3, if_neg h6, if_neg (show ¬ 64 + l = 64 by omega), if_neg (show ¬ 64 + l = 70 by omega),
      if_neg (show ¬ 64 + l = 67 by omega)]
    by_cases g1 : 64 + l < 67
    · rw [if_pos g1]; ring
    rw [if_neg g1, if_neg g1]
    by_cases g2 : 64 + l < 70
    · rw [if_pos g2, if_pos g2]; ring
    rw [if_neg g2]; ring
  rw [e1, Finset.sum_congr rfl e2, Finset.sum_add_distrib, Finset.sum_add_distrib, Finset.sum_ite_eq', Finset.sum_ite_eq',
    Finset.sum_ite_eq', if_pos (by decide), if_pos (by decide), if_pos (by decide), logit]
  ring

theorem grad_lanes : ∑ l : Fin 128, a.dL h r l.val * a.vL h x l.val = a.dp h r x - a.delta h r := by
  rw [sum_lanes fun l => a.dL h r l * a.vL h x l]
  have e1 : (∑ l : Fin 64, a.dL h r l.val * a.vL h x l.val) = a.dp h r x :=
    Finset.sum_congr rfl fun l _ => by rw [dL, vL, dif_pos l.isLt, dif_pos l.isLt]
  have e2 : ∀ l ∈ Finset.range 64, a.dL h r (64 + l) * a.vL h x (64 + l) = if l = 0 then -a.delta h r else 0 := by
    intro l _
    rw [dL, vL, dif_neg (by omega), dif_neg (by omega)]
    by_cases h0 : l = 0
    · subst h0; norm_num
    rw [if_neg h0, if_neg (show ¬ 64 + l = 64 by omega), zero_mul]
  rw [e1, Finset.sum_congr rfl e2, Finset.sum_ite_eq', if_pos (by decide)]
  ring

end Cert.Spec.Inputs
end
-- ==== Proof.HostLanes.lean ====
/-
  The arrays of the call from finite inputs: a head's 128 lanes joined from the pieces the host lines make.
-/
module

public import proofs.«01_k».proof.Proof.HostAt
public import proofs.«01_k».proof.Proof.LaneSums

@[expose] public section

set_option maxRecDepth 16384
set_option maxHeartbeats 1000000

noncomputable section

namespace Cert.KernelIdeal.HostIn

open Idealize.ShloMosaic Idealize.ShloMosaic.TcCoe Idealize.ShloMosaic.StableHlo Cert.Lines Cert.Spec
open Cert.KernelIdeal Cert.KernelIdeal.Gen

variable {V : Valuation τ sig (Elt Ideal)} {a : Inputs}

/-! ### Pieces joined along the lanes -/

theorem join_q (y0 : FVec Ideal S8192x16x64 .bf16) (y1 y2 y3 : FVec Ideal S8192x16x1 .bf16) (y4 : FVec Ideal S8192x16x3 .bf16)
    (y5 y6 y7 : FVec Ideal S8192x16x1 .bf16) (y8 : FVec Ideal S8192x16x55 .bf16) (r : Fin 8192) (h : Fin 16) (l : Fin 128)
    (f : Fin 64 → ℝ) (s t : ℝ) (e0 : ∀ z, y0 (ix3 r h z) = (f z : EReal)) (e1 : ∀ z, y1 (ix3 r h z) = (s : EReal))
    (e2 : ∀ z, y2 (ix3 r h z) = (0 : EReal)) (e3 : ∀ z, y3 (ix3 r h z) = (0 : EReal)) (e4 : ∀ z, y4 (ix3 r h z) = (1 : EReal))
    (e5 : ∀ z, y5 (ix3 r h z) = (t : EReal)) (e6 : ∀ z, y6 (ix3 r h z) = (0 : EReal)) (e7 : ∀ z, y7 (ix3 r h z) = (0 : EReal))
    (e8 : ∀ z, y8 (ix3 r h z) = (0 : EReal)) (w : EReal)
    (hw : w = ((if hl : l.val < 64 then f ⟨l.val, hl⟩ else if l.val = 64 then s else if l.val < 67 then 0 else if l.val < 70 then 1
      else if l.val = 70 then t else 0 : ℝ) : EReal)) :
    concatenate S8192x16x128 2 [⟨S8192x16x64, y0⟩, ⟨S8192x16x1, y1⟩, ⟨S8192x16x1, y2⟩, ⟨S8192x16x1, y3⟩, ⟨S8192x16x3, y4⟩,
      ⟨S8192x16x1, y5⟩, ⟨S8192x16x1, y6⟩, ⟨S8192x16x1, y7⟩, ⟨S8192x16x55, y8⟩]
      concatenates_S8192x16x64_S8192x16x1_S8192x16x1_S8192x16x1_S8192x16x3_S8192x16x1_S8192x16x1_S8192x16x1_S8192x16x55_S8192x16x128_d2
      (ix3 r h l) = w := by
  pointwise []
  simp only [e0, e1, e2, e3, e4, e5, e6, e7, e8, hw]
  split_ifs <;> first | rfl | (exfalso; omega)

theorem join_k (y0 : FVec Ideal S8192x16x64 .bf16) (y1 : FVec Ideal S8192x16x3 .bf16) (y2 y3 y4 : FVec Ideal S8192x16x1 .bf16)
    (y5 : FVec Ideal S8192x16x3 .bf16) (y6 : FVec Ideal S8192x16x55 .bf16) (r : Fin 8192) (h : Fin 16) (l : Fin 128)
    (f : Fin 64 → ℝ) (s : ℝ) (e0 : ∀ z, y0 (ix3 r h z) = (f z : EReal)) (e1 : ∀ z, y1 (ix3 r h z) = (1 : EReal))
    (e2 : ∀ z, y2 (ix3 r h z) = (s : EReal)) (e3 : ∀ z, y3 (ix3 r h z) = (0 : EReal)) (e4 : ∀ z, y4 (ix3 r h z) = (0 : EReal))
    (e5 : ∀ z, y5 (ix3 r h z) = (1 : EReal)) (e6 : ∀ z, y6 (ix3 r h z) = (0 : EReal)) (w : EReal)
    (hw : w = ((if hl : l.val < 64 then f ⟨l.val, hl⟩ else if l.val < 67 then 1 else if l.val = 67 then s else if l.val < 70 then 0
      else if l.val < 73 then 1 else 0 : ℝ) : EReal)) :
    concatenate S8192x16x128 2 [⟨S8192x16x64, y0⟩, ⟨S8192x16x3, y1⟩, ⟨S8192x16x1, y2⟩, ⟨S8192x16x1, y3⟩, ⟨S8192x16x1, y4⟩,
      ⟨S8192x16x3, y5⟩, ⟨S8192x16x55, y6⟩]
      concatenates_S8192x16x64_S8192x16x3_S8192x16x1_S8192x16x1_S8192x16x1_S8192x16x3_S8192x16x55_S8192x16x128_d2 (ix3 r h l) = w := by
  pointwise []
  simp only [e0, e1, e2, e3, e4, e5, e6, hw]
  split_ifs <;> first | rfl | (exfalso; omega)

theorem join_v (y0 : FVec Ideal S8192x16x64 .bf16) (y1 : FVec Ideal S8192x16x2 .bf16) (y2 : FVec Ideal S8192x16x62 .bf16)
    (r : Fin 8192) (h : Fin 16) (l : Fin 128) (f : Fin 64 → ℝ) (e0 : ∀ z, y0 (ix3 r h z) = (f z : EReal))
    (e1 : ∀ z, y1 (ix3 r h z) = (1 : EReal)) (e2 : ∀ z, y2 (ix3 r h z) = (0 : EReal)) (w : EReal)
    (hw : w = ((if hl : l.val < 64 then f ⟨l.val, hl⟩ else if l.val < 66 then 1 else 0 : ℝ) : EReal)) :
    concatenate S8192x16x128 2 [⟨S8192x16x64, y0⟩, ⟨S8192x16x2, y1⟩, ⟨S8192x16x62, y2⟩]
      concatenates_S8192x16x64_S8192x16x2_S8192x16x62_S8192x16x128_d2 (ix3 r h l) = w := by
  pointwise []
  simp only [e0, e1, e2, hw]
  split_ifs <;> first | rfl | (exfalso; omega)

theorem join_d (y0 : FVec Ideal S8192x16x64 .bf16) (y1 y2 : FVec Ideal S8192x16x1 .bf16) (y3 : FVec Ideal S8192x16x62 .bf16)
    (r : Fin 8192) (h : Fin 16) (l : Fin 128) (f : Fin 64 → ℝ) (s : ℝ) (e0 : ∀ z, y0 (ix3 r h z) = (f z : EReal))
    (e1 : ∀ z, y1 (ix3 r h z) = (s : EReal)) (e2 : ∀ z, y2 (ix3 r h z) = (0 : EReal)) (e3 : ∀ z, y3 (ix3 r h z) = (0 : EReal))
    (w : EReal) (hw : w = ((if hl : l.val < 64 then f ⟨l.val, hl⟩ else if l.val = 64 then s else 0 : ℝ) : EReal)) :
    concatenate S8192x16x128 2 [⟨S8192x16x64, y0⟩, ⟨S8192x16x1, y1⟩, ⟨S8192x16x1, y2⟩, ⟨S8192x16x62, y3⟩]
      concatenates_S8192x16x64_S8192x16x1_S8192x16x1_S8192x16x62_S8192x16x128_d2 (ix3 r h l) = w := by
  pointwise []
  simp only [e0, e1, e2, e3, hw]
  split_ifs <;> first | rfl | (exfalso; omega)

theorem flat_at (y : FVec Ideal S8192x16x128 .bf16) (r : Fin 8192) (h : Fin 16) (l : Fin 128) :
    shapeCast S8192x2048 y shapeCasts_S8192x16x128_S8192x2048 (ix2 r ⟨128 * h.val + l.val, by omega⟩) = y (ix3 r h l) := by
  pointwise []

theorem planes_1 (y0 y1 y2 : FVec Ideal S1x8192x2048 .bf16) (r : Fin 8192) (l : Fin 2048) :
    concatenate S3x8192x2048 0 [⟨S1x8192x2048, y0⟩, ⟨S1x8192x2048, y1⟩, ⟨S1x8192x2048, y2⟩]
      concatenates_S1x8192x2048_S1x8192x2048_S1x8192x2048_S3x8192x2048_d0 (ix3 1 r l) = y1 (ix3 0 r l) := by
  pointwise []

theorem planes_2 (y0 y1 y2 : FVec Ideal S1x8192x2048 .bf16) (r : Fin 8192) (l : Fin 2048) :
    concatenate S3x8192x2048 0 [⟨S1x8192x2048, y0⟩, ⟨S1x8192x2048, y1⟩, ⟨S1x8192x2048, y2⟩]
      concatenates_S1x8192x2048_S1x8192x2048_S1x8192x2048_S3x8192x2048_d0 (ix3 2 r l) = y2 (ix3 0 r l) := by
  pointwise []

theorem plane_at (y : FVec Ideal S8192x2048 .bf16) (r : Fin 8192) (l : Fin 2048) :
    broadcastInDim S1x8192x2048 ![1, 2] bcast_S8192x2048_S1x8192x2048_1_2 y (ix3 0 r l) = y (ix2 r l) := by
  pointwise []

theorem one_lane (y : FVec Ideal S8192x16x1 .bf16) {r : Fin 8192} {h : Fin 16} {w : EReal} (e : y (ix3 r h 0) = w) (z : Fin 1) :
    y (ix3 r h z) = w := by
  rw [Subsingleton.elim z 0]
  exact e

/-! ### The arrays of the call -/

variable (H : Holds V a) (r : Fin 8192) (h : Fin 16) (l : Fin 128)
include H

theorem at_v70 : st V main_v70 (ix2 r ⟨128 * h.val + l.val, by omega⟩) = (a.qL h r l.val : EReal) := by
  rw [eq_v70]
  refine (flat_at _ r h l).trans ?_
  rw [eq_v69]
  exact join_q _ _ _ _ _ _ _ _ _ r h l _ _ _ (at_v67 H h r) (one_lane _ (at_v44 H h r)) (one_lane _ (at_v45 H h r))
    (one_lane _ (at_v46 H h r)) (at_v36 h r) (one_lane _ (at_v55 H h r)) (one_lane _ (at_v56 H h r))
    (one_lane _ (at_v57 H h r)) (at_v68 h r) _ rfl

theorem at_v74 : st V main_v74 (ix2 r ⟨128 * h.val + l.val, by omega⟩) = (a.kL h r l.val : EReal) := by
  rw [eq_v74]
  refine (flat_at _ r h l).trans ?_
  rw [eq_v73]
  exact join_k _ _ _ _ _ _ _ r h l _ _ (at_v71 H h r) (at_v36 h r) (one_lane _ (at_v58 H h r)) (one_lane _ (at_v59 H h r))
    (one_lane _ (at_v60 H h r)) (at_v36 h r) (at_v72 h r) _ rfl

theorem at_v79 : st V main_v79 (ix2 r ⟨128 * h.val + l.val, by omega⟩) = (a.vL h r l.val : EReal) := by
  rw [eq_v79]
  refine (flat_at _ r h l).trans ?_
  rw [eq_v78]
  exact join_v _ _ _ r h l _ (at_v76 H h r) (at_v75 h r) (at_v77 h r) _ rfl

theorem at_v85 : st V main_v85 (ix2 r ⟨128 * h.val + l.val, by omega⟩) = (a.dL h r l.val : EReal) := by
  rw [eq_v85]
  refine (flat_at _ r h l).trans ?_
  rw [eq_v84]
  exact join_d _ _ _ _ r h l _ _ (at_v82 H h r) (one_lane _ (at_v80 H h r)) (one_lane _ (at_v81 H h r)) (at_v83 h r) _ rfl

theorem at_v89_1 : st V main_v89 (ix3 1 r ⟨128 * h.val + l.val, by omega⟩) = (a.kL h r l.val : EReal) := by
  rw [eq_v89]
  refine (planes_1 _ _ _ r _).trans ?_
  rw [eq_v87]
  exact (plane_at _ r _).trans (at_v74 H r h l)

theorem at_v89_2 : st V main_v89 (ix3 2 r ⟨128 * h.val + l.val, by omega⟩) = (a.vL h r l.val : EReal) := by
  rw [eq_v89]
  refine (planes_2 _ _ _ r _).trans ?_
  rw [eq_v88]
  exact (plane_at _ r _).trans (at_v79 H r h l)

end Cert.KernelIdeal.HostIn
end
-- ==== Proof.Entries.lean ====
/-
  The kernel's vector expressions read at one index, over the extended reals: scores are sums of products over the 128
  lanes, and each running sum grows by a sum over rows or over keys.
-/
module

public import proofs.«01_k».proof.Proof.Point
public import Idealize.ShloMosaic.Lib.Pointwise

@[expose] public section

set_option maxRecDepth 16384
set_option maxHeartbeats 1000000

noncomputable section

namespace Cert.KernelIdeal.Bwd

open Idealize.ShloMosaic Idealize.ShloMosaic.VecWindow
open Cert.KernelIdeal Cert.KernelIdeal.Gen

/-! ### Two later query blocks -/

theorem pay8_at (k : FVec Ideal S512x128 .bf16) (q : Vec Ideal S1024x128 .bf16) (j : Fin 1024) (x : Fin 512) :
    k0_pay8 k q (ix2 j x) = ∑ c : Fin 128, q (ix2 j c) * k (ix2 x c) := by
  pointwise [k0_pay8]
theorem pay9_at (v : FVec Ideal S512x128 .bf16) (d : Vec Ideal S1024x128 .bf16) (j : Fin 1024) (x : Fin 512) :
    k0_pay9 v d (ix2 j x) = ∑ c : Fin 128, d (ix2 j c) * v (ix2 x c) := by
  pointwise [k0_pay9]
theorem pay10_at (k : FVec Ideal S512x128 .bf16) (q : Vec Ideal S1024x128 .bf16) (j : Fin 1024) (x : Fin 512) :
    k0_pay10 k q (ix2 j x) = Ideal.exp (∑ c : Fin 128, q (ix2 j c) * k (ix2 x c)) := by
  pointwise [k0_pay10]
theorem pay11_at (k v : FVec Ideal S512x128 .bf16) (q d : Vec Ideal S1024x128 .bf16) (j : Fin 1024) (x : Fin 512) :
    k0_pay11 k v q d (ix2 j x)
      = Ideal.exp (∑ c : Fin 128, q (ix2 j c) * k (ix2 x c)) * ∑ c : Fin 128, d (ix2 j c) * v (ix2 x c) := by
  pointwise [k0_pay11, k0_pay10]
theorem pay16_at (s : FVec Ideal S1024x512 .f32) (j : Fin 1024) (x : Fin 512) : k0_pay16 s (ix2 j x) = Ideal.exp (s (ix2 j x)) := by
  pointwise [k0_pay16]
theorem pay17_at (s p : FVec Ideal S1024x512 .f32) (j : Fin 1024) (x : Fin 512) :
    k0_pay17 s p (ix2 j x) = Ideal.exp (s (ix2 j x)) * p (ix2 j x) := by
  pointwise [k0_pay17, k0_pay16]
theorem pay12_at (k : FVec Ideal S512x128 .bf16) (q : Vec Ideal S1024x128 .bf16) (dt : Vec Ideal S1x1x128x512 .bf16) (c : Fin 128) (x : Fin 512) :
    k0_pay12 k q dt (ix2 c x) = ∑ j : Fin 512, dt (ix4 0 0 c j) * k0_pay10 k q (ix2 ⟨j.val, by omega⟩ x) := by
  pointwise [k0_pay12]
theorem pay13_at (p : FVec Ideal S1024x512 .bf16) (y : FVec Ideal S128x512 .f32) (dt : Vec Ideal S1x1x128x512 .bf16)
    (a : Vec Ideal S1x128x512 .f32) (c : Fin 128) (x : Fin 512) :
    k0_pay13 p y dt a (ix3 0 c x)
      = a (ix3 0 c x) + (y (ix2 c x) + ∑ j : Fin 512, dt (ix4 0 0 c j) * p (ix2 ⟨512 + j.val, by omega⟩ x)) := by
  pointwise [k0_pay13]
theorem pay14_at (s : FVec Ideal S1024x512 .bf16) (qt qt' : Vec Ideal S1x1x128x512 .bf16) (a : Vec Ideal S1x128x512 .f32) (c : Fin 128) (x : Fin 512) :
    k0_pay14 s qt qt' a (ix3 0 c x)
      = a (ix3 0 c x) + ((∑ j : Fin 512, qt (ix4 0 0 c j) * s (ix2 ⟨j.val, by omega⟩ x))
        + ∑ j : Fin 512, qt' (ix4 0 0 c j) * s (ix2 ⟨512 + j.val, by omega⟩ x)) := by
  pointwise [k0_pay14]
theorem pay15_at (k : FVec Ideal S512x128 .bf16) (s : FVec Ideal S1024x512 .bf16) (a : Vec Ideal S1024x128 .f32) (j : Fin 1024) (c : Fin 128) :
    k0_pay15 k s a (ix2 j c) = a (ix2 j c) + ∑ x : Fin 512, s (ix2 j x) * k (ix2 x c) := by
  pointwise [k0_pay15]
theorem pay93_at (k : FVec Ideal S512x128 .bf16) (s : FVec Ideal S1024x512 .bf16) (a : Vec Ideal S1024x128 .f32) (j : Fin 1024) (c : Fin 128) :
    k0_pay93 k s a (ix2 j c) = a (ix2 j c) + ∑ x : Fin 512, s (ix2 j x) * k (ix2 x c) := by
  pointwise [k0_pay93]
theorem pay18_at (s : FVec Ideal S1024x512 .f32) (dt dt' : Vec Ideal S1x1x128x512 .bf16) (c : Fin 128) (x : Fin 512) :
    k0_pay18 s dt dt' (ix2 c x) = (∑ j : Fin 512, dt (ix4 0 0 c j) * k0_pay16 s (ix2 ⟨j.val, by omega⟩ x))
        + ∑ j : Fin 512, dt' (ix4 0 0 c j) * k0_pay16 s (ix2 ⟨512 + j.val, by omega⟩ x) := by
  pointwise [k0_pay18]
theorem pay19_at (s p : FVec Ideal S1024x512 .f32) (qt : Vec Ideal S1x1x128x512 .bf16) (c : Fin 128) (x : Fin 512) :
    k0_pay19 s p qt (ix2 c x) = ∑ j : Fin 512, qt (ix4 0 0 c j) * k0_pay17 s p (ix2 ⟨j.val, by omega⟩ x) := by
  pointwise [k0_pay19]
theorem pay91_at (y : FVec Ideal S128x512 .f32) (a : Vec Ideal S1x128x512 .f32) (c : Fin 128) (x : Fin 512) :
    k0_pay91 y a (ix3 0 c x) = a (ix3 0 c x) + y (ix2 c x) := by
  pointwise [k0_pay91]
theorem pay92_at (s : FVec Ideal S1024x512 .bf16) (y : FVec Ideal S128x512 .f32) (qt : Vec Ideal S1x1x128x512 .bf16)
    (a : Vec Ideal S1x128x512 .f32) (c : Fin 128) (x : Fin 512) :
    k0_pay92 s y qt a (ix3 0 c x)
      = a (ix3 0 c x) + (y (ix2 c x) + ∑ j : Fin 512, qt (ix4 0 0 c j) * s (ix2 ⟨512 + j.val, by omega⟩ x)) := by
  pointwise [k0_pay92]

/-! ### The last query block alone -/

theorem pay32_at (k : FVec Ideal S512x128 .bf16) (q : Vec Ideal S512x128 .bf16) (j x : Fin 512) :
    k0_pay32 k q (ix2 j x) = ∑ c : Fin 128, q (ix2 j c) * k (ix2 x c) := by
  pointwise [k0_pay32]
theorem pay33_at (v : FVec Ideal S512x128 .bf16) (d : Vec Ideal S512x128 .bf16) (j x : Fin 512) :
    k0_pay33 v d (ix2 j x) = ∑ c : Fin 128, d (ix2 j c) * v (ix2 x c) := by
  pointwise [k0_pay33]
theorem pay34_at (k : FVec Ideal S512x128 .bf16) (q : Vec Ideal S512x128 .bf16) (j x : Fin 512) :
    k0_pay34 k q (ix2 j x) = Ideal.exp (∑ c : Fin 128, q (ix2 j c) * k (ix2 x c)) := by
  pointwise [k0_pay34]
theorem pay35_at (k v : FVec Ideal S512x128 .bf16) (q d : Vec Ideal S512x128 .bf16) (j x : Fin 512) :
    k0_pay35 k v q d (ix2 j x)
      = Ideal.exp (∑ c : Fin 128, q (ix2 j c) * k (ix2 x c)) * ∑ c : Fin 128, d (ix2 j c) * v (ix2 x c) := by
  pointwise [k0_pay35, k0_pay34]
theorem pay36_at (k v : FVec Ideal S512x128 .bf16) (q d : Vec Ideal S512x128 .bf16) (qt : Vec Ideal S1x1x128x512 .bf16) (c : Fin 128) (x : Fin 512) :
    k0_pay36 k v q d qt (ix2 c x) = ∑ j : Fin 512, qt (ix4 0 0 c j) * k0_pay35 k v q d (ix2 j x) := by
  pointwise [k0_pay36]
theorem pay37_at (k : FVec Ideal S512x128 .bf16) (q : Vec Ideal S512x128 .bf16) (dt : Vec Ideal S1x1x128x512 .bf16)
    (a : Vec Ideal S1x128x512 .f32) (c : Fin 128) (x : Fin 512) :
    k0_pay38 (k0_pay37 k q dt a) (ix3 0 c x) = a (ix3 0 c x) + ∑ j : Fin 512, dt (ix4 0 0 c j) * k0_pay34 k q (ix2 j x) := by
  pointwise [k0_pay38, k0_pay37]
theorem pay39_at (y : FVec Ideal S128x512 .f32) (a : Vec Ideal S1x128x512 .f32) (c : Fin 128) (x : Fin 512) :
    k0_pay39 y a (ix3 0 c x) = a (ix3 0 c x) + y (ix2 c x) := by
  pointwise [k0_pay39]
theorem pay97_at (y : FVec Ideal S128x512 .f32) (a : Vec Ideal S1x128x512 .f32) (c : Fin 128) (x : Fin 512) :
    k0_pay97 y a (ix3 0 c x) = a (ix3 0 c x) + y (ix2 c x) := by
  pointwise [k0_pay97]
theorem pay98_at (y : FVec Ideal S128x512 .f32) (a : Vec Ideal S1x128x512 .f32) (c : Fin 128) (x : Fin 512) :
    k0_pay98 y a (ix3 0 c x) = a (ix3 0 c x) + y (ix2 c x) := by
  pointwise [k0_pay98]
theorem pay40_at (k : FVec Ideal S512x128 .bf16) (s : FVec Ideal S512x512 .bf16) (a : Vec Ideal S512x128 .f32) (j : Fin 512) (c : Fin 128) :
    k0_pay40 k s a (ix2 j c) = a (ix2 j c) + ∑ x : Fin 512, s (ix2 j x) * k (ix2 x c) := by
  pointwise [k0_pay40]
theorem pay99_at (k : FVec Ideal S512x128 .bf16) (s : FVec Ideal S512x512 .bf16) (a : Vec Ideal S512x128 .f32) (j : Fin 512) (c : Fin 128) :
    k0_pay99 k s a (ix2 j c) = a (ix2 j c) + ∑ x : Fin 512, s (ix2 j x) * k (ix2 x c) := by
  pointwise [k0_pay99]
theorem pay42_at (s p : FVec Ideal S512x512 .f32) (j x : Fin 512) :
    k0_pay42 s p (ix2 j x) = Ideal.exp (s (ix2 j x)) * p (ix2 j x) := by
  pointwise [k0_pay42, k0_pay41]
theorem pay43_at (s : FVec Ideal S512x512 .f32) (dt : Vec Ideal S1x1x128x512 .bf16) (c : Fin 128) (x : Fin 512) :
    k0_pay43 s dt (ix2 c x) = ∑ j : Fin 512, dt (ix4 0 0 c j) * Ideal.exp (s (ix2 j x)) := by
  pointwise [k0_pay43, k0_pay41]
theorem pay44_at (s p : FVec Ideal S512x512 .f32) (qt : Vec Ideal S1x1x128x512 .bf16) (c : Fin 128) (x : Fin 512) :
    k0_pay44 s p qt (ix2 c x) = ∑ j : Fin 512, qt (ix4 0 0 c j) * k0_pay42 s p (ix2 j x) := by
  pointwise [k0_pay44]

/-! ### The diagonal block

  The position of key `x` against row `j` of the block is compared as numbers, so that a probability above the diagonal
  is zero. -/

theorem mask_at (a b : ℕ) (ha : a < 512) (hb : b < 512) (u v : EReal) :
    Scalar.select (IntOp.cmpi .sle (BitVec.ofNat 32 a) (BitVec.ofNat 32 b)) u v = if a ≤ b then u else v := by
  have h : IntOp.cmpi .sle (BitVec.ofNat 32 a) (BitVec.ofNat 32 b) = BitVec.ofBool (decide (a ≤ b)) := by
    show BitVec.ofBool ((BitVec.ofNat 32 a).sle (BitVec.ofNat 32 b)) = _
    congr 1
    rw [BitVec.sle_eq_decide, BitVec.toInt_ofNat', BitVec.toInt_ofNat']
    simp only [Int.bmod_def]
    rw [decide_eq_decide]
    omega
  rw [h]
  unfold Scalar.select
  by_cases hab : a ≤ b
  · rw [if_pos hab, decide_eq_true hab]; rfl
  · rw [if_neg hab, decide_eq_false hab]; rfl

theorem add_zero_word (a : ℕ) : IntOp.addi (BitVec.ofNat 32 a) 0#32 = BitVec.ofNat 32 a := BitVec.add_zero _
theorem add_word (a : ℕ) : IntOp.addi (BitVec.ofNat 32 a) 256#32 = BitVec.ofNat 32 (256 + a) := by
  show BitVec.ofNat 32 a + BitVec.ofNat 32 256 = _
  rw [← BitVec.ofNat_add, Nat.add_comm]

theorem pay59_at (k : FVec Ideal S512x128 .bf16) (q : Vec Ideal S512x128 .bf16) (j : Fin 512) (x : Fin 256) :
    k0_pay59 k q (ix2 j x) = ∑ c : Fin 128, q (ix2 j c) * k (ix2 ⟨x.val, by omega⟩ c) := by
  pointwise [k0_pay59, k0_pay58]
theorem pay60_at (v : FVec Ideal S512x128 .bf16) (d : Vec Ideal S512x128 .bf16) (j : Fin 512) (x : Fin 256) :
    k0_pay60 v d (ix2 j x) = ∑ c : Fin 128, d (ix2 j c) * v (ix2 ⟨x.val, by omega⟩ c) := by
  pointwise [k0_pay60]
theorem pay61_at (k : FVec Ideal S512x128 .bf16) (q : Vec Ideal S512x128 .bf16) (j : Fin 512) (x : Fin 256) :
    k0_pay61 rowIota colIota k q (ix2 j x)
      = if x.val ≤ j.val then Ideal.exp (∑ c : Fin 128, q (ix2 j c) * k (ix2 ⟨x.val, by omega⟩ c)) else 0 := by
  rw [← mask_at x.val j.val (by omega) (by omega)]
  pointwise [k0_pay61, k0_pay57, rowIota, colIota]
  rw [add_zero_word, add_zero_word]
theorem pay62_at (k v : FVec Ideal S512x128 .bf16) (q d : Vec Ideal S512x128 .bf16) (j : Fin 512) (x : Fin 256) :
    k0_pay62 rowIota colIota k v q d (ix2 j x)
      = k0_pay61 rowIota colIota k q (ix2 j x) * ∑ c : Fin 128, d (ix2 j c) * v (ix2 ⟨x.val, by omega⟩ c) := by
  pointwise [k0_pay62]
theorem pay63_at (k : FVec Ideal S512x128 .bf16) (q : Vec Ideal S512x128 .bf16) (dt : Vec Ideal S1x1x128x512 .bf16) (c : Fin 128) (x : Fin 256) :
    k0_pay64 (k0_pay63 rowIota colIota k q dt) (ix3 0 c x)
      = ∑ j : Fin 512, dt (ix4 0 0 c j) * k0_pay61 rowIota colIota k q (ix2 j x) := by
  pointwise [k0_pay64, k0_pay63]
theorem pay65_at (s : FVec Ideal S512x256 .bf16) (qt : Vec Ideal S1x1x128x512 .bf16) (c : Fin 128) (x : Fin 256) :
    k0_pay65 s qt (ix3 0 c x) = ∑ j : Fin 512, qt (ix4 0 0 c j) * s (ix2 j x) := by
  pointwise [k0_pay65]
theorem pay66_at (k : FVec Ideal S512x128 .bf16) (s : FVec Ideal S512x256 .bf16) (a : Vec Ideal S512x128 .f32) (j : Fin 512) (c : Fin 128) :
    k0_pay66 (k0_pay57 k) s a (ix2 j c) = a (ix2 j c) + ∑ x : Fin 256, s (ix2 j x) * k (ix2 ⟨x.val, by omega⟩ c) := by
  pointwise [k0_pay66, k0_pay57]
theorem pay67_at (s : FVec Ideal S512x256 .f32) (j : Fin 512) (x : Fin 256) :
    k0_pay67 rowIota colIota s (ix2 j x) = if x.val ≤ j.val then Ideal.exp (s (ix2 j x)) else 0 := by
  rw [← mask_at x.val j.val (by omega) (by omega)]
  pointwise [k0_pay67, rowIota, colIota]
  rw [add_zero_word, add_zero_word]
theorem pay68_at (s p : FVec Ideal S512x256 .f32) (j : Fin 512) (x : Fin 256) :
    k0_pay68 rowIota colIota s p (ix2 j x) = k0_pay67 rowIota colIota s (ix2 j x) * p (ix2 j x) := by
  pointwise [k0_pay68]
theorem pay69_at (p : FVec Ideal S512x256 .bf16) (dt : Vec Ideal S1x1x128x512 .bf16) (c : Fin 128) (x : Fin 256) :
    k0_pay69 p dt (ix3 0 c x) = ∑ j : Fin 512, dt (ix4 0 0 c j) * p (ix2 j x) := by
  pointwise [k0_pay69]
theorem pay70_at (s : FVec Ideal S512x256 .bf16) (qt : Vec Ideal S1x1x128x512 .bf16) (c : Fin 128) (x : Fin 256) :
    k0_pay70 s qt (ix3 0 c x) = ∑ j : Fin 512, qt (ix4 0 0 c j) * s (ix2 j x) := by
  pointwise [k0_pay70]
theorem pay71_at (k : FVec Ideal S512x128 .bf16) (s : FVec Ideal S512x256 .bf16) (a : Vec Ideal S512x128 .f32) (j : Fin 512) (c : Fin 128) :
    k0_pay71 (k0_pay58 k) s a (ix2 j c) = a (ix2 j c) + ∑ x : Fin 256, s (ix2 j x) * k (ix2 ⟨x.val, by omega⟩ c) := by
  pointwise [k0_pay71, k0_pay58]

theorem pay72_at (q : Vec Ideal S256x128 .bf16) : k0_pay72 q = q := by
  funext y; rw [eq_ix2 y]; pointwise [k0_pay72]
theorem pay73_at (q : Vec Ideal S256x128 .bf16) : k0_pay73 q = q := by
  funext y; rw [eq_ix2 y]; pointwise [k0_pay73]
theorem pay76_at (k : FVec Ideal S512x128 .bf16) (q : Vec Ideal S256x128 .bf16) (j x : Fin 256) :
    k0_pay76 k q (ix2 j x) = ∑ c : Fin 128, q (ix2 j c) * k (ix2 ⟨256 + x.val, by omega⟩ c) := by
  pointwise [k0_pay76, k0_pay75]
theorem pay77_at (v : FVec Ideal S512x128 .bf16) (d : Vec Ideal S256x128 .bf16) (j x : Fin 256) :
    k0_pay77 v d (ix2 j x) = ∑ c : Fin 128, d (ix2 j c) * v (ix2 ⟨256 + x.val, by omega⟩ c) := by
  pointwise [k0_pay77]
theorem pay78_at (k : FVec Ideal S512x128 .bf16) (q : Vec Ideal S256x128 .bf16) (j x : Fin 256) :
    k0_pay78 rowIota colIota k q (ix2 j x)
      = if 256 + x.val ≤ 256 + j.val then Ideal.exp (∑ c : Fin 128, q (ix2 j c) * k (ix2 ⟨256 + x.val, by omega⟩ c)) else 0 := by
  rw [← mask_at (256 + x.val) (256 + j.val) (by omega) (by omega)]
  pointwise [k0_pay78, k0_pay74, rowIota, colIota]
  rw [add_word, add_word]
theorem pay79_at (k v : FVec Ideal S512x128 .bf16) (q d : Vec Ideal S256x128 .bf16) (j x : Fin 256) :
    k0_pay79 rowIota colIota k v q d (ix2 j x)
      = k0_pay78 rowIota colIota k q (ix2 j x) * ∑ c : Fin 128, d (ix2 j c) * v (ix2 ⟨256 + x.val, by omega⟩ c) := by
  pointwise [k0_pay79]
theorem pay80_at (k : FVec Ideal S512x128 .bf16) (q : Vec Ideal S256x128 .bf16) (dt : Vec Ideal S1x1x128x256 .bf16) (c : Fin 128) (x : Fin 256) :
    k0_pay82 (k0_pay80 rowIota colIota k q dt) (ix3 0 c x)
      = ∑ j : Fin 256, dt (ix4 0 0 c j) * k0_pay78 rowIota colIota k q (ix2 j x) := by
  pointwise [k0_pay82, k0_pay80]
theorem pay81_at (k v : FVec Ideal S512x128 .bf16) (q d : Vec Ideal S256x128 .bf16) (qt : Vec Ideal S1x1x128x256 .bf16) (c : Fin 128) (x : Fin 256) :
    k0_pay83 (k0_pay81 rowIota colIota k v q d qt) zeroF (ix3 0 c x)
      = ∑ j : Fin 256, qt (ix4 0 0 c j) * k0_pay79 rowIota colIota k v q d (ix2 j x) := by
  pointwise [k0_pay83, k0_pay81, zeroF]
theorem pay84_at (k : FVec Ideal S512x128 .bf16) (s : FVec Ideal S256x256 .bf16) (a : Vec Ideal S256x128 .f32) (j : Fin 256) (c : Fin 128) :
    k0_pay84 (k0_pay74 k) s a (ix2 j c) = a (ix2 j c) + ∑ x : Fin 256, s (ix2 j x) * k (ix2 ⟨256 + x.val, by omega⟩ c) := by
  pointwise [k0_pay84, k0_pay74]
theorem pay85_at (s : FVec Ideal S256x256 .f32) (j x : Fin 256) :
    k0_pay85 rowIota colIota s (ix2 j x) = if 256 + x.val ≤ 256 + j.val then Ideal.exp (s (ix2 j x)) else 0 := by
  rw [← mask_at (256 + x.val) (256 + j.val) (by omega) (by omega)]
  pointwise [k0_pay85, rowIota, colIota]
  rw [add_word, add_word]
theorem pay86_at (s p : FVec Ideal S256x256 .f32) (j x : Fin 256) :
    k0_pay86 rowIota colIota s p (ix2 j x) = k0_pay85 rowIota colIota s (ix2 j x) * p (ix2 j x) := by
  pointwise [k0_pay86]
theorem pay87_at (s : FVec Ideal S256x256 .f32) (dt : Vec Ideal S1x1x128x256 .bf16) (c : Fin 128) (x : Fin 256) :
    k0_pay88 (k0_pay87 rowIota colIota s dt) (ix3 0 c x)
      = ∑ j : Fin 256, dt (ix4 0 0 c j) * k0_pay85 rowIota colIota s (ix2 j x) := by
  pointwise [k0_pay88, k0_pay87]
theorem pay89_at (s : FVec Ideal S256x256 .bf16) (qt : Vec Ideal S1x1x128x256 .bf16) (c : Fin 128) (x : Fin 256) :
    k0_pay89 s qt (ix3 0 c x) = ∑ j : Fin 256, qt (ix4 0 0 c j) * s (ix2 j x) := by
  pointwise [k0_pay89]
theorem pay90_at (k : FVec Ideal S512x128 .bf16) (s : FVec Ideal S256x256 .bf16) (a : Vec Ideal S256x128 .f32) (j : Fin 256) (c : Fin 128) :
    k0_pay90 (k0_pay75 k) s a (ix2 j c) = a (ix2 j c) + ∑ x : Fin 256, s (ix2 j x) * k (ix2 ⟨256 + x.val, by omega⟩ c) := by
  pointwise [k0_pay90, k0_pay75]

/-! ### The ends -/

theorem pay47_at (y : S8192x256.Idx) : (k0_pay47 (F := Ideal)) y = 0 := by
  rw [eq_ix2 y]; pointwise [k0_pay47]
theorem pay52_at (y : S8192x128.Idx) : (k0_pay52 (F := Ideal)) y = 0 := by
  rw [eq_ix2 y]; pointwise [k0_pay52]
theorem pay53_at (k : Vec Ideal S1x512x128 .bf16) (x : Fin 512) (c : Fin 128) : k0_pay53 k (ix2 x c) = k (ix3 0 x c) := by
  pointwise [k0_pay53]
theorem pay54_at (k : Vec Ideal S1x512x128 .bf16) (x : Fin 512) (c : Fin 128) : k0_pay54 k (ix2 x c) = k (ix3 0 x c) := by
  pointwise [k0_pay54]
theorem pay55_at (k : Vec Ideal S1x512x128 .bf16) (x : Fin 512) (c : Fin 128) : k0_pay55 k (ix2 x c) = k (ix3 0 x c) := by
  pointwise [k0_pay55]
theorem pay56_at (k : Vec Ideal S1x512x128 .bf16) (x : Fin 512) (c : Fin 128) : k0_pay56 k (ix2 x c) = k (ix3 0 x c) := by
  pointwise [k0_pay56]
theorem pay2_at (a : Vec Ideal S1x128x512 .f32) (x : Fin 512) (c : Fin 128) : k0_pay2 a (ix2 x c) = a (ix3 0 c x) := by
  pointwise [k0_pay2, k0_pay1]
theorem pay3_at (a : Vec Ideal S1x128x512 .f32) (x : Fin 512) (c : Fin 128) : k0_pay3 a (ix2 x c) = a (ix3 0 c x) := by
  pointwise [k0_pay3]
theorem pay102_at (a : Vec Ideal S1x128x512 .f32) (x : Fin 512) (c : Fin 128) : k0_pay102 a (ix2 x c) = a (ix3 0 c x) := by
  pointwise [k0_pay102, k0_pay101]
theorem pay103_at (a : Vec Ideal S1x128x512 .f32) (x : Fin 512) (c : Fin 128) : k0_pay103 a (ix2 x c) = a (ix3 0 c x) := by
  pointwise [k0_pay103]

/-- The lane test of the two heads of a pair. -/
theorem lane_at (a b : ℕ) (ha : a < 512) (hb : b < 512) (u v : EReal) :
    Scalar.select (IntOp.cmpi .eq (BitVec.ofNat 32 a) (BitVec.ofNat 32 b)) u v = if a = b then u else v := by
  have h : IntOp.cmpi .eq (BitVec.ofNat 32 a) (BitVec.ofNat 32 b) = BitVec.ofBool (decide (a = b)) := by
    show BitVec.ofBool (BitVec.ofNat 32 a == BitVec.ofNat 32 b) = _
    congr 1
    rw [Bool.eq_iff_iff, beq_iff_eq, decide_eq_true_iff]
    constructor
    · intro e
      have := congrArg BitVec.toNat e
      simp only [BitVec.toNat_ofNat] at this
      omega
    · rintro rfl; rfl
  rw [h]
  unfold Scalar.select
  by_cases hab : a = b
  · rw [if_pos hab, decide_eq_true hab]; rfl
  · rw [if_neg hab, decide_eq_false hab]; rfl

theorem word_lane (h : ℕ) (e : ℕ) : Scalar.addi (Scalar.muli (BitVec.ofNat 32 h) 2#32) (BitVec.ofNat 32 e) = BitVec.ofNat 32 (2 * h + e) := by
  show BitVec.ofNat 32 h * BitVec.ofNat 32 2 + BitVec.ofNat 32 e = _
  rw [← BitVec.ofNat_mul, ← BitVec.ofNat_add, Nat.mul_comm]

theorem pay4_at (i : grid0.Coords) (z : FVec Ideal S512x128 .f32) (a : FVec Ideal S512x128 .f32) (b : Vec Ideal S1x128x512 .f32) (x : Fin 512) (l : Fin 128) :
    k0_pay4 (k0_pay45 i) (k0_pay46 i) z a b (ix2 x l)
      = if l.val = 2 * (i 0).val + 1 then 0 - b (ix3 0 67 x) else if l.val = 2 * (i 0).val then 0 - a (ix2 x 67) else z (ix2 x l) := by
  have hi : (i 0).val < 8 := (i 0).isLt
  rw [← lane_at l.val (2 * (i 0).val) (by omega) (by omega), ← lane_at l.val (2 * (i 0).val + 1) (by omega) (by omega)]
  pointwise [k0_pay4, k0_pay45, k0_pay46, k0_pay1]
  rw [word_lane _ 0, word_lane _ 1]
  rfl
theorem pay7_at (i : grid0.Coords) (z a b : Vec Ideal S512x128 .f32) (x : Fin 512) (l : Fin 128) :
    k0_pay7 (k0_pay45 i) (k0_pay46 i) z a b (ix2 x l)
      = z (ix2 x l) + (if l.val = 2 * (i 0).val then a (ix2 x 64) else 0) + (if l.val = 2 * (i 0).val + 1 then b (ix2 x 64) else 0) := by
  have hi : (i 0).val < 8 := (i 0).isLt
  rw [← lane_at l.val (2 * (i 0).val) (by omega) (by omega), ← lane_at l.val (2 * (i 0).val + 1) (by omega) (by omega)]
  pointwise [k0_pay7, k0_pay45, k0_pay46]
  rw [word_lane _ 0, word_lane _ 1]
  rfl
theorem pay100_at (z : Vec Ideal S512x128 .f32) (y : S512x128.Idx) : k0_pay100 z y = z y := by
  rw [eq_ix2 y]; pointwise [k0_pay100]
theorem pay101_at (a : Vec Ideal S1x128x512 .f32) (x : Fin 512) (c : Fin 128) : k0_pay101 a (ix2 x c) = a (ix3 0 c x) := by
  pointwise [k0_pay101]

end Cert.KernelIdeal.Bwd
end
-- ==== Proof.Grow.lean ====
/-
  How the running sums of a grid point grow, over the extended reals. For each head, key and query row there is one
  masked probability and one masked score gradient; taking a stretch of query rows adds, for each of those rows, one
  product to the key and value sums, and one sum over the block's keys to the row's query sum.
-/
module

public import proofs.«01_k».proof.Proof.Entries

@[expose] public section

set_option maxRecDepth 16384
set_option maxHeartbeats 1000000

noncomputable section

namespace Cert.KernelIdeal.Bwd

open Idealize.ShloMosaic Idealize.ShloMosaic.VecWindow
open Cert.KernelIdeal Cert.KernelIdeal.Gen
open Finset (range)

/-- An entry of an array of 8192 rows and 256 lanes, by natural numbers. -/
def rowAt (x : S8192x256.Idx → EReal) (r c : ℕ) : EReal := if h : r < 8192 ∧ c < 256 then x (ix2 ⟨r, h.1⟩ ⟨c, h.2⟩) else 0
/-- An entry of a block of 512 keys. -/
def keyAt (x : S1x512x256.Idx → EReal) (r c : ℕ) : EReal := if h : r < 512 ∧ c < 256 then x (ix3 0 ⟨r, h.1⟩ ⟨c, h.2⟩) else 0

theorem rowAt_eq (x : S8192x256.Idx → EReal) (r : Fin 8192) (c : Fin 256) : x (ix2 r c) = rowAt x r.val c.val := by
  unfold rowAt
  rw [dif_pos ⟨r.isLt, c.isLt⟩]
theorem keyAt_eq (x : S1x512x256.Idx → EReal) (r : Fin 512) (c : Fin 256) : x (ix3 0 r c) = keyAt x r.val c.val := by
  unfold keyAt
  rw [dif_pos ⟨r.isLt, c.isLt⟩]

theorem window_rows (x : S8192x256.Idx → EReal) {M R : ℕ} (e : ℕ) {off : Fin 2 → ℕ} (h : off = ![R, 128 * e])
    (inb : ∀ a, off a + (![M, 128] : Fin 2 → ℕ) a ≤ S8192x256.size a) (hR : R + M ≤ 8192) (he : 128 * e + 128 ≤ 256) (r : Fin M) (c : Fin 128) :
    window x off ![M, 128] inb (ix2 r c) = rowAt x (R + r.val) (128 * e + c.val) :=
  (window_ix2 x h inb hR he r c).trans (rowAt_eq _ _ _)

theorem window_keys (x : S1x512x256.Idx → EReal) (e : ℕ) {off : Fin 3 → ℕ} (h : off = ![0, 0, 128 * e])
    (inb : ∀ a, off a + (![1, 512, 128] : Fin 3 → ℕ) a ≤ S1x512x256.size a) (he : 128 * e + 128 ≤ 256) (r : Fin 512) (c : Fin 128) :
    window x off ![1, 512, 128] inb (ix3 0 r c) = keyAt x r.val (128 * e + c.val) := by
  refine (window_ix3 x h inb (by omega) (by omega) he 0 r c).trans ?_
  refine (keyAt_eq x ⟨0 + r.val, by omega⟩ _).trans ?_
  simp only [Nat.zero_add]

theorem window_transposed (x : S8192x256.Idx → EReal) (e b M R : ℕ) {off : Fin 4 → ℕ} {o : ℕ} (h : off = ![e, b, 0, o])
    (inb : ∀ a, off a + (![1, 1, 128, M] : Fin 4 → ℕ) a ≤ S2x16x128x512.size a) (he : e < 2) (hb : b < 16) (ho : o + M ≤ 512)
    (hR : 512 * b + o = R) (c : Fin 128) (j : Fin M) :
    window (transposed (F := Ideal) x) off ![1, 1, 128, M] inb (ix4 0 0 c j) = rowAt x (R + j.val) (128 * e + c.val) := by
  refine (window_ix4 (transposed (F := Ideal) x) h inb (by omega) (by omega) (by omega) ho 0 0 c j).trans ?_
  unfold transposed
  refine (rowAt_eq x _ _).trans ?_
  show rowAt x (512 * (b + 0) + (o + j.val)) (128 * (e + 0) + (0 + c.val)) = _
  congr 1 <;> omega

namespace Ins
variable (I : Ins Ideal)

/-- The probability of key `x` for query row `r`, head `e` of the pair. -/
def prob (e r x : ℕ) : EReal := Ideal.exp (∑ c : Fin 128, rowAt I.q r (128 * e + c.val) * keyAt I.k x (128 * e + c.val))
/-- The gradient of that probability. -/
def grad (e r x : ℕ) : EReal := ∑ c : Fin 128, rowAt I.d r (128 * e + c.val) * keyAt I.v x (128 * e + c.val)
/-- The probability where the key is not after the row, the keys being block `j`; zero elsewhere. -/
def mprob (j e r x : ℕ) : EReal := if 512 * j + x ≤ r then I.prob e r x else 0
/-- The score's gradient. -/
def score (j e r x : ℕ) : EReal := I.mprob j e r x * I.grad e r x

theorem k0_at (x : Fin 512) (c : Fin 128) : I.k0 (ix2 x c) = keyAt I.k x.val (128 * 0 + c.val) :=
  (pay53_at _ x c).trans (window_keys I.k 0 rfl _ (by omega) x c)
theorem k1_at (x : Fin 512) (c : Fin 128) : I.k1 (ix2 x c) = keyAt I.k x.val (128 * 1 + c.val) :=
  (pay54_at _ x c).trans (window_keys I.k 1 rfl _ (by omega) x c)
theorem v0_at (x : Fin 512) (c : Fin 128) : I.v0 (ix2 x c) = keyAt I.v x.val (128 * 0 + c.val) :=
  (pay55_at _ x c).trans (window_keys I.v 0 rfl _ (by omega) x c)
theorem v1_at (x : Fin 512) (c : Fin 128) : I.v1 (ix2 x c) = keyAt I.v x.val (128 * 1 + c.val) :=
  (pay56_at _ x c).trans (window_keys I.v 1 rfl _ (by omega) x c)

/-- The transposed copies are copies. -/
structure Copies : Prop where
  qt : I.qt = transposed I.q
  dt : I.dt = transposed I.d

theorem mprob_later {j e r x : ℕ} (hx : x < 512) (h : 512 * (j + 1) ≤ r) : I.mprob j e r x = I.prob e r x := if_pos (by omega)

end Ins

/-- Taking the `M` query rows from `R` on turns the sums `A` into `B`, the keys being block `j`. -/
structure Grow (I : Ins Ideal) (j R M : ℕ) (A B : Acc Ideal) : Prop where
  dk : ∀ (e : Fin 2) (c : Fin 128) (x : Fin 512), B.dk (ix3 e c x)
    = A.dk (ix3 e c x) + ∑ t ∈ range M, rowAt I.q (R + t) (128 * e.val + c.val) * I.score j e.val (R + t) x.val
  dv : ∀ (e : Fin 2) (c : Fin 128) (x : Fin 512), B.dv (ix3 e c x)
    = A.dv (ix3 e c x) + ∑ t ∈ range M, rowAt I.d (R + t) (128 * e.val + c.val) * I.mprob j e.val (R + t) x.val
  dq : ∀ (e : Fin 2) (c : Fin 128) (r : Fin 8192), rowAt B.dq r.val (128 * e.val + c.val)
    = rowAt A.dq r.val (128 * e.val + c.val)
      + if R ≤ r.val ∧ r.val < R + M then ∑ x ∈ range 512, I.score j e.val r.val x * keyAt I.k x (128 * e.val + c.val) else 0

theorem Grow.trans {I : Ins Ideal} {j R M M' : ℕ} {A B C : Acc Ideal} (h : Grow I j R M A B) (h' : Grow I j (R + M) M' B C) :
    Grow I j R (M + M') A C where
  dk e c x := by
    rw [h'.dk, h.dk, Finset.sum_range_add, add_assoc]
    simp only [Nat.add_assoc]
  dv e c x := by
    rw [h'.dv, h.dv, Finset.sum_range_add, add_assoc]
    simp only [Nat.add_assoc]
  dq e c r := by
    rw [h'.dq, h.dq, add_assoc]
    congr 1
    by_cases h1 : R ≤ r.val ∧ r.val < R + M
    · rw [if_pos h1, if_neg (by omega), if_pos (by omega), add_zero]
    · rw [if_neg h1, zero_add]
      by_cases h2 : R + M ≤ r.val ∧ r.val < R + M + M'
      · rw [if_pos h2, if_pos (by omega)]
      · rw [if_neg h2, if_neg (by omega)]

theorem Grow.none (I : Ins Ideal) (j R : ℕ) (A : Acc Ideal) : Grow I j R 0 A A where
  dk e c x := by rw [Finset.sum_range_zero, add_zero]
  dv e c x := by rw [Finset.sum_range_zero, add_zero]
  dq e c r := by rw [if_neg (by omega), add_zero]

/-- Rows before the block of keys add nothing. -/
theorem Grow.before (I : Ins Ideal) (j : ℕ) (A : Acc Ideal) : Grow I j 0 (512 * j) A A where
  dk e c x := by
    rw [Finset.sum_eq_zero, add_zero]
    intro t ht
    rw [Finset.mem_range] at ht
    rw [Ins.score, Ins.mprob, if_neg (by omega), zero_mul, mul_zero]
  dv e c x := by
    rw [Finset.sum_eq_zero, add_zero]
    intro t ht
    rw [Finset.mem_range] at ht
    rw [Ins.mprob, if_neg (by omega), mul_zero]
  dq e c r := by
    split
    · rw [Finset.sum_eq_zero, add_zero]
      intro t ht
      rw [Ins.score, Ins.mprob, if_neg (by omega), zero_mul, zero_mul]
    · rw [add_zero]

/-! ### Reading two heads' stores -/

theorem heads_at (x : S2x128x512.Idx → EReal) (a b : S1x128x512.Idx → EReal) (e : Fin 2) (c : Fin 128) (y : Fin 512) :
    put (put x ![0, 0, 0] S1x128x512.size a) ![1, 0, 0] S1x128x512.size b (ix3 e c y) = if e.val = 0 then a (ix3 0 c y) else b (ix3 0 c y) := by
  refine (put_ix3 _ rfl _ e c y).trans ?_
  by_cases he : e.val = 0
  · rw [dif_neg (by omega), if_pos he]
    refine (put_ix3 _ rfl _ e c y).trans ?_
    rw [dif_pos ⟨by omega, by omega, by omega⟩]
    refine congrArg a ?_
    rw [ix3_inj]
    exact ⟨Fin.ext (by simp [he]), Fin.ext (by simp), Fin.ext (by simp)⟩
  · rw [dif_pos ⟨by omega, by omega, by omega⟩, if_neg he]
    refine congrArg b ?_
    rw [ix3_inj]
    exact ⟨Fin.ext (by simp; omega), Fin.ext (by simp), Fin.ext (by simp)⟩

theorem window_head (x : S2x128x512.Idx → EReal) (e : ℕ) (he : e < 2) (inb : ∀ a, (![e, 0, 0] : Fin 3 → ℕ) a + S1x128x512.size a ≤ S2x128x512.size a)
    (c : Fin 128) (y : Fin 512) : window x ![e, 0, 0] S1x128x512.size inb (ix3 0 c y) = x (ix3 ⟨e, he⟩ c y) := by
  refine (window_ix3 x rfl inb (by omega) (by omega) (by omega) 0 c y).trans (congrArg x ?_)
  rw [ix3_inj]
  exact ⟨Fin.ext rfl, Fin.ext (Nat.zero_add _), Fin.ext (Nat.zero_add _)⟩

theorem rows_at (x : S8192x256.Idx → EReal) {M R : ℕ} {off off' : Fin 2 → ℕ} (h : off = ![R, 0]) (h' : off' = ![R, 128]) (hR : R + M ≤ 8192)
    (a b : (⟨2, ![M, 128]⟩ : Shape).Idx → EReal) (e : Fin 2) (c : Fin 128) (r : Fin 8192) :
    rowAt (put (put x off ![M, 128] a) off' ![M, 128] b) r.val (128 * e.val + c.val)
      = if h : R ≤ r.val ∧ r.val < R + M then (if e.val = 0 then a else b) (ix2 ⟨r.val - R, by omega⟩ c)
        else rowAt x r.val (128 * e.val + c.val) := by
  have hc : 128 * e.val + c.val < 256 := by omega
  rw [show rowAt (put (put x off ![M, 128] a) off' ![M, 128] b) r.val (128 * e.val + c.val)
    = put (put x off ![M, 128] a) off' ![M, 128] b (ix2 r ⟨128 * e.val + c.val, hc⟩) from (rowAt_eq _ r ⟨_, hc⟩).symm,
    show rowAt x r.val (128 * e.val + c.val) = x (ix2 r ⟨128 * e.val + c.val, hc⟩) from (rowAt_eq _ r ⟨_, hc⟩).symm]
  refine (put_ix2 _ h' _ r _).trans ?_
  by_cases hr : R ≤ r.val ∧ r.val < R + M
  · rw [dif_pos hr]
    by_cases he : e.val = 0
    · rw [dif_neg (by simp only; omega), if_pos he]
      refine (put_ix2 _ h _ r _).trans ?_
      rw [dif_pos (by simp only; omega)]
      refine congrArg a ?_
      rw [ix2_inj]
      exact ⟨rfl, Fin.ext (by simp [he])⟩
    · rw [dif_pos (by simp only; omega), if_neg he]
      refine congrArg b ?_
      rw [ix2_inj]
      exact ⟨rfl, Fin.ext (by simp only; omega)⟩
  · rw [dif_neg hr, dif_neg (by simp only; omega)]
    refine (put_ix2 _ h _ r _).trans ?_
    rw [dif_neg (by simp only; omega)]

end Cert.KernelIdeal.Bwd
end
-- ==== Proof.GrowLater.lean ====
/-
  The steps over later query blocks grow the running sums as stated in Grow.lean.
-/
module

public import proofs.«01_k».proof.Proof.Grow

@[expose] public section

set_option maxRecDepth 16384
set_option maxHeartbeats 1000000

noncomputable section

namespace Cert.KernelIdeal.Bwd

open Idealize.ShloMosaic Idealize.ShloMosaic.VecWindow
open Cert.KernelIdeal Cert.KernelIdeal.Gen
open Finset (range)

/-- A sum over 1024 rows from its two halves. -/
theorem sum_1024 (f : ℕ → EReal) : (∑ j : Fin 512, f j.val) + ∑ j : Fin 512, f (512 + j.val) = ∑ t ∈ range 1024, f t := by
  rw [← Finset.sum_range (fun n => f n), ← Finset.sum_range (fun n => f (512 + n)), ← Finset.sum_range_add f 512 512]

theorem block_at {x : S8192x256.Idx → EReal} {y : Vec Ideal S2x16x128x512 .bf16} (hy : y = transposed x) (e b : ℕ) {off : Fin 4 → ℕ}
    (h : off = ![e, b, 0, 0]) (inb : ∀ a, off a + (![1, 1, 128, 512] : Fin 4 → ℕ) a ≤ S2x16x128x512.size a) (he : e < 2) (hb : b < 16)
    (c : Fin 128) (j : Fin 512) : window y off ![1, 1, 128, 512] inb (ix4 0 0 c j) = rowAt x (512 * b + j.val) (128 * e + c.val) := by
  subst hy
  exact window_transposed x e b 512 _ h inb he hb (by omega) rfl c j

theorem next_block_at {x : S8192x256.Idx → EReal} {y : Vec Ideal S2x16x128x512 .bf16} (hy : y = transposed x) (e b : ℕ) {off : Fin 4 → ℕ}
    (h : off = ![e, b + 1, 0, 0]) (inb : ∀ a, off a + (![1, 1, 128, 512] : Fin 4 → ℕ) a ≤ S2x16x128x512.size a) (he : e < 2) (hb : b + 1 < 16)
    (c : Fin 128) (j : Fin 512) : window y off ![1, 1, 128, 512] inb (ix4 0 0 c j) = rowAt x (512 * b + (512 + j.val)) (128 * e + c.val) := by
  rw [block_at hy e (b + 1) h inb he hb c j, Nat.mul_succ, Nat.add_assoc]

section Step
variable (i : grid0.Coords) (I : Ins Ideal) (n : Fin (k0_t2_loop i).trips)

theorem later_bound : 512 * ((i 1).val + 1 + 2 * n.val) + 1024 ≤ 8192 := by
  have := lt_of_lt_of_eq n.isLt (t2_trips i)
  omega

theorem laterP0_at (j : Fin 1024) (x : Fin 512) :
    laterP0 i I n (ix2 j x) = I.prob 0 (512 * ((i 1).val + 1 + 2 * n.val) + j.val) x.val := by
  unfold laterP0
  rw [pay10_at, Ins.prob]
  refine congrArg Ideal.exp (Finset.sum_congr rfl fun c _ => ?_)
  rw [window_rows I.q 0 (off13_eq i n) _ (later_bound i n) (by omega), Ins.k0_at]

theorem laterS0_at (j : Fin 1024) (x : Fin 512) :
    laterS0 i I n (ix2 j x) = I.prob 0 (512 * ((i 1).val + 1 + 2 * n.val) + j.val) x.val * I.grad 0 (512 * ((i 1).val + 1 + 2 * n.val) + j.val) x.val := by
  unfold laterS0
  rw [pay11_at, Ins.prob, Ins.grad]
  refine congrArg₂ (· * ·) (congrArg Ideal.exp (Finset.sum_congr rfl fun c _ => ?_)) (Finset.sum_congr rfl fun c _ => ?_)
  · rw [window_rows I.q 0 (off13_eq i n) _ (later_bound i n) (by omega), Ins.k0_at]
  · rw [window_rows I.d 0 (off13_eq i n) _ (later_bound i n) (by omega), Ins.v0_at]

theorem laterP1_at (j : Fin 1024) (x : Fin 512) :
    k0_pay16 (laterL1 i I n) (ix2 j x) = I.prob 1 (512 * ((i 1).val + 1 + 2 * n.val) + j.val) x.val := by
  unfold laterL1
  rw [pay16_at, pay8_at, Ins.prob]
  refine congrArg Ideal.exp (Finset.sum_congr rfl fun c _ => ?_)
  rw [window_rows I.q 1 (off14_eq i n) _ (later_bound i n) (by omega), Ins.k1_at]

theorem laterS1_at (j : Fin 1024) (x : Fin 512) :
    laterS1 i I n (ix2 j x) = I.prob 1 (512 * ((i 1).val + 1 + 2 * n.val) + j.val) x.val * I.grad 1 (512 * ((i 1).val + 1 + 2 * n.val) + j.val) x.val := by
  unfold laterS1
  rw [pay17_at, ← pay16_at, laterP1_at, pay9_at, Ins.grad]
  refine congrArg₂ (· * ·) rfl (Finset.sum_congr rfl fun c _ => ?_)
  rw [window_rows I.d 1 (off14_eq i n) _ (later_bound i n) (by omega), Ins.v1_at]

theorem later_prob (e t x : ℕ) (hx : x < 512) : I.mprob (i 1).val e (512 * ((i 1).val + 1 + 2 * n.val) + t) x
    = I.prob e (512 * ((i 1).val + 1 + 2 * n.val) + t) x := I.mprob_later hx (by omega)

theorem later_score (e t x : ℕ) (hx : x < 512) : I.score (i 1).val e (512 * ((i 1).val + 1 + 2 * n.val) + t) x
    = I.prob e (512 * ((i 1).val + 1 + 2 * n.val) + t) x * I.grad e (512 * ((i 1).val + 1 + 2 * n.val) + t) x := by
  rw [Ins.score, later_prob i I n e t x hx]

/-- One step over two later query blocks. -/
theorem grow_later (hI : I.Copies) (A : Acc Ideal) :
    Grow I (i 1).val (512 * ((i 1).val + 1 + 2 * n.val)) 1024 A (later i I n A) where
  dk e c x := by
    have hb := later_bound i n
    refine (heads_at _ _ _ e c x).trans ?_
    by_cases he : e.val = 0
    · rw [if_pos he, pay14_at]
      obtain rfl : e = 0 := Fin.ext he
      refine congrArg₂ (· + ·) (window_head _ 0 (by omega) _ c x) ?_
      rw [← sum_1024]
      refine congrArg₂ (· + ·) (Finset.sum_congr rfl fun j _ => ?_) (Finset.sum_congr rfl fun j _ => ?_)
      · refine congrArg₂ (· * ·) (block_at hI.qt 0 ((i 1).val + 1 + 2 * n.val) (off15_eq i n 0) _ (by omega) (by omega) c j) ((laterS0_at i I n _ x).trans ?_)
        exact (later_score i I n _ _ _ x.isLt).symm
      · refine congrArg₂ (· * ·) (next_block_at hI.qt 0 ((i 1).val + 1 + 2 * n.val) (off15_eq i n 1) _ (by omega) (by omega) c j) ((laterS0_at i I n _ x).trans ?_)
        exact (later_score i I n _ _ _ x.isLt).symm
    · rw [if_neg he, pay92_at, pay19_at]
      obtain rfl : e = 1 := Fin.ext (by have := e.isLt; omega)
      refine congrArg₂ (· + ·) (window_head _ 1 (by omega) _ c x) ?_
      rw [← sum_1024]
      refine congrArg₂ (· + ·) (Finset.sum_congr rfl fun j _ => ?_) (Finset.sum_congr rfl fun j _ => ?_)
      · refine congrArg₂ (· * ·) (block_at hI.qt 1 ((i 1).val + 1 + 2 * n.val) (off16_eq i n 0) _ (by omega) (by omega) c j) ((laterS1_at i I n _ x).trans ?_)
        exact (later_score i I n _ _ _ x.isLt).symm
      · refine congrArg₂ (· * ·) (next_block_at hI.qt 1 ((i 1).val + 1 + 2 * n.val) (off16_eq i n 1) _ (by omega) (by omega) c j) ((laterS1_at i I n _ x).trans ?_)
        exact (later_score i I n _ _ _ x.isLt).symm
  dv e c x := by
    have hb := later_bound i n
    refine (heads_at _ _ _ e c x).trans ?_
    by_cases he : e.val = 0
    · rw [if_pos he, pay13_at, pay12_at]
      obtain rfl : e = 0 := Fin.ext he
      refine congrArg₂ (· + ·) (window_head _ 0 (by omega) _ c x) ?_
      rw [← sum_1024]
      refine congrArg₂ (· + ·) (Finset.sum_congr rfl fun j _ => ?_) (Finset.sum_congr rfl fun j _ => ?_)
      · refine congrArg₂ (· * ·) (block_at hI.dt 0 ((i 1).val + 1 + 2 * n.val) (off15_eq i n 0) _ (by omega) (by omega) c j) ((laterP0_at i I n _ x).trans ?_)
        exact (later_prob i I n _ _ _ x.isLt).symm
      · refine congrArg₂ (· * ·) (next_block_at hI.dt 0 ((i 1).val + 1 + 2 * n.val) (off15_eq i n 1) _ (by omega) (by omega) c j) ((laterP0_at i I n _ x).trans ?_)
        exact (later_prob i I n _ _ _ x.isLt).symm
    · rw [if_neg he, pay91_at, pay18_at]
      obtain rfl : e = 1 := Fin.ext (by have := e.isLt; omega)
      refine congrArg₂ (· + ·) (window_head _ 1 (by omega) _ c x) ?_
      rw [← sum_1024]
      refine congrArg₂ (· + ·) (Finset.sum_congr rfl fun j _ => ?_) (Finset.sum_congr rfl fun j _ => ?_)
      · refine congrArg₂ (· * ·) (block_at hI.dt 1 ((i 1).val + 1 + 2 * n.val) (off16_eq i n 0) _ (by omega) (by omega) c j) ((laterP1_at i I n _ x).trans ?_)
        exact (later_prob i I n _ _ _ x.isLt).symm
      · refine congrArg₂ (· * ·) (next_block_at hI.dt 1 ((i 1).val + 1 + 2 * n.val) (off16_eq i n 1) _ (by omega) (by omega) c j) ((laterP1_at i I n _ x).trans ?_)
        exact (later_prob i I n _ _ _ x.isLt).symm
  dq e c r := by
    have hb := later_bound i n
    refine (rows_at _ (off13_eq i n) (off14_eq i n) hb _ _ e c r).trans ?_
    by_cases hr : 512 * ((i 1).val + 1 + 2 * n.val) ≤ r.val ∧ r.val < 512 * ((i 1).val + 1 + 2 * n.val) + 1024
    · rw [dif_pos hr, if_pos hr, Finset.sum_range]
      have er : 512 * ((i 1).val + 1 + 2 * n.val) + (r.val - 512 * ((i 1).val + 1 + 2 * n.val)) = r.val := by omega
      by_cases he : e.val = 0
      · rw [if_pos he, pay15_at]
        obtain rfl : e = 0 := Fin.ext he
        refine congrArg₂ (· + ·) ((window_rows A.dq 0 (off13_eq i n) _ hb (by omega) _ c).trans (congrArg (rowAt A.dq · _) er))
          (Finset.sum_congr rfl fun x _ => congrArg₂ (· * ·) ((laterS0_at i I n _ x).trans ?_) (I.k0_at x c))
        refine (later_score i I n _ _ _ x.isLt).symm.trans ?_
        exact congrArg (I.score _ _ · _) er
      · rw [if_neg he, pay93_at]
        obtain rfl : e = 1 := Fin.ext (by have := e.isLt; omega)
        refine congrArg₂ (· + ·) ((window_rows A.dq 1 (off14_eq i n) _ hb (by omega) _ c).trans (congrArg (rowAt A.dq · _) er))
          (Finset.sum_congr rfl fun x _ => congrArg₂ (· * ·) ((laterS1_at i I n _ x).trans ?_) (I.k1_at x c))
        refine (later_score i I n _ _ _ x.isLt).symm.trans ?_
        exact congrArg (I.score _ _ · _) er
    · rw [dif_neg hr, if_neg hr, add_zero]

end Step

/-- The first `n` steps. -/
theorem grow_laterN (i : grid0.Coords) (I : Ins Ideal) (hI : I.Copies) (A : Acc Ideal) :
    ∀ n : ℕ, n ≤ (k0_t2_loop i).trips → Grow I (i 1).val (512 * ((i 1).val + 1)) (1024 * n) A (laterN i I A n)
  | 0, _ => Grow.none I _ _ A
  | n + 1, h => by
    rw [show laterN i I A (n + 1) = later i I ⟨n, h⟩ (laterN i I A n) from laterN_succ i I A ⟨n, h⟩,
      show 1024 * (n + 1) = 1024 * n + 1024 from rfl]
    refine (grow_laterN i I hI A n (by omega)).trans ?_
    rw [show 512 * ((i 1).val + 1) + 1024 * n = 512 * ((i 1).val + 1 + 2 * n) by omega]
    exact grow_later i I ⟨n, h⟩ hI _

end Cert.KernelIdeal.Bwd
end
-- ==== Proof.GrowLast.lean ====
/-
  The single last query block grows the running sums as stated in Grow.lean.
-/
module

public import proofs.«01_k».proof.Proof.GrowLater

@[expose] public section

set_option maxRecDepth 16384
set_option maxHeartbeats 1000000

noncomputable section

namespace Cert.KernelIdeal.Bwd

open Idealize.ShloMosaic Idealize.ShloMosaic.VecWindow
open Cert.KernelIdeal Cert.KernelIdeal.Gen
open Finset (range)

section Last
variable (I : Ins Ideal)

theorem lastP0_at (j x : Fin 512) :
    k0_pay34 I.k0 (window I.q ![7680, 0] S512x128.size inb_S8192x256_S512x128_7680_0) (ix2 j x) = I.prob 0 (7680 + j.val) x.val := by
  rw [pay34_at, Ins.prob]
  refine congrArg Ideal.exp (Finset.sum_congr rfl fun c _ => ?_)
  rw [Ins.k0_at]
  exact congrArg (· * _) (window_rows I.q 0 rfl _ (by omega) (by omega) j c)

theorem lastS0_at (j x : Fin 512) :
    k0_pay35 I.k0 I.v0 (window I.q ![7680, 0] S512x128.size inb_S8192x256_S512x128_7680_0)
      (window I.d ![7680, 0] S512x128.size inb_S8192x256_S512x128_7680_0) (ix2 j x) = I.prob 0 (7680 + j.val) x.val * I.grad 0 (7680 + j.val) x.val := by
  rw [pay35_at, ← pay34_at, lastP0_at, Ins.grad]
  refine congrArg₂ (· * ·) rfl (Finset.sum_congr rfl fun c _ => ?_)
  rw [Ins.v0_at]
  exact congrArg (· * _) (window_rows I.d 0 rfl _ (by omega) (by omega) j c)

theorem lastP1_at (j x : Fin 512) :
    Ideal.exp (k0_pay32 I.k1 (window I.q ![7680, 128] S512x128.size inb_S8192x256_S512x128_7680_128) (ix2 j x)) = I.prob 1 (7680 + j.val) x.val := by
  rw [pay32_at, Ins.prob]
  refine congrArg Ideal.exp (Finset.sum_congr rfl fun c _ => ?_)
  rw [Ins.k1_at]
  exact congrArg (· * _) (window_rows I.q 1 rfl _ (by omega) (by omega) j c)

theorem lastS1_at (j x : Fin 512) :
    k0_pay42 (k0_pay32 I.k1 (window I.q ![7680, 128] S512x128.size inb_S8192x256_S512x128_7680_128))
      (k0_pay33 I.v1 (window I.d ![7680, 128] S512x128.size inb_S8192x256_S512x128_7680_128)) (ix2 j x)
      = I.prob 1 (7680 + j.val) x.val * I.grad 1 (7680 + j.val) x.val := by
  rw [pay42_at, lastP1_at, pay33_at, Ins.grad]
  refine congrArg₂ (· * ·) rfl (Finset.sum_congr rfl fun c _ => ?_)
  rw [Ins.v1_at]
  exact congrArg (· * _) (window_rows I.d 1 rfl _ (by omega) (by omega) j c)

variable (b : ℕ) (hb : b < 15)
include hb

theorem last_prob (e t x : ℕ) (hx : x < 512) : I.mprob b e (7680 + t) x = I.prob e (7680 + t) x := I.mprob_later hx (by omega)
theorem last_score (e t x : ℕ) (hx : x < 512) : I.score b e (7680 + t) x = I.prob e (7680 + t) x * I.grad e (7680 + t) x := by
  rw [Ins.score, last_prob I b hb e t x hx]

/-- The last query block. -/
theorem grow_last (hI : I.Copies) (A : Acc Ideal) : Grow I b 7680 512 A (last I A) where
  dk e c x := by
    refine (heads_at _ _ _ e c x).trans ?_
    rw [Finset.sum_range]
    by_cases he : e.val = 0
    · rw [if_pos he, pay39_at, pay36_at]
      obtain rfl : e = 0 := Fin.ext he
      refine congrArg₂ (· + ·) (window_head _ 0 (by omega) _ c x) (Finset.sum_congr rfl fun j _ => ?_)
      exact congrArg₂ (· * ·) (block_at hI.qt 0 15 rfl _ (by omega) (by omega) c j)
        ((lastS0_at I j x).trans (last_score I b hb _ _ _ x.isLt).symm)
    · rw [if_neg he, pay98_at, pay44_at]
      obtain rfl : e = 1 := Fin.ext (by have := e.isLt; omega)
      refine congrArg₂ (· + ·) (window_head _ 1 (by omega) _ c x) (Finset.sum_congr rfl fun j _ => ?_)
      exact congrArg₂ (· * ·) (block_at hI.qt 1 15 rfl _ (by omega) (by omega) c j)
        ((lastS1_at I j x).trans (last_score I b hb _ _ _ x.isLt).symm)
  dv e c x := by
    refine (heads_at _ _ _ e c x).trans ?_
    rw [Finset.sum_range]
    by_cases he : e.val = 0
    · rw [if_pos he, pay37_at]
      obtain rfl : e = 0 := Fin.ext he
      refine congrArg₂ (· + ·) (window_head _ 0 (by omega) _ c x) (Finset.sum_congr rfl fun j _ => ?_)
      exact congrArg₂ (· * ·) (block_at hI.dt 0 15 rfl _ (by omega) (by omega) c j)
        ((lastP0_at I j x).trans (last_prob I b hb _ _ _ x.isLt).symm)
    · rw [if_neg he, pay97_at, pay43_at]
      obtain rfl : e = 1 := Fin.ext (by have := e.isLt; omega)
      refine congrArg₂ (· + ·) (window_head _ 1 (by omega) _ c x) (Finset.sum_congr rfl fun j _ => ?_)
      exact congrArg₂ (· * ·) (block_at hI.dt 1 15 rfl _ (by omega) (by omega) c j)
        ((lastP1_at I j x).trans (last_prob I b hb _ _ _ x.isLt).symm)
  dq e c r := by
    refine (rows_at _ (M := 512) (R := 7680) rfl rfl (by omega) _ _ e c r).trans ?_
    by_cases hr : 7680 ≤ r.val ∧ r.val < 7680 + 512
    · rw [dif_pos hr, if_pos hr, Finset.sum_range]
      have er : 7680 + (r.val - 7680) = r.val := by omega
      by_cases he : e.val = 0
      · rw [if_pos he, pay40_at]
        obtain rfl : e = 0 := Fin.ext he
        refine congrArg₂ (· + ·) ((window_rows A.dq 0 (M := 512) (R := 7680) rfl _ (by omega) (by omega) _ c).trans ?_)
          (Finset.sum_congr rfl fun x _ => congrArg₂ (· * ·) ((lastS0_at I _ x).trans ?_) (I.k0_at x c))
        · simp only [er]; rfl
        · rw [← last_score I b hb _ _ _ x.isLt]
          simp only [er]; rfl
      · rw [if_neg he, pay99_at]
        obtain rfl : e = 1 := Fin.ext (by have := e.isLt; omega)
        refine congrArg₂ (· + ·) ((window_rows A.dq 1 (M := 512) (R := 7680) rfl _ (by omega) (by omega) _ c).trans ?_)
          (Finset.sum_congr rfl fun x _ => congrArg₂ (· * ·) ((lastS1_at I _ x).trans ?_) (I.k1_at x c))
        · simp only [er]; rfl
        · rw [← last_score I b hb _ _ _ x.isLt]
          simp only [er]; rfl
    · rw [dif_neg hr, if_neg hr, add_zero]

end Last

end Cert.KernelIdeal.Bwd
end
-- ==== Proof.GrowDiag.lean ====
/-
  The masked diagonal block grows the running sums as stated in Grow.lean: all its rows against the first half of the
  block's keys, and the lower half of the rows against the second half of the keys. The upper rows against the second
  half lie above the diagonal and count for zero.
-/
module

public import proofs.«01_k».proof.Proof.GrowLast

@[expose] public section

set_option maxRecDepth 16384
set_option maxHeartbeats 1000000

noncomputable section

namespace Cert.KernelIdeal.Bwd

open Idealize.ShloMosaic Idealize.ShloMosaic.VecWindow
open Cert.KernelIdeal Cert.KernelIdeal.Gen
open Finset (range)

theorem quarters_first (a b a' b' : Vec Ideal S1x128x256 .f32) (e : Fin 2) (c : Fin 128) (x : Fin 512) (h : x.val < 256) :
    quarters a b a' b' (ix3 e c x) = (if e.val = 0 then a else b) (ix3 0 c ⟨x.val, h⟩) := dif_pos h
theorem quarters_second (a b a' b' : Vec Ideal S1x128x256 .f32) (e : Fin 2) (c : Fin 128) (x : Fin 512) (h : ¬ x.val < 256) :
    quarters a b a' b' (ix3 e c x) = (if e.val = 0 then a' else b') (ix3 0 c ⟨x.val - 256, by omega⟩) := dif_neg h

section Diag
variable (i : grid0.Coords) (I : Ins Ideal)

theorem diag_bound : 512 * (i 1).val + 512 ≤ 8192 := by
  have h : (i 1).val < 16 := (i 1).isLt
  omega
theorem low_bound : 512 * (i 1).val + 256 + 256 ≤ 8192 := diag_bound i

theorem diag_mask (e j x : ℕ) (p : EReal) (h : p = I.prob e (512 * (i 1).val + j) x) :
    (if x ≤ j then p else 0) = I.mprob (i 1).val e (512 * (i 1).val + j) x := by
  rw [Ins.mprob, h]
  by_cases hx : x ≤ j
  · rw [if_pos hx, if_pos (by omega)]
  · rw [if_neg hx, if_neg (by omega)]

theorem low_mask (e j x : ℕ) (p : EReal) (h : p = I.prob e (512 * (i 1).val + 256 + j) (256 + x)) :
    (if 256 + x ≤ 256 + j then p else 0) = I.mprob (i 1).val e (512 * (i 1).val + 256 + j) (256 + x) := by
  rw [Ins.mprob, h]
  by_cases hx : 256 + x ≤ 256 + j
  · rw [if_pos hx, if_pos (by omega)]
  · rw [if_neg hx, if_neg (by omega)]

theorem diag_sum (e : ℕ) (j x : ℕ) (hj : j < 512) (hx : x < 512) (q : S512x128.Idx → EReal) (k : S512x128.Idx → EReal)
    (hq : ∀ (j : Fin 512) (c : Fin 128), q (ix2 j c) = rowAt I.q (512 * (i 1).val + j.val) (128 * e + c.val))
    (hk : ∀ (x : Fin 512) (c : Fin 128), k (ix2 x c) = keyAt I.k x.val (128 * e + c.val)) :
    Ideal.exp (∑ c : Fin 128, q (ix2 ⟨j, hj⟩ c) * k (ix2 ⟨x, hx⟩ c)) = I.prob e (512 * (i 1).val + j) x := by
  rw [Ins.prob]
  refine congrArg Ideal.exp (Finset.sum_congr rfl fun c _ => ?_)
  rw [hq, hk]

theorem diagQ0_at (j : Fin 512) (c : Fin 128) : diagQ0 i I (ix2 j c) = rowAt I.q (512 * (i 1).val + j.val) (128 * 0 + c.val) :=
  window_rows I.q 0 (k0_off5_eq i) _ (diag_bound i) (by omega) j c
theorem diagQ1_at (j : Fin 512) (c : Fin 128) : diagQ1 i I (ix2 j c) = rowAt I.q (512 * (i 1).val + j.val) (128 * 1 + c.val) :=
  window_rows I.q 1 (k0_off6_eq i) _ (diag_bound i) (by omega) j c
theorem diagD0_at (j : Fin 512) (c : Fin 128) : diagD0 i I (ix2 j c) = rowAt I.d (512 * (i 1).val + j.val) (128 * 0 + c.val) :=
  window_rows I.d 0 (k0_off5_eq i) _ (diag_bound i) (by omega) j c
theorem diagD1_at (j : Fin 512) (c : Fin 128) : diagD1 i I (ix2 j c) = rowAt I.d (512 * (i 1).val + j.val) (128 * 1 + c.val) :=
  window_rows I.d 1 (k0_off6_eq i) _ (diag_bound i) (by omega) j c
theorem lowQ0_at (j : Fin 256) (c : Fin 128) : lowQ0 i I (ix2 j c) = rowAt I.q (512 * (i 1).val + 256 + j.val) (128 * 0 + c.val) := by
  unfold lowQ0
  rw [pay72_at]
  exact window_rows I.q 0 (k0_off9_eq i) _ (low_bound i) (by omega) j c
theorem lowQ1_at (j : Fin 256) (c : Fin 128) : lowQ1 i I (ix2 j c) = rowAt I.q (512 * (i 1).val + 256 + j.val) (128 * 1 + c.val) := by
  unfold lowQ1
  rw [pay73_at]
  exact window_rows I.q 1 (k0_off10_eq i) _ (low_bound i) (by omega) j c
theorem lowD0_at (j : Fin 256) (c : Fin 128) : lowD0 i I (ix2 j c) = rowAt I.d (512 * (i 1).val + 256 + j.val) (128 * 0 + c.val) :=
  window_rows I.d 0 (k0_off9_eq i) _ (low_bound i) (by omega) j c
theorem lowD1_at (j : Fin 256) (c : Fin 128) : lowD1 i I (ix2 j c) = rowAt I.d (512 * (i 1).val + 256 + j.val) (128 * 1 + c.val) :=
  window_rows I.d 1 (k0_off10_eq i) _ (low_bound i) (by omega) j c

theorem diagP0_at (j : Fin 512) (x : Fin 256) : k0_pay61 rowIota colIota I.k0 (diagQ0 i I) (ix2 j x) = I.mprob (i 1).val 0 (512 * (i 1).val + j.val) x.val := by
  rw [pay61_at]
  refine diag_mask i I 0 j.val x.val _ ?_
  rw [Ins.prob]
  refine congrArg Ideal.exp (Finset.sum_congr rfl fun c _ => ?_)
  rw [diagQ0_at, Ins.k0_at]
theorem diagS0_at (j : Fin 512) (x : Fin 256) : diagS0 i I (ix2 j x) = I.score (i 1).val 0 (512 * (i 1).val + j.val) x.val := by
  unfold diagS0
  rw [pay62_at, diagP0_at, Ins.score, Ins.grad]
  refine congrArg₂ (· * ·) rfl (Finset.sum_congr rfl fun c _ => ?_)
  rw [diagD0_at, Ins.v0_at]

theorem diagP1_at (j : Fin 512) (x : Fin 256) : diagP1 i I (ix2 j x) = I.mprob (i 1).val 1 (512 * (i 1).val + j.val) x.val := by
  unfold diagP1
  rw [pay67_at, pay59_at]
  refine diag_mask i I 1 j.val x.val _ ?_
  rw [Ins.prob]
  refine congrArg Ideal.exp (Finset.sum_congr rfl fun c _ => ?_)
  rw [diagQ1_at, Ins.k1_at]
theorem diagS1_at (j : Fin 512) (x : Fin 256) : diagS1 i I (ix2 j x) = I.score (i 1).val 1 (512 * (i 1).val + j.val) x.val := by
  unfold diagS1
  rw [pay68_at, show k0_pay67 rowIota colIota (k0_pay59 I.k1 (diagQ1 i I)) (ix2 j x) = _ from diagP1_at i I j x, pay60_at, Ins.score, Ins.grad]
  refine congrArg₂ (· * ·) rfl (Finset.sum_congr rfl fun c _ => ?_)
  rw [diagD1_at, Ins.v1_at]

theorem lowP0_at (j : Fin 256) (x : Fin 256) : k0_pay78 rowIota colIota I.k0 (lowQ0 i I) (ix2 j x) = I.mprob (i 1).val 0 (512 * (i 1).val + 256 + j.val) (256 + x.val) := by
  rw [pay78_at]
  refine low_mask i I 0 j.val x.val _ ?_
  rw [Ins.prob]
  refine congrArg Ideal.exp (Finset.sum_congr rfl fun c _ => ?_)
  rw [lowQ0_at, Ins.k0_at]
theorem lowS0_at (j : Fin 256) (x : Fin 256) : lowS0 i I (ix2 j x) = I.score (i 1).val 0 (512 * (i 1).val + 256 + j.val) (256 + x.val) := by
  unfold lowS0
  rw [pay79_at, lowP0_at, Ins.score, Ins.grad]
  refine congrArg₂ (· * ·) rfl (Finset.sum_congr rfl fun c _ => ?_)
  rw [lowD0_at, Ins.v0_at]

theorem lowP1_at (j : Fin 256) (x : Fin 256) : k0_pay85 rowIota colIota (k0_pay76 I.k1 (lowQ1 i I)) (ix2 j x) = I.mprob (i 1).val 1 (512 * (i 1).val + 256 + j.val) (256 + x.val) := by
  rw [pay85_at, pay76_at]
  refine low_mask i I 1 j.val x.val _ ?_
  rw [Ins.prob]
  refine congrArg Ideal.exp (Finset.sum_congr rfl fun c _ => ?_)
  rw [lowQ1_at, Ins.k1_at]
theorem lowS1_at (j : Fin 256) (x : Fin 256) : lowS1 i I (ix2 j x) = I.score (i 1).val 1 (512 * (i 1).val + 256 + j.val) (256 + x.val) := by
  unfold lowS1
  rw [pay86_at, lowP1_at, pay77_at, Ins.score, Ins.grad]
  refine congrArg₂ (· * ·) rfl (Finset.sum_congr rfl fun c _ => ?_)
  rw [lowD1_at, Ins.v1_at]

/-- A sum over the block's rows whose first half vanishes. -/
theorem sum_low (f : ℕ → EReal) (h : ∀ t < 256, f t = 0) : ∑ t ∈ range 512, f t = ∑ j : Fin 256, f (256 + j.val) := by
  rw [show (512 : ℕ) = 256 + 256 from rfl, Finset.sum_range_add, Finset.sum_eq_zero (fun t ht => h t (Finset.mem_range.mp ht)), zero_add,
    Finset.sum_range]

theorem mprob_above (b e t x : ℕ) (h : t < x) : I.mprob b e (512 * b + t) x = 0 := if_neg (by omega)
theorem score_above (b e t x : ℕ) (h : t < x) : I.score b e (512 * b + t) x = 0 := by rw [Ins.score, mprob_above I b e t x h, zero_mul]

theorem diag_block {x : S8192x256.Idx → EReal} {y : Vec Ideal S2x16x128x512 .bf16} (hy : y = transposed x) (e b : ℕ) {off : Fin 4 → ℕ}
    (h : off = ![e, b, 0, 256]) (inb : ∀ a, off a + (![1, 1, 128, 256] : Fin 4 → ℕ) a ≤ S2x16x128x512.size a) (he : e < 2) (hb : b < 16)
    (c : Fin 128) (j : Fin 256) : window y off ![1, 1, 128, 256] inb (ix4 0 0 c j) = rowAt x (512 * b + 256 + j.val) (128 * e + c.val) := by
  subst hy
  exact window_transposed x e b 256 _ h inb he hb (by omega) rfl c j

variable (hI : I.Copies)
include hI

theorem diag_dk (x0 : Vec Ideal S8192x256 .f32) (e : Fin 2) (c : Fin 128) (x : Fin 512) : (diag i I x0).dk (ix3 e c x)
    = ∑ t ∈ range 512, rowAt I.q (512 * (i 1).val + t) (128 * e.val + c.val) * I.score (i 1).val e.val (512 * (i 1).val + t) x.val := by
  have hb : (i 1).val < 16 := (i 1).isLt
  by_cases hx : x.val < 256
  · refine (quarters_first _ _ _ _ e c x hx).trans ?_
    rw [Finset.sum_range]
    by_cases he : e.val = 0
    · rw [if_pos he, pay65_at]
      obtain rfl : e = 0 := Fin.ext he
      exact Finset.sum_congr rfl fun j _ => congrArg₂ (· * ·) (block_at hI.qt 0 (i 1).val (k0_off7_eq i) _ (by omega) hb c j) (diagS0_at i I j ⟨x.val, hx⟩)
    · rw [if_neg he, pay70_at]
      obtain rfl : e = 1 := Fin.ext (by have := e.isLt; omega)
      exact Finset.sum_congr rfl fun j _ => congrArg₂ (· * ·) (block_at hI.qt 1 (i 1).val (k0_off8_eq i) _ (by omega) hb c j) (diagS1_at i I j ⟨x.val, hx⟩)
  · refine (quarters_second _ _ _ _ e c x hx).trans ?_
    rw [sum_low _ fun t ht => by rw [score_above I _ _ _ _ (show t < x.val by omega), mul_zero]]
    have ex : 256 + (x.val - 256) = x.val := by omega
    by_cases he : e.val = 0
    · rw [if_pos he, pay81_at]
      obtain rfl : e = 0 := Fin.ext he
      refine Finset.sum_congr rfl fun j _ => congrArg₂ (· * ·) ((diag_block hI.qt 0 (i 1).val (k0_off11_eq i) _ (by omega) hb c j).trans ?_) ((lowS0_at i I j _).trans ?_)
      · rw [Nat.add_assoc]; rfl
      · simp only [ex, Nat.add_assoc]; rfl
    · rw [if_neg he, pay89_at]
      obtain rfl : e = 1 := Fin.ext (by have := e.isLt; omega)
      refine Finset.sum_congr rfl fun j _ => congrArg₂ (· * ·) ((diag_block hI.qt 1 (i 1).val (k0_off12_eq i) _ (by omega) hb c j).trans ?_) ((lowS1_at i I j _).trans ?_)
      · rw [Nat.add_assoc]; rfl
      · simp only [ex, Nat.add_assoc]; rfl

theorem diag_dv (x0 : Vec Ideal S8192x256 .f32) (e : Fin 2) (c : Fin 128) (x : Fin 512) : (diag i I x0).dv (ix3 e c x)
    = ∑ t ∈ range 512, rowAt I.d (512 * (i 1).val + t) (128 * e.val + c.val) * I.mprob (i 1).val e.val (512 * (i 1).val + t) x.val := by
  have hb : (i 1).val < 16 := (i 1).isLt
  by_cases hx : x.val < 256
  · refine (quarters_first _ _ _ _ e c x hx).trans ?_
    rw [Finset.sum_range]
    by_cases he : e.val = 0
    · rw [if_pos he, pay63_at]
      obtain rfl : e = 0 := Fin.ext he
      exact Finset.sum_congr rfl fun j _ => congrArg₂ (· * ·) (block_at hI.dt 0 (i 1).val (k0_off7_eq i) _ (by omega) hb c j) (diagP0_at i I j ⟨x.val, hx⟩)
    · rw [if_neg he, pay69_at]
      obtain rfl : e = 1 := Fin.ext (by have := e.isLt; omega)
      exact Finset.sum_congr rfl fun j _ => congrArg₂ (· * ·) (block_at hI.dt 1 (i 1).val (k0_off8_eq i) _ (by omega) hb c j) (diagP1_at i I j ⟨x.val, hx⟩)
  · refine (quarters_second _ _ _ _ e c x hx).trans ?_
    rw [sum_low _ fun t ht => by rw [mprob_above I _ _ _ _ (show t < x.val by omega), mul_zero]]
    have ex : 256 + (x.val - 256) = x.val := by omega
    by_cases he : e.val = 0
    · rw [if_pos he, pay80_at]
      obtain rfl : e = 0 := Fin.ext he
      refine Finset.sum_congr rfl fun j _ => congrArg₂ (· * ·) ((diag_block hI.dt 0 (i 1).val (k0_off11_eq i) _ (by omega) hb c j).trans ?_) ((lowP0_at i I j _).trans ?_)
      · rw [Nat.add_assoc]; rfl
      · simp only [ex, Nat.add_assoc]; rfl
    · rw [if_neg he, pay87_at]
      obtain rfl : e = 1 := Fin.ext (by have := e.isLt; omega)
      refine Finset.sum_congr rfl fun j _ => congrArg₂ (· * ·) ((diag_block hI.dt 1 (i 1).val (k0_off12_eq i) _ (by omega) hb c j).trans ?_) ((lowP1_at i I j _).trans ?_)
      · rw [Nat.add_assoc]; rfl
      · simp only [ex, Nat.add_assoc]; rfl

omit hI in
/-- The query sums after the first half of the keys. -/
theorem diag_first (x0 : Vec Ideal S8192x256 .f32) (e : Fin 2) (c : Fin 128) (r : Fin 8192) :
    rowAt (put (put x0 (k0_off5 i) S512x128.size (k0_pay66 (k0_pay57 I.k0) (diagS0 i I) (window x0 (k0_off5 i) S512x128.size (k0_off5_inb i))))
      (k0_off6 i) S512x128.size (k0_pay71 (k0_pay58 I.k1) (diagS1 i I) (window x0 (k0_off6 i) S512x128.size (k0_off6_inb i)))) r.val (128 * e.val + c.val)
      = rowAt x0 r.val (128 * e.val + c.val) + if 512 * (i 1).val ≤ r.val ∧ r.val < 512 * (i 1).val + 512 then
        ∑ x : Fin 256, I.score (i 1).val e.val r.val x.val * keyAt I.k x.val (128 * e.val + c.val) else 0 := by
  refine (rows_at _ (k0_off5_eq i) (k0_off6_eq i) (diag_bound i) _ _ e c r).trans ?_
  by_cases hr : 512 * (i 1).val ≤ r.val ∧ r.val < 512 * (i 1).val + 512
  · rw [dif_pos hr, if_pos hr]
    have er : 512 * (i 1).val + (r.val - 512 * (i 1).val) = r.val := by omega
    by_cases he : e.val = 0
    · rw [if_pos he, pay66_at]
      obtain rfl : e = 0 := Fin.ext he
      refine congrArg₂ (· + ·) ((window_rows x0 0 (k0_off5_eq i) _ (diag_bound i) (by omega) _ c).trans ?_)
        (Finset.sum_congr rfl fun x _ => congrArg₂ (· * ·) ((diagS0_at i I _ x).trans ?_) (I.k0_at ⟨x.val, by omega⟩ c))
      · simp only [er]; rfl
      · simp only [er]; rfl
    · rw [if_neg he, pay71_at]
      obtain rfl : e = 1 := Fin.ext (by have := e.isLt; omega)
      refine congrArg₂ (· + ·) ((window_rows x0 1 (k0_off6_eq i) _ (diag_bound i) (by omega) _ c).trans ?_)
        (Finset.sum_congr rfl fun x _ => congrArg₂ (· * ·) ((diagS1_at i I _ x).trans ?_) (I.k1_at ⟨x.val, by omega⟩ c))
      · simp only [er]; rfl
      · simp only [er]; rfl
  · rw [dif_neg hr, if_neg hr, add_zero]

omit hI in
theorem diag_dq (x0 : Vec Ideal S8192x256 .f32) (e : Fin 2) (c : Fin 128) (r : Fin 8192) :
    rowAt (diag i I x0).dq r.val (128 * e.val + c.val)
      = rowAt x0 r.val (128 * e.val + c.val) + if 512 * (i 1).val ≤ r.val ∧ r.val < 512 * (i 1).val + 512 then
        ∑ x ∈ range 512, I.score (i 1).val e.val r.val x * keyAt I.k x (128 * e.val + c.val) else 0 := by
  have hb := diag_bound i
  refine (rows_at _ (k0_off9_eq i) (k0_off10_eq i) (low_bound i) _ _ e c r).trans ?_
  have split : ∑ x ∈ range 512, I.score (i 1).val e.val r.val x * keyAt I.k x (128 * e.val + c.val)
      = (∑ x : Fin 256, I.score (i 1).val e.val r.val x.val * keyAt I.k x.val (128 * e.val + c.val))
        + ∑ x : Fin 256, I.score (i 1).val e.val r.val (256 + x.val) * keyAt I.k (256 + x.val) (128 * e.val + c.val) := by
    rw [show (512 : ℕ) = 256 + 256 from rfl, Finset.sum_range_add, Finset.sum_range, Finset.sum_range]
  by_cases hr : 512 * (i 1).val + 256 ≤ r.val ∧ r.val < 512 * (i 1).val + 256 + 256
  · rw [dif_pos hr, if_pos (show 512 * (i 1).val ≤ r.val ∧ r.val < 512 * (i 1).val + 512 by omega), split, ← add_assoc]
    have er : 512 * (i 1).val + 256 + (r.val - (512 * (i 1).val + 256)) = r.val := by omega
    by_cases he : e.val = 0
    · rw [if_pos he, pay84_at]
      obtain rfl : e = 0 := Fin.ext he
      refine congrArg₂ (· + ·) ((window_rows _ 0 (k0_off9_eq i) _ (low_bound i) (by omega) _ c).trans ?_)
        (Finset.sum_congr rfl fun x _ => congrArg₂ (· * ·) ((lowS0_at i I _ x).trans ?_) (I.k0_at ⟨256 + x.val, by omega⟩ c))
      · simp only [er]
        exact (diag_first i I x0 0 c r).trans (by rw [if_pos (by omega)])
      · simp only [er]; rfl
    · rw [if_neg he, pay90_at]
      obtain rfl : e = 1 := Fin.ext (by have := e.isLt; omega)
      refine congrArg₂ (· + ·) ((window_rows _ 1 (k0_off10_eq i) _ (low_bound i) (by omega) _ c).trans ?_)
        (Finset.sum_congr rfl fun x _ => congrArg₂ (· * ·) ((lowS1_at i I _ x).trans ?_) (I.k1_at ⟨256 + x.val, by omega⟩ c))
      · simp only [er]
        exact (diag_first i I x0 1 c r).trans (by rw [if_pos (by omega)])
      · simp only [er]; rfl
  · rw [dif_neg hr]
    refine (diag_first i I x0 e c r).trans ?_
    congr 1
    by_cases h : 512 * (i 1).val ≤ r.val ∧ r.val < 512 * (i 1).val + 512
    · rw [if_pos h, if_pos h, split, Finset.sum_eq_zero (s := Finset.univ) (f := fun x : Fin 256 => I.score (i 1).val e.val r.val (256 + x.val) * _), add_zero]
      intro x _
      have er : 512 * (i 1).val + (r.val - 512 * (i 1).val) = r.val := by omega
      rw [← er, score_above I _ _ _ _ (by omega), zero_mul]
    · rw [if_neg h, if_neg h]

/-- The diagonal block, the key and value sums starting at zero. -/
theorem grow_diag (x0 : Vec Ideal S8192x256 .f32) : Grow I (i 1).val (512 * (i 1).val) 512 ⟨x0, fun _ => 0, fun _ => 0⟩ (diag i I x0) where
  dk e c x := (diag_dk i I hI x0 e c x).trans (zero_add _).symm
  dv e c x := (diag_dv i I hI x0 e c x).trans (zero_add _).symm
  dq e c r := diag_dq i I x0 e c r

/-- A whole grid point takes every query row. -/
theorem grow_point (x0 : Vec Ideal S8192x256 .f32) :
    Grow I (i 1).val 0 8192 ⟨startDq i x0, fun _ => 0, fun _ => 0⟩ (point i I x0) := by
  have hb : (i 1).val < 16 := (i 1).isLt
  have h0 := (Grow.before I (i 1).val ⟨startDq i x0, fun _ => 0, fun _ => 0⟩).trans
    ((Nat.zero_add (512 * (i 1).val)).symm ▸ grow_diag i I hI (startDq i x0))
  have h1 : Grow I (i 1).val 0 (512 * (i 1).val + 512 + 1024 * (k0_t2_loop i).trips) _ _ :=
    h0.trans (by rw [show 0 + (512 * (i 1).val + 512) = 512 * ((i 1).val + 1) by omega]; exact grow_laterN i I hI _ _ le_rfl)
  have ht := t2_trips i
  unfold point sums
  by_cases hodd : (15 - (i 1).val) % 2 = 1
  · rw [if_pos hodd, show (8192 : ℕ) = 512 * (i 1).val + 512 + 1024 * (k0_t2_loop i).trips + 512 by omega]
    refine h1.trans ?_
    rw [show 0 + (512 * (i 1).val + 512 + 1024 * (k0_t2_loop i).trips) = 7680 by omega]
    exact grow_last I _ (by omega) hI _
  · rw [if_neg hodd, show (8192 : ℕ) = 512 * (i 1).val + 512 + 1024 * (k0_t2_loop i).trips by omega]
    exact h1

end Diag

end Cert.KernelIdeal.Bwd
end
-- ==== Proof.Whole.lean ====
/-
  The four result arrays after the whole grid, over the extended reals, from the arrays the call reads. For a head, a
  query row and a key there is one masked probability and one score gradient; the query gradient sums over the keys, the
  key and value gradients over the rows, and the gradient of the cumulative log gates is one lane of each.
-/
module

public import proofs.«01_k».proof.Proof.GrowDiag
public import proofs.«01_k».proof.Proof.Data

@[expose] public section

set_option maxRecDepth 16384
set_option maxHeartbeats 1000000

noncomputable section

namespace Cert.KernelIdeal.Bwd

open Idealize.ShloMosaic Idealize.ShloMosaic.TcCoe Idealize.ShloMosaic.VecWindow
open Cert.KernelIdeal Cert.KernelIdeal.Gen
open Finset (range)

/-- The arrays the call reads, by row and lane. -/
structure Arrays where
  q : ℕ → ℕ → EReal
  k : ℕ → ℕ → EReal
  v : ℕ → ℕ → EReal
  d : ℕ → ℕ → EReal

namespace Arrays
variable (a : Arrays)

/-- The probability of key `x` for row `r` of head `h`. -/
def prob (h r x : ℕ) : EReal := Ideal.exp (∑ l : Fin 128, a.q r (128 * h + l.val) * a.k x (128 * h + l.val))
/-- The gradient of that probability. -/
def grad (h r x : ℕ) : EReal := ∑ l : Fin 128, a.d r (128 * h + l.val) * a.v x (128 * h + l.val)
/-- The probability, zero for a key after the row. -/
def mprob (h r x : ℕ) : EReal := if x ≤ r then a.prob h r x else 0
/-- The gradient of the score. -/
def score (h r x : ℕ) : EReal := a.mprob h r x * a.grad h r x
/-- The query gradient. -/
def dq (h r l : ℕ) : EReal := ∑ x ∈ range 8192, a.score h r x * a.k x (128 * h + l)
/-- The key gradient. -/
def dk (h x l : ℕ) : EReal := ∑ r ∈ range 8192, a.q r (128 * h + l) * a.score h r x
/-- The value gradient. -/
def dv (h x l : ℕ) : EReal := ∑ r ∈ range 8192, a.d r (128 * h + l) * a.mprob h r x

end Arrays

variable (m : (ℓ : Loc nD τ sig) → Buf (Elt Ideal) ℓ) (c : Dev nD)

/-- The arrays as the host lines before the call leave them. -/
def arrays : Arrays where
  q r l := if h : r < 8192 ∧ l < 2048 then (V m c main_v70 : S8192x2048.Idx → EReal) (ix2 ⟨r, h.1⟩ ⟨l, h.2⟩) else 0
  k r l := if h : r < 8192 ∧ l < 2048 then (V m c main_v89 : S3x8192x2048.Idx → EReal) (ix3 1 ⟨r, h.1⟩ ⟨l, h.2⟩) else 0
  v r l := if h : r < 8192 ∧ l < 2048 then (V m c main_v89 : S3x8192x2048.Idx → EReal) (ix3 2 ⟨r, h.1⟩ ⟨l, h.2⟩) else 0
  d r l := if h : r < 8192 ∧ l < 2048 then (V m c main_v85 : S8192x2048.Idx → EReal) (ix2 ⟨r, h.1⟩ ⟨l, h.2⟩) else 0

/-! ### A point's inputs are blocks of the arrays -/

section Point
variable (t : Fin cfg0.N)

theorem ins_q (e r l : ℕ) (he : e < 2) (hl : l < 128) :
    rowAt (ins m c t).q r (128 * e + l) = (arrays m c).q r (128 * (2 * (t.val / 16) + e) + l) := by
  have ht := lt_128 t
  unfold rowAt arrays
  by_cases h : r < 8192
  · rw [dif_pos ⟨h, by omega⟩]
    refine (iblk0_0 m c t _).trans ?_
    simp only
    rw [dif_pos ⟨h, by omega⟩]
    congr 2
    apply Fin.ext
    show 256 * (t.val / 16) + (128 * e + l) = 128 * (2 * (t.val / 16) + e) + l
    omega
  · simp only
    rw [dif_neg (by omega), dif_neg (by omega)]

theorem ins_d (e r l : ℕ) (he : e < 2) (hl : l < 128) :
    rowAt (ins m c t).d r (128 * e + l) = (arrays m c).d r (128 * (2 * (t.val / 16) + e) + l) := by
  have ht := lt_128 t
  unfold rowAt arrays
  by_cases h : r < 8192
  · rw [dif_pos ⟨h, by omega⟩]
    refine (iblk0_3 m c t _).trans ?_
    simp only
    rw [dif_pos ⟨h, by omega⟩]
    congr 2
    apply Fin.ext
    show 256 * (t.val / 16) + (128 * e + l) = 128 * (2 * (t.val / 16) + e) + l
    omega
  · simp only
    rw [dif_neg (by omega), dif_neg (by omega)]

theorem ins_k (e x l : ℕ) (he : e < 2) (hl : l < 128) (hx : x < 512) :
    keyAt (ins m c t).k x (128 * e + l) = (arrays m c).k (512 * (t.val % 16) + x) (128 * (2 * (t.val / 16) + e) + l) := by
  have ht := lt_128 t
  unfold keyAt arrays
  rw [dif_pos ⟨hx, by omega⟩]
  refine (iblk0_1 m c t (ix3 0 ⟨x, hx⟩ ⟨128 * e + l, by omega⟩)).trans ?_
  simp only
  rw [dif_pos ⟨by omega, by omega⟩]
  congr 2
  apply Fin.ext
  show 256 * (t.val / 16) + (128 * e + l) = 128 * (2 * (t.val / 16) + e) + l
  omega

theorem ins_v (e x l : ℕ) (he : e < 2) (hl : l < 128) (hx : x < 512) :
    keyAt (ins m c t).v x (128 * e + l) = (arrays m c).v (512 * (t.val % 16) + x) (128 * (2 * (t.val / 16) + e) + l) := by
  have ht := lt_128 t
  unfold keyAt arrays
  rw [dif_pos ⟨hx, by omega⟩]
  refine (iblk0_2 m c t (ix3 0 ⟨x, hx⟩ ⟨128 * e + l, by omega⟩)).trans ?_
  simp only
  rw [dif_pos ⟨by omega, by omega⟩]
  congr 2
  apply Fin.ext
  show 256 * (t.val / 16) + (128 * e + l) = 128 * (2 * (t.val / 16) + e) + l
  omega

theorem ins_mprob (e r x : ℕ) (he : e < 2) (hx : x < 512) :
    (ins m c t).mprob (t.val % 16) e r x = (arrays m c).mprob (2 * (t.val / 16) + e) r (512 * (t.val % 16) + x) := by
  unfold Ins.mprob Arrays.mprob Ins.prob Arrays.prob
  simp only [ins_q m c t e r _ he (Fin.isLt _), ins_k m c t e x _ he (Fin.isLt _) hx]

theorem ins_score (e r x : ℕ) (he : e < 2) (hx : x < 512) :
    (ins m c t).score (t.val % 16) e r x = (arrays m c).score (2 * (t.val / 16) + e) r (512 * (t.val % 16) + x) := by
  unfold Ins.score Arrays.score
  rw [ins_mprob m c t e r x he hx]
  unfold Ins.grad Arrays.grad
  simp only [ins_d m c t e r _ he (Fin.isLt _), ins_v m c t e x _ he (Fin.isLt _) hx]

theorem grow_pt : Grow (ins m c t) (t.val % 16) 0 8192 ⟨startDq (grid0.coords t) (dqN m c t.val), fun _ => 0, fun _ => 0⟩ (pt m c t) :=
  coords_snd t ▸ grow_point (grid0.coords t) (ins m c t) ⟨rfl, rfl⟩ (dqN m c t.val)

theorem pt_dk (e : Fin 2) (l : Fin 128) (x : Fin 512) :
    (pt m c t).dk (ix3 e l x) = (arrays m c).dk (2 * (t.val / 16) + e.val) (512 * (t.val % 16) + x.val) l.val := by
  rw [(grow_pt m c t).dk e l x]
  show (0 : EReal) + _ = _
  rw [zero_add, Arrays.dk]
  refine Finset.sum_congr rfl fun r _ => ?_
  rw [Nat.zero_add, ins_q m c t _ _ _ e.isLt l.isLt, ins_score m c t _ _ _ e.isLt x.isLt]

theorem pt_dv (e : Fin 2) (l : Fin 128) (x : Fin 512) :
    (pt m c t).dv (ix3 e l x) = (arrays m c).dv (2 * (t.val / 16) + e.val) (512 * (t.val % 16) + x.val) l.val := by
  rw [(grow_pt m c t).dv e l x]
  show (0 : EReal) + _ = _
  rw [zero_add, Arrays.dv]
  refine Finset.sum_congr rfl fun r _ => ?_
  rw [Nat.zero_add, ins_d m c t _ _ _ e.isLt l.isLt, ins_mprob m c t _ _ _ e.isLt x.isLt]

/-- The query sum after a point, from the one before it. -/
theorem pt_dq (e : Fin 2) (l : Fin 128) (r : Fin 8192) :
    rowAt (pt m c t).dq r.val (128 * e.val + l.val)
      = (if t.val % 16 = 0 then 0 else rowAt (dqN m c t.val) r.val (128 * e.val + l.val))
        + ∑ x ∈ range 512, (arrays m c).score (2 * (t.val / 16) + e.val) r.val (512 * (t.val % 16) + x)
          * (arrays m c).k (512 * (t.val % 16) + x) (128 * (2 * (t.val / 16) + e.val) + l.val) := by
  rw [(grow_pt m c t).dq e l r, if_pos ⟨by omega, by omega⟩]
  refine congrArg₂ (· + ·) ?_ (Finset.sum_congr rfl fun x hx => ?_)
  · show rowAt (startDq (F := Ideal) (grid0.coords t) (dqN m c t.val)) r.val (128 * e.val + l.val) = _
    unfold startDq
    rw [coords_snd]
    by_cases h : t.val % 16 = 0
    · rw [if_pos h, if_pos h, rowAt, dif_pos ⟨r.isLt, by omega⟩, pay47_at]
    · rw [if_neg h, if_neg h]
  · rw [ins_score m c t _ _ _ e.isLt (Finset.mem_range.mp hx), ins_k m c t _ _ _ e.isLt l.isLt (Finset.mem_range.mp hx)]

end Point

/-- The query sum after the first `n + 1` key blocks of a head pair. -/
theorem dqN_at (h : ℕ) (hh : h < 8) (e : Fin 2) (l : Fin 128) (r : Fin 8192) : ∀ n : ℕ, n < 16 →
    rowAt (dqN m c (16 * h + n + 1)) r.val (128 * e.val + l.val)
      = ∑ x ∈ range (512 * (n + 1)), (arrays m c).score (2 * h + e.val) r.val x * (arrays m c).k x (128 * (2 * h + e.val) + l.val)
  | 0, _ => by
    have ht : 16 * h + 0 < cfg0.N := (show 16 * h + 0 < 128 by omega).trans_eq N_eq.symm
    have e1 : (16 * h + 0) % 16 = 0 := by omega
    have e2 : (16 * h + 0) / 16 = h := by omega
    rw [show dqN m c (16 * h + 0 + 1) = (pt m c ⟨16 * h + 0, ht⟩).dq from dqN_succ m c ⟨16 * h + 0, ht⟩, pt_dq]
    simp only [e1, e2, if_true, zero_add, Nat.mul_zero, Nat.zero_add, Nat.mul_one]
  | n + 1, hn => by
    have ht : 16 * h + (n + 1) < cfg0.N := (show 16 * h + (n + 1) < 128 by omega).trans_eq N_eq.symm
    have e1 : (16 * h + (n + 1)) % 16 = n + 1 := by omega
    have e2 : (16 * h + (n + 1)) / 16 = h := by omega
    rw [show dqN m c (16 * h + (n + 1) + 1) = (pt m c ⟨16 * h + (n + 1), ht⟩).dq from dqN_succ m c ⟨16 * h + (n + 1), ht⟩, pt_dq]
    simp only [e1, e2]
    rw [if_neg (by omega), show rowAt (dqN m c (16 * h + (n + 1))) r.val (128 * e.val + l.val) = _ from dqN_at h hh e l r n (by omega),
      Nat.mul_succ 512 (n + 1), Finset.sum_range_add]

/-- The query sum at the end of a head pair. -/
theorem dqN_end (t : Fin cfg0.N) (ht : t.val % 16 = 15) (e : Fin 2) (l : Fin 128) (r : Fin 8192) :
    rowAt (pt m c t).dq r.val (128 * e.val + l.val) = (arrays m c).dq (2 * (t.val / 16) + e.val) r.val l.val := by
  have hN := lt_128 t
  have et : t.val + 1 = 16 * (t.val / 16) + 15 + 1 := by omega
  rw [← dqN_succ, et, dqN_at m c (t.val / 16) (by omega) e l r 15 (by omega)]
  rfl

end Cert.KernelIdeal.Bwd
end
-- ==== Proof.Results.lean ====
/-
  What the call's four result arrays hold after the run, over the extended reals.
-/
module

public import proofs.«01_k».proof.Proof.Whole
public import Idealize.ShloMosaic.Lib.Pipeline.Value

@[expose] public section

set_option maxRecDepth 16384
set_option maxHeartbeats 1000000

noncomputable section

namespace Cert.KernelIdeal.Bwd

open Idealize.ShloMosaic Idealize.ShloMosaic.TcCoe Idealize.ShloMosaic.VecWindow
open Cert.KernelIdeal Cert.KernelIdeal.Gen
open Finset (range)

variable (m : (ℓ : Loc nD τ sig) → Buf (Elt Ideal) ℓ) (c : Dev nD)

theorem index0_4 (t : Fin cfg0.N) : win0_4.index t 0 = 0 ∧ win0_4.index t 1 = t.val / 16 := by
  have h : ∀ t : Fin grid0.N, win0_4.index t 0 = 0 ∧ win0_4.index t 1 = t.val / 16 := by decide +kernel
  exact h t
theorem index0_5 (t : Fin cfg0.N) : win0_5.index t 0 = t.val % 16 ∧ win0_5.index t 1 = t.val / 16 := by
  have h : ∀ t : Fin grid0.N, win0_5.index t 0 = t.val % 16 ∧ win0_5.index t 1 = t.val / 16 := by decide +kernel
  exact h t
theorem index0_6 (t : Fin cfg0.N) : win0_6.index t 0 = t.val % 16 ∧ win0_6.index t 1 = t.val / 16 := by
  have h : ∀ t : Fin grid0.N, win0_6.index t 0 = t.val % 16 ∧ win0_6.index t 1 = t.val / 16 := by decide +kernel
  exact h t
theorem index0_7 (t : Fin cfg0.N) : win0_7.index t 0 = 0 ∧ win0_7.index t 1 = 0 := by
  have h : ∀ t : Fin grid0.N, win0_7.index t 0 = 0 ∧ win0_7.index t 1 = 0 := by decide +kernel
  exact h t

/-- An array of 8192 rows and 2048 lanes from one value per head, row and lane of the head. -/
def byHead (f : ℕ → ℕ → ℕ → EReal) : S8192x2048.Idx → EReal := fun y => f ((y 1).val / 128) (y 0).val ((y 1).val % 128)

theorem flushed_4 (t : Fin cfg0.N) (hf : (cfg0.win 4).flush t = true) :
    (dats m 0 c).flushed 4 t = ((cfg0.win 4).blk t).view.read (Elt Ideal) (byHead (arrays m c).dq : Buf (Elt Ideal) ((c : Thread nD τ).loc main_v90_0)) := by
  have hN := lt_128 t
  have h15 : t.val % 16 = 15 := (flush0_4 t).mp hf
  show (cfg0.win 4).cut (grid0.coords t) ((dats m 0 c).after 4 t) = _
  rw [after_4]
  funext y
  rw [View.read_apply]
  have h0 : (y 0).val < 8192 := (y 0).isLt
  have h1 : (y 1).val < 256 := (y 1).isLt
  have hl : (pt m c t).dq (ix2 ⟨(y 0).val, h0⟩ ⟨(y 1).val, h1⟩) = (arrays m c).dq (2 * (t.val / 16) + (y 1).val / 128) (y 0).val ((y 1).val % 128) := by
    refine (rowAt_eq (pt m c t).dq ⟨(y 0).val, h0⟩ ⟨(y 1).val, h1⟩).trans ?_
    have := dqN_end m c t h15 ⟨(y 1).val / 128, by omega⟩ ⟨(y 1).val % 128, by omega⟩ ⟨(y 0).val, h0⟩
    rw [← this]
    congr 1
    show (y 1).val = 128 * ((y 1).val / 128) + (y 1).val % 128
    omega
  refine Eq.trans ?_ (hl.trans ?_)
  · show (pt m c t).dq _ = _
    refine congrArg (pt m c t).dq (funext fun a => ?_)
    match a with
    | ⟨0, _⟩ => exact Fin.ext rfl
    | ⟨1, _⟩ => exact Fin.ext rfl
  · have e0 : win0_4.index t 0 * 8192 + 1 * (y 0).val = (y 0).val := by rw [(index0_4 t).1]; omega
    have e1 : win0_4.index t 1 * 256 + 1 * (y 1).val = 256 * (t.val / 16) + (y 1).val := by rw [(index0_4 t).2]; omega
    show _ = (arrays m c).dq ((win0_4.index t 1 * 256 + 1 * (y 1).val) / 128) (win0_4.index t 0 * 8192 + 1 * (y 0).val) ((win0_4.index t 1 * 256 + 1 * (y 1).val) % 128)
    rw [e0, e1, show (256 * (t.val / 16) + (y 1).val) / 128 = 2 * (t.val / 16) + (y 1).val / 128 by omega,
      show (256 * (t.val / 16) + (y 1).val) % 128 = (y 1).val % 128 by omega]

theorem final_4 : (dats m 0 c).arrAt 4 cfg0.N = (byHead (arrays m c).dq : Buf (Elt Ideal) ((c : Thread nD τ).loc main_v90_0)) :=
  (dats m 0 c).arrAt_eq_of_cover 4 _ (flushed_4 m c) fun y => by
    have h0 : (y 0).val < 8192 := (y 0).isLt
    have h1 : (y 1).val < 2048 := (y 1).isLt
    have ht : 16 * ((y 1).val / 256) + 15 < cfg0.N := (show 16 * ((y 1).val / 256) + 15 < 128 by omega).trans_eq N_eq.symm
    refine ⟨⟨16 * ((y 1).val / 256) + 15, ht⟩, (flush0_4 _).mpr (by show (16 * ((y 1).val / 256) + 15) % 16 = 15; omega), ?_⟩
    generalize hT : (⟨16 * ((y 1).val / 256) + 15, ht⟩ : Fin cfg0.N) = T
    have hv : T.val = 16 * ((y 1).val / 256) + 15 := hT ▸ rfl
    show y ∈ ((View.whole main_v90_0).slice (win0_4.rect T)).set
    rw [View.set_slice_whole, Rect.mem_set_unit]
    intro a
    match a with
    | ⟨0, _⟩ => show win0_4.index T 0 * 8192 ≤ (y 0).val ∧ (y 0).val < win0_4.index T 0 * 8192 + 8192; rw [(index0_4 T).1]; omega
    | ⟨1, _⟩ => show win0_4.index T 1 * 256 ≤ (y 1).val ∧ (y 1).val < win0_4.index T 1 * 256 + 256; rw [(index0_4 T).2]; omega

theorem pair_at (a b : Vec Ideal S512x128 .bf16) (r : Fin 512) (l : Fin 256) :
    pair a b (ix2 r l) = if h : l.val < 128 then a (ix2 r ⟨l.val, h⟩) else b (ix2 r ⟨l.val - 128, by omega⟩) := rfl

/-- A head's transposed gradient written out, read at a row and a lane. -/
theorem outDk_at (x : S2x128x512.Idx → EReal) (r : Fin 512) (l : Fin 256) : outDk (F := Ideal) x (ix2 r l)
    = x (ix3 ⟨l.val / 128, by omega⟩ ⟨l.val % 128, by omega⟩ r) := by
  refine (pair_at (k0_pay102 (F := Ideal) (head (F := Ideal) x 0)) (k0_pay2 (F := Ideal) (head (F := Ideal) x 1)) r l).trans ?_
  by_cases h : l.val < 128
  · rw [dif_pos h, pay102_at]
    refine (window_head x 0 (by omega) _ _ r).trans (congrArg x ?_)
    rw [ix3_inj]
    exact ⟨Fin.ext (by show 0 = l.val / 128; omega), Fin.ext (by show l.val = l.val % 128; omega), rfl⟩
  · rw [dif_neg h, pay2_at]
    refine (window_head x 1 (by omega) _ _ r).trans (congrArg x ?_)
    rw [ix3_inj]
    exact ⟨Fin.ext (by show 1 = l.val / 128; omega), Fin.ext (by show l.val - 128 = l.val % 128; omega), rfl⟩

theorem outDv_at (x : S2x128x512.Idx → EReal) (r : Fin 512) (l : Fin 256) : outDv (F := Ideal) x (ix2 r l)
    = x (ix3 ⟨l.val / 128, by omega⟩ ⟨l.val % 128, by omega⟩ r) := by
  refine (pair_at (k0_pay103 (F := Ideal) (head (F := Ideal) x 0)) (k0_pay3 (F := Ideal) (head (F := Ideal) x 1)) r l).trans ?_
  by_cases h : l.val < 128
  · rw [dif_pos h, pay103_at]
    refine (window_head x 0 (by omega) _ _ r).trans (congrArg x ?_)
    rw [ix3_inj]
    exact ⟨Fin.ext (by show 0 = l.val / 128; omega), Fin.ext (by show l.val = l.val % 128; omega), rfl⟩
  · rw [dif_neg h, pay3_at]
    refine (window_head x 1 (by omega) _ _ r).trans (congrArg x ?_)
    rw [ix3_inj]
    exact ⟨Fin.ext (by show 1 = l.val / 128; omega), Fin.ext (by show l.val - 128 = l.val % 128; omega), rfl⟩

theorem flushed_5 (t : Fin cfg0.N) (_ : (cfg0.win 5).flush t = true) :
    (dats m 0 c).flushed 5 t = ((cfg0.win 5).blk t).view.read (Elt Ideal) (byHead (arrays m c).dk : Buf (Elt Ideal) ((c : Thread nD τ).loc main_v90_1)) := by
  have hN := lt_128 t
  show (cfg0.win 5).cut (grid0.coords t) ((dats m 0 c).after 5 t) = _
  rw [after_5]
  funext y
  rw [View.read_apply]
  have h0 : (y 0).val < 512 := (y 0).isLt
  have h1 : (y 1).val < 256 := (y 1).isLt
  have hl : outDk (pt m c t).dk (ix2 ⟨(y 0).val, h0⟩ ⟨(y 1).val, h1⟩)
      = (arrays m c).dk (2 * (t.val / 16) + (y 1).val / 128) (512 * (t.val % 16) + (y 0).val) ((y 1).val % 128) := by
    rw [outDk_at, pt_dk]
  refine Eq.trans ?_ (hl.trans ?_)
  · show outDk (pt m c t).dk _ = _
    refine congrArg (outDk (pt m c t).dk) (funext fun a => ?_)
    match a with
    | ⟨0, _⟩ => exact Fin.ext rfl
    | ⟨1, _⟩ => exact Fin.ext rfl
  · have e0 : win0_5.index t 0 * 512 + 1 * (y 0).val = 512 * (t.val % 16) + (y 0).val := by rw [(index0_5 t).1]; omega
    have e1 : win0_5.index t 1 * 256 + 1 * (y 1).val = 256 * (t.val / 16) + (y 1).val := by rw [(index0_5 t).2]; omega
    show _ = (arrays m c).dk ((win0_5.index t 1 * 256 + 1 * (y 1).val) / 128) (win0_5.index t 0 * 512 + 1 * (y 0).val) ((win0_5.index t 1 * 256 + 1 * (y 1).val) % 128)
    rw [e0, e1, show (256 * (t.val / 16) + (y 1).val) / 128 = 2 * (t.val / 16) + (y 1).val / 128 by omega,
      show (256 * (t.val / 16) + (y 1).val) % 128 = (y 1).val % 128 by omega]

theorem final_5 : (dats m 0 c).arrAt 5 cfg0.N = (byHead (arrays m c).dk : Buf (Elt Ideal) ((c : Thread nD τ).loc main_v90_1)) :=
  (dats m 0 c).arrAt_eq_of_cover 5 _ (flushed_5 m c) fun y => by
    have h0 : (y 0).val < 8192 := (y 0).isLt
    have h1 : (y 1).val < 2048 := (y 1).isLt
    have ht : 16 * ((y 1).val / 256) + (y 0).val / 512 < cfg0.N := (show 16 * ((y 1).val / 256) + (y 0).val / 512 < 128 by omega).trans_eq N_eq.symm
    refine ⟨⟨16 * ((y 1).val / 256) + (y 0).val / 512, ht⟩, flush0_5 _, ?_⟩
    generalize hT : (⟨16 * ((y 1).val / 256) + (y 0).val / 512, ht⟩ : Fin cfg0.N) = T
    have hv : T.val = 16 * ((y 1).val / 256) + (y 0).val / 512 := hT ▸ rfl
    show y ∈ ((View.whole main_v90_1).slice (win0_5.rect T)).set
    rw [View.set_slice_whole, Rect.mem_set_unit]
    intro a
    match a with
    | ⟨0, _⟩ => show win0_5.index T 0 * 512 ≤ (y 0).val ∧ (y 0).val < win0_5.index T 0 * 512 + 512; rw [(index0_5 T).1]; omega
    | ⟨1, _⟩ => show win0_5.index T 1 * 256 ≤ (y 1).val ∧ (y 1).val < win0_5.index T 1 * 256 + 256; rw [(index0_5 T).2]; omega

theorem flushed_6 (t : Fin cfg0.N) (_ : (cfg0.win 6).flush t = true) :
    (dats m 0 c).flushed 6 t = ((cfg0.win 6).blk t).view.read (Elt Ideal) (byHead (arrays m c).dv : Buf (Elt Ideal) ((c : Thread nD τ).loc main_v90_2)) := by
  have hN := lt_128 t
  show (cfg0.win 6).cut (grid0.coords t) ((dats m 0 c).after 6 t) = _
  rw [after_6]
  funext y
  rw [View.read_apply]
  have h0 : (y 0).val < 512 := (y 0).isLt
  have h1 : (y 1).val < 256 := (y 1).isLt
  have hl : outDv (pt m c t).dv (ix2 ⟨(y 0).val, h0⟩ ⟨(y 1).val, h1⟩)
      = (arrays m c).dv (2 * (t.val / 16) + (y 1).val / 128) (512 * (t.val % 16) + (y 0).val) ((y 1).val % 128) := by
    rw [outDv_at, pt_dv]
  refine Eq.trans ?_ (hl.trans ?_)
  · show outDv (pt m c t).dv _ = _
    refine congrArg (outDv (pt m c t).dv) (funext fun a => ?_)
    match a with
    | ⟨0, _⟩ => exact Fin.ext rfl
    | ⟨1, _⟩ => exact Fin.ext rfl
  · have e0 : win0_6.index t 0 * 512 + 1 * (y 0).val = 512 * (t.val % 16) + (y 0).val := by rw [(index0_6 t).1]; omega
    have e1 : win0_6.index t 1 * 256 + 1 * (y 1).val = 256 * (t.val / 16) + (y 1).val := by rw [(index0_6 t).2]; omega
    show _ = (arrays m c).dv ((win0_6.index t 1 * 256 + 1 * (y 1).val) / 128) (win0_6.index t 0 * 512 + 1 * (y 0).val) ((win0_6.index t 1 * 256 + 1 * (y 1).val) % 128)
    rw [e0, e1, show (256 * (t.val / 16) + (y 1).val) / 128 = 2 * (t.val / 16) + (y 1).val / 128 by omega,
      show (256 * (t.val / 16) + (y 1).val) % 128 = (y 1).val % 128 by omega]

theorem final_6 : (dats m 0 c).arrAt 6 cfg0.N = (byHead (arrays m c).dv : Buf (Elt Ideal) ((c : Thread nD τ).loc main_v90_2)) :=
  (dats m 0 c).arrAt_eq_of_cover 6 _ (flushed_6 m c) fun y => by
    have h0 : (y 0).val < 8192 := (y 0).isLt
    have h1 : (y 1).val < 2048 := (y 1).isLt
    have ht : 16 * ((y 1).val / 256) + (y 0).val / 512 < cfg0.N := (show 16 * ((y 1).val / 256) + (y 0).val / 512 < 128 by omega).trans_eq N_eq.symm
    refine ⟨⟨16 * ((y 1).val / 256) + (y 0).val / 512, ht⟩, flush0_6 _, ?_⟩
    generalize hT : (⟨16 * ((y 1).val / 256) + (y 0).val / 512, ht⟩ : Fin cfg0.N) = T
    have hv : T.val = 16 * ((y 1).val / 256) + (y 0).val / 512 := hT ▸ rfl
    show y ∈ ((View.whole main_v90_2).slice (win0_6.rect T)).set
    rw [View.set_slice_whole, Rect.mem_set_unit]
    intro a
    match a with
    | ⟨0, _⟩ => show win0_6.index T 0 * 512 ≤ (y 0).val ∧ (y 0).val < win0_6.index T 0 * 512 + 512; rw [(index0_6 T).1]; omega
    | ⟨1, _⟩ => show win0_6.index T 1 * 256 ≤ (y 1).val ∧ (y 1).val < win0_6.index T 1 * 256 + 256; rw [(index0_6 T).2]; omega

end Cert.KernelIdeal.Bwd
end
-- ==== Proof.ResultDc.lean ====
/-
  The fourth result array: the gradient of the cumulative log gates. Column `l` of the head `l` is set from lane 67 of the
  key gradient, block by block, and at the end of the head pair lane 64 of the query gradient is added.
-/
module

public import proofs.«01_k».proof.Proof.Results

@[expose] public section

set_option maxRecDepth 16384
set_option maxHeartbeats 1000000

noncomputable section

namespace Cert.KernelIdeal.Bwd

open Idealize.ShloMosaic Idealize.ShloMosaic.TcCoe Idealize.ShloMosaic.VecWindow
open Cert.KernelIdeal Cert.KernelIdeal.Gen
open Finset (range)

theorem keyDc_at (i : grid0.Coords) (x : S2x128x512.Idx → EReal) (z : S8192x128.Idx → EReal) (r : Fin 8192) (l : Fin 128) :
    keyDc (F := Ideal) i x z (ix2 r l) = if r.val / 512 = (i 1).val then
      (if l.val = 2 * (i 0).val + 1 then 0 - x (ix3 1 67 ⟨r.val % 512, by omega⟩) else if l.val = 2 * (i 0).val then 0 - x (ix3 0 67 ⟨r.val % 512, by omega⟩)
        else z (ix2 r l)) else z (ix2 r l) := by
  have hb : (i 1).val < 16 := (i 1).isLt
  refine (put_ix2 z (k0_off21_eq i) _ r l).trans ?_
  by_cases h : r.val / 512 = (i 1).val
  · rw [dif_pos (by omega), if_pos h, pay4_at]
    have e : (⟨r.val - 512 * (i 1).val, by omega⟩ : Fin 512) = ⟨r.val % 512, by omega⟩ := Fin.ext (by show r.val - 512 * (i 1).val = r.val % 512; omega)
    have el : ∀ h' : l.val - 0 < 128, (⟨l.val - 0, h'⟩ : Fin 128) = l := fun _ => Fin.ext rfl
    rw [e, el, pay101_at, pay100_at]
    refine congrArg₂ _ (congrArg (0 - ·) (window_head x 1 (by omega) _ _ _)) (congrArg₂ _ (congrArg (0 - ·) (window_head x 0 (by omega) _ _ _)) ?_)
    refine (window_ix2 z (k0_off21_eq i) _ (by omega) (by omega) _ l).trans (congrArg z ?_)
    rw [ix2_inj]
    exact ⟨Fin.ext (by show 512 * (i 1).val + r.val % 512 = r.val; omega), Fin.ext (Nat.zero_add _)⟩
  · rw [dif_neg (by omega), if_neg h]

theorem dcEnd_at (i : grid0.Coords) (x : S8192x256.Idx → EReal) (z : S8192x128.Idx → EReal) (r : Fin 8192) (l : Fin 128) :
    dcEnd (F := Ideal) i x z (ix2 r l) = z (ix2 r l) + (if l.val = 2 * (i 0).val then x (ix2 r 64) else 0)
      + (if l.val = 2 * (i 0).val + 1 then x (ix2 r 192) else 0) := by
  unfold dcEnd
  refine (pay7_at i _ _ _ _ _).trans ?_
  have e : 512 * (r.val / 512) + r.val % 512 = r.val := by omega
  have ez : rowBlock (F := Ideal) z (r.val / 512) 0 (by omega) (by omega) (ix2 ⟨r.val % 512, by omega⟩ l) = z (ix2 r l) :=
    congrArg z (by rw [ix2_inj]; exact ⟨Fin.ext e, Fin.ext (Nat.zero_add _)⟩)
  have e0 : rowBlock (F := Ideal) x (r.val / 512) 0 (by omega) (by omega) (ix2 ⟨r.val % 512, by omega⟩ 64) = x (ix2 r 64) :=
    congrArg x (by rw [ix2_inj]; exact ⟨Fin.ext e, Fin.ext rfl⟩)
  have e1 : rowBlock (F := Ideal) x (r.val / 512) 128 (by omega) (by omega) (ix2 ⟨r.val % 512, by omega⟩ 64) = x (ix2 r 192) :=
    congrArg x (by rw [ix2_inj]; exact ⟨Fin.ext e, Fin.ext rfl⟩)
  exact congrArg₂ (· + ·) (congrArg₂ (· + ·) ez (by rw [← e0]; rfl)) (by rw [← e1]; rfl)

variable (m : (ℓ : Loc nD τ sig) → Buf (Elt Ideal) ℓ) (c : Dev nD)

/-- One point's step on the columns of the heads. -/
theorem dcN_step (t : Fin cfg0.N) (r : Fin 8192) (l : Fin 128) (hl : l.val < 16) (w : EReal)
    (hw : ¬ (t.val / 16 = l.val / 2 ∧ t.val % 16 = r.val / 512) → t.val ≠ 0 ∧ dcN m c t.val (ix2 r l) = w)
    (hw' : (t.val / 16 = l.val / 2 ∧ t.val % 16 = r.val / 512) → 0 - (arrays m c).dk l.val r.val 67 = w) :
    dcN m c (t.val + 1) (ix2 r l) = if t.val % 16 = 15 ∧ t.val / 16 = l.val / 2 then w + (arrays m c).dq l.val r.val 64 else w := by
  have hN := lt_128 t
  have hk : keyDc (grid0.coords t) (pt m c t).dk (startDc (grid0.coords t) (dcN m c t.val)) (ix2 r l) = w := by
    rw [keyDc_at, coords_fst, coords_snd]
    by_cases h : t.val / 16 = l.val / 2 ∧ t.val % 16 = r.val / 512
    · rw [if_pos h.2.symm, ← hw' h]
      have er : 512 * (t.val % 16) + r.val % 512 = r.val := by omega
      by_cases h1 : l.val = 2 * (t.val / 16) + 1
      · rw [if_pos h1, pt_dk]
        show 0 - (arrays m c).dk (2 * (t.val / 16) + 1) (512 * (t.val % 16) + r.val % 512) 67 = _
        rw [← h1, er]
      · have h2 : l.val = 2 * (t.val / 16) := by omega
        rw [if_neg h1, if_pos h2, pt_dk]
        show 0 - (arrays m c).dk (2 * (t.val / 16)) (512 * (t.val % 16) + r.val % 512) 67 = _
        rw [← h2, er]
    · have hz : startDc (F := Ideal) (grid0.coords t) (dcN m c t.val) (ix2 r l) = w := by
        obtain ⟨h0, h1⟩ := hw h
        unfold startDc
        rw [if_neg (by rw [coords_fst, coords_snd]; omega), h1]
      by_cases hr : r.val / 512 = t.val % 16
      · rw [if_pos hr, if_neg (by omega), if_neg (by omega), hz]
      · rw [if_neg hr, hz]
  rw [dcN_succ]
  unfold endDc
  rw [coords_snd]
  by_cases h15 : t.val % 16 = 15
  · rw [if_pos h15, dcEnd_at, hk, coords_fst]
    have hq : ∀ (e : ℕ) (he : e < 2), (pt m c t).dq (ix2 r (⟨128 * e + 64, by omega⟩ : Fin 256)) = (arrays m c).dq (2 * (t.val / 16) + e) r.val 64 :=
      fun e he => (rowAt_eq (pt m c t).dq r _).trans (dqN_end m c t h15 ⟨e, he⟩ 64 r)
    by_cases h : t.val / 16 = l.val / 2
    · rw [if_pos (show t.val % 16 = 15 ∧ t.val / 16 = l.val / 2 from ⟨h15, h⟩)]
      by_cases h1 : l.val = 2 * (t.val / 16) + 1
      · rw [if_neg (by omega), if_pos h1, add_zero, h1]
        exact congrArg (w + ·) (hq 1 (by omega))
      · have h2 : l.val = 2 * (t.val / 16) := by omega
        rw [if_pos h2, if_neg h1, add_zero, h2]
        exact congrArg (w + ·) (hq 0 (by omega))
    · rw [if_neg (by omega), if_neg (by omega), if_neg (by omega), add_zero, add_zero]
  · rw [if_neg h15, if_neg (by omega), hk]

/-- The columns of the heads before point `n`: set by the head's own points, completed by the last of them. -/
theorem dcN_at (r : Fin 8192) (l : Fin 128) (hl : l.val < 16) : ∀ n : ℕ, n ≤ 128 →
    (16 * (l.val / 2) + r.val / 512 < n → n < 16 * (l.val / 2) + 16 → dcN m c n (ix2 r l) = 0 - (arrays m c).dk l.val r.val 67)
    ∧ (16 * (l.val / 2) + 16 ≤ n → dcN m c n (ix2 r l) = 0 - (arrays m c).dk l.val r.val 67 + (arrays m c).dq l.val r.val 64)
  | 0, _ => ⟨fun h => by omega, fun h => by omega⟩
  | n + 1, hn => by
    have ih := dcN_at r l hl n (by omega)
    have ht : n < cfg0.N := (show n < 128 by omega).trans_eq N_eq.symm
    have step := dcN_step m c ⟨n, ht⟩ r l hl
    simp only at step
    constructor
    · intro h1 h2
      refine (step _ (fun hh => ⟨by omega, ih.1 (by omega) (by omega)⟩) (fun _ => rfl)).trans ?_
      rw [if_neg (by omega)]
    · intro h1
      by_cases h2 : n + 1 = 16 * (l.val / 2) + 16
      · refine (step (0 - (arrays m c).dk l.val r.val 67) (fun hh => ⟨by omega, ih.1 (by omega) (by omega)⟩) (fun _ => rfl)).trans ?_
        rw [if_pos (by omega)]
      · refine (step _ (fun hh => ⟨by omega, ih.2 (by omega)⟩) (fun hh => absurd hh (by omega))).trans ?_
        rw [if_neg (by omega)]

theorem final_7 : (dats m 0 c).arrAt 7 cfg0.N = (dcN m c 128 : Buf (Elt Ideal) ((c : Thread nD τ).loc main_v90_3)) :=
  (dats m 0 c).arrAt_eq_of_cover 7 _ (fun t hf => by
    have hN := lt_128 t
    have h127 : t.val % 128 = 127 := (flush0_7 t).mp hf
    show (cfg0.win 7).cut (grid0.coords t) ((dats m 0 c).after 7 t) = _
    rw [after_7, show t.val + 1 = 128 by omega]
    funext y
    rw [View.read_apply]
    show dcN m c 128 _ = dcN m c 128 _
    refine congrArg (dcN m c 128) (funext fun a => Fin.ext ?_)
    match a with
    | ⟨0, _⟩ => show (y 0).val = win0_7.index t 0 * 8192 + 1 * (y 0).val; rw [(index0_7 t).1]; omega
    | ⟨1, _⟩ => show (y 1).val = win0_7.index t 1 * 128 + 1 * (y 1).val; rw [(index0_7 t).2]; omega) fun y => by
    have h0 : (y 0).val < 8192 := (y 0).isLt
    have h1 : (y 1).val < 128 := (y 1).isLt
    have ht : 127 < cfg0.N := (show 127 < 128 by omega).trans_eq N_eq.symm
    refine ⟨⟨127, ht⟩, (flush0_7 _).mpr rfl, ?_⟩
    generalize hT : (⟨127, ht⟩ : Fin cfg0.N) = T
    show y ∈ ((View.whole main_v90_3).slice (win0_7.rect T)).set
    rw [View.set_slice_whole, Rect.mem_set_unit]
    intro a
    match a with
    | ⟨0, _⟩ => show win0_7.index T 0 * 8192 ≤ (y 0).val ∧ (y 0).val < win0_7.index T 0 * 8192 + 8192; rw [(index0_7 T).1]; omega
    | ⟨1, _⟩ => show win0_7.index T 1 * 128 ≤ (y 1).val ∧ (y 1).val < win0_7.index T 1 * 128 + 128; rw [(index0_7 T).2]; omega

/-- The heads' columns of the fourth result. -/
theorem final_7_at (r : Fin 8192) (l : Fin 128) (hl : l.val < 16) :
    dcN m c 128 (ix2 r l) = 0 - (arrays m c).dk l.val r.val 67 + (arrays m c).dq l.val r.val 64 :=
  (dcN_at m c r l hl 128 le_rfl).2 (by omega)

end Cert.KernelIdeal.Bwd
end
-- ==== Proof.CallAt.lean ====
/-
  The four result arrays of the call, from finite inputs, as numbers.
-/
module

public import proofs.«01_k».proof.Proof.HostLanes
public import proofs.«01_k».proof.Proof.ResultDc

@[expose] public section

set_option maxRecDepth 16384
set_option maxHeartbeats 1000000

noncomputable section

namespace Cert.KernelIdeal.Bwd

open Idealize.ShloMosaic Idealize.ShloMosaic.TcCoe Idealize.ShloMosaic.StableHlo Cert.Spec
open Cert.KernelIdeal Cert.KernelIdeal.Gen
open Finset (range)

variable (m : (ℓ : Loc nD τ sig) → Buf (Elt Ideal) ℓ) (c : Dev nD) {a : Inputs}

/-- What the host operations before the call leave, by either name. -/
theorem V_eq (r : Ref sig .tc) : V m c r = HostIn.st (fun b => m (c, b)) r := by
  rfl

variable (H : HostIn.Holds (fun b => m (c, b)) a) (h : Fin 16) (r x : Fin 8192) (l : Fin 128)
include H

theorem arrays_q : (arrays m c).q r.val (128 * h.val + l.val) = (a.qL h r l.val : EReal) := by
  unfold arrays
  simp only
  rw [dif_pos ⟨r.isLt, by omega⟩, V_eq]
  exact HostIn.at_v70 H r h l

theorem arrays_k : (arrays m c).k x.val (128 * h.val + l.val) = (a.kL h x l.val : EReal) := by
  unfold arrays
  simp only
  rw [dif_pos ⟨x.isLt, by omega⟩, V_eq]
  exact HostIn.at_v89_1 H x h l

theorem arrays_v : (arrays m c).v x.val (128 * h.val + l.val) = (a.vL h x l.val : EReal) := by
  unfold arrays
  simp only
  rw [dif_pos ⟨x.isLt, by omega⟩, V_eq]
  exact HostIn.at_v89_2 H x h l

theorem arrays_d : (arrays m c).d r.val (128 * h.val + l.val) = (a.dL h r l.val : EReal) := by
  unfold arrays
  simp only
  rw [dif_pos ⟨r.isLt, by omega⟩, V_eq]
  exact HostIn.at_v85 H r h l

theorem mprob_eq : (arrays m c).mprob h.val r.val x.val = (a.p h r x : EReal) := by
  unfold Arrays.mprob
  by_cases hx : x.val ≤ r.val
  · rw [if_pos hx]
    unfold Arrays.prob
    simp only [arrays_q m c H, arrays_k m c H, ← EReal.coe_mul, ← Inputs.coe_sum]
    rw [a.score_lanes, Ideal.exp_coe, a.exp_lse h r x hx]
  · rw [if_neg hx, a.p_after h r x hx, EReal.coe_zero]

theorem grad_eq : (arrays m c).grad h.val r.val x.val = ((a.dp h r x - a.delta h r : ℝ) : EReal) := by
  unfold Arrays.grad
  simp only [arrays_d m c H, arrays_v m c H, ← EReal.coe_mul, ← Inputs.coe_sum]
  rw [a.grad_lanes]

theorem score_eq : (arrays m c).score h.val r.val x.val = (a.ds h r x : EReal) := by
  unfold Arrays.score
  rw [mprob_eq m c H, grad_eq m c H, ← EReal.coe_mul, Inputs.ds]

theorem dq_lane : (arrays m c).dq h.val r.val l.val = ((∑ x, a.ds h r x * a.kL h x l.val : ℝ) : EReal) := by
  unfold Arrays.dq
  rw [Finset.sum_range]
  simp only [score_eq m c H, arrays_k m c H, ← EReal.coe_mul, ← Inputs.coe_sum]

theorem dk_lane : (arrays m c).dk h.val x.val l.val = ((∑ r, a.qL h r l.val * a.ds h r x : ℝ) : EReal) := by
  unfold Arrays.dk
  rw [Finset.sum_range]
  simp only [score_eq m c H, arrays_q m c H, ← EReal.coe_mul, ← Inputs.coe_sum]

theorem dv_lane : (arrays m c).dv h.val x.val l.val = ((∑ r, a.dL h r l.val * a.p h r x : ℝ) : EReal) := by
  unfold Arrays.dv
  rw [Finset.sum_range]
  simp only [mprob_eq m c H, arrays_d m c H, ← EReal.coe_mul, ← Inputs.coe_sum]

theorem dq_at (l : Fin 64) : (arrays m c).dq h.val r.val l.val * ((1 / 8 : ℝ) : EReal) = (a.dq h r l : EReal) := by
  refine (congrArg (· * _) (dq_lane m c H h r (Fin.castLE (by decide) l))).trans ?_
  rw [← EReal.coe_mul, Finset.sum_mul, Inputs.dq]
  refine congrArg _ (Finset.sum_congr rfl fun x _ => ?_)
  rw [Inputs.kL, dif_pos (show (Fin.castLE (by decide : 64 ≤ 128) l).val < 64 from l.isLt)]
  rfl

theorem dk_at (l : Fin 64) : (arrays m c).dk h.val x.val l.val = (a.dk h x l : EReal) := by
  refine (dk_lane m c H h x (Fin.castLE (by decide) l)).trans ?_
  rw [Inputs.dk]
  refine congrArg _ (Finset.sum_congr rfl fun r _ => ?_)
  rw [Inputs.qL, dif_pos (show (Fin.castLE (by decide : 64 ≤ 128) l).val < 64 from l.isLt)]
  show a.q r h l * (1 / 8) * a.ds h r x = a.ds h r x * a.q r h l * (1 / 8)
  ring

theorem dv_at (l : Fin 64) : (arrays m c).dv h.val x.val l.val = (a.dv h x l : EReal) := by
  refine (dv_lane m c H h x (Fin.castLE (by decide) l)).trans ?_
  rw [Inputs.dv]
  refine congrArg _ (Finset.sum_congr rfl fun r _ => ?_)
  rw [Inputs.dL, dif_pos (show (Fin.castLE (by decide : 64 ≤ 128) l).val < 64 from l.isLt)]
  rfl

theorem dc_at : dcN m c 128 (ix2 r ⟨h.val, by omega⟩) = (a.dc h r : EReal) := by
  refine (final_7_at m c r ⟨h.val, by omega⟩ h.isLt).trans ?_
  have e1 : (arrays m c).dk h.val r.val 67 = ((∑ s, a.ds h s r : ℝ) : EReal) := by
    refine (dk_lane m c H h r ⟨67, by decide⟩).trans (congrArg _ (Finset.sum_congr rfl fun s _ => ?_))
    rw [Inputs.qL, dif_neg (by decide), if_neg (by decide), if_neg (by decide), if_pos (by decide), one_mul]
  have e2 : (arrays m c).dq h.val r.val 64 = ((∑ x, a.ds h r x : ℝ) : EReal) := by
    refine (dq_lane m c H h r ⟨64, by decide⟩).trans (congrArg _ (Finset.sum_congr rfl fun s _ => ?_))
    rw [Inputs.kL, dif_neg (by decide), if_pos (by decide), mul_one]
  rw [e1, e2, ← EReal.coe_zero, ← EReal.coe_sub, ← EReal.coe_add, Inputs.dc]
  exact congrArg _ (by ring)

end Cert.KernelIdeal.Bwd
end
-- ==== Proof.TailSteps.lean ====
/-
  The host operations after the call, one at a time.
-/
module

public import proofs.«01_k».proof.Proof.Gen.KernelIdeal.Launch
public import proofs.«01_k».proof.Proof.Lines

@[expose] public section

set_option maxRecDepth 16384
set_option maxHeartbeats 4000000

noncomputable section

namespace Cert.KernelIdeal.HostOut

open Idealize.ShloMosaic Idealize.ShloMosaic.TcCoe Idealize.ShloMosaic.StableHlo Cert.Lines
open Cert.KernelIdeal Cert.KernelIdeal.Gen

variable {F : FTy → Type} [FloatOps F]

/-- The host operations, in order. -/
def linesOut : List (HloOp τ sig (Elt F)) := List.flatten [hostOps1]

/-- The buffers they write, in order. -/
def linesOutOut : List (Ref sig .tc) :=
  [main_v91, main_v92, main_v93, main_cst_10, main_v94, main_v95, main_v96, main_v97, main_v98, main_v99,
   main_v100, main_v101, main_v102]

theorem linesOut_writes : (linesOut (F := F)).map HloOp.writes = linesOutOut.map fun w => {Proc.devRef (τ := τ) .tc w} := rfl

variable (V : Valuation τ sig (Elt F))

/-- What a buffer holds after the operations. -/
def st (r : Ref sig .tc) : r.ty.Contents (Elt F) := after linesOut V (Proc.devRef .tc r)

theorem eq_v91 : st V main_v91 = (((extf .f32 · bitsLt_bf16_f32) : (⟨S8192x2048, .bf16⟩ : BufTy).Contents (Elt F) → (⟨S8192x2048, .f32⟩ : BufTy).Contents (Elt F)) (st V main_v90_0)) := by
  rw [st, read_line linesOut_writes V 0 rfl (by decide)]
  rw [unary_result]
  rw [operand_line linesOut_writes V 0 (r := main_v90_0) (by decide)]
  rfl

theorem eq_v92 : st V main_v92 = (shapeCast S8192x16x128 (st V main_v91) shapeCasts_S8192x2048_S8192x16x128) := by
  rw [st, read_line linesOut_writes V 1 rfl (by decide)]
  rw [reshape_result]
  rw [operand_line linesOut_writes V 1 (r := main_v91) (by decide)]
  rfl

theorem eq_v93 : st V main_v93 = (((extractStridedSlice S8192x16x64 ![0, 0, 0] · slices_S8192x16x128_S8192x16x64_0_0_0) : (⟨S8192x16x128, .f32⟩ : BufTy).Contents (Elt F) → (⟨S8192x16x64, .f32⟩ : BufTy).Contents (Elt F)) (st V main_v92)) := by
  rw [st, read_line linesOut_writes V 2 rfl (by decide)]
  rw [unary_result]
  rw [operand_line linesOut_writes V 2 (r := main_v92) (by decide)]
  rfl

theorem eq_cst_10 : st V main_cst_10 = ((constant S_ .f32 0x3E000000#32)) := by
  rw [st, read_line linesOut_writes V 3 rfl (by decide)]
  rw [nullary_result]

theorem eq_v94 : st V main_v94 = ((broadcastInDim S8192x16x64 ![] bcast_S_S8192x16x64 : (⟨S_, .f32⟩ : BufTy).Contents (Elt F) → (⟨S8192x16x64, .f32⟩ : BufTy).Contents (Elt F)) (st V main_cst_10)) := by
  rw [st, read_line linesOut_writes V 4 rfl (by decide)]
  rw [unary_result]
  rw [operand_line linesOut_writes V 4 (r := main_cst_10) (by decide)]
  rfl

theorem eq_v95 : st V main_v95 = ((mulf : (⟨S8192x16x64, .f32⟩ : BufTy).Contents (Elt F) → (⟨S8192x16x64, .f32⟩ : BufTy).Contents (Elt F) → (⟨S8192x16x64, .f32⟩ : BufTy).Contents (Elt F)) (st V main_v93) (st V main_v94)) := by
  rw [st, read_line linesOut_writes V 5 rfl (by decide)]
  rw [binary_result]
  rw [operand_line linesOut_writes V 5 (r := main_v93) (by decide), operand_line linesOut_writes V 5 (r := main_v94) (by decide)]
  rfl

theorem eq_v96 : st V main_v96 = (((extf .f32 · bitsLt_bf16_f32) : (⟨S8192x2048, .bf16⟩ : BufTy).Contents (Elt F) → (⟨S8192x2048, .f32⟩ : BufTy).Contents (Elt F)) (st V main_v90_1)) := by
  rw [st, read_line linesOut_writes V 6 rfl (by decide)]
  rw [unary_result]
  rw [operand_line linesOut_writes V 6 (r := main_v90_1) (by decide)]
  rfl

theorem eq_v97 : st V main_v97 = (shapeCast S8192x16x128 (st V main_v96) shapeCasts_S8192x2048_S8192x16x128) := by
  rw [st, read_line linesOut_writes V 7 rfl (by decide)]
  rw [reshape_result]
  rw [operand_line linesOut_writes V 7 (r := main_v96) (by decide)]
  rfl

theorem eq_v98 : st V main_v98 = (((extractStridedSlice S8192x16x64 ![0, 0, 0] · slices_S8192x16x128_S8192x16x64_0_0_0) : (⟨S8192x16x128, .f32⟩ : BufTy).Contents (Elt F) → (⟨S8192x16x64, .f32⟩ : BufTy).Contents (Elt F)) (st V main_v97)) := by
  rw [st, read_line linesOut_writes V 8 rfl (by decide)]
  rw [unary_result]
  rw [operand_line linesOut_writes V 8 (r := main_v97) (by decide)]
  rfl

theorem eq_v99 : st V main_v99 = (((extf .f32 · bitsLt_bf16_f32) : (⟨S8192x2048, .bf16⟩ : BufTy).Contents (Elt F) → (⟨S8192x2048, .f32⟩ : BufTy).Contents (Elt F)) (st V main_v90_2)) := by
  rw [st, read_line linesOut_writes V 9 rfl (by decide)]
  rw [unary_result]
  rw [operand_line linesOut_writes V 9 (r := main_v90_2) (by decide)]
  rfl

theorem eq_v100 : st V main_v100 = (shapeCast S8192x16x128 (st V main_v99) shapeCasts_S8192x2048_S8192x16x128) := by
  rw [st, read_line linesOut_writes V 10 rfl (by decide)]
  rw [reshape_result]
  rw [operand_line linesOut_writes V 10 (r := main_v99) (by decide)]
  rfl

theorem eq_v101 : st V main_v101 = (((extractStridedSlice S8192x16x64 ![0, 0, 0] · slices_S8192x16x128_S8192x16x64_0_0_0) : (⟨S8192x16x128, .f32⟩ : BufTy).Contents (Elt F) → (⟨S8192x16x64, .f32⟩ : BufTy).Contents (Elt F)) (st V main_v100)) := by
  rw [st, read_line linesOut_writes V 11 rfl (by decide)]
  rw [unary_result]
  rw [operand_line linesOut_writes V 11 (r := main_v100) (by decide)]
  rfl

theorem eq_v102 : st V main_v102 = (((extractStridedSlice S8192x16 ![0, 0] · slices_S8192x128_S8192x16_0_0) : (⟨S8192x128, .f32⟩ : BufTy).Contents (Elt F) → (⟨S8192x16, .f32⟩ : BufTy).Contents (Elt F)) (st V main_v90_3)) := by
  rw [st, read_line linesOut_writes V 12 rfl (by decide)]
  rw [unary_result]
  rw [operand_line linesOut_writes V 12 (r := main_v90_3) (by decide)]
  rfl

end Cert.KernelIdeal.HostOut
end
-- ==== Proof.KernelEnd.lean ====
/-
  The kernel's run from finite inputs ends with the four gradients.
-/
module

public import proofs.«01_k».proof.Proof.CallAt
public import proofs.«01_k».proof.Proof.TailSteps
public import proofs.«01_k».proof.Proof.Run

@[expose] public section

set_option maxRecDepth 16384
set_option maxHeartbeats 1000000

noncomputable section

namespace Cert.KernelIdeal.HostOut

open Idealize.ShloMosaic Idealize.ShloMosaic.TcCoe Idealize.ShloMosaic.StableHlo Cert.Lines Cert.Spec
open Cert.KernelIdeal Cert.KernelIdeal.Gen

variable {V : Valuation τ sig (Elt Ideal)}

theorem cut_at (y : FVec Ideal S8192x2048 .bf16) (r : Fin 8192) (h : Fin 16) (l : Fin 64) :
    extractStridedSlice S8192x16x64 ![0, 0, 0] (shapeCast S8192x16x128 (extf .f32 y bitsLt_bf16_f32) shapeCasts_S8192x2048_S8192x16x128)
      slices_S8192x16x128_S8192x16x64_0_0_0 (ix3 r h l) = y (ix2 r ⟨128 * h.val + l.val, by omega⟩) := by
  pointwise []
  exact congrArg y (congrArg (ix2 r) (Fin.ext (show h.val * 128 + l.val = 128 * h.val + l.val by omega)))

theorem eighth_at (y : FVec Ideal S8192x16x64 .f32) (r : Fin 8192) (h : Fin 16) (l : Fin 64) :
    mulf y (broadcastInDim S8192x16x64 ![] bcast_S_S8192x16x64 (constant (F := Ideal) S_ .f32 0x3E000000#32)) (ix3 r h l)
      = y (ix3 r h l) * ((1 / 8 : ℝ) : EReal) := by
  rw [← ofBits_eighth]
  pointwise []

theorem head_at (y : FVec Ideal S8192x128 .f32) (r : Fin 8192) (h : Fin 16) :
    extractStridedSlice S8192x16 ![0, 0] y slices_S8192x128_S8192x16_0_0 (ix2 r h) = y (ix2 r ⟨h.val, by omega⟩) := by
  pointwise []

theorem at_v95 (r : Fin 8192) (h : Fin 16) (l : Fin 64) :
    st V main_v95 (ix3 r h l) = (num (st V main_v90_0 (ix2 r ⟨128 * h.val + l.val, by omega⟩)) * ((1 / 8 : ℝ) : EReal) : EReal) := by
  rw [eq_v95, eq_v94, eq_cst_10]
  refine (eighth_at _ r h l).trans (congrArg (· * _) ?_)
  rw [eq_v93, eq_v92, eq_v91]
  exact cut_at _ r h l

theorem at_v98 (r : Fin 8192) (h : Fin 16) (l : Fin 64) :
    st V main_v98 (ix3 r h l) = num (st V main_v90_1 (ix2 r ⟨128 * h.val + l.val, by omega⟩)) := by
  rw [eq_v98, eq_v97, eq_v96]
  exact cut_at _ r h l

theorem at_v101 (r : Fin 8192) (h : Fin 16) (l : Fin 64) :
    st V main_v101 (ix3 r h l) = num (st V main_v90_2 (ix2 r ⟨128 * h.val + l.val, by omega⟩)) := by
  rw [eq_v101, eq_v100, eq_v99]
  exact cut_at _ r h l

theorem at_v102 (r : Fin 8192) (h : Fin 16) : st V main_v102 (ix2 r h) = num (st V main_v90_3 (ix2 r ⟨h.val, by omega⟩)) := by
  rw [eq_v102]
  exact head_at _ r h

/-- A buffer the operations do not write. -/
theorem st_kept (r : Ref sig .tc) (hr : r ∉ linesOutOut) : st V r = V (Proc.devRef .tc r) := by
  rw [st]
  refine after_of_forall_not_mem _ _ fun op hop => ?_
  have := List.mem_map_of_mem (f := HloOp.writes) hop
  rw [linesOut_writes, List.mem_map] at this
  obtain ⟨w, hw, e⟩ := this
  rw [← e, Finset.mem_singleton]
  exact devRef_ne_of_ne fun h => hr (h ▸ hw)

end Cert.KernelIdeal.HostOut

namespace Cert.KernelIdeal.Bwd

open Idealize.ShloMosaic Idealize.ShloMosaic.TcCoe Idealize.ShloMosaic.StableHlo Cert.Spec
open Cert.KernelIdeal Cert.KernelIdeal.Gen

variable (m : (ℓ : Loc nD τ sig) → Buf (Elt Ideal) ℓ) (ρ : Dev nD → PrngReg) (c : Dev nD) {a : Inputs}

/-- The buffers as the call leaves them. -/
def left : Valuation τ sig (Elt Ideal) :=
  Pipeline.withArrays (cfgs 0).spec c (V0 m c) fun w => (dats m 0 c).arrAt w (cfgs 0).N

theorem left_arr (w : Fin cfg0.W) : left m c (Proc.devRef .tc (Pipeline.arrRef spec0 w)) = (dats m 0 c).arrAt w cfg0.N :=
  Pipeline.withArrays_arr_shared spec0 c (V0 m c) _ ((dats m 0 c).arrAt_sharedIn sharedIn0 (V0 m c) (A_eq m c) cfg0.N) w

theorem tail_eq (r : Ref sig .tc) : Pipeline.afterTail₀ cfgs (dats m) 0 (V0 m) [hostOps1] c r = HostOut.st (left m c) r := by
  rfl

theorem left_4 : HostOut.st (left m c) main_v90_0 = (byHead (arrays m c).dq : S8192x2048.Idx → EReal) := by
  rw [HostOut.st_kept main_v90_0 (by decide)]
  exact (left_arr m c 4).trans (final_4 m c)

theorem left_5 : HostOut.st (left m c) main_v90_1 = (byHead (arrays m c).dk : S8192x2048.Idx → EReal) := by
  rw [HostOut.st_kept main_v90_1 (by decide)]
  exact (left_arr m c 5).trans (final_5 m c)

theorem left_6 : HostOut.st (left m c) main_v90_2 = (byHead (arrays m c).dv : S8192x2048.Idx → EReal) := by
  rw [HostOut.st_kept main_v90_2 (by decide)]
  exact (left_arr m c 6).trans (final_6 m c)

theorem left_7 : HostOut.st (left m c) main_v90_3 = (dcN m c 128 : S8192x128.Idx → EReal) := by
  rw [HostOut.st_kept main_v90_3 (by decide)]
  exact (left_arr m c 7).trans (final_7 m c)

theorem byHead_at (f : ℕ → ℕ → ℕ → EReal) (r : Fin 8192) (h : Fin 16) (l : Fin 64) :
    byHead f (ix2 r ⟨128 * h.val + l.val, by omega⟩) = f h.val r.val l.val := by
  show f ((128 * h.val + l.val) / 128) r.val ((128 * h.val + l.val) % 128) = _
  rw [show (128 * h.val + l.val) / 128 = h.val by omega, show (128 * h.val + l.val) % 128 = l.val by omega]

variable (H : HostIn.Holds (fun b => m (c, b)) a)
include H

theorem end_dq (r : Fin 8192) (h : Fin 16) (l : Fin 64) : HostOut.st (left m c) main_v95 (ix3 r h l) = (a.dq h r l : EReal) := by
  refine (HostOut.at_v95 r h l).trans ?_
  rw [left_4, num, byHead_at]
  exact dq_at m c H h r l

theorem end_dk (r : Fin 8192) (h : Fin 16) (l : Fin 64) : HostOut.st (left m c) main_v98 (ix3 r h l) = (a.dk h r l : EReal) := by
  refine (HostOut.at_v98 r h l).trans ?_
  rw [left_5, num, byHead_at]
  exact dk_at m c H h r l

theorem end_dv (r : Fin 8192) (h : Fin 16) (l : Fin 64) : HostOut.st (left m c) main_v101 (ix3 r h l) = (a.dv h r l : EReal) := by
  refine (HostOut.at_v101 r h l).trans ?_
  rw [left_6, num, byHead_at]
  exact dv_at m c H h r l

theorem end_dc (r : Fin 8192) (h : Fin 16) : HostOut.st (left m c) main_v102 (ix2 r h) = (a.dc h r : EReal) := by
  refine (HostOut.at_v102 r h).trans ?_
  rw [left_7, num]
  exact dc_at m c H h r

omit H

theorem V_arg (r : Ref sig .tc) (hr : V m c r = m ((c : Thread nD τ).loc r)) :
    HostIn.st (fun b => m (c, b)) r = m ((c : Thread nD τ).loc r) := hr

/-- The run ends with the results the operations after the call leave, the arguments as they were. -/
theorem run_results : θ_run defs (onTc (τ := τ) (main (F := Ideal))) ⟨m, fun _ => 0, ρ⟩ (fun r => ∀ c : Dev nD,
      r.2.mem ((c.tc : Thread nD τ).loc main_v95) = HostOut.st (left m c) main_v95
      ∧ r.2.mem ((c.tc : Thread nD τ).loc main_v98) = HostOut.st (left m c) main_v98
      ∧ r.2.mem ((c.tc : Thread nD τ).loc main_v101) = HostOut.st (left m c) main_v101
      ∧ r.2.mem ((c.tc : Thread nD τ).loc main_v102) = HostOut.st (left m c) main_v102
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h.1 c).2 main_v95 (Pipeline.mem_restRefs_of main_v95 (by decide) (by decide))).trans (tail_eq m c _),
      ((h.1 c).2 main_v98 (Pipeline.mem_restRefs_of main_v98 (by decide) (by decide))).trans (tail_eq m c _),
      ((h.1 c).2 main_v101 (Pipeline.mem_restRefs_of main_v101 (by decide) (by decide))).trans (tail_eq m c _),
      ((h.1 c).2 main_v102 (Pipeline.mem_restRefs_of main_v102 (by decide) (by decide))).trans (tail_eq m c _),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).2 main_arg2 (Pipeline.mem_restRefs_of main_arg2 (by decide) (by decide))).trans (W_main_arg2 m (dats m) c),
      ((h.1 c).2 main_arg3 (Pipeline.mem_restRefs_of main_arg3 (by decide) (by decide))).trans (W_main_arg3 m (dats m) c),
      ((h.1 c).2 main_arg4 (Pipeline.mem_restRefs_of main_arg4 (by decide) (by decide))).trans (W_main_arg4 m (dats m) c)⟩)
    (run_main m ρ)

end Cert.KernelIdeal.Bwd
end
-- ==== Proof.RefSteps.lean ====
/-
  The reference's operations, one at a time: what each result holds, from what its operands hold.
-/
module

public import proofs.«01_k».proof.Proof.Gen.ReferenceIdeal.Run
public import proofs.«01_k».proof.Proof.Lines

@[expose] public section

set_option maxRecDepth 16384
set_option maxHeartbeats 4000000

noncomputable section

namespace Cert.ReferenceIdeal.Steps

open Idealize.ShloMosaic Idealize.ShloMosaic.TcCoe Idealize.ShloMosaic.StableHlo Cert.Lines
open Cert.ReferenceIdeal Cert.ReferenceIdeal.Gen

variable {F : FTy → Type} [FloatOps F]

/-- The host operations, in order. -/
def linesRef : List (HloOp τ sig (Elt F)) := Cert.ReferenceIdeal.Value.ops

/-- The buffers they write, in order. -/
def linesRefOut : List (Ref sig .tc) :=
  [main_v0, main_cst, main_v1, main_v2, main_v3, main_v4, main_v5, main_v6, main_v7, main_v8,
   main_v9, main_v10, main_v11, main_v12, main_v13, main_v14, main_v15, main_v16, main_cst_0, main_call0_v0,
   main_v17_1, main_call0_v2, main_v17_0, main_call0_cst, main_v17_2, main_cst_1, main_v18, main_v19, main_v20, main_v21,
   main_v22, main_cst_2, main_v23, main_cst_3, main_v24, main_v25, main_cst_4, main_v26, main_v27, main_cst_5,
   main_v28, main_v29, main_cst_6, main_v30, main_cst_7, main_v31, main_cst_8, main_v32, main_v33, main_v34,
   main_v35, main_v36, main_v37, main_v38, main_cst_9, main_v39, main_v40, main_v41, main_v42, main_v43,
   main_cst_10, main_v44, main_v45, main_v46, main_v47, main_v48, main_v49, main_v50, main_v51, main_v52,
   main_v53, main_v54, main_cst_11, main_v55, main_v56, main_v57, main_v58, main_v59, main_cst_12, main_v60,
   main_v61, main_v62, main_v63, main_call1_cst, main_call1_v0, main_v64, main_cst_13, main_v65, main_v66, main_v67,
   main_cst_14, main_v68, main_v69, main_cst_15, main_v70, main_cst_16, main_v71, main_v72, main_v73, main_cst_17,
   main_v74, main_v75, main_v76, main_v77, main_v78, main_v79]

theorem linesRef_writes : (linesRef (F := F)).map HloOp.writes = linesRefOut.map fun w => {Proc.devRef (τ := τ) .tc w} := rfl

variable (V : Valuation τ sig (Elt F))

/-- What a buffer holds after the operations. -/
def st (r : Ref sig .tc) : r.ty.Contents (Elt F) := after linesRef V (Proc.devRef .tc r)

theorem eq_v0 : st V main_v0 = (((fun l r => Host.dotGeneral dot_S8192x16x64_S8192x16x64_S16x8192x8192_2_2_0_0_1_1 none l r) : (⟨S8192x16x64, .f32⟩ : BufTy).Contents (Elt F) → (⟨S8192x16x64, .f32⟩ : BufTy).Contents (Elt F) → (⟨S16x8192x8192, .f32⟩ : BufTy).Contents (Elt F)) (st V main_arg0) (st V main_arg1)) := by
  rw [st, read_line linesRef_writes V 0 rfl (by decide)]
  rw [binary_result]
  rw [operand_line linesRef_writes V 0 (r := main_arg0) (by decide), operand_line linesRef_writes V 0 (r := main_arg1) (by decide)]
  rfl

theorem eq_cst : st V main_cst = ((constant S_ .f32 0x3E000000#32)) := by
  rw [st, read_line linesRef_writes V 1 rfl (by decide)]
  rw [nullary_result]

theorem eq_v1 : st V main_v1 = ((broadcastInDim S16x8192x8192 ![] bcast_S_S16x8192x8192 : (⟨S_, .f32⟩ : BufTy).Contents (Elt F) → (⟨S16x8192x8192, .f32⟩ : BufTy).Contents (Elt F)) (st V main_cst)) := by
  rw [st, read_line linesRef_writes V 2 rfl (by decide)]
  rw [unary_result]
  rw [operand_line linesRef_writes V 2 (r := main_cst) (by decide)]
  rfl

theorem eq_v2 : st V main_v2 = ((mulf : (⟨S16x8192x8192, .f32⟩ : BufTy).Contents (Elt F) → (⟨S16x8192x8192, .f32⟩ : BufTy).Contents (Elt F) → (⟨S16x8192x8192, .f32⟩ : BufTy).Contents (Elt F)) (st V main_v0) (st V main_v1)) := by
  rw [st, read_line linesRef_writes V 3 rfl (by decide)]
  rw [binary_result]
  rw [operand_line linesRef_writes V 3 (r := main_v0) (by decide), operand_line linesRef_writes V 3 (r := main_v1) (by decide)]
  rfl

theorem eq_v3 : st V main_v3 = (((transpose S16x8192 [1, 0] · transposes_S8192x16_S16x8192_1_0) : (⟨S8192x16, .f32⟩ : BufTy).Contents (Elt F) → (⟨S16x8192, .f32⟩ : BufTy).Contents (Elt F)) (st V main_arg3)) := by
  rw [st, read_line linesRef_writes V 4 rfl (by decide)]
  rw [unary_result]
  rw [operand_line linesRef_writes V 4 (r := main_arg3) (by decide)]
  rfl

theorem eq_v4 : st V main_v4 = ((broadcastInDim S16x8192x1 ![0, 1] bcast_S16x8192_S16x8192x1_0_1 : (⟨S16x8192, .f32⟩ : BufTy).Contents (Elt F) → (⟨S16x8192x1, .f32⟩ : BufTy).Contents (Elt F)) (st V main_v3)) := by
  rw [st, read_line linesRef_writes V 5 rfl (by decide)]
  rw [unary_result]
  rw [operand_line linesRef_writes V 5 (r := main_v3) (by decide)]
  rfl

theorem eq_v5 : st V main_v5 = ((broadcastInDim S16x1x8192 ![0, 2] bcast_S16x8192_S16x1x8192_0_2 : (⟨S16x8192, .f32⟩ : BufTy).Contents (Elt F) → (⟨S16x1x8192, .f32⟩ : BufTy).Contents (Elt F)) (st V main_v3)) := by
  rw [st, read_line linesRef_writes V 6 rfl (by decide)]
  rw [unary_result]
  rw [operand_line linesRef_writes V 6 (r := main_v3) (by decide)]
  rfl

theorem eq_v6 : st V main_v6 = ((broadcastInDim S16x8192x8192 ![0, 1, 2] bcast_S16x8192x1_S16x8192x8192_0_1_2 : (⟨S16x8192x1, .f32⟩ : BufTy).Contents (Elt F) → (⟨S16x8192x8192, .f32⟩ : BufTy).Contents (Elt F)) (st V main_v4)) := by
  rw [st, read_line linesRef_writes V 7 rfl (by decide)]
  rw [unary_result]
  rw [operand_line linesRef_writes V 7 (r := main_v4) (by decide)]
  rfl

theorem eq_v7 : st V main_v7 = ((broadcastInDim S16x8192x8192 ![0, 1, 2] bcast_S16x1x8192_S16x8192x8192_0_1_2 : (⟨S16x1x8192, .f32⟩ : BufTy).Contents (Elt F) → (⟨S16x8192x8192, .f32⟩ : BufTy).Contents (Elt F)) (st V main_v5)) := by
  rw [st, read_line linesRef_writes V 8 rfl (by decide)]
  rw [unary_result]
  rw [operand_line linesRef_writes V 8 (r := main_v5) (by decide)]
  rfl

theorem eq_v8 : st V main_v8 = ((subf : (⟨S16x8192x8192, .f32⟩ : BufTy).Contents (Elt F) → (⟨S16x8192x8192, .f32⟩ : BufTy).Contents (Elt F) → (⟨S16x8192x8192, .f32⟩ : BufTy).Contents (Elt F)) (st V main_v6) (st V main_v7)) := by
  rw [st, read_line linesRef_writes V 9 rfl (by decide)]
  rw [binary_result]
  rw [operand_line linesRef_writes V 9 (r := main_v6) (by decide), operand_line linesRef_writes V 9 (r := main_v7) (by decide)]
  rfl

theorem eq_v9 : st V main_v9 = ((addf : (⟨S16x8192x8192, .f32⟩ : BufTy).Contents (Elt F) → (⟨S16x8192x8192, .f32⟩ : BufTy).Contents (Elt F) → (⟨S16x8192x8192, .f32⟩ : BufTy).Contents (Elt F)) (st V main_v2) (st V main_v8)) := by
  rw [st, read_line linesRef_writes V 10 rfl (by decide)]
  rw [binary_result]
  rw [operand_line linesRef_writes V 10 (r := main_v2) (by decide), operand_line linesRef_writes V 10 (r := main_v8) (by decide)]
  rfl

theorem eq_v10 : st V main_v10 = ((iotaInDim S8192 32 0)) := by
  rw [st, read_line linesRef_writes V 11 rfl (by decide)]
  rw [nullary_result]

theorem eq_v11 : st V main_v11 = ((broadcastInDim S1x8192 ![1] bcast_S8192_S1x8192_1 : (⟨S8192, .i32⟩ : BufTy).Contents (Elt F) → (⟨S1x8192, .i32⟩ : BufTy).Contents (Elt F)) (st V main_v10)) := by
  rw [st, read_line linesRef_writes V 12 rfl (by decide)]
  rw [unary_result]
  rw [operand_line linesRef_writes V 12 (r := main_v10) (by decide)]
  rfl

theorem eq_v12 : st V main_v12 = ((broadcastInDim S8192x1 ![0] bcast_S8192_S8192x1_0 : (⟨S8192, .i32⟩ : BufTy).Contents (Elt F) → (⟨S8192x1, .i32⟩ : BufTy).Contents (Elt F)) (st V main_v10)) := by
  rw [st, read_line linesRef_writes V 13 rfl (by decide)]
  rw [unary_result]
  rw [operand_line linesRef_writes V 13 (r := main_v10) (by decide)]
  rfl

theorem eq_v13 : st V main_v13 = ((broadcastInDim S8192x8192 ![0, 1] bcast_S1x8192_S8192x8192_0_1 : (⟨S1x8192, .i32⟩ : BufTy).Contents (Elt F) → (⟨S8192x8192, .i32⟩ : BufTy).Contents (Elt F)) (st V main_v11)) := by
  rw [st, read_line linesRef_writes V 14 rfl (by decide)]
  rw [unary_result]
  rw [operand_line linesRef_writes V 14 (r := main_v11) (by decide)]
  rfl

theorem eq_v14 : st V main_v14 = ((broadcastInDim S8192x8192 ![0, 1] bcast_S8192x1_S8192x8192_0_1 : (⟨S8192x1, .i32⟩ : BufTy).Contents (Elt F) → (⟨S8192x8192, .i32⟩ : BufTy).Contents (Elt F)) (st V main_v12)) := by
  rw [st, read_line linesRef_writes V 15 rfl (by decide)]
  rw [unary_result]
  rw [operand_line linesRef_writes V 15 (r := main_v12) (by decide)]
  rfl

theorem eq_v15 : st V main_v15 = ((cmpi .sle : (⟨S8192x8192, .i32⟩ : BufTy).Contents (Elt F) → (⟨S8192x8192, .i32⟩ : BufTy).Contents (Elt F) → (⟨S8192x8192, .i1⟩ : BufTy).Contents (Elt F)) (st V main_v13) (st V main_v14)) := by
  rw [st, read_line linesRef_writes V 16 rfl (by decide)]
  rw [binary_result]
  rw [operand_line linesRef_writes V 16 (r := main_v13) (by decide), operand_line linesRef_writes V 16 (r := main_v14) (by decide)]
  rfl

theorem eq_v16 : st V main_v16 = ((broadcastInDim S1x8192x8192 ![1, 2] bcast_S8192x8192_S1x8192x8192_1_2 : (⟨S8192x8192, .i1⟩ : BufTy).Contents (Elt F) → (⟨S1x8192x8192, .i1⟩ : BufTy).Contents (Elt F)) (st V main_v15)) := by
  rw [st, read_line linesRef_writes V 17 rfl (by decide)]
  rw [unary_result]
  rw [operand_line linesRef_writes V 17 (r := main_v15) (by decide)]
  rfl

theorem eq_cst_0 : st V main_cst_0 = ((constant S_ .f32 0xFF800000#32)) := by
  rw [st, read_line linesRef_writes V 18 rfl (by decide)]
  rw [nullary_result]

theorem eq_call0_v0 : st V main_call0_v0 = ((st V main_cst_0)) := by
  rw [st, read_line linesRef_writes V 19 rfl (by decide)]
  simp only [TRef.unary, TRef.toBuf, TRef.ofBuf, cast_eq]
  rw [unary_result]
  rw [operand_line linesRef_writes V 19 (r := main_cst_0) (by decide)]
  rfl

theorem eq_v17_1 : st V main_v17_1 = ((broadcastInDim S16x8192x8192 ![0, 1, 2] bcast_S1x8192x8192_S16x8192x8192_0_1_2) (st V main_v16)) := by
  rw [st, read_line linesRef_writes V 20 rfl (by decide)]
  simp only [TRef.unary, TRef.toBuf, TRef.ofBuf, cast_eq]
  rw [unary_result]
  rw [operand_line linesRef_writes V 20 (r := main_v16) (by decide)]
  rfl

theorem eq_call0_v2 : st V main_call0_v2 = ((broadcastInDim S16x8192x8192 ![] bcast_S_S16x8192x8192) (st V main_call0_v0)) := by
  rw [st, read_line linesRef_writes V 21 rfl (by decide)]
  simp only [TRef.unary, TRef.toBuf, TRef.ofBuf, cast_eq]
  rw [unary_result]
  rw [operand_line linesRef_writes V 21 (r := main_call0_v0) (by decide)]
  rfl

theorem eq_v17_0 : st V main_v17_0 = (select (st V main_v17_1) (st V main_v9) (st V main_call0_v2)) := by
  rw [st, read_line linesRef_writes V 22 rfl (by decide)]
  simp only [TRef.ternary, TRef.toBuf, TRef.ofBuf, cast_eq]
  rw [ternary_result]
  rw [operand_line linesRef_writes V 22 (r := main_v17_1) (by decide), operand_line linesRef_writes V 22 (r := main_v9) (by decide), operand_line linesRef_writes V 22 (r := main_call0_v2) (by decide)]
  rfl

theorem eq_call0_cst : st V main_call0_cst = ((constant S_ .f32 0x00000000#32)) := by
  rw [st, read_line linesRef_writes V 23 rfl (by decide)]
  simp only [TRef.nullary, TRef.toBuf, TRef.ofBuf, cast_eq]
  rw [nullary_result]

theorem eq_v17_2 : st V main_v17_2 = ((broadcastInDim S16x8192x8192 ![] bcast_S_S16x8192x8192) (st V main_call0_cst)) := by
  rw [st, read_line linesRef_writes V 24 rfl (by decide)]
  simp only [TRef.unary, TRef.toBuf, TRef.ofBuf, cast_eq]
  rw [unary_result]
  rw [operand_line linesRef_writes V 24 (r := main_call0_cst) (by decide)]
  rfl

theorem eq_cst_1 : st V main_cst_1 = ((constant S_ .f32 0xFF800000#32)) := by
  rw [st, read_line linesRef_writes V 25 rfl (by decide)]
  rw [nullary_result]

theorem eq_v18 : st V main_v18 = (((fun x v => Host.reduce FloatOps.maximumf x v reducesTo_S16x8192x8192_S16x8192_d2 h_S_) : (⟨S16x8192x8192, .f32⟩ : BufTy).Contents (Elt F) → (⟨S_, .f32⟩ : BufTy).Contents (Elt F) → (⟨S16x8192, .f32⟩ : BufTy).Contents (Elt F)) (st V main_v17_0) (st V main_cst_1)) := by
  rw [st, read_line linesRef_writes V 26 rfl (by decide)]
  rw [binary_result]
  rw [operand_line linesRef_writes V 26 (r := main_v17_0) (by decide), operand_line linesRef_writes V 26 (r := main_cst_1) (by decide)]
  rfl

theorem eq_v19 : st V main_v19 = (shapeCast S16x8192x1 (st V main_v18) shapeCasts_S16x8192_S16x8192x1) := by
  rw [st, read_line linesRef_writes V 27 rfl (by decide)]
  rw [reshape_result]
  rw [operand_line linesRef_writes V 27 (r := main_v18) (by decide)]
  rfl

theorem eq_v20 : st V main_v20 = ((broadcastInDim S16x8192x8192 ![0, 1, 2] bcast_S16x8192x1_S16x8192x8192_0_1_2 : (⟨S16x8192x1, .f32⟩ : BufTy).Contents (Elt F) → (⟨S16x8192x8192, .f32⟩ : BufTy).Contents (Elt F)) (st V main_v19)) := by
  rw [st, read_line linesRef_writes V 28 rfl (by decide)]
  rw [unary_result]
  rw [operand_line linesRef_writes V 28 (r := main_v19) (by decide)]
  rfl

theorem eq_v21 : st V main_v21 = ((cmpf .oeq : (⟨S16x8192x8192, .f32⟩ : BufTy).Contents (Elt F) → (⟨S16x8192x8192, .f32⟩ : BufTy).Contents (Elt F) → (⟨S16x8192x8192, .i1⟩ : BufTy).Contents (Elt F)) (st V main_v17_0) (st V main_v20)) := by
  rw [st, read_line linesRef_writes V 29 rfl (by decide)]
  rw [binary_result]
  rw [operand_line linesRef_writes V 29 (r := main_v17_0) (by decide), operand_line linesRef_writes V 29 (r := main_v20) (by decide)]
  rfl

theorem eq_v22 : st V main_v22 = ((uitofp .f32 : (⟨S16x8192x8192, .i1⟩ : BufTy).Contents (Elt F) → (⟨S16x8192x8192, .f32⟩ : BufTy).Contents (Elt F)) (st V main_v21)) := by
  rw [st, read_line linesRef_writes V 30 rfl (by decide)]
  rw [unary_result]
  rw [operand_line linesRef_writes V 30 (r := main_v21) (by decide)]
  rfl

theorem eq_cst_2 : st V main_cst_2 = ((constant S_ .f32 0x00000000#32)) := by
  rw [st, read_line linesRef_writes V 31 rfl (by decide)]
  rw [nullary_result]

theorem eq_v23 : st V main_v23 = (((fun x v => Host.reduceAdd x v reducesTo_S16x8192x8192_S16x8192_d2 h_S_) : (⟨S16x8192x8192, .f32⟩ : BufTy).Contents (Elt F) → (⟨S_, .f32⟩ : BufTy).Contents (Elt F) → (⟨S16x8192, .f32⟩ : BufTy).Contents (Elt F)) (st V main_v22) (st V main_cst_2)) := by
  rw [st, read_line linesRef_writes V 32 rfl (by decide)]
  rw [binary_result]
  rw [operand_line linesRef_writes V 32 (r := main_v22) (by decide), operand_line linesRef_writes V 32 (r := main_cst_2) (by decide)]
  rfl

theorem eq_cst_3 : st V main_cst_3 = ((constant S_ .f32 0xFF800000#32)) := by
  rw [st, read_line linesRef_writes V 33 rfl (by decide)]
  rw [nullary_result]

theorem eq_v24 : st V main_v24 = ((broadcastInDim S16x8192 ![] bcast_S_S16x8192 : (⟨S_, .f32⟩ : BufTy).Contents (Elt F) → (⟨S16x8192, .f32⟩ : BufTy).Contents (Elt F)) (st V main_cst_3)) := by
  rw [st, read_line linesRef_writes V 34 rfl (by decide)]
  rw [unary_result]
  rw [operand_line linesRef_writes V 34 (r := main_cst_3) (by decide)]
  rfl

theorem eq_v25 : st V main_v25 = ((maximumf : (⟨S16x8192, .f32⟩ : BufTy).Contents (Elt F) → (⟨S16x8192, .f32⟩ : BufTy).Contents (Elt F) → (⟨S16x8192, .f32⟩ : BufTy).Contents (Elt F)) (st V main_v24) (st V main_v18)) := by
  rw [st, read_line linesRef_writes V 35 rfl (by decide)]
  rw [binary_result]
  rw [operand_line linesRef_writes V 35 (r := main_v24) (by decide), operand_line linesRef_writes V 35 (r := main_v18) (by decide)]
  rfl

theorem eq_cst_4 : st V main_cst_4 = ((constant S_ .f32 0xFF800000#32)) := by
  rw [st, read_line linesRef_writes V 36 rfl (by decide)]
  rw [nullary_result]

theorem eq_v26 : st V main_v26 = ((broadcastInDim S16x8192 ![] bcast_S_S16x8192 : (⟨S_, .f32⟩ : BufTy).Contents (Elt F) → (⟨S16x8192, .f32⟩ : BufTy).Contents (Elt F)) (st V main_cst_4)) := by
  rw [st, read_line linesRef_writes V 37 rfl (by decide)]
  rw [unary_result]
  rw [operand_line linesRef_writes V 37 (r := main_cst_4) (by decide)]
  rfl

theorem eq_v27 : st V main_v27 = ((cmpf .ogt : (⟨S16x8192, .f32⟩ : BufTy).Contents (Elt F) → (⟨S16x8192, .f32⟩ : BufTy).Contents (Elt F) → (⟨S16x8192, .i1⟩ : BufTy).Contents (Elt F)) (st V main_v18) (st V main_v26)) := by
  rw [st, read_line linesRef_writes V 38 rfl (by decide)]
  rw [binary_result]
  rw [operand_line linesRef_writes V 38 (r := main_v18) (by decide), operand_line linesRef_writes V 38 (r := main_v26) (by decide)]
  rfl

theorem eq_cst_5 : st V main_cst_5 = ((constant S_ .f32 0xFF800000#32)) := by
  rw [st, read_line linesRef_writes V 39 rfl (by decide)]
  rw [nullary_result]

theorem eq_v28 : st V main_v28 = ((broadcastInDim S16x8192 ![] bcast_S_S16x8192 : (⟨S_, .f32⟩ : BufTy).Contents (Elt F) → (⟨S16x8192, .f32⟩ : BufTy).Contents (Elt F)) (st V main_cst_5)) := by
  rw [st, read_line linesRef_writes V 40 rfl (by decide)]
  rw [unary_result]
  rw [operand_line linesRef_writes V 40 (r := main_cst_5) (by decide)]
  rfl

theorem eq_v29 : st V main_v29 = ((cmpf .oeq : (⟨S16x8192, .f32⟩ : BufTy).Contents (Elt F) → (⟨S16x8192, .f32⟩ : BufTy).Contents (Elt F) → (⟨S16x8192, .i1⟩ : BufTy).Contents (Elt F)) (st V main_v18) (st V main_v28)) := by
  rw [st, read_line linesRef_writes V 41 rfl (by decide)]
  rw [binary_result]
  rw [operand_line linesRef_writes V 41 (r := main_v18) (by decide), operand_line linesRef_writes V 41 (r := main_v28) (by decide)]
  rfl

theorem eq_cst_6 : st V main_cst_6 = ((constant S_ .f32 0x3F800000#32)) := by
  rw [st, read_line linesRef_writes V 42 rfl (by decide)]
  rw [nullary_result]

theorem eq_v30 : st V main_v30 = ((broadcastInDim S16x8192 ![] bcast_S_S16x8192 : (⟨S_, .f32⟩ : BufTy).Contents (Elt F) → (⟨S16x8192, .f32⟩ : BufTy).Contents (Elt F)) (st V main_cst_6)) := by
  rw [st, read_line linesRef_writes V 43 rfl (by decide)]
  rw [unary_result]
  rw [operand_line linesRef_writes V 43 (r := main_cst_6) (by decide)]
  rfl

theorem eq_cst_7 : st V main_cst_7 = ((constant S_ .f32 0x00000000#32)) := by
  rw [st, read_line linesRef_writes V 44 rfl (by decide)]
  rw [nullary_result]

theorem eq_v31 : st V main_v31 = ((broadcastInDim S16x8192 ![] bcast_S_S16x8192 : (⟨S_, .f32⟩ : BufTy).Contents (Elt F) → (⟨S16x8192, .f32⟩ : BufTy).Contents (Elt F)) (st V main_cst_7)) := by
  rw [st, read_line linesRef_writes V 45 rfl (by decide)]
  rw [unary_result]
  rw [operand_line linesRef_writes V 45 (r := main_cst_7) (by decide)]
  rfl

theorem eq_cst_8 : st V main_cst_8 = ((constant S_ .f32 0x3F000000#32)) := by
  rw [st, read_line linesRef_writes V 46 rfl (by decide)]
  rw [nullary_result]

theorem eq_v32 : st V main_v32 = ((broadcastInDim S16x8192 ![] bcast_S_S16x8192 : (⟨S_, .f32⟩ : BufTy).Contents (Elt F) → (⟨S16x8192, .f32⟩ : BufTy).Contents (Elt F)) (st V main_cst_8)) := by
  rw [st, read_line linesRef_writes V 47 rfl (by decide)]
  rw [unary_result]
  rw [operand_line linesRef_writes V 47 (r := main_cst_8) (by decide)]
  rfl

theorem eq_v33 : st V main_v33 = ((select : (⟨S16x8192, .i1⟩ : BufTy).Contents (Elt F) → (⟨S16x8192, .f32⟩ : BufTy).Contents (Elt F) → (⟨S16x8192, .f32⟩ : BufTy).Contents (Elt F) → (⟨S16x8192, .f32⟩ : BufTy).Contents (Elt F)) (st V main_v29) (st V main_v32) (st V main_v31)) := by
  rw [st, read_line linesRef_writes V 48 rfl (by decide)]
  rw [ternary_result]
  rw [operand_line linesRef_writes V 48 (r := main_v29) (by decide), operand_line linesRef_writes V 48 (r := main_v32) (by decide), operand_line linesRef_writes V 48 (r := main_v31) (by decide)]
  rfl

theorem eq_v34 : st V main_v34 = ((select : (⟨S16x8192, .i1⟩ : BufTy).Contents (Elt F) → (⟨S16x8192, .f32⟩ : BufTy).Contents (Elt F) → (⟨S16x8192, .f32⟩ : BufTy).Contents (Elt F) → (⟨S16x8192, .f32⟩ : BufTy).Contents (Elt F)) (st V main_v27) (st V main_v30) (st V main_v33)) := by
  rw [st, read_line linesRef_writes V 49 rfl (by decide)]
  rw [ternary_result]
  rw [operand_line linesRef_writes V 49 (r := main_v27) (by decide), operand_line linesRef_writes V 49 (r := main_v30) (by decide), operand_line linesRef_writes V 49 (r := main_v33) (by decide)]
  rfl

theorem eq_v35 : st V main_v35 = ((broadcastInDim S16x8192x1 ![0, 1] bcast_S16x8192_S16x8192x1_0_1 : (⟨S16x8192, .f32⟩ : BufTy).Contents (Elt F) → (⟨S16x8192x1, .f32⟩ : BufTy).Contents (Elt F)) (st V main_v25)) := by
  rw [st, read_line linesRef_writes V 50 rfl (by decide)]
  rw [unary_result]
  rw [operand_line linesRef_writes V 50 (r := main_v25) (by decide)]
  rfl

theorem eq_v36 : st V main_v36 = ((broadcastInDim S16x8192x8192 ![0, 1, 2] bcast_S16x8192x1_S16x8192x8192_0_1_2 : (⟨S16x8192x1, .f32⟩ : BufTy).Contents (Elt F) → (⟨S16x8192x8192, .f32⟩ : BufTy).Contents (Elt F)) (st V main_v35)) := by
  rw [st, read_line linesRef_writes V 51 rfl (by decide)]
  rw [unary_result]
  rw [operand_line linesRef_writes V 51 (r := main_v35) (by decide)]
  rfl

theorem eq_v37 : st V main_v37 = ((subf : (⟨S16x8192x8192, .f32⟩ : BufTy).Contents (Elt F) → (⟨S16x8192x8192, .f32⟩ : BufTy).Contents (Elt F) → (⟨S16x8192x8192, .f32⟩ : BufTy).Contents (Elt F)) (st V main_v17_0) (st V main_v36)) := by
  rw [st, read_line linesRef_writes V 52 rfl (by decide)]
  rw [binary_result]
  rw [operand_line linesRef_writes V 52 (r := main_v17_0) (by decide), operand_line linesRef_writes V 52 (r := main_v36) (by decide)]
  rfl

theorem eq_v38 : st V main_v38 = ((Host.exp : (⟨S16x8192x8192, .f32⟩ : BufTy).Contents (Elt F) → (⟨S16x8192x8192, .f32⟩ : BufTy).Contents (Elt F)) (st V main_v37)) := by
  rw [st, read_line linesRef_writes V 53 rfl (by decide)]
  rw [unary_result]
  rw [operand_line linesRef_writes V 53 (r := main_v37) (by decide)]
  rfl

theorem eq_cst_9 : st V main_cst_9 = ((constant S_ .f32 0x00000000#32)) := by
  rw [st, read_line linesRef_writes V 54 rfl (by decide)]
  rw [nullary_result]

theorem eq_v39 : st V main_v39 = (((fun x v => Host.reduceAdd x v reducesTo_S16x8192x8192_S16x8192_d2 h_S_) : (⟨S16x8192x8192, .f32⟩ : BufTy).Contents (Elt F) → (⟨S_, .f32⟩ : BufTy).Contents (Elt F) → (⟨S16x8192, .f32⟩ : BufTy).Contents (Elt F)) (st V main_v38) (st V main_cst_9)) := by
  rw [st, read_line linesRef_writes V 55 rfl (by decide)]
  rw [binary_result]
  rw [operand_line linesRef_writes V 55 (r := main_v38) (by decide), operand_line linesRef_writes V 55 (r := main_cst_9) (by decide)]
  rfl

theorem eq_v40 : st V main_v40 = ((broadcastInDim S16x8192x1 ![0, 1] bcast_S16x8192_S16x8192x1_0_1 : (⟨S16x8192, .f32⟩ : BufTy).Contents (Elt F) → (⟨S16x8192x1, .f32⟩ : BufTy).Contents (Elt F)) (st V main_v39)) := by
  rw [st, read_line linesRef_writes V 56 rfl (by decide)]
  rw [unary_result]
  rw [operand_line linesRef_writes V 56 (r := main_v39) (by decide)]
  rfl

theorem eq_v41 : st V main_v41 = ((broadcastInDim S16x8192x8192 ![0, 1, 2] bcast_S16x8192x1_S16x8192x8192_0_1_2 : (⟨S16x8192x1, .f32⟩ : BufTy).Contents (Elt F) → (⟨S16x8192x8192, .f32⟩ : BufTy).Contents (Elt F)) (st V main_v40)) := by
  rw [st, read_line linesRef_writes V 57 rfl (by decide)]
  rw [unary_result]
  rw [operand_line linesRef_writes V 57 (r := main_v40) (by decide)]
  rfl

theorem eq_v42 : st V main_v42 = ((Host.divf : (⟨S16x8192x8192, .f32⟩ : BufTy).Contents (Elt F) → (⟨S16x8192x8192, .f32⟩ : BufTy).Contents (Elt F) → (⟨S16x8192x8192, .f32⟩ : BufTy).Contents (Elt F)) (st V main_v38) (st V main_v41)) := by
  rw [st, read_line linesRef_writes V 58 rfl (by decide)]
  rw [binary_result]
  rw [operand_line linesRef_writes V 58 (r := main_v38) (by decide), operand_line linesRef_writes V 58 (r := main_v41) (by decide)]
  rfl

theorem eq_v43 : st V main_v43 = ((mulf : (⟨S16x8192x1, .f32⟩ : BufTy).Contents (Elt F) → (⟨S16x8192x1, .f32⟩ : BufTy).Contents (Elt F) → (⟨S16x8192x1, .f32⟩ : BufTy).Contents (Elt F)) (st V main_v40) (st V main_v40)) := by
  rw [st, read_line linesRef_writes V 59 rfl (by decide)]
  rw [binary_result]
  rw [operand_line linesRef_writes V 59 (r := main_v40) (by decide)]
  rfl

theorem eq_cst_10 : st V main_cst_10 = ((constant S_ .f32 0x3F800000#32)) := by
  rw [st, read_line linesRef_writes V 60 rfl (by decide)]
  rw [nullary_result]

theorem eq_v44 : st V main_v44 = ((broadcastInDim S16x8192x1 ![] bcast_S_S16x8192x1 : (⟨S_, .f32⟩ : BufTy).Contents (Elt F) → (⟨S16x8192x1, .f32⟩ : BufTy).Contents (Elt F)) (st V main_cst_10)) := by
  rw [st, read_line linesRef_writes V 61 rfl (by decide)]
  rw [unary_result]
  rw [operand_line linesRef_writes V 61 (r := main_cst_10) (by decide)]
  rfl

theorem eq_v45 : st V main_v45 = ((Host.divf : (⟨S16x8192x1, .f32⟩ : BufTy).Contents (Elt F) → (⟨S16x8192x1, .f32⟩ : BufTy).Contents (Elt F) → (⟨S16x8192x1, .f32⟩ : BufTy).Contents (Elt F)) (st V main_v44) (st V main_v43)) := by
  rw [st, read_line linesRef_writes V 62 rfl (by decide)]
  rw [binary_result]
  rw [operand_line linesRef_writes V 62 (r := main_v44) (by decide), operand_line linesRef_writes V 62 (r := main_v43) (by decide)]
  rfl

theorem eq_v46 : st V main_v46 = (((fun l r => Host.dotGeneral dot_S8192x16x64_S16x8192x8192_S16x64x8192_0_2_2_1_1_0 none l r) : (⟨S8192x16x64, .f32⟩ : BufTy).Contents (Elt F) → (⟨S16x8192x8192, .f32⟩ : BufTy).Contents (Elt F) → (⟨S16x64x8192, .f32⟩ : BufTy).Contents (Elt F)) (st V main_arg2) (st V main_v42)) := by
  rw [st, read_line linesRef_writes V 63 rfl (by decide)]
  rw [binary_result]
  rw [operand_line linesRef_writes V 63 (r := main_arg2) (by decide), operand_line linesRef_writes V 63 (r := main_v42) (by decide)]
  rfl

theorem eq_v47 : st V main_v47 = (((transpose S8192x16x64 [2, 0, 1] · transposes_S16x64x8192_S8192x16x64_2_0_1) : (⟨S16x64x8192, .f32⟩ : BufTy).Contents (Elt F) → (⟨S8192x16x64, .f32⟩ : BufTy).Contents (Elt F)) (st V main_v46)) := by
  rw [st, read_line linesRef_writes V 64 rfl (by decide)]
  rw [unary_result]
  rw [operand_line linesRef_writes V 64 (r := main_v46) (by decide)]
  rfl

theorem eq_v48 : st V main_v48 = (((transpose S16x64x8192 [1, 2, 0] · transposes_S8192x16x64_S16x64x8192_1_2_0) : (⟨S8192x16x64, .f32⟩ : BufTy).Contents (Elt F) → (⟨S16x64x8192, .f32⟩ : BufTy).Contents (Elt F)) (st V main_arg4)) := by
  rw [st, read_line linesRef_writes V 65 rfl (by decide)]
  rw [unary_result]
  rw [operand_line linesRef_writes V 65 (r := main_arg4) (by decide)]
  rfl

theorem eq_v49 : st V main_v49 = (((fun l r => Host.dotGeneral dot_S16x64x8192_S8192x16x64_S16x8192x8192_1_2_2_0_0_1 none l r) : (⟨S16x64x8192, .f32⟩ : BufTy).Contents (Elt F) → (⟨S8192x16x64, .f32⟩ : BufTy).Contents (Elt F) → (⟨S16x8192x8192, .f32⟩ : BufTy).Contents (Elt F)) (st V main_v48) (st V main_arg2)) := by
  rw [st, read_line linesRef_writes V 66 rfl (by decide)]
  rw [binary_result]
  rw [operand_line linesRef_writes V 66 (r := main_v48) (by decide), operand_line linesRef_writes V 66 (r := main_arg2) (by decide)]
  rfl

theorem eq_v50 : st V main_v50 = (((fun l r => Host.dotGeneral dot_S16x64x8192_S16x8192x8192_S16x64x8192_2_1_1_2_0_0 none l r) : (⟨S16x64x8192, .f32⟩ : BufTy).Contents (Elt F) → (⟨S16x8192x8192, .f32⟩ : BufTy).Contents (Elt F) → (⟨S16x64x8192, .f32⟩ : BufTy).Contents (Elt F)) (st V main_v48) (st V main_v42)) := by
  rw [st, read_line linesRef_writes V 67 rfl (by decide)]
  rw [binary_result]
  rw [operand_line linesRef_writes V 67 (r := main_v48) (by decide), operand_line linesRef_writes V 67 (r := main_v42) (by decide)]
  rfl

theorem eq_v51 : st V main_v51 = (((transpose S8192x16x64 [2, 0, 1] · transposes_S16x64x8192_S8192x16x64_2_0_1) : (⟨S16x64x8192, .f32⟩ : BufTy).Contents (Elt F) → (⟨S8192x16x64, .f32⟩ : BufTy).Contents (Elt F)) (st V main_v50)) := by
  rw [st, read_line linesRef_writes V 68 rfl (by decide)]
  rw [unary_result]
  rw [operand_line linesRef_writes V 68 (r := main_v50) (by decide)]
  rfl

theorem eq_v52 : st V main_v52 = ((broadcastInDim S16x8192x8192 ![0, 1, 2] bcast_S16x8192x1_S16x8192x8192_0_1_2 : (⟨S16x8192x1, .f32⟩ : BufTy).Contents (Elt F) → (⟨S16x8192x8192, .f32⟩ : BufTy).Contents (Elt F)) (st V main_v45)) := by
  rw [st, read_line linesRef_writes V 69 rfl (by decide)]
  rw [unary_result]
  rw [operand_line linesRef_writes V 69 (r := main_v45) (by decide)]
  rfl

theorem eq_v53 : st V main_v53 = ((mulf : (⟨S16x8192x8192, .f32⟩ : BufTy).Contents (Elt F) → (⟨S16x8192x8192, .f32⟩ : BufTy).Contents (Elt F) → (⟨S16x8192x8192, .f32⟩ : BufTy).Contents (Elt F)) (st V main_v49) (st V main_v52)) := by
  rw [st, read_line linesRef_writes V 70 rfl (by decide)]
  rw [binary_result]
  rw [operand_line linesRef_writes V 70 (r := main_v49) (by decide), operand_line linesRef_writes V 70 (r := main_v52) (by decide)]
  rfl

theorem eq_v54 : st V main_v54 = ((mulf : (⟨S16x8192x8192, .f32⟩ : BufTy).Contents (Elt F) → (⟨S16x8192x8192, .f32⟩ : BufTy).Contents (Elt F) → (⟨S16x8192x8192, .f32⟩ : BufTy).Contents (Elt F)) (st V main_v53) (st V main_v38)) := by
  rw [st, read_line linesRef_writes V 71 rfl (by decide)]
  rw [binary_result]
  rw [operand_line linesRef_writes V 71 (r := main_v53) (by decide), operand_line linesRef_writes V 71 (r := main_v38) (by decide)]
  rfl

theorem eq_cst_11 : st V main_cst_11 = ((constant S_ .f32 0x00000000#32)) := by
  rw [st, read_line linesRef_writes V 72 rfl (by decide)]
  rw [nullary_result]

theorem eq_v55 : st V main_v55 = (((fun x v => Host.reduceAdd x v reducesTo_S16x8192x8192_S16x8192_d2 h_S_) : (⟨S16x8192x8192, .f32⟩ : BufTy).Contents (Elt F) → (⟨S_, .f32⟩ : BufTy).Contents (Elt F) → (⟨S16x8192, .f32⟩ : BufTy).Contents (Elt F)) (st V main_v54) (st V main_cst_11)) := by
  rw [st, read_line linesRef_writes V 73 rfl (by decide)]
  rw [binary_result]
  rw [operand_line linesRef_writes V 73 (r := main_v54) (by decide), operand_line linesRef_writes V 73 (r := main_cst_11) (by decide)]
  rfl

theorem eq_v56 : st V main_v56 = (shapeCast S16x8192x1 (st V main_v55) shapeCasts_S16x8192_S16x8192x1) := by
  rw [st, read_line linesRef_writes V 74 rfl (by decide)]
  rw [reshape_result]
  rw [operand_line linesRef_writes V 74 (r := main_v55) (by decide)]
  rfl

theorem eq_v57 : st V main_v57 = ((Host.negf : (⟨S16x8192x1, .f32⟩ : BufTy).Contents (Elt F) → (⟨S16x8192x1, .f32⟩ : BufTy).Contents (Elt F)) (st V main_v56)) := by
  rw [st, read_line linesRef_writes V 75 rfl (by decide)]
  rw [unary_result]
  rw [operand_line linesRef_writes V 75 (r := main_v56) (by decide)]
  rfl

theorem eq_v58 : st V main_v58 = ((broadcastInDim S16x8192x8192 ![0, 1, 2] bcast_S16x8192x1_S16x8192x8192_0_1_2 : (⟨S16x8192x1, .f32⟩ : BufTy).Contents (Elt F) → (⟨S16x8192x8192, .f32⟩ : BufTy).Contents (Elt F)) (st V main_v40)) := by
  rw [st, read_line linesRef_writes V 76 rfl (by decide)]
  rw [unary_result]
  rw [operand_line linesRef_writes V 76 (r := main_v40) (by decide)]
  rfl

theorem eq_v59 : st V main_v59 = ((Host.divf : (⟨S16x8192x8192, .f32⟩ : BufTy).Contents (Elt F) → (⟨S16x8192x8192, .f32⟩ : BufTy).Contents (Elt F) → (⟨S16x8192x8192, .f32⟩ : BufTy).Contents (Elt F)) (st V main_v49) (st V main_v58)) := by
  rw [st, read_line linesRef_writes V 77 rfl (by decide)]
  rw [binary_result]
  rw [operand_line linesRef_writes V 77 (r := main_v49) (by decide), operand_line linesRef_writes V 77 (r := main_v58) (by decide)]
  rfl

theorem eq_cst_12 : st V main_cst_12 = ((constant S_ .f32 0x00000000#32)) := by
  rw [st, read_line linesRef_writes V 78 rfl (by decide)]
  rw [nullary_result]

theorem eq_v60 : st V main_v60 = (((fun x v => Host.reduceAdd x v reducesTo_S16x8192x1_S16x8192_d2 h_S_) : (⟨S16x8192x1, .f32⟩ : BufTy).Contents (Elt F) → (⟨S_, .f32⟩ : BufTy).Contents (Elt F) → (⟨S16x8192, .f32⟩ : BufTy).Contents (Elt F)) (st V main_v57) (st V main_cst_12)) := by
  rw [st, read_line linesRef_writes V 79 rfl (by decide)]
  rw [binary_result]
  rw [operand_line linesRef_writes V 79 (r := main_v57) (by decide), operand_line linesRef_writes V 79 (r := main_cst_12) (by decide)]
  rfl

theorem eq_v61 : st V main_v61 = ((broadcastInDim S16x8192x8192 ![0, 1] bcast_S16x8192_S16x8192x8192_0_1 : (⟨S16x8192, .f32⟩ : BufTy).Contents (Elt F) → (⟨S16x8192x8192, .f32⟩ : BufTy).Contents (Elt F)) (st V main_v60)) := by
  rw [st, read_line linesRef_writes V 80 rfl (by decide)]
  rw [unary_result]
  rw [operand_line linesRef_writes V 80 (r := main_v60) (by decide)]
  rfl

theorem eq_v62 : st V main_v62 = ((addf : (⟨S16x8192x8192, .f32⟩ : BufTy).Contents (Elt F) → (⟨S16x8192x8192, .f32⟩ : BufTy).Contents (Elt F) → (⟨S16x8192x8192, .f32⟩ : BufTy).Contents (Elt F)) (st V main_v59) (st V main_v61)) := by
  rw [st, read_line linesRef_writes V 81 rfl (by decide)]
  rw [binary_result]
  rw [operand_line linesRef_writes V 81 (r := main_v59) (by decide), operand_line linesRef_writes V 81 (r := main_v61) (by decide)]
  rfl

theorem eq_v63 : st V main_v63 = ((mulf : (⟨S16x8192x8192, .f32⟩ : BufTy).Contents (Elt F) → (⟨S16x8192x8192, .f32⟩ : BufTy).Contents (Elt F) → (⟨S16x8192x8192, .f32⟩ : BufTy).Contents (Elt F)) (st V main_v62) (st V main_v38)) := by
  rw [st, read_line linesRef_writes V 82 rfl (by decide)]
  rw [binary_result]
  rw [operand_line linesRef_writes V 82 (r := main_v62) (by decide), operand_line linesRef_writes V 82 (r := main_v38) (by decide)]
  rfl

theorem eq_call1_cst : st V main_call1_cst = ((constant S_ .f32 0x00000000#32)) := by
  rw [st, read_line linesRef_writes V 83 rfl (by decide)]
  simp only [TRef.nullary, TRef.toBuf, TRef.ofBuf, cast_eq]
  rw [nullary_result]

theorem eq_call1_v0 : st V main_call1_v0 = ((broadcastInDim S16x8192x8192 ![] bcast_S_S16x8192x8192) (st V main_call1_cst)) := by
  rw [st, read_line linesRef_writes V 84 rfl (by decide)]
  simp only [TRef.unary, TRef.toBuf, TRef.ofBuf, cast_eq]
  rw [unary_result]
  rw [operand_line linesRef_writes V 84 (r := main_call1_cst) (by decide)]
  rfl

theorem eq_v64 : st V main_v64 = (select (st V main_v17_1) (st V main_v63) (st V main_call1_v0)) := by
  rw [st, read_line linesRef_writes V 85 rfl (by decide)]
  simp only [TRef.ternary, TRef.toBuf, TRef.ofBuf, cast_eq]
  rw [ternary_result]
  rw [operand_line linesRef_writes V 85 (r := main_v17_1) (by decide), operand_line linesRef_writes V 85 (r := main_v63) (by decide), operand_line linesRef_writes V 85 (r := main_call1_v0) (by decide)]
  rfl

theorem eq_cst_13 : st V main_cst_13 = ((constant S_ .f32 0x00000000#32)) := by
  rw [st, read_line linesRef_writes V 86 rfl (by decide)]
  rw [nullary_result]

theorem eq_v65 : st V main_v65 = (((fun x v => Host.reduceAdd x v reducesTo_S16x8192x8192_S16x8192_d2 h_S_) : (⟨S16x8192x8192, .f32⟩ : BufTy).Contents (Elt F) → (⟨S_, .f32⟩ : BufTy).Contents (Elt F) → (⟨S16x8192, .f32⟩ : BufTy).Contents (Elt F)) (st V main_v64) (st V main_cst_13)) := by
  rw [st, read_line linesRef_writes V 87 rfl (by decide)]
  rw [binary_result]
  rw [operand_line linesRef_writes V 87 (r := main_v64) (by decide), operand_line linesRef_writes V 87 (r := main_cst_13) (by decide)]
  rfl

theorem eq_v66 : st V main_v66 = (shapeCast S16x8192x1 (st V main_v65) shapeCasts_S16x8192_S16x8192x1) := by
  rw [st, read_line linesRef_writes V 88 rfl (by decide)]
  rw [reshape_result]
  rw [operand_line linesRef_writes V 88 (r := main_v65) (by decide)]
  rfl

theorem eq_v67 : st V main_v67 = ((Host.negf : (⟨S16x8192x8192, .f32⟩ : BufTy).Contents (Elt F) → (⟨S16x8192x8192, .f32⟩ : BufTy).Contents (Elt F)) (st V main_v64)) := by
  rw [st, read_line linesRef_writes V 89 rfl (by decide)]
  rw [unary_result]
  rw [operand_line linesRef_writes V 89 (r := main_v64) (by decide)]
  rfl

theorem eq_cst_14 : st V main_cst_14 = ((constant S_ .f32 0x00000000#32)) := by
  rw [st, read_line linesRef_writes V 90 rfl (by decide)]
  rw [nullary_result]

theorem eq_v68 : st V main_v68 = (((fun x v => Host.reduceAdd x v reducesTo_S16x8192x8192_S16x8192_d1 h_S_) : (⟨S16x8192x8192, .f32⟩ : BufTy).Contents (Elt F) → (⟨S_, .f32⟩ : BufTy).Contents (Elt F) → (⟨S16x8192, .f32⟩ : BufTy).Contents (Elt F)) (st V main_v67) (st V main_cst_14)) := by
  rw [st, read_line linesRef_writes V 91 rfl (by decide)]
  rw [binary_result]
  rw [operand_line linesRef_writes V 91 (r := main_v67) (by decide), operand_line linesRef_writes V 91 (r := main_cst_14) (by decide)]
  rfl

theorem eq_v69 : st V main_v69 = (shapeCast S16x1x8192 (st V main_v68) shapeCasts_S16x8192_S16x1x8192) := by
  rw [st, read_line linesRef_writes V 92 rfl (by decide)]
  rw [reshape_result]
  rw [operand_line linesRef_writes V 92 (r := main_v68) (by decide)]
  rfl

theorem eq_cst_15 : st V main_cst_15 = ((constant S_ .f32 0x00000000#32)) := by
  rw [st, read_line linesRef_writes V 93 rfl (by decide)]
  rw [nullary_result]

theorem eq_v70 : st V main_v70 = (((fun x v => Host.reduceAdd x v reducesTo_S16x1x8192_S16x8192_d1 h_S_) : (⟨S16x1x8192, .f32⟩ : BufTy).Contents (Elt F) → (⟨S_, .f32⟩ : BufTy).Contents (Elt F) → (⟨S16x8192, .f32⟩ : BufTy).Contents (Elt F)) (st V main_v69) (st V main_cst_15)) := by
  rw [st, read_line linesRef_writes V 94 rfl (by decide)]
  rw [binary_result]
  rw [operand_line linesRef_writes V 94 (r := main_v69) (by decide), operand_line linesRef_writes V 94 (r := main_cst_15) (by decide)]
  rfl

theorem eq_cst_16 : st V main_cst_16 = ((constant S_ .f32 0x00000000#32)) := by
  rw [st, read_line linesRef_writes V 95 rfl (by decide)]
  rw [nullary_result]

theorem eq_v71 : st V main_v71 = (((fun x v => Host.reduceAdd x v reducesTo_S16x8192x1_S16x8192_d2 h_S_) : (⟨S16x8192x1, .f32⟩ : BufTy).Contents (Elt F) → (⟨S_, .f32⟩ : BufTy).Contents (Elt F) → (⟨S16x8192, .f32⟩ : BufTy).Contents (Elt F)) (st V main_v66) (st V main_cst_16)) := by
  rw [st, read_line linesRef_writes V 96 rfl (by decide)]
  rw [binary_result]
  rw [operand_line linesRef_writes V 96 (r := main_v66) (by decide), operand_line linesRef_writes V 96 (r := main_cst_16) (by decide)]
  rfl

theorem eq_v72 : st V main_v72 = ((addf : (⟨S16x8192, .f32⟩ : BufTy).Contents (Elt F) → (⟨S16x8192, .f32⟩ : BufTy).Contents (Elt F) → (⟨S16x8192, .f32⟩ : BufTy).Contents (Elt F)) (st V main_v70) (st V main_v71)) := by
  rw [st, read_line linesRef_writes V 97 rfl (by decide)]
  rw [binary_result]
  rw [operand_line linesRef_writes V 97 (r := main_v70) (by decide), operand_line linesRef_writes V 97 (r := main_v71) (by decide)]
  rfl

theorem eq_v73 : st V main_v73 = (((transpose S8192x16 [1, 0] · transposes_S16x8192_S8192x16_1_0) : (⟨S16x8192, .f32⟩ : BufTy).Contents (Elt F) → (⟨S8192x16, .f32⟩ : BufTy).Contents (Elt F)) (st V main_v72)) := by
  rw [st, read_line linesRef_writes V 98 rfl (by decide)]
  rw [unary_result]
  rw [operand_line linesRef_writes V 98 (r := main_v72) (by decide)]
  rfl

theorem eq_cst_17 : st V main_cst_17 = ((constant S_ .f32 0x3E000000#32)) := by
  rw [st, read_line linesRef_writes V 99 rfl (by decide)]
  rw [nullary_result]

theorem eq_v74 : st V main_v74 = ((broadcastInDim S16x8192x8192 ![] bcast_S_S16x8192x8192 : (⟨S_, .f32⟩ : BufTy).Contents (Elt F) → (⟨S16x8192x8192, .f32⟩ : BufTy).Contents (Elt F)) (st V main_cst_17)) := by
  rw [st, read_line linesRef_writes V 100 rfl (by decide)]
  rw [unary_result]
  rw [operand_line linesRef_writes V 100 (r := main_cst_17) (by decide)]
  rfl

theorem eq_v75 : st V main_v75 = ((mulf : (⟨S16x8192x8192, .f32⟩ : BufTy).Contents (Elt F) → (⟨S16x8192x8192, .f32⟩ : BufTy).Contents (Elt F) → (⟨S16x8192x8192, .f32⟩ : BufTy).Contents (Elt F)) (st V main_v64) (st V main_v74)) := by
  rw [st, read_line linesRef_writes V 101 rfl (by decide)]
  rw [binary_result]
  rw [operand_line linesRef_writes V 101 (r := main_v64) (by decide), operand_line linesRef_writes V 101 (r := main_v74) (by decide)]
  rfl

theorem eq_v76 : st V main_v76 = (((fun l r => Host.dotGeneral dot_S16x8192x8192_S8192x16x64_S16x8192x64_1_0_2_2_0_1 none l r) : (⟨S16x8192x8192, .f32⟩ : BufTy).Contents (Elt F) → (⟨S8192x16x64, .f32⟩ : BufTy).Contents (Elt F) → (⟨S16x8192x64, .f32⟩ : BufTy).Contents (Elt F)) (st V main_v75) (st V main_arg0)) := by
  rw [st, read_line linesRef_writes V 102 rfl (by decide)]
  rw [binary_result]
  rw [operand_line linesRef_writes V 102 (r := main_v75) (by decide), operand_line linesRef_writes V 102 (r := main_arg0) (by decide)]
  rfl

theorem eq_v77 : st V main_v77 = (((transpose S8192x16x64 [1, 0, 2] · transposes_S16x8192x64_S8192x16x64_1_0_2) : (⟨S16x8192x64, .f32⟩ : BufTy).Contents (Elt F) → (⟨S8192x16x64, .f32⟩ : BufTy).Contents (Elt F)) (st V main_v76)) := by
  rw [st, read_line linesRef_writes V 103 rfl (by decide)]
  rw [unary_result]
  rw [operand_line linesRef_writes V 103 (r := main_v76) (by decide)]
  rfl

theorem eq_v78 : st V main_v78 = (((fun l r => Host.dotGeneral dot_S16x8192x8192_S8192x16x64_S16x8192x64_2_0_1_2_0_1 none l r) : (⟨S16x8192x8192, .f32⟩ : BufTy).Contents (Elt F) → (⟨S8192x16x64, .f32⟩ : BufTy).Contents (Elt F) → (⟨S16x8192x64, .f32⟩ : BufTy).Contents (Elt F)) (st V main_v75) (st V main_arg1)) := by
  rw [st, read_line linesRef_writes V 104 rfl (by decide)]
  rw [binary_result]
  rw [operand_line linesRef_writes V 104 (r := main_v75) (by decide), operand_line linesRef_writes V 104 (r := main_arg1) (by decide)]
  rfl

theorem eq_v79 : st V main_v79 = (((transpose S8192x16x64 [1, 0, 2] · transposes_S16x8192x64_S8192x16x64_1_0_2) : (⟨S16x8192x64, .f32⟩ : BufTy).Contents (Elt F) → (⟨S8192x16x64, .f32⟩ : BufTy).Contents (Elt F)) (st V main_v78)) := by
  rw [st, read_line linesRef_writes V 105 rfl (by decide)]
  rw [unary_result]
  rw [operand_line linesRef_writes V 105 (r := main_v78) (by decide)]
  rfl

end Cert.ReferenceIdeal.Steps
end
-- ==== Proof.RefAt.lean ====
/-
  The reference's results from finite inputs: its operations read at an index, down to the four gradients.
-/
module

public import proofs.«01_k».proof.Proof.RefSteps
public import proofs.«01_k».proof.Proof.HostAt

@[expose] public section

set_option maxRecDepth 16384
set_option maxHeartbeats 1000000

noncomputable section

namespace Cert.ReferenceIdeal.Steps

open Idealize.ShloMosaic Idealize.ShloMosaic.TcCoe Idealize.ShloMosaic.StableHlo Cert.Lines Cert.Spec
open Cert.ReferenceIdeal Cert.ReferenceIdeal.Gen

variable {V : Valuation τ sig (Elt Ideal)} {a : Inputs}

/-- The arguments hold these numbers. -/
structure Holds (V : Valuation τ sig (Elt Ideal)) (a : Inputs) : Prop where
  q : ∀ r h l, st V main_arg0 (ix3 r h l) = ((a.q r h l : ℝ) : EReal)
  k : ∀ r h l, st V main_arg1 (ix3 r h l) = ((a.k r h l : ℝ) : EReal)
  v : ∀ r h l, st V main_arg2 (ix3 r h l) = ((a.v r h l : ℝ) : EReal)
  c : ∀ r h, st V main_arg3 (ix2 r h) = ((a.c r h : ℝ) : EReal)
  d : ∀ r h l, st V main_arg4 (ix3 r h l) = ((a.d r h l : ℝ) : EReal)

/-! ### The operations on any arrays, at an index -/

theorem dot_qk (y z : FVec Ideal S8192x16x64 .f32) (h : Fin 16) (r x : Fin 8192) :
    Host.dotGeneral dot_S8192x16x64_S8192x16x64_S16x8192x8192_2_2_0_0_1_1 none y z (ix3 h r x)
      = ∑ l, y (ix3 r h l) * z (ix3 x h l) := by
  pointwise []

theorem dot_dv (y : FVec Ideal S16x64x8192 .f32) (z : FVec Ideal S8192x16x64 .f32) (h : Fin 16) (r x : Fin 8192) :
    Host.dotGeneral dot_S16x64x8192_S8192x16x64_S16x8192x8192_1_2_2_0_0_1 none y z (ix3 h r x)
      = ∑ l, y (ix3 h l r) * z (ix3 x h l) := by
  pointwise []

theorem dot_dp (y : FVec Ideal S16x64x8192 .f32) (z : FVec Ideal S16x8192x8192 .f32) (h : Fin 16) (x : Fin 8192) (l : Fin 64) :
    Host.dotGeneral dot_S16x64x8192_S16x8192x8192_S16x64x8192_2_1_1_2_0_0 none y z (ix3 h l x)
      = ∑ r, y (ix3 h l r) * z (ix3 h r x) := by
  pointwise []

theorem dot_sq (y : FVec Ideal S16x8192x8192 .f32) (z : FVec Ideal S8192x16x64 .f32) (h : Fin 16) (x : Fin 8192) (l : Fin 64) :
    Host.dotGeneral dot_S16x8192x8192_S8192x16x64_S16x8192x64_1_0_2_2_0_1 none y z (ix3 h x l)
      = ∑ r, y (ix3 h r x) * z (ix3 r h l) := by
  pointwise []

theorem dot_sk (y : FVec Ideal S16x8192x8192 .f32) (z : FVec Ideal S8192x16x64 .f32) (h : Fin 16) (r : Fin 8192) (l : Fin 64) :
    Host.dotGeneral dot_S16x8192x8192_S8192x16x64_S16x8192x64_2_0_1_2_0_1 none y z (ix3 h r l)
      = ∑ x, y (ix3 h r x) * z (ix3 x h l) := by
  pointwise []

theorem turn_at (y : FVec Ideal S16x64x8192 .f32) (h : Fin 16) (r : Fin 8192) (l : Fin 64) :
    transpose S8192x16x64 [2, 0, 1] y transposes_S16x64x8192_S8192x16x64_2_0_1 (ix3 r h l) = y (ix3 h l r) := by
  pointwise []

theorem turn_in_at (y : FVec Ideal S8192x16x64 .f32) (h : Fin 16) (r : Fin 8192) (l : Fin 64) :
    transpose S16x64x8192 [1, 2, 0] y transposes_S8192x16x64_S16x64x8192_1_2_0 (ix3 h l r) = y (ix3 r h l) := by
  pointwise []

theorem turn_back_at (y : FVec Ideal S16x8192x64 .f32) (h : Fin 16) (r : Fin 8192) (l : Fin 64) :
    transpose S8192x16x64 [1, 0, 2] y transposes_S16x8192x64_S8192x16x64_1_0_2 (ix3 r h l) = y (ix3 h r l) := by
  pointwise []

theorem scaled_at (y : FVec Ideal S16x8192x8192 .f32) (h : Fin 16) (r x : Fin 8192) :
    mulf y (broadcastInDim S16x8192x8192 ![] bcast_S_S16x8192x8192 (constant (F := Ideal) S_ .f32 0x3E000000#32)) (ix3 h r x)
      = y (ix3 h r x) * Ideal.ofBits .f32 0x3E000000#32 := by
  pointwise []

theorem gate_at (y : FVec Ideal S16x8192x8192 .f32) (c : FVec Ideal S8192x16 .f32) (h : Fin 16) (r x : Fin 8192) :
    addf y (subf
        (broadcastInDim S16x8192x8192 ![0, 1, 2] bcast_S16x8192x1_S16x8192x8192_0_1_2
          (broadcastInDim S16x8192x1 ![0, 1] bcast_S16x8192_S16x8192x1_0_1 (transpose S16x8192 [1, 0] c transposes_S8192x16_S16x8192_1_0)))
        (broadcastInDim S16x8192x8192 ![0, 1, 2] bcast_S16x1x8192_S16x8192x8192_0_1_2
          (broadcastInDim S16x1x8192 ![0, 2] bcast_S16x8192_S16x1x8192_0_2 (transpose S16x8192 [1, 0] c transposes_S8192x16_S16x8192_1_0))))
        (ix3 h r x)
      = y (ix3 h r x) + (c (ix2 r h) - c (ix2 x h)) := by
  pointwise []

theorem mask_at (y z : FVec Ideal S16x8192x8192 .f32) (h : Fin 16) (r x : Fin 8192) :
    select (broadcastInDim S16x8192x8192 ![0, 1, 2] bcast_S1x8192x8192_S16x8192x8192_0_1_2
        (broadcastInDim S1x8192x8192 ![1, 2] bcast_S8192x8192_S1x8192x8192_1_2
          (cmpi .sle
            (broadcastInDim S8192x8192 ![0, 1] bcast_S1x8192_S8192x8192_0_1 (broadcastInDim S1x8192 ![1] bcast_S8192_S1x8192_1 (iotaInDim S8192 32 0)))
            (broadcastInDim S8192x8192 ![0, 1] bcast_S8192x1_S8192x8192_0_1 (broadcastInDim S8192x1 ![0] bcast_S8192_S8192x1_0 (iotaInDim S8192 32 0))))))
        y z (ix3 h r x)
      = if x.val ≤ r.val then y (ix3 h r x) else z (ix3 h r x) := by
  refine Eq.trans ?_ (select_word x.isLt r.isLt _ _)
  pointwise []

theorem bot_at (h : Fin 16) (r x : Fin 8192) :
    broadcastInDim S16x8192x8192 ![] bcast_S_S16x8192x8192 (constant (F := Ideal) S_ .f32 0xFF800000#32) (ix3 h r x) = ⊥ := by
  refine Eq.trans ?_ ofBits_bot
  pointwise []

theorem zero_at (h : Fin 16) (r x : Fin 8192) :
    broadcastInDim S16x8192x8192 ![] bcast_S_S16x8192x8192 (constant (F := Ideal) S_ .f32 0x00000000#32) (ix3 h r x) = 0 := by
  pointwise []

theorem max_at (y : FVec Ideal S16x8192x8192 .f32) (h : Fin 16) (r : Fin 8192) :
    Host.reduce FloatOps.maximumf y (constant (F := Ideal) S_ .f32 0xFF800000#32) reducesTo_S16x8192x8192_S16x8192_d2 h_S_ (ix2 h r)
      = Finset.fold max (Ideal.ofBits .f32 0xFF800000#32) (fun x => y (ix3 h r x)) Finset.univ := by
  pointwise []

theorem sum_at (y : FVec Ideal S16x8192x8192 .f32) (h : Fin 16) (r : Fin 8192) :
    Host.reduceAdd y (constant (F := Ideal) S_ .f32 0x00000000#32) reducesTo_S16x8192x8192_S16x8192_d2 h_S_ (ix2 h r)
      = ∑ x, y (ix3 h r x) := by
  pointwise []

theorem sum_rows_at (y : FVec Ideal S16x8192x8192 .f32) (h : Fin 16) (x : Fin 8192) :
    Host.reduceAdd y (constant (F := Ideal) S_ .f32 0x00000000#32) reducesTo_S16x8192x8192_S16x8192_d1 h_S_ (ix2 h x)
      = ∑ r, y (ix3 h r x) := by
  pointwise []

theorem sum_one_at (y : FVec Ideal S16x8192x1 .f32) (h : Fin 16) (r : Fin 8192) :
    Host.reduceAdd y (constant (F := Ideal) S_ .f32 0x00000000#32) reducesTo_S16x8192x1_S16x8192_d2 h_S_ (ix2 h r)
      = y (ix3 h r 0) := by
  pointwise []
  simp

theorem sum_one_row_at (y : FVec Ideal S16x1x8192 .f32) (h : Fin 16) (x : Fin 8192) :
    Host.reduceAdd y (constant (F := Ideal) S_ .f32 0x00000000#32) reducesTo_S16x1x8192_S16x8192_d1 h_S_ (ix2 h x)
      = y (ix3 h 0 x) := by
  pointwise []
  simp

theorem top_at (y : FVec Ideal S16x8192x8192 .f32) (z : FVec Ideal S16x8192 .f32) (h : Fin 16) (r x : Fin 8192) :
    Host.exp (subf y (broadcastInDim S16x8192x8192 ![0, 1, 2] bcast_S16x8192x1_S16x8192x8192_0_1_2
        (broadcastInDim S16x8192x1 ![0, 1] bcast_S16x8192_S16x8192x1_0_1
          (maximumf (broadcastInDim S16x8192 ![] bcast_S_S16x8192 (constant (F := Ideal) S_ .f32 0xFF800000#32)) z)))) (ix3 h r x)
      = Ideal.exp (y (ix3 h r x) - max (Ideal.ofBits .f32 0xFF800000#32) (z (ix2 h r))) := by
  pointwise []

theorem quot_at (y : FVec Ideal S16x8192x8192 .f32) (z : FVec Ideal S16x8192 .f32) (h : Fin 16) (r x : Fin 8192) :
    Host.divf y (broadcastInDim S16x8192x8192 ![0, 1, 2] bcast_S16x8192x1_S16x8192x8192_0_1_2
        (broadcastInDim S16x8192x1 ![0, 1] bcast_S16x8192_S16x8192x1_0_1 z)) (ix3 h r x)
      = Ideal.div (y (ix3 h r x)) (z (ix2 h r)) := by
  pointwise []

theorem square_at (z : FVec Ideal S16x8192 .f32) (h : Fin 16) (r x : Fin 8192) :
    broadcastInDim S16x8192x8192 ![0, 1, 2] bcast_S16x8192x1_S16x8192x8192_0_1_2
        (Host.divf (broadcastInDim S16x8192x1 ![] bcast_S_S16x8192x1 (constant (F := Ideal) S_ .f32 0x3F800000#32))
          (mulf (broadcastInDim S16x8192x1 ![0, 1] bcast_S16x8192_S16x8192x1_0_1 z)
            (broadcastInDim S16x8192x1 ![0, 1] bcast_S16x8192_S16x8192x1_0_1 z))) (ix3 h r x)
      = Ideal.div 1 (z (ix2 h r) * z (ix2 h r)) := by
  pointwise []

theorem neg_row_at (z : FVec Ideal S16x8192 .f32) (h : Fin 16) (r : Fin 8192) :
    Host.negf (F := Ideal) (shapeCast S16x8192x1 z shapeCasts_S16x8192_S16x8192x1) (ix3 h r 0) = -z (ix2 h r) := by
  pointwise []

theorem row_at (z : FVec Ideal S16x8192 .f32) (h : Fin 16) (r : Fin 8192) :
    shapeCast S16x8192x1 z shapeCasts_S16x8192_S16x8192x1 (ix3 h r 0) = z (ix2 h r) := by
  pointwise []

theorem key_at (z : FVec Ideal S16x8192 .f32) (h : Fin 16) (x : Fin 8192) :
    shapeCast S16x1x8192 z shapeCasts_S16x8192_S16x1x8192 (ix3 h 0 x) = z (ix2 h x) := by
  pointwise []

theorem spread_at (z : FVec Ideal S16x8192 .f32) (h : Fin 16) (r x : Fin 8192) :
    broadcastInDim S16x8192x8192 ![0, 1] bcast_S16x8192_S16x8192x8192_0_1 z (ix3 h r x) = z (ix2 h r) := by
  pointwise []

theorem turn_row_at (z : FVec Ideal S16x8192 .f32) (h : Fin 16) (r : Fin 8192) :
    transpose S8192x16 [1, 0] z transposes_S16x8192_S8192x16_1_0 (ix2 r h) = z (ix2 h r) := by
  pointwise []

/-! ### From finite inputs -/

variable (H : Holds V a)
include H

theorem at_v9 (h : Fin 16) (r x : Fin 8192) : st V main_v9 (ix3 h r x) = (a.logit h r x : EReal) := by
  have e : st V main_v9 (ix3 h r x)
      = (num (st V main_v2 (ix3 h r x)) + (num (st V main_arg3 (ix2 r h)) - num (st V main_arg3 (ix2 x h))) : EReal) := by
    rw [eq_v9, eq_v8, eq_v7, eq_v6, eq_v5, eq_v4, eq_v3]
    exact gate_at _ _ h r x
  have e2 : st V main_v2 (ix3 h r x) = (((∑ l, a.q r h l * a.k x h l) * (1 / 8) : ℝ) : EReal) := by
    have e0 : st V main_v0 (ix3 h r x) = ((∑ l, a.q r h l * a.k x h l : ℝ) : EReal) := by
      rw [eq_v0]
      refine (dot_qk _ _ h r x).trans ?_
      simp only [H.q, H.k, ← EReal.coe_mul, ← Inputs.coe_sum]
    rw [eq_v2, eq_v1, eq_cst]
    refine (scaled_at _ h r x).trans ?_
    rw [e0, ofBits_eighth, ← EReal.coe_mul]
  refine e.trans ?_
  simp only [num]
  rw [e2, H.c, H.c, ← EReal.coe_sub, ← EReal.coe_add, Inputs.logit]

theorem at_v17 (h : Fin 16) (r x : Fin 8192) : st V main_v17_0 (ix3 h r x) = a.masked h r x := by
  rw [eq_v17_0, eq_v17_1, eq_v16, eq_v15, eq_v14, eq_v13, eq_v12, eq_v11, eq_v10, eq_call0_v2, eq_call0_v0, eq_cst_0]
  refine (mask_at _ _ h r x).trans ?_
  rw [at_v9 H, Inputs.masked]
  exact congrArg (ite _ _) (bot_at h r x)

theorem at_v18 (h : Fin 16) (r : Fin 8192) : st V main_v18 (ix2 h r) = (a.top h r : EReal) := by
  rw [eq_v18, eq_cst_1]
  refine (max_at _ h r).trans ?_
  simp only [at_v17 H, ofBits_bot]
  exact a.fold_top h r

theorem at_v38 (h : Fin 16) (r x : Fin 8192) : st V main_v38 (ix3 h r x) = (a.ex h r x : EReal) := by
  rw [eq_v38, eq_v37, eq_v36, eq_v35, eq_v25, eq_v24, eq_cst_3]
  refine (top_at _ _ h r x).trans ?_
  rw [at_v17 H, at_v18 H, ofBits_bot, max_bot_left, a.exp_masked]

theorem at_v39 (h : Fin 16) (r : Fin 8192) : st V main_v39 (ix2 h r) = (a.tot h r : EReal) := by
  rw [eq_v39, eq_cst_9]
  refine (sum_at _ h r).trans ?_
  simp only [at_v38 H, ← Inputs.coe_sum]
  rw [Inputs.tot]

theorem at_v42 (h : Fin 16) (r x : Fin 8192) : st V main_v42 (ix3 h r x) = (a.p h r x : EReal) := by
  rw [eq_v42, eq_v41, eq_v40]
  refine (quot_at _ _ h r x).trans ?_
  rw [at_v38 H, at_v39 H, a.div_tot, Inputs.p]

theorem at_v48 (h : Fin 16) (r : Fin 8192) (l : Fin 64) : st V main_v48 (ix3 h l r) = (a.d r h l : EReal) := by
  rw [eq_v48]
  exact (turn_in_at _ h r l).trans (H.d r h l)

theorem at_v49 (h : Fin 16) (r x : Fin 8192) : st V main_v49 (ix3 h r x) = (a.dp h r x : EReal) := by
  rw [eq_v49]
  refine (dot_dv _ _ h r x).trans ?_
  simp only [at_v48 H, H.v, ← EReal.coe_mul, ← Inputs.coe_sum]
  rw [Inputs.dp]

/-- The value gradient. -/
theorem at_v51 (h : Fin 16) (x : Fin 8192) (l : Fin 64) : st V main_v51 (ix3 x h l) = (a.dv h x l : EReal) := by
  rw [eq_v51]
  refine (turn_at _ h x l).trans ?_
  rw [eq_v50]
  refine (dot_dp _ _ h x l).trans ?_
  simp only [at_v48 H, at_v42 H, ← EReal.coe_mul, ← Inputs.coe_sum]
  rw [Inputs.dv]

theorem at_v54 (h : Fin 16) (r x : Fin 8192) : st V main_v54 (ix3 h r x) = ((a.dp h r x * a.p h r x * (1 / a.tot h r) : ℝ) : EReal) := by
  have e : st V main_v54 (ix3 h r x) = (num (st V main_v49 (ix3 h r x)) * num (st V main_v52 (ix3 h r x)) * num (st V main_v38 (ix3 h r x)) : EReal) := by
    rw [eq_v54, eq_v53]
    rfl
  have e2 : st V main_v52 (ix3 h r x) = ((1 / (a.tot h r * a.tot h r) : ℝ) : EReal) := by
    rw [eq_v52, eq_v45, eq_v44, eq_cst_10, eq_v43, eq_v40]
    refine (square_at _ h r x).trans ?_
    have ht := (a.tot_pos h r).ne'
    rw [at_v39 H, ← EReal.coe_mul, Ideal.div_coe (mul_ne_zero ht ht), one_mul]
  refine e.trans ?_
  simp only [num]
  rw [at_v49 H, e2, at_v38 H, ← EReal.coe_mul, ← EReal.coe_mul, Inputs.p]
  congr 1
  have ht := (a.tot_pos h r).ne'
  field_simp

theorem at_v57 (h : Fin 16) (r : Fin 8192) : st V main_v57 (ix3 h r 0) = ((-(a.delta h r / a.tot h r) : ℝ) : EReal) := by
  rw [eq_v57, eq_v56]
  refine (neg_row_at _ h r).trans ?_
  rw [eq_v55, eq_cst_11, EReal.coe_neg]
  refine congrArg (- ·) ((sum_at _ h r).trans ?_)
  simp only [at_v54 H, ← Inputs.coe_sum]
  rw [← Finset.sum_mul, ← a.delta_eq, mul_one_div]

theorem at_v61 (h : Fin 16) (r x : Fin 8192) : st V main_v61 (ix3 h r x) = ((-(a.delta h r / a.tot h r) : ℝ) : EReal) := by
  rw [eq_v61]
  refine (spread_at _ h r x).trans ?_
  rw [eq_v60, eq_cst_12]
  exact (sum_one_at _ h r).trans (at_v57 H h r)

/-- The gradient of the logits. -/
theorem at_v64 (h : Fin 16) (r x : Fin 8192) : st V main_v64 (ix3 h r x) = (a.ds h r x : EReal) := by
  rw [eq_v64, eq_v17_1, eq_v16, eq_v15, eq_v14, eq_v13, eq_v12, eq_v11, eq_v10, eq_call1_v0, eq_call1_cst]
  refine (mask_at _ _ h r x).trans ?_
  by_cases hx : x.val ≤ r.val
  · rw [if_pos hx]
    have e : st V main_v63 (ix3 h r x) = ((num (st V main_v59 (ix3 h r x)) + num (st V main_v61 (ix3 h r x))) * num (st V main_v38 (ix3 h r x)) : EReal) := by
      rw [eq_v63, eq_v62]
      rfl
    have e2 : st V main_v59 (ix3 h r x) = ((a.dp h r x / a.tot h r : ℝ) : EReal) := by
      rw [eq_v59, eq_v58, eq_v40]
      refine (quot_at _ _ h r x).trans ?_
      rw [at_v49 H, at_v39 H, a.div_tot]
    refine e.trans ?_
    simp only [num]
    rw [e2, at_v61 H, at_v38 H, ← EReal.coe_add, ← EReal.coe_mul, Inputs.ds, Inputs.p]
    congr 1
    ring
  · rw [if_neg hx, Inputs.ds, a.p_after h r x hx, zero_mul, EReal.coe_zero]
    exact zero_at h r x

theorem at_v75 (h : Fin 16) (r x : Fin 8192) : st V main_v75 (ix3 h r x) = ((a.ds h r x * (1 / 8) : ℝ) : EReal) := by
  rw [eq_v75, eq_v74, eq_cst_17]
  refine (scaled_at _ h r x).trans ?_
  rw [at_v64 H, ofBits_eighth, ← EReal.coe_mul]

/-- The query gradient. -/
theorem at_v79 (h : Fin 16) (r : Fin 8192) (l : Fin 64) : st V main_v79 (ix3 r h l) = (a.dq h r l : EReal) := by
  rw [eq_v79]
  refine (turn_back_at _ h r l).trans ?_
  rw [eq_v78]
  refine (dot_sk _ _ h r l).trans ?_
  simp only [at_v75 H, H.k, ← EReal.coe_mul, ← Inputs.coe_sum]
  rw [Inputs.dq]
  exact congrArg _ (Finset.sum_congr rfl fun x _ => by ring)

/-- The key gradient. -/
theorem at_v77 (h : Fin 16) (x : Fin 8192) (l : Fin 64) : st V main_v77 (ix3 x h l) = (a.dk h x l : EReal) := by
  rw [eq_v77]
  refine (turn_back_at _ h x l).trans ?_
  rw [eq_v76]
  refine (dot_sq _ _ h x l).trans ?_
  simp only [at_v75 H, H.q, ← EReal.coe_mul, ← Inputs.coe_sum]
  rw [Inputs.dk]
  exact congrArg _ (Finset.sum_congr rfl fun r _ => by ring)

/-- The gradient of the cumulative log gates. -/
theorem at_v73 (h : Fin 16) (r : Fin 8192) : st V main_v73 (ix2 r h) = (a.dc h r : EReal) := by
  rw [eq_v73]
  refine (turn_row_at _ h r).trans ?_
  have e : st V main_v72 (ix2 h r) = (num (st V main_v70 (ix2 h r)) + num (st V main_v71 (ix2 h r)) : EReal) := by
    rw [eq_v72]
    rfl
  have e1 : st V main_v70 (ix2 h r) = ((-∑ s, a.ds h s r : ℝ) : EReal) := by
    rw [eq_v70, eq_cst_15]
    refine (sum_one_row_at _ h r).trans ?_
    rw [eq_v69]
    refine (key_at _ h r).trans ?_
    rw [eq_v68, eq_cst_14]
    refine (sum_rows_at _ h r).trans ?_
    rw [← Finset.sum_neg_distrib, Inputs.coe_sum]
    refine Finset.sum_congr rfl fun s _ => ?_
    rw [eq_v67, EReal.coe_neg]
    exact congrArg (- ·) (at_v64 H h s r)
  have e2 : st V main_v71 (ix2 h r) = ((∑ x, a.ds h r x : ℝ) : EReal) := by
    rw [eq_v71, eq_cst_16]
    refine (sum_one_at _ h r).trans ?_
    rw [eq_v66]
    refine (row_at _ h r).trans ?_
    rw [eq_v65, eq_cst_13]
    refine (sum_at _ h r).trans ?_
    simp only [at_v64 H, ← Inputs.coe_sum]
  refine e.trans ?_
  simp only [num]
  rw [e1, e2, ← EReal.coe_add, Inputs.dc]
  exact congrArg _ (by ring)

end Cert.ReferenceIdeal.Steps
end
-- ==== Proof.RefEnd.lean ====
/-
  The reference's run ends with what its operations leave, the arguments as they were.
-/
module

public import proofs.«01_k».proof.Proof.RefAt

@[expose] public section

set_option maxRecDepth 16384
set_option maxHeartbeats 4000000

noncomputable section

namespace Cert.ReferenceIdeal.Steps

open Idealize.ShloMosaic Idealize.ShloMosaic.TcCoe Idealize.ShloMosaic.StableHlo Cert.Lines Cert.Spec Idealize.SL.Sem
open Cert.ReferenceIdeal Cert.ReferenceIdeal.Gen

/-- A buffer the operations do not write. -/
theorem st_kept {V : Valuation τ sig (Elt Ideal)} (r : Ref sig .tc) (hr : r ∉ linesRefOut) : st V r = V (Proc.devRef .tc r) := by
  rw [st]
  refine after_of_forall_not_mem _ _ fun op hop => ?_
  have := List.mem_map_of_mem (f := HloOp.writes) hop
  rw [linesRef_writes, List.mem_map] at this
  obtain ⟨w, hw, e⟩ := this
  rw [← e, Finset.mem_singleton]
  exact devRef_ne_of_ne fun h => hr (h ▸ hw)

variable (m : (ℓ : Loc nD τ sig) → Buf (Elt Ideal) ℓ) (ρ : Dev nD → PrngReg)

theorem run_results : θ_run defs (onTc (τ := τ) (main (F := Ideal))) ⟨m, fun _ => 0, ρ⟩ (fun r => ∀ c : Dev nD,
      r.2.mem ((c.tc : Thread nD τ).loc main_v79) = st (fun b => m (c, b)) main_v79
      ∧ r.2.mem ((c.tc : Thread nD τ).loc main_v77) = st (fun b => m (c, b)) main_v77
      ∧ r.2.mem ((c.tc : Thread nD τ).loc main_v51) = st (fun b => m (c, b)) main_v51
      ∧ r.2.mem ((c.tc : Thread nD τ).loc main_v73) = st (fun b => m (c, b)) main_v73
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨h c main_v79, h c main_v77, h c main_v51, h c main_v73,
      (h c main_arg0).trans (st_kept (V := fun b => m (c, b)) main_arg0 (by decide)),
      (h c main_arg1).trans (st_kept (V := fun b => m (c, b)) main_arg1 (by decide)),
      (h c main_arg2).trans (st_kept (V := fun b => m (c, b)) main_arg2 (by decide)),
      (h c main_arg3).trans (st_kept (V := fun b => m (c, b)) main_arg3 (by decide)),
      (h c main_arg4).trans (st_kept (V := fun b => m (c, b)) main_arg4 (by decide))⟩)
    (run_seq Cert.ReferenceIdeal.Value.scopedRefs_eq Cert.ReferenceIdeal.Value.scopedSems_eq defs main (fun _ => Cert.ReferenceIdeal.Value.ops) Cert.ReferenceIdeal.Value.main_eq
      (fun _ => Cert.ReferenceIdeal.Value.ops_sub) m ρ)

end Cert.ReferenceIdeal.Steps
end
-- ==== Proof.Finite.lean ====
/-
  The precondition: every entry of every argument is a number.
-/
module

public import proofs.«01_k».proof.Pre_all_finite
public import Idealize.ShloMosaic.Lib.Pointwise
public import Idealize.ShloMosaic.Lib.ReduceAll

@[expose] public section

set_option maxRecDepth 8192

noncomputable section

namespace Cert.Pre_all_finite

open Idealize.ShloMosaic

instance facts : Facts where
  bcast_S_S8192x16x64 := by decide
  reducesTo_S8192x16x64_S_d0_1_2 := by decide
  h_S_ := by decide
  bcast_S_S8192x16 := by decide
  reducesTo_S8192x16_S_d0_1 := by decide

instance : Subsingleton S_.Idx := ⟨fun _ _ => funext fun i => i.elim0⟩

/-- A value whose absolute value is less than infinity is a number. -/
theorem number (x : EReal) (h : FloatOps.cmpf (F := Ideal) (φ := .f32) .olt (FloatOps.hostAbsf (F := Ideal) (φ := .f32) x)
    (FloatOps.ofBits (F := Ideal) .f32 0x7F800000#32) = 1#1) : x = ((x.toReal : ℝ) : EReal) := by
  have htop : Ideal.ofBits .f32 0x7F800000#32 = ⊤ := by simp [Ideal.ofBits, Ideal.ieee]
  have h' : Ideal.cmp .olt (max x (-x)) (Ideal.ofBits .f32 0x7F800000#32) = 1#1 := h
  rw [htop] at h'
  unfold Ideal.cmp at h'
  have h2 : max x (-x) < ⊤ := by
    by_contra hn
    simp [hn] at h'
  rw [max_lt_iff] at h2
  refine (EReal.coe_toReal h2.1.ne ?_).symm
  rintro rfl
  exact absurd h2.2 (by simp)

theorem all_3 (x : FVec Ideal S8192x16x64 .f32)
    (h : Host.reduce IntOp.andi (cmpf .olt (Host.absf x) (broadcastInDim S8192x16x64 ![] Facts.bcast_S_S8192x16x64 (constant (F := Ideal) S_ .f32 0x7F800000#32)))
      (constantI S_ 1 1#1) Facts.reducesTo_S8192x16x64_S_d0_1_2 Facts.h_S_ (fun i => i.elim0) = 1#1) (i : S8192x16x64.Idx) :
    x i = ((EReal.toReal (x i) : ℝ) : EReal) :=
  number _ (Host.reduce_andi_all _ _ _ _ _ h i)

theorem all_2 (x : FVec Ideal S8192x16 .f32)
    (h : Host.reduce IntOp.andi (cmpf .olt (Host.absf x) (broadcastInDim S8192x16 ![] Facts.bcast_S_S8192x16 (constant (F := Ideal) S_ .f32 0x7F800000#32)))
      (constantI S_ 1 1#1) Facts.reducesTo_S8192x16_S_d0_1 Facts.h_S_ (fun i => i.elim0) = 1#1) (i : S8192x16.Idx) :
    x i = ((EReal.toReal (x i) : ℝ) : EReal) :=
  number _ (Host.reduce_andi_all _ _ _ _ _ h i)

theorem numbers (q k v : FVec Ideal S8192x16x64 .f32) (cum : FVec Ideal S8192x16 .f32) (ct : FVec Ideal S8192x16x64 .f32)
    (h : fn (F := Ideal) q k v cum ct = fun _ => 1#1) :
    (∀ i, q i = ((EReal.toReal (q i) : ℝ) : EReal)) ∧ (∀ i, k i = ((EReal.toReal (k i) : ℝ) : EReal))
      ∧ (∀ i, v i = ((EReal.toReal (v i) : ℝ) : EReal)) ∧ (∀ i, cum i = ((EReal.toReal (cum i) : ℝ) : EReal))
      ∧ (∀ i, ct i = ((EReal.toReal (ct i) : ℝ) : EReal)) := by
  have h0 := congrFun h fun i => i.elim0
  obtain ⟨h1, e5⟩ := IntOp.andi_eq_one.1 h0
  obtain ⟨h2, e4⟩ := IntOp.andi_eq_one.1 h1
  obtain ⟨h3, e3⟩ := IntOp.andi_eq_one.1 h2
  obtain ⟨e1, e2⟩ := IntOp.andi_eq_one.1 h3
  exact ⟨all_3 q e1, all_3 k e2, all_3 v e3, all_2 cum e4, all_3 ct e5⟩

end Cert.Pre_all_finite
end
-- ==== Proof.Agree.lean ====
/-
  From the same finite arguments the kernel and the reference end with the same four gradients.
-/
module

public import proofs.«01_k».proof.Defs
public import proofs.«01_k».proof.Proof.KernelEnd
public import proofs.«01_k».proof.Proof.RefEnd
public import proofs.«01_k».proof.Proof.Finite

@[expose] public section

set_option maxRecDepth 8192
set_option maxHeartbeats 4000000

noncomputable section

namespace Cert.Proof

open Idealize.ShloMosaic Idealize.ShloMosaic.TcCoe Idealize.SL.Sem Cert.Spec

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- A device's arguments, as numbers. -/
def inputs : Inputs where
  q r h l := EReal.toReal ((m ((c.tc : Thread Cert.KernelIdeal.nD Cert.KernelIdeal.τ).loc Cert.KernelIdeal.main_arg0) : Cert.KernelIdeal.S8192x16x64.Idx → EReal) (ix3 r h l))
  k r h l := EReal.toReal ((m ((c.tc : Thread Cert.KernelIdeal.nD Cert.KernelIdeal.τ).loc Cert.KernelIdeal.main_arg1) : Cert.KernelIdeal.S8192x16x64.Idx → EReal) (ix3 r h l))
  v r h l := EReal.toReal ((m ((c.tc : Thread Cert.KernelIdeal.nD Cert.KernelIdeal.τ).loc Cert.KernelIdeal.main_arg2) : Cert.KernelIdeal.S8192x16x64.Idx → EReal) (ix3 r h l))
  d r h l := EReal.toReal ((m ((c.tc : Thread Cert.KernelIdeal.nD Cert.KernelIdeal.τ).loc Cert.KernelIdeal.main_arg4) : Cert.KernelIdeal.S8192x16x64.Idx → EReal) (ix3 r h l))
  c r h := EReal.toReal ((m ((c.tc : Thread Cert.KernelIdeal.nD Cert.KernelIdeal.τ).loc Cert.KernelIdeal.main_arg3) : Cert.KernelIdeal.S8192x16.Idx → EReal) (ix2 r h))

theorem holds_kernel (h : Cert.Pre_KernelIdeal_all_finite m) : Cert.KernelIdeal.HostIn.Holds (fun b => m (c, b)) (inputs m c) := by
  obtain ⟨e0, e1, e2, e3, e4⟩ := Cert.Pre_all_finite.numbers _ _ _ _ _ (h c)
  exact
    { q := fun r h l => (congrFun (Cert.KernelIdeal.Bwd.V_arg m c _ (Cert.KernelIdeal.Gen.V_main_arg0 m c)) _).trans (e0 (ix3 r h l))
      k := fun r h l => (congrFun (Cert.KernelIdeal.Bwd.V_arg m c _ (Cert.KernelIdeal.Gen.V_main_arg1 m c)) _).trans (e1 (ix3 r h l))
      v := fun r h l => (congrFun (Cert.KernelIdeal.Bwd.V_arg m c _ (Cert.KernelIdeal.Gen.V_main_arg2 m c)) _).trans (e2 (ix3 r h l))
      c := fun r h => (congrFun (Cert.KernelIdeal.Bwd.V_arg m c _ (Cert.KernelIdeal.Gen.V_main_arg3 m c)) _).trans (e3 (ix2 r h))
      d := fun r h l => (congrFun (Cert.KernelIdeal.Bwd.V_arg m c _ (Cert.KernelIdeal.Gen.V_main_arg4 m c)) _).trans (e4 (ix3 r h l)) }

theorem holds_reference (h : Cert.Pre_KernelIdeal_all_finite m)
    (hm : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Steps.Holds (fun b => m' (c, b)) (inputs m c) := by
  obtain ⟨e0, e1, e2, e3, e4⟩ := Cert.Pre_all_finite.numbers _ _ _ _ _ (h c)
  obtain ⟨h0, h1, h2, h3, h4⟩ := hm
  have kept := fun r hr => Cert.ReferenceIdeal.Steps.st_kept (V := fun b => m' (c, b)) r hr
  exact
    { q := fun r h l => (congrFun ((kept Cert.ReferenceIdeal.main_arg0 (by decide)).trans h0) _).trans (e0 (ix3 r h l))
      k := fun r h l => (congrFun ((kept Cert.ReferenceIdeal.main_arg1 (by decide)).trans h1) _).trans (e1 (ix3 r h l))
      v := fun r h l => (congrFun ((kept Cert.ReferenceIdeal.main_arg2 (by decide)).trans h2) _).trans (e2 (ix3 r h l))
      c := fun r h => (congrFun ((kept Cert.ReferenceIdeal.main_arg3 (by decide)).trans h3) _).trans (e3 (ix2 r h))
      d := fun r h l => (congrFun ((kept Cert.ReferenceIdeal.main_arg4 (by decide)).trans h4) _).trans (e4 (ix3 r h l)) }

/-- Arrays agreeing at every row, head and lane are equal. -/
theorem ext_3 {x y : Cert.KernelIdeal.S8192x16x64.Idx → EReal} (f : Fin 8192 → Fin 16 → Fin 64 → EReal)
    (hx : ∀ r h l, x (ix3 r h l) = f r h l) (hy : ∀ r h l, y (ix3 r h l) = f r h l) : x = y := by
  funext i
  rw [eq_ix3 i]
  exact (hx _ _ _).trans (hy _ _ _).symm

theorem ext_2 {x y : Cert.KernelIdeal.S8192x16.Idx → EReal} (f : Fin 8192 → Fin 16 → EReal)
    (hx : ∀ r h, x (ix2 r h) = f r h) (hy : ∀ r h, y (ix2 r h) = f r h) : x = y := by
  funext i
  rw [eq_ix2 i]
  exact (hx _ _).trans (hy _ _).symm

theorem agree : Cert.algebraic_KernelIdeal_ReferenceIdeal_pre_all_finite := by
  intro m ρ m' ρ' hpre hm
  refine ⟨fun c => Cert.KernelIdeal.HostOut.st (Cert.KernelIdeal.Bwd.left m c) Cert.KernelIdeal.main_v95,
    fun c => Cert.KernelIdeal.HostOut.st (Cert.KernelIdeal.Bwd.left m c) Cert.KernelIdeal.main_v98,
    fun c => Cert.KernelIdeal.HostOut.st (Cert.KernelIdeal.Bwd.left m c) Cert.KernelIdeal.main_v101,
    fun c => Cert.KernelIdeal.HostOut.st (Cert.KernelIdeal.Bwd.left m c) Cert.KernelIdeal.main_v102,
    Cert.KernelIdeal.Bwd.run_results m ρ, ?_⟩
  refine (θ_run Cert.ReferenceIdeal.defs _ _).mono (fun r hr c => ?_) (Cert.ReferenceIdeal.Steps.run_results m' ρ')
  obtain ⟨e0, e1, e2, e3, ha⟩ := hr c
  have K := holds_kernel m c hpre
  have R := holds_reference m m' c hpre (hm c)
  refine ⟨e0.trans ?_, e1.trans ?_, e2.trans ?_, e3.trans ?_, ha⟩
  · exact ext_3 (fun r h l => ((inputs m c).dq h r l : EReal)) (fun r h l => Cert.ReferenceIdeal.Steps.at_v79 R h r l)
      fun r h l => Cert.KernelIdeal.Bwd.end_dq m c K r h l
  · exact ext_3 (fun r h l => ((inputs m c).dk h r l : EReal)) (fun r h l => Cert.ReferenceIdeal.Steps.at_v77 R h r l)
      fun r h l => Cert.KernelIdeal.Bwd.end_dk m c K r h l
  · exact ext_3 (fun r h l => ((inputs m c).dv h r l : EReal)) (fun r h l => Cert.ReferenceIdeal.Steps.at_v51 R h r l)
      fun r h l => Cert.KernelIdeal.Bwd.end_dv m c K r h l
  · exact ext_2 (fun r h => ((inputs m c).dc h r : EReal)) (fun r h => Cert.ReferenceIdeal.Steps.at_v73 R h r)
      fun r h => Cert.KernelIdeal.Bwd.end_dc m c K r h

end Cert.Proof
end
-- ==== Proof.RowBlocks.lean ====
/-
  A sum over 8192 rows, taken in four blocks of 2048 rows one after another.
-/
module

public import Mathlib.Data.EReal.Operations
public import Mathlib.Algebra.BigOperators.Fin

@[expose] public section

namespace Cert.RowBlocks

/-- Row `s` of block `n`. -/
def row (n : Fin 4) (s : Fin 2048) : Fin 8192 := ⟨n.val * 2048 + s.val, by omega⟩

/-- The block's part of the sum. -/
noncomputable def part (f : Fin 8192 → EReal) (n : Fin 4) : EReal := ∑ s : Fin 2048, f (row n s)

/-- The four parts, added first to last onto zero, are the whole sum. -/
theorem sum_parts (f : Fin 8192 → EReal) : (((0 + part f 0) + part f 1) + part f 2) + part f 3 = ∑ r, f r := by
  have e : ∑ r, f r = ∑ n : Fin 4, part f n := by
    unfold part
    rw [← Fintype.sum_prod_type' (f := fun (n : Fin 4) (s : Fin 2048) => f (row n s))]
    refine (Equiv.sum_comp (finProdFinEquiv (m := 4) (n := 2048)) (fun r : Fin (4 * 2048) => f r)).symm.trans ?_
    refine Finset.sum_congr rfl fun p _ => congrArg f (Fin.ext ?_)
    show p.2.val + 2048 * p.1.val = p.1.val * 2048 + p.2.val
    omega
  rw [e, Fin.sum_univ_four, zero_add]

/-- A nonnegative number goes into a sum of extended reals. -/
theorem sum_mul_num {ι : Type*} (s : Finset ι) (f : ι → EReal) {x : ℝ} (hx : 0 ≤ x) :
    (∑ i ∈ s, f i) * (x : EReal) = ∑ i ∈ s, f i * (x : EReal) := by
  classical
  induction s using Finset.induction_on with
  | empty => simp
  | insert a s ha ih =>
    rw [Finset.sum_insert ha, Finset.sum_insert ha, ← ih]
    exact EReal.right_distrib_of_nonneg_of_ne_top (EReal.coe_nonneg.mpr hx) (EReal.coe_ne_top x) _ _

end Cert.RowBlocks
-- ==== Proof.Weight2.lean ====
/-
  The gradient of the query projection's weight, with the factor 1/8 of the queries: the kernel adds the products of four blocks of 2048 rows, and
  the reference takes one product of all 8192 rows.
-/
module

public import proofs.«01_k».proof.Defs
public import proofs.«01_k».proof.Proof.RowBlocks
public import proofs.«01_k».proof.Proof.Gen.Kernel2Ideal.Value
public import proofs.«01_k».proof.Proof.Gen.Reference2Ideal.Run
public import Idealize.ShloMosaic.Lib.Pointwise

@[expose] public section

set_option maxRecDepth 8192

noncomputable section

namespace Cert.Kernel2Ideal.Weight

open Idealize.ShloMosaic Idealize.ShloMosaic.TcCoe Idealize.SL.Sem Cert.RowBlocks
open Cert.Kernel2Ideal Cert.Kernel2Ideal.Gen Cert.Kernel2Ideal.Value

/-- The product's terms at entry `(i, j)`, row by row. -/
def term (h : S8192x1024.Idx → EReal) (d : S8192x1024.Idx → EReal) (i : Fin 1024) (j : Fin 1024) (r : Fin 8192) : EReal :=
  h (ix2 r i) * d (ix2 r j)

theorem zero_at (i : Fin 1024) (j : Fin 1024) : k0_pay1 (F := Ideal) (ix2 i j) = 0 := by
  pointwise [k0_pay1]

theorem add_at (a : Vec Ideal S1024x1024 .f32) (h : Vec Ideal S2048x1024 .bf16) (d : Vec Ideal S2048x1024 .bf16) (i : Fin 1024) (j : Fin 1024) :
    k0_pay2 a h d (ix2 i j) = a (ix2 i j) + ∑ s : Fin 2048, h (ix2 s i) * d (ix2 s j) := by
  pointwise [k0_pay2]

theorem ofBits_eighth : Ideal.ofBits .f32 0x3E000000#32 = ((1 / 8 : ℝ) : EReal) := by
  simp [Ideal.ofBits, Ideal.ieee, -EReal.coe_mul]; norm_num

theorem scale_at (a : Vec Ideal S1024x1024 .f32) (i : Fin 1024) (j : Fin 1024) :
    k0_pay3 a (ix2 i j) = a (ix2 i j) * ((1 / 8 : ℝ) : EReal) := by
  pointwise [k0_pay3, ofBits_eighth]

theorem index0 (t : Fin cfg0.N) : win0_0.index t 0 = t.val ∧ win0_0.index t 1 = 0 := by
  have h : ∀ t : Fin grid0.N, win0_0.index t 0 = t.val ∧ win0_0.index t 1 = 0 := by decide +kernel
  exact h t

theorem index1 (t : Fin cfg0.N) : win0_1.index t 0 = t.val ∧ win0_1.index t 1 = 0 := by
  have h : ∀ t : Fin grid0.N, win0_1.index t 0 = t.val ∧ win0_1.index t 1 = 0 := by decide +kernel
  exact h t

variable (m : (ℓ : Loc nD τ sig) → Buf (Elt Ideal) ℓ) (c : Dev nD)

/-- The two arguments. -/
abbrev argH : S8192x1024.Idx → EReal := m ((c : Thread nD τ).loc main_arg0)
abbrev argD : S8192x1024.Idx → EReal := m ((c : Thread nD τ).loc main_arg1)

/-- A point's blocks are its 2048 rows of the arguments. -/
theorem blk0 (n : ℕ) (hn : n < cfg0.N) (hn' : n < 4) (s : Fin 2048) (i : Fin 1024) :
    (iblk m c 0 ⟨n, hn⟩ : Vec Ideal S2048x1024 .bf16) (ix2 s i) = argH m c (ix2 (row ⟨n, hn'⟩ s) i) := by
  unfold iblk
  rw [View.read_apply]
  show V m c main_arg0 _ = _
  rw [V_main_arg0]
  refine congrArg (argH m c) (funext fun a => Fin.ext ?_)
  match a with
  | ⟨0, _⟩ => show win0_0.index ⟨n, hn⟩ 0 * 2048 + 1 * s.val = n * 2048 + s.val; rw [(index0 ⟨n, hn⟩).1]; show n * 2048 + 1 * s.val = _; omega
  | ⟨1, _⟩ => show win0_0.index ⟨n, hn⟩ 1 * 1024 + 1 * i.val = i.val; rw [(index0 ⟨n, hn⟩).2]; omega

theorem blk1 (n : ℕ) (hn : n < cfg0.N) (hn' : n < 4) (s : Fin 2048) (j : Fin 1024) :
    (iblk m c 1 ⟨n, hn⟩ : Vec Ideal S2048x1024 .bf16) (ix2 s j) = argD m c (ix2 (row ⟨n, hn'⟩ s) j) := by
  unfold iblk
  rw [View.read_apply]
  show V m c main_arg1 _ = _
  rw [V_main_arg1]
  refine congrArg (argD m c) (funext fun a => Fin.ext ?_)
  match a with
  | ⟨0, _⟩ => show win0_1.index ⟨n, hn⟩ 0 * 2048 + 1 * s.val = n * 2048 + s.val; rw [(index1 ⟨n, hn⟩).1]; show n * 2048 + 1 * s.val = _; omega
  | ⟨1, _⟩ => show win0_1.index ⟨n, hn⟩ 1 * 1024 + 1 * j.val = j.val; rw [(index1 ⟨n, hn⟩).2]; omega

/-- A point adds its rows' part of the sum. -/
theorem added (a : Vec Ideal S1024x1024 .f32) (n : ℕ) (hn : n < cfg0.N) (hn' : n < 4) (i : Fin 1024) (j : Fin 1024) :
    k0_pay2 a (iblk m c 0 ⟨n, hn⟩) (iblk m c 1 ⟨n, hn⟩) (ix2 i j)
      = a (ix2 i j) + part (term (argH m c) (argD m c) i j) ⟨n, hn'⟩ := by
  rw [add_at]
  refine congrArg (_ + ·) (Finset.sum_congr rfl fun s _ => ?_)
  rw [blk0 m c n hn hn', blk1 m c n hn hn']
  rfl

/-- Points 1 and 2 add their rows, and point 3 adds its rows and scales. -/
theorem step_mid (n : ℕ) (hn : n < cfg0.N) (a : Vec Ideal S1024x1024 .f32) (h : ¬n % 4 = 0 ∧ ¬n % 4 = 3) :
    step2 m c n hn a = k0_pay2 a (iblk m c 0 ⟨n, hn⟩) (iblk m c 1 ⟨n, hn⟩) := by
  unfold step2
  exact if_pos h

theorem step_last (n : ℕ) (hn : n < cfg0.N) (a : Vec Ideal S1024x1024 .f32) (h : n % 4 = 3) :
    step2 m c n hn a = k0_pay3 (k0_pay2 a (iblk m c 0 ⟨n, hn⟩) (iblk m c 1 ⟨n, hn⟩)) := by
  unfold step2
  exact (if_neg fun e => e.2 h).trans (if_pos ⟨by omega, h⟩)

/-- What the array ends holding. -/
theorem left_at (i : Fin 1024) (j : Fin 1024) : G2 m c (ix2 i j) = (∑ r, term (argH m c) (argD m c) i j r) * ((1 / 8 : ℝ) : EReal) := by
  have hi : (i.val / 1024) = 0 := Nat.div_eq_of_lt i.isLt
  have hj : (j.val / 1024) = 0 := Nat.div_eq_of_lt j.isLt
  have hr : run2Of (ix2 i j) = 0 := by
    show 1 * (i.val / 1024 - 0) + 1 * (j.val / 1024 - 0) = 0
    rw [hi, hj]
  have hl : loc2Of (ix2 i j) = ix2 i j := by
    funext a
    apply Fin.ext
    match a with
    | ⟨0, _⟩ => show i.val % 1024 = i.val; exact Nat.mod_eq_of_lt i.isLt
    | ⟨1, _⟩ => show j.val % 1024 = j.val; exact Nat.mod_eq_of_lt j.isLt
  have hN : cfg0.N = 4 := N_0
  unfold G2
  rw [dif_pos (by rw [hr, hN]; decide), hl]
  have e : ∀ (b : ℕ) (h : b + 3 < cfg0.N), b = 0 →
      Pipeline.accAt (reset2 m c) (step2 m c) b 3 h = Pipeline.accAt (reset2 m c) (step2 m c) 0 3 (by rw [hN]; decide) := by
    intro b h hb; subst hb; rfl
  rw [e _ _ (by rw [hr])]
  rw [Pipeline.accAt_succ, Pipeline.accAt_succ, Pipeline.accAt_succ, Pipeline.accAt_zero, step_last m c _ _ _ (by decide),
    step_mid m c (0 + (1 + 1)) _ _ (by decide), step_mid m c (0 + (0 + 1)) _ _ (by decide)]
  unfold reset2
  rw [scale_at, added m c _ 3 _ (by decide), added m c _ 2 _ (by decide), added m c _ 1 _ (by decide), added m c _ 0 _ (by decide), zero_at]
  exact congrArg (· * _) (sum_parts _)

/-- The reference's result. -/
theorem reference_at (h : FVec Ideal S8192x1024 .bf16) (d : FVec Ideal S8192x1024 .bf16) (i : Fin 1024) (j : Fin 1024) :
    transpose S1024x1024 [1, 0] (Host.dotGeneral Cert.Reference2Ideal.dot_S8192x1024_S8192x1024_S1024x1024_0_0_1_1_n_n none (mulf (extf .f32 d Cert.Reference2Ideal.Gen.bitsLt_bf16_f32) (broadcastInDim S8192x1024 ![] Cert.Reference2Ideal.Gen.bcast_S_S8192x1024 (constant Cert.Reference2Ideal.S_ .f32 0x3E000000#32))) (extf .f32 h Cert.Reference2Ideal.Gen.bitsLt_bf16_f32)) Cert.Reference2Ideal.Gen.transposes_S1024x1024_S1024x1024_1_0 (ix2 i j)
      = ∑ r, (d (ix2 r j) * ((1 / 8 : ℝ) : EReal)) * h (ix2 r i) := by
  pointwise [ofBits_eighth]

/-- The factor taken in every term is the factor of the sum. -/
theorem scaled_sum (h : S8192x1024.Idx → EReal) (d : S8192x1024.Idx → EReal) (i j : Fin 1024) :
    (∑ r, term h d i j r) * ((1 / 8 : ℝ) : EReal) = ∑ r, (d (ix2 r j) * ((1 / 8 : ℝ) : EReal)) * h (ix2 r i) := by
  rw [sum_mul_num _ _ (by norm_num)]
  refine Finset.sum_congr rfl fun r _ => ?_
  rw [term, mul_assoc, mul_comm]

end Cert.Kernel2Ideal.Weight

namespace Cert.Proof

open Idealize.ShloMosaic Idealize.ShloMosaic.TcCoe Idealize.SL.Sem

theorem agree_2 : Cert.algebraic_Kernel2Ideal_Reference2Ideal := by
  intro m ρ m' ρ' _ hm
  refine ⟨fun c => Cert.Kernel2Ideal.Value.G2 m c, Cert.Kernel2Ideal.Value.run m ρ, ?_⟩
  refine (θ_run Cert.Reference2Ideal.defs _ _).mono (fun r hr c => ?_) (Cert.Reference2Ideal.Value.run m' ρ')
  obtain ⟨e, ha⟩ := hr c
  refine ⟨e.trans ?_, ha⟩
  obtain ⟨h0, h1⟩ := hm c
  rw [h0, h1]
  refine funext fun (x : Cert.Kernel2Ideal.S1024x1024.Idx) => ?_
  rw [eq_ix2 x]
  exact (Cert.Kernel2Ideal.Weight.reference_at _ _ _ _).trans ((Cert.Kernel2Ideal.Weight.scaled_sum _ _ _ _).symm.trans (Cert.Kernel2Ideal.Weight.left_at m c _ _).symm)

end Cert.Proof
end
-- ==== Proof.Weight3.lean ====
/-
  The gradient of a projection's weight, 1024 by 1024: the kernel adds the products of four blocks of 2048 rows, and
  the reference takes one product of all 8192 rows.
-/
module

public import proofs.«01_k».proof.Defs
public import proofs.«01_k».proof.Proof.RowBlocks
public import proofs.«01_k».proof.Proof.Gen.Kernel3Ideal.Value
public import proofs.«01_k».proof.Proof.Gen.Reference3Ideal.Run
public import Idealize.ShloMosaic.Lib.Pointwise

@[expose] public section

set_option maxRecDepth 8192

noncomputable section

namespace Cert.Kernel3Ideal.Weight

open Idealize.ShloMosaic Idealize.ShloMosaic.TcCoe Idealize.SL.Sem Cert.RowBlocks
open Cert.Kernel3Ideal Cert.Kernel3Ideal.Gen Cert.Kernel3Ideal.Value

/-- The product's terms at entry `(i, j)`, row by row. -/
def term (h : S8192x1024.Idx → EReal) (d : S8192x1024.Idx → EReal) (i : Fin 1024) (j : Fin 1024) (r : Fin 8192) : EReal :=
  h (ix2 r i) * d (ix2 r j)

theorem zero_at (i : Fin 1024) (j : Fin 1024) : k0_pay1 (F := Ideal) (ix2 i j) = 0 := by
  pointwise [k0_pay1]

theorem add_at (a : Vec Ideal S1024x1024 .f32) (h : Vec Ideal S2048x1024 .bf16) (d : Vec Ideal S2048x1024 .bf16) (i : Fin 1024) (j : Fin 1024) :
    k0_pay2 a h d (ix2 i j) = a (ix2 i j) + ∑ s : Fin 2048, h (ix2 s i) * d (ix2 s j) := by
  pointwise [k0_pay2]

theorem index0 (t : Fin cfg0.N) : win0_0.index t 0 = t.val ∧ win0_0.index t 1 = 0 := by
  have h : ∀ t : Fin grid0.N, win0_0.index t 0 = t.val ∧ win0_0.index t 1 = 0 := by decide +kernel
  exact h t

theorem index1 (t : Fin cfg0.N) : win0_1.index t 0 = t.val ∧ win0_1.index t 1 = 0 := by
  have h : ∀ t : Fin grid0.N, win0_1.index t 0 = t.val ∧ win0_1.index t 1 = 0 := by decide +kernel
  exact h t

variable (m : (ℓ : Loc nD τ sig) → Buf (Elt Ideal) ℓ) (c : Dev nD)

/-- The two arguments. -/
abbrev argH : S8192x1024.Idx → EReal := m ((c : Thread nD τ).loc main_arg0)
abbrev argD : S8192x1024.Idx → EReal := m ((c : Thread nD τ).loc main_arg1)

/-- A point's blocks are its 2048 rows of the arguments. -/
theorem blk0 (n : ℕ) (hn : n < cfg0.N) (hn' : n < 4) (s : Fin 2048) (i : Fin 1024) :
    (iblk m c 0 ⟨n, hn⟩ : Vec Ideal S2048x1024 .bf16) (ix2 s i) = argH m c (ix2 (row ⟨n, hn'⟩ s) i) := by
  unfold iblk
  rw [View.read_apply]
  show V m c main_arg0 _ = _
  rw [V_main_arg0]
  refine congrArg (argH m c) (funext fun a => Fin.ext ?_)
  match a with
  | ⟨0, _⟩ => show win0_0.index ⟨n, hn⟩ 0 * 2048 + 1 * s.val = n * 2048 + s.val; rw [(index0 ⟨n, hn⟩).1]; show n * 2048 + 1 * s.val = _; omega
  | ⟨1, _⟩ => show win0_0.index ⟨n, hn⟩ 1 * 1024 + 1 * i.val = i.val; rw [(index0 ⟨n, hn⟩).2]; omega

theorem blk1 (n : ℕ) (hn : n < cfg0.N) (hn' : n < 4) (s : Fin 2048) (j : Fin 1024) :
    (iblk m c 1 ⟨n, hn⟩ : Vec Ideal S2048x1024 .bf16) (ix2 s j) = argD m c (ix2 (row ⟨n, hn'⟩ s) j) := by
  unfold iblk
  rw [View.read_apply]
  show V m c main_arg1 _ = _
  rw [V_main_arg1]
  refine congrArg (argD m c) (funext fun a => Fin.ext ?_)
  match a with
  | ⟨0, _⟩ => show win0_1.index ⟨n, hn⟩ 0 * 2048 + 1 * s.val = n * 2048 + s.val; rw [(index1 ⟨n, hn⟩).1]; show n * 2048 + 1 * s.val = _; omega
  | ⟨1, _⟩ => show win0_1.index ⟨n, hn⟩ 1 * 1024 + 1 * j.val = j.val; rw [(index1 ⟨n, hn⟩).2]; omega

/-- A point adds its rows' part of the sum. -/
theorem added (a : Vec Ideal S1024x1024 .f32) (n : ℕ) (hn : n < cfg0.N) (hn' : n < 4) (i : Fin 1024) (j : Fin 1024) :
    k0_pay2 a (iblk m c 0 ⟨n, hn⟩) (iblk m c 1 ⟨n, hn⟩) (ix2 i j)
      = a (ix2 i j) + part (term (argH m c) (argD m c) i j) ⟨n, hn'⟩ := by
  rw [add_at]
  refine congrArg (_ + ·) (Finset.sum_congr rfl fun s _ => ?_)
  rw [blk0 m c n hn hn', blk1 m c n hn hn']
  rfl

/-- What the array ends holding. -/
theorem left_at (i : Fin 1024) (j : Fin 1024) : G2 m c (ix2 i j) = ∑ r, term (argH m c) (argD m c) i j r := by
  have hi : (i.val / 1024) = 0 := Nat.div_eq_of_lt i.isLt
  have hj : (j.val / 1024) = 0 := Nat.div_eq_of_lt j.isLt
  have hr : run2Of (ix2 i j) = 0 := by
    show 1 * (i.val / 1024 - 0) + 1 * (j.val / 1024 - 0) = 0
    rw [hi, hj]
  have hl : loc2Of (ix2 i j) = ix2 i j := by
    funext a
    apply Fin.ext
    match a with
    | ⟨0, _⟩ => show i.val % 1024 = i.val; exact Nat.mod_eq_of_lt i.isLt
    | ⟨1, _⟩ => show j.val % 1024 = j.val; exact Nat.mod_eq_of_lt j.isLt
  have hN : cfg0.N = 4 := N_0
  unfold G2
  rw [dif_pos (by rw [hr, hN]; decide), hl]
  have e : ∀ (b : ℕ) (h : b + 3 < cfg0.N), b = 0 →
      Pipeline.accAt (reset2 m c) (step2 m c) b 3 h = Pipeline.accAt (reset2 m c) (step2 m c) 0 3 (by rw [hN]; decide) := by
    intro b h hb; subst hb; rfl
  rw [e _ _ (by rw [hr])]
  rw [Pipeline.accAt_succ, Pipeline.accAt_succ, Pipeline.accAt_succ, Pipeline.accAt_zero]
  unfold reset2 step2
  rw [added m c _ 3 _ (by decide), added m c _ 2 _ (by decide), added m c _ 1 _ (by decide), added m c _ 0 _ (by decide), zero_at]
  exact sum_parts _

/-- The reference's result. -/
theorem reference_at (h : FVec Ideal S8192x1024 .bf16) (d : FVec Ideal S8192x1024 .bf16) (i : Fin 1024) (j : Fin 1024) :
    transpose S1024x1024 [1, 0] (Host.dotGeneral Cert.Reference3Ideal.dot_S8192x1024_S8192x1024_S1024x1024_0_0_1_1_n_n none (extf .f32 d Cert.Reference3Ideal.Gen.bitsLt_bf16_f32) (extf .f32 h Cert.Reference3Ideal.Gen.bitsLt_bf16_f32)) Cert.Reference3Ideal.Gen.transposes_S1024x1024_S1024x1024_1_0 (ix2 i j)
      = ∑ r, d (ix2 r j) * h (ix2 r i) := by
  pointwise []

end Cert.Kernel3Ideal.Weight

namespace Cert.Proof

open Idealize.ShloMosaic Idealize.ShloMosaic.TcCoe Idealize.SL.Sem

theorem agree_3 : Cert.algebraic_Kernel3Ideal_Reference3Ideal := by
  intro m ρ m' ρ' _ hm
  refine ⟨fun c => Cert.Kernel3Ideal.Value.G2 m c, Cert.Kernel3Ideal.Value.run m ρ, ?_⟩
  refine (θ_run Cert.Reference3Ideal.defs _ _).mono (fun r hr c => ?_) (Cert.Reference3Ideal.Value.run m' ρ')
  obtain ⟨e, ha⟩ := hr c
  refine ⟨e.trans ?_, ha⟩
  obtain ⟨h0, h1⟩ := hm c
  rw [h0, h1]
  refine funext fun (x : Cert.Kernel3Ideal.S1024x1024.Idx) => ?_
  rw [eq_ix2 x]
  exact (Cert.Kernel3Ideal.Weight.reference_at _ _ _ _).trans ((Finset.sum_congr rfl fun r _ => mul_comm _ _).trans (Cert.Kernel3Ideal.Weight.left_at m c _ _).symm)

end Cert.Proof
end
-- ==== Proof.Weight4.lean ====
/-
  The gradient of the RG-LRU layer's input projection's weight. The result is kept in eight shards of 384 columns; each of the four grid points
  adds to every shard its columns of the product of 2048 rows, and the reference takes one product of all 8192 rows.
-/
module

public import proofs.«01_k».proof.Defs
public import proofs.«01_k».proof.Proof.RowBlocks
public import proofs.«01_k».proof.Proof.Gen.Kernel4Ideal.Value
public import proofs.«01_k».proof.Proof.Gen.Reference4Ideal.Run
public import Idealize.ShloMosaic.Lib.Pointwise
public import Idealize.ShloMosaic.Lib.Pipeline.ReadBack

@[expose] public section

set_option maxRecDepth 16384

noncomputable section

namespace Cert.Kernel4Ideal.Weight

open Idealize.ShloMosaic Idealize.ShloMosaic.TcCoe Idealize.SL.Sem Cert.RowBlocks
open Cert.Kernel4Ideal Cert.Kernel4Ideal.Gen Cert.Kernel4Ideal.Value

/-- Column `j` of shard `k`. -/
def col (k : Fin 8) (j : Fin 384) : Fin 3072 := ⟨k.val * 384 + j.val, by omega⟩

/-- What a point leaves over the running contents `a`. -/
def step (a : Vec Ideal S8x1024x384 .f32) (x0 : Vec Ideal S2048x1024 .bf16) (x1 : Vec Ideal S2048x3072 .bf16) : Vec Ideal S8x1024x384 .f32 := fun y =>
  (a y + k0_pay3 x0 x1 (ix2 (y 1 : Fin 1024) (col (y 0 : Fin 8) (y 2 : Fin 384))) : EReal)

/-- A shard's columns of the product, added to its running part. -/
theorem part_at (off : ℕ) (h) (v : Vec Ideal S1x1024x384 .f32) (p : FVec Ideal S1024x3072 .f32) (q : Fin 1) (i : Fin 1024) (j : Fin 384) (z : Fin 3072)
    (hz : off + j.val = z.val) :
    (shapeCast S1x1024x384 (addf (shapeCast S1024x384 v shapeCasts_S1x1024x384_S1024x384) (extractStridedSlice S1024x384 ![0, off] p h))
      shapeCasts_S1024x384_S1x1024x384) (ix3 q i j) = (v (ix3 q i j) + p (ix2 i z) : EReal) := by
  obtain ⟨z, hz'⟩ := z
  dsimp only at hz
  subst hz
  obtain rfl : q = 0 := Subsingleton.elim _ _
  pointwise []

/-- Shard `k` of the result's buffer. -/
abbrev shard (k : ℕ) (inb : ∀ a, (![k, 0, 0] : Fin 3 → ℕ) a + S1x1024x384.size a ≤ S8x1024x384.size a) : Rect S8x1024x384 :=
  Rect.unit (s := S8x1024x384) ![k, 0, 0] S1x1024x384.size inb

theorem emb_at (k : ℕ) (hk : k < 8) (inb) (q : Fin 1) (i : Fin 1024) (j : Fin 384) : (shard k inb).emb (ix3 q i j) = ix3 (⟨k, hk⟩ : Fin 8) i j := by
  funext a
  apply Fin.ext
  rw [Rect.emb_apply]
  match a with
  | ⟨0, _⟩ => show k + 1 * q.val = k; omega
  | ⟨1, _⟩ => show 0 + 1 * i.val = i.val; omega
  | ⟨2, _⟩ => show 0 + 1 * j.val = j.val; omega

theorem mem_shard (k : ℕ) (inb) (y : S8x1024x384.Idx) (h : y ∈ (shard k inb).set) : (y 0).val = k := by
  have h0 : k ≤ (y 0).val ∧ (y 0).val < k + 1 := Rect.mem_set_unit.mp h 0
  omega

theorem shard_mem (k : ℕ) (inb) (y : S8x1024x384.Idx) (h : (y 0).val = k) : y ∈ (shard k inb).set := by
  refine Rect.mem_set_unit.mpr fun a => ?_
  match a with
  | ⟨0, _⟩ => show k ≤ (y 0).val ∧ (y 0).val < k + 1; omega
  | ⟨1, _⟩ => show 0 ≤ (y 1).val ∧ (y 1).val < 0 + 1024; have h1 : (y 1).val < 1024 := (y 1).isLt; exact ⟨Nat.zero_le _, by omega⟩
  | ⟨2, _⟩ => show 0 ≤ (y 2).val ∧ (y 2).val < 0 + 384; have h2 : (y 2).val < 384 := (y 2).isLt; exact ⟨Nat.zero_le _, by omega⟩

/-- The stores leave `f` in the first `k` shards, -/
def Done (f : Vec Ideal S8x1024x384 .f32) (k : ℕ) (L : List (View.Piece (Elt Ideal) S8x1024x384 .f32)) : Prop :=
  ∀ y : S8x1024x384.Idx, (y 0).val < k → View.canon L y = f y

/-- and `a` in the others. -/
def Rest (a : Vec Ideal S8x1024x384 .f32) (k : ℕ) (L : List (View.Piece (Elt Ideal) S8x1024x384 .f32)) : Prop :=
  ∀ y : S8x1024x384.Idx, k ≤ (y 0).val → View.canon L y = a y

/-- An entry outside the last store. -/
theorem canon_off (r : Rect S8x1024x384) (w : r.shape.Idx → Elt Ideal .f32) (L : List (View.Piece (Elt Ideal) S8x1024x384 .f32)) (y : S8x1024x384.Idx) (h : y ∉ r.set) :
    View.canon (⟨r, w⟩ :: L) y = View.canon L y :=
  View.canon_cons_of_not_mem ⟨r, w⟩ L h

theorem done_succ {f : Vec Ideal S8x1024x384 .f32} {k : ℕ} {L : List (View.Piece (Elt Ideal) S8x1024x384 .f32)} (h : Done f k L) (hk : k < 8) (inb)
    (w : S1x1024x384.Idx → EReal) (hw : ∀ q i j, w (ix3 q i j) = f (ix3 (⟨k, hk⟩ : Fin 8) i j)) : Done f (k + 1) (⟨shard k inb, w⟩ :: L) := by
  have key : ∀ x : S1x1024x384.Idx, w x = f ((shard k inb).emb x) := by
    intro x
    obtain ⟨q, i, j, rfl⟩ : ∃ (q : Fin 1) (i : Fin 1024) (j : Fin 384), x = ix3 q i j := ⟨_, _, _, eq_ix3 x⟩
    exact (hw q i j).trans (congrArg f (emb_at k hk inb q i j).symm)
  intro y hy
  by_cases e : (y 0).val = k
  · obtain ⟨x, rfl⟩ := (shard k inb).exists_idx_of_mem (shard_mem k inb y e)
    rw [show (shard k inb).idx x = (shard k inb).emb x from rfl, View.canon_cons_emb]
    exact key x
  · have hm : y ∉ (shard k inb).set := fun hm => e (mem_shard k inb y hm)
    exact (canon_off (shard k inb) w L y hm).trans (h y (lt_of_le_of_ne (Nat.le_of_lt_succ hy) e))

theorem rest_succ {a : Vec Ideal S8x1024x384 .f32} {k : ℕ} {L : List (View.Piece (Elt Ideal) S8x1024x384 .f32)} (h : Rest a k L) (inb) (w : S1x1024x384.Idx → EReal) :
    Rest a (k + 1) (⟨shard k inb, w⟩ :: L) := by
  intro y hy
  have hm : y ∉ (shard k inb).set := by
    intro hm
    rw [mem_shard k inb y hm] at hy
    exact Nat.not_succ_le_self k hy
  exact (canon_off (shard k inb) w L y hm).trans (h y (Nat.le_of_succ_le hy))

/-- A shard read before it is stored. -/
theorem rest_read {a : Vec Ideal S8x1024x384 .f32} {k : ℕ} {L : List (View.Piece (Elt Ideal) S8x1024x384 .f32)} (h : Rest a k L) (hk : k < 8) (inb)
    (v : View sig .tc .vmem S8x1024x384 .f32) (q : Fin 1) (i : Fin 1024) (j : Fin 384) :
    v.readCov L (shard k inb).toLoadRect (ix3 q i j) = a (ix3 (⟨k, hk⟩ : Fin 8) i j) := by
  rw [View.readCov_eq_canon']
  show View.canon L ((shard k inb).emb (ix3 q i j)) = _
  rw [emb_at k hk inb]
  exact h _ (le_refl k)

/-- Storing a shard's columns of the product added to what was read of it. -/
theorem both_succ {a : Vec Ideal S8x1024x384 .f32} {x0 : Vec Ideal S2048x1024 .bf16} {x1 : Vec Ideal S2048x3072 .bf16} {k : ℕ}
    {L : List (View.Piece (Elt Ideal) S8x1024x384 .f32)} (h : Done (step a x0 x1) k L ∧ Rest a k L) (hk : k < 8) (inb) (v : View sig .tc .vmem S8x1024x384 .f32)
    (w : S1x1024x384.Idx → EReal)
    (hw : ∀ q i j, w (ix3 q i j) = (v.readCov L (shard k inb).toLoadRect (ix3 q i j) + k0_pay3 x0 x1 (ix2 i (col ⟨k, hk⟩ j)) : EReal)) :
    Done (step a x0 x1) (k + 1) (⟨shard k inb, w⟩ :: L) ∧ Rest a (k + 1) (⟨shard k inb, w⟩ :: L) := by
  refine ⟨done_succ h.1 hk inb w fun q i j => ?_, rest_succ h.2 inb w⟩
  rw [hw, rest_read h.2 hk inb]
  rfl

section Point

variable (c : Dev nD) (i : grid0.Coords) (arg1 : Memref sig .tc .vmem S2048x1024 .bf16) (harg1 : arg1.IsWhole) (arg2 : Memref sig .tc .vmem S2048x3072 .bf16) (harg2 : arg2.IsWhole)
  (arg3 : Memref sig .tc .vmem S8x1024x384 .f32) (harg3 : arg3.IsWhole) (x0 : Vec Ideal S2048x1024 .bf16) (x1 : Vec Ideal S2048x3072 .bf16) (xo : Vec Ideal S8x1024x384 .f32)

theorem hz2 : (![0, 0] : Fin 2 → ℕ) = fun _ => 0 := by
  funext a
  match a with
  | ⟨0, _⟩ => rfl
  | ⟨1, _⟩ => rfl

theorem hz3 : (![0, 0, 0] : Fin 3 → ℕ) = fun _ => 0 := by
  funext a
  match a with
  | ⟨0, _⟩ => rfl
  | ⟨1, _⟩ => rfl
  | ⟨2, _⟩ => rfl

/-- The blocks as the body loads them. -/
theorem load1 : View.readAt (Elt Ideal) arg1.view (Rect.unit (s := S2048x1024) ![0, 0] S2048x1024.size inb_S2048x1024_S2048x1024_0_0).toLoadRect (harg1.unread x0) = x0 := by
  rw [View.readAt_eq_ld, harg1.read_unread, View.ld_unit_zero (S := S2048x1024) hz2]

theorem load2 : View.readAt (Elt Ideal) arg2.view (Rect.unit (s := S2048x3072) ![0, 0] S2048x3072.size inb_S2048x3072_S2048x3072_0_0).toLoadRect (harg2.unread x1) = x1 := by
  rw [View.readAt_eq_ld, harg2.read_unread, View.ld_unit_zero (S := S2048x3072) hz2]

/-- A shard of the running contents, as a later point loads it. -/
theorem load3 (k : ℕ) (hk : k < 8) (inb) (q : Fin 1) (i : Fin 1024) (j : Fin 384) :
    View.readAt (Elt Ideal) arg3.view (shard k inb).toLoadRect (harg3.unread xo) (ix3 q i j) = xo (ix3 (⟨k, hk⟩ : Fin 8) i j) := by
  rw [View.readAt_eq_ld, harg3.read_unread]
  exact congrArg xo (emb_at k hk inb q i j)

theorem product_A : kernelRun0_A.sl.r c arg1 harg1 arg2 harg2 x0 x1 = k0_pay3 x0 x1 := by
  unfold kernelRun0_A.sl.r
  rw [load1, load2]

theorem product_B : kernelRun0_B.sl.r c arg1 harg1 arg2 harg2 x0 x1 = k0_pay3 x0 x1 := by
  unfold kernelRun0_B.sl.r
  rw [load1, load2]

theorem out_A (hc0 : cond0_0 i) : out0_A_2 c i arg1 harg1 arg2 harg2 arg3 harg3 hc0 x0 x1 = step (k0_pay2 (F := Ideal)) x0 x1 := by
  have h1 : Done (step (k0_pay2 (F := Ideal)) x0 x1) 0 (kernelRun0_A.sl.H2_1 (F := Ideal)) ∧ Rest (k0_pay2 (F := Ideal)) 0 (kernelRun0_A.sl.H2_1 (F := Ideal)) := by
    refine ⟨fun _ h => absurd h (Nat.not_lt_zero _), fun y _ => ?_⟩
    unfold kernelRun0_A.sl.H2_1
    rw [View.canon_cons_unit_zero (S := S8x1024x384) hz3]
  have add : ∀ {k : ℕ} {L : List (View.Piece (Elt Ideal) S8x1024x384 .f32)} (h : Done (step (k0_pay2 (F := Ideal)) x0 x1) k L ∧ Rest (k0_pay2 (F := Ideal)) k L) (hk : k < 8)
      (off : ℕ) (ho : off = k * 384) (inb) (hs),
      let w : S1x1024x384.Idx → EReal := shapeCast S1x1024x384 (addf (shapeCast S1024x384 (arg3.view.readCov L (shard k inb).toLoadRect) shapeCasts_S1x1024x384_S1024x384)
        (extractStridedSlice S1024x384 ![0, off] (k0_pay3 x0 x1) hs)) shapeCasts_S1024x384_S1x1024x384
      Done (step (k0_pay2 (F := Ideal)) x0 x1) (k + 1) (⟨shard k inb, w⟩ :: L) ∧ Rest (k0_pay2 (F := Ideal)) (k + 1) (⟨shard k inb, w⟩ :: L) :=
    fun {k L} h hk off ho inb hs => both_succ h hk inb arg3.view _ fun q i j => part_at off hs _ _ q i j (col ⟨k, hk⟩ j) (by rw [ho]; rfl)
  have h2 : Done (step (k0_pay2 (F := Ideal)) x0 x1) 1 (kernelRun0_A.sl.H2_2 c arg1 harg1 arg2 harg2 arg3 x0 x1) ∧ Rest (k0_pay2 (F := Ideal)) 1 (kernelRun0_A.sl.H2_2 c arg1 harg1 arg2 harg2 arg3 x0 x1) := by
    unfold kernelRun0_A.sl.H2_2
    rw [load1, load2]
    exact add h1 (by decide) 0 rfl _ _
  have h3 : Done (step (k0_pay2 (F := Ideal)) x0 x1) 2 (kernelRun0_A.sl.H2_3 c arg1 harg1 arg2 harg2 arg3 x0 x1) ∧ Rest (k0_pay2 (F := Ideal)) 2 (kernelRun0_A.sl.H2_3 c arg1 harg1 arg2 harg2 arg3 x0 x1) := by
    unfold kernelRun0_A.sl.H2_3
    rw [load1, load2]
    exact add h2 (by decide) 384 rfl _ _
  have h4 : Done (step (k0_pay2 (F := Ideal)) x0 x1) 3 (kernelRun0_A.sl.H2_4 c arg1 harg1 arg2 harg2 arg3 x0 x1) ∧ Rest (k0_pay2 (F := Ideal)) 3 (kernelRun0_A.sl.H2_4 c arg1 harg1 arg2 harg2 arg3 x0 x1) := by
    unfold kernelRun0_A.sl.H2_4
    rw [load1, load2]
    exact add h3 (by decide) 768 rfl _ _
  have h5 : Done (step (k0_pay2 (F := Ideal)) x0 x1) 4 (kernelRun0_A.sl.H2_5 c arg1 harg1 arg2 harg2 arg3 x0 x1) ∧ Rest (k0_pay2 (F := Ideal)) 4 (kernelRun0_A.sl.H2_5 c arg1 harg1 arg2 harg2 arg3 x0 x1) := by
    unfold kernelRun0_A.sl.H2_5
    rw [product_A]
    exact add h4 (by decide) 1152 rfl _ _
  have h6 : Done (step (k0_pay2 (F := Ideal)) x0 x1) 5 (kernelRun0_A.sl.H2_6 c arg1 harg1 arg2 harg2 arg3 x0 x1) ∧ Rest (k0_pay2 (F := Ideal)) 5 (kernelRun0_A.sl.H2_6 c arg1 harg1 arg2 harg2 arg3 x0 x1) := by
    unfold kernelRun0_A.sl.H2_6
    rw [product_A]
    exact add h5 (by decide) 1536 rfl _ _
  have h7 : Done (step (k0_pay2 (F := Ideal)) x0 x1) 6 (kernelRun0_A.sl.H2_7 c arg1 harg1 arg2 harg2 arg3 x0 x1) ∧ Rest (k0_pay2 (F := Ideal)) 6 (kernelRun0_A.sl.H2_7 c arg1 harg1 arg2 harg2 arg3 x0 x1) := by
    unfold kernelRun0_A.sl.H2_7
    rw [product_A]
    exact add h6 (by decide) 1920 rfl _ _
  have h8 : Done (step (k0_pay2 (F := Ideal)) x0 x1) 7 (kernelRun0_A.sl.H2_8 c arg1 harg1 arg2 harg2 arg3 x0 x1) ∧ Rest (k0_pay2 (F := Ideal)) 7 (kernelRun0_A.sl.H2_8 c arg1 harg1 arg2 harg2 arg3 x0 x1) := by
    unfold kernelRun0_A.sl.H2_8
    rw [product_A]
    exact add h7 (by decide) 2304 rfl _ _
  unfold out0_A_2
  rw [View.read_writes_eq_canon _ _ _ (cover0_A_2 c i arg1 harg1 arg2 harg2 arg3 harg3 hc0 x0 x1)]
  unfold kernelRun0_A
  dsimp only
  unfold kernelRun0_A.sl.r_1
  rw [product_A]
  exact funext fun y => (add h8 (by decide) 2688 rfl _ _).1 y (y 0).isLt

/-- A later point's shard. -/
theorem stored_B (k : ℕ) (hk : k < 8) (off : ℕ) (ho : off = k * 384) (inb) (hs) (q : Fin 1) (i : Fin 1024) (j : Fin 384) :
    (shapeCast S1x1024x384 (addf (shapeCast S1024x384 (View.readAt (Elt Ideal) arg3.view (shard k inb).toLoadRect (harg3.unread xo)) shapeCasts_S1x1024x384_S1024x384)
      (extractStridedSlice S1024x384 ![0, off] (k0_pay3 x0 x1) hs)) shapeCasts_S1024x384_S1x1024x384) (ix3 q i j) = step xo x0 x1 (ix3 (⟨k, hk⟩ : Fin 8) i j) :=
  (part_at off hs _ _ q i j (col ⟨k, hk⟩ j) (by rw [ho]; rfl)).trans (congrArg (· + k0_pay3 x0 x1 (ix2 i (col ⟨k, hk⟩ j))) (load3 arg3 harg3 xo k hk inb q i j))

theorem out_B (hc0 : ¬cond0_0 i) : out0_B_2 c i arg1 harg1 arg2 harg2 arg3 harg3 hc0 x0 x1 xo = step xo x0 x1 := by
  unfold out0_B_2
  rw [View.read_writes_eq_canon _ _ _ (cover0_B_2 c i arg1 harg1 arg2 harg2 arg3 harg3 hc0 x0 x1 xo)]
  unfold kernelRun0_B
  dsimp only
  rw [load1, load2, product_B]
  refine funext fun y => ?_
  refine done_succ (done_succ (done_succ (done_succ (done_succ (done_succ (done_succ (done_succ (f := step xo x0 x1) (k := 0) (L := [])
    (fun _ h => absurd h (Nat.not_lt_zero _)) (by decide) _ _ ?_) (by decide) _ _ ?_) (by decide) _ _ ?_) (by decide) _ _ ?_) (by decide) _ _ ?_) (by decide) _ _ ?_)
    (by decide) _ _ ?_) (by decide) _ _ ?_ y (y 0).isLt
  · exact stored_B arg3 harg3 x0 x1 xo 0 (by decide) 0 rfl _ _
  · exact stored_B arg3 harg3 x0 x1 xo 1 (by decide) 384 rfl _ _
  · exact stored_B arg3 harg3 x0 x1 xo 2 (by decide) 768 rfl _ _
  · exact stored_B arg3 harg3 x0 x1 xo 3 (by decide) 1152 rfl _ _
  · exact stored_B arg3 harg3 x0 x1 xo 4 (by decide) 1536 rfl _ _
  · exact stored_B arg3 harg3 x0 x1 xo 5 (by decide) 1920 rfl _ _
  · exact stored_B arg3 harg3 x0 x1 xo 6 (by decide) 2304 rfl _ _
  · unfold kernelRun0_B.sl.r_1
    rw [product_B]
    exact stored_B arg3 harg3 x0 x1 xo 7 (by decide) 2688 rfl _ _

end Point

/-- The product's terms at entry `(i, z)`, row by row. -/
def term (h : S8192x1024.Idx → EReal) (d : S8192x3072.Idx → EReal) (i : Fin 1024) (z : Fin 3072) (r : Fin 8192) : EReal :=
  h (ix2 r i) * d (ix2 r z)

theorem product_at (h : Vec Ideal S2048x1024 .bf16) (d : Vec Ideal S2048x3072 .bf16) (i : Fin 1024) (z : Fin 3072) :
    k0_pay3 h d (ix2 i z) = ∑ s : Fin 2048, h (ix2 s i) * d (ix2 s z) := by
  pointwise [k0_pay3]

theorem zero_at (k : Fin 8) (i : Fin 1024) (j : Fin 384) : k0_pay2 (F := Ideal) (ix3 k i j) = 0 := by
  pointwise [k0_pay2]

theorem index0 (t : Fin cfg0.N) : win0_0.index t 0 = t.val ∧ win0_0.index t 1 = 0 := by
  have h : ∀ t : Fin grid0.N, win0_0.index t 0 = t.val ∧ win0_0.index t 1 = 0 := by decide +kernel
  exact h t

theorem index1 (t : Fin cfg0.N) : win0_1.index t 0 = t.val ∧ win0_1.index t 1 = 0 := by
  have h : ∀ t : Fin grid0.N, win0_1.index t 0 = t.val ∧ win0_1.index t 1 = 0 := by decide +kernel
  exact h t

variable (m : (ℓ : Loc nD τ sig) → Buf (Elt Ideal) ℓ) (c : Dev nD)

/-- The two arguments. -/
abbrev argH : S8192x1024.Idx → EReal := m ((c : Thread nD τ).loc main_arg0)
abbrev argD : S8192x3072.Idx → EReal := m ((c : Thread nD τ).loc main_arg1)

/-- A point's blocks are its 2048 rows of the arguments. -/
theorem blk0 (n : ℕ) (hn : n < cfg0.N) (hn' : n < 4) (s : Fin 2048) (i : Fin 1024) :
    (iblk m c 0 ⟨n, hn⟩ : Vec Ideal S2048x1024 .bf16) (ix2 s i) = argH m c (ix2 (row ⟨n, hn'⟩ s) i) := by
  unfold iblk
  rw [View.read_apply]
  show V m c main_arg0 _ = _
  rw [V_main_arg0]
  refine congrArg (argH m c) (funext fun a => Fin.ext ?_)
  match a with
  | ⟨0, _⟩ => show win0_0.index ⟨n, hn⟩ 0 * 2048 + 1 * s.val = n * 2048 + s.val; rw [(index0 ⟨n, hn⟩).1]; show n * 2048 + 1 * s.val = _; omega
  | ⟨1, _⟩ => show win0_0.index ⟨n, hn⟩ 1 * 1024 + 1 * i.val = i.val; rw [(index0 ⟨n, hn⟩).2]; omega

theorem blk1 (n : ℕ) (hn : n < cfg0.N) (hn' : n < 4) (s : Fin 2048) (j : Fin 3072) :
    (iblk m c 1 ⟨n, hn⟩ : Vec Ideal S2048x3072 .bf16) (ix2 s j) = argD m c (ix2 (row ⟨n, hn'⟩ s) j) := by
  unfold iblk
  rw [View.read_apply]
  show V m c main_arg1 _ = _
  rw [V_main_arg1]
  refine congrArg (argD m c) (funext fun a => Fin.ext ?_)
  match a with
  | ⟨0, _⟩ => show win0_1.index ⟨n, hn⟩ 0 * 2048 + 1 * s.val = n * 2048 + s.val; rw [(index1 ⟨n, hn⟩).1]; show n * 2048 + 1 * s.val = _; omega
  | ⟨1, _⟩ => show win0_1.index ⟨n, hn⟩ 1 * 3072 + 1 * j.val = j.val; rw [(index1 ⟨n, hn⟩).2]; omega

/-- A point adds its rows' part of the sum. -/
theorem added (a : Vec Ideal S8x1024x384 .f32) (n : ℕ) (hn : n < cfg0.N) (hn' : n < 4) (k : Fin 8) (i : Fin 1024) (j : Fin 384) :
    step a (iblk m c 0 ⟨n, hn⟩) (iblk m c 1 ⟨n, hn⟩) (ix3 k i j) = a (ix3 k i j) + part (term (argH m c) (argD m c) i (col k j)) ⟨n, hn'⟩ := by
  show (a (ix3 k i j) + k0_pay3 (F := Ideal) (iblk m c 0 ⟨n, hn⟩) (iblk m c 1 ⟨n, hn⟩) (ix2 i (col k j)) : EReal) = _
  rw [product_at]
  refine congrArg (_ + ·) (Finset.sum_congr rfl fun s _ => ?_)
  rw [blk0 m c n hn hn', blk1 m c n hn hn']
  rfl

theorem outs_zero (h : 0 < cfg0.N) : outsAt0 m c 0 h = step (k0_pay2 (F := Ideal)) (iblk m c 0 ⟨0, h⟩) (iblk m c 1 ⟨0, h⟩) :=
  (outsAt0_A m c ⟨0, h⟩ rfl).trans (out_A ..)

theorem outs_succ (n : ℕ) (h : n + 1 < cfg0.N) (hn : n + 1 < 4) :
    outsAt0 m c (n + 1) h = step (outsAt0 m c n (Nat.lt_of_succ_lt h)) (iblk m c 0 ⟨n + 1, h⟩) (iblk m c 1 ⟨n + 1, h⟩) :=
  (outsAt0_B m c ⟨n + 1, h⟩ (by dsimp only; omega)).trans (out_B ..)

theorem last_lt : 3 < cfg0.N := by
  rw [show cfg0.N = 4 from N_0]
  decide

/-- What the last point leaves. -/
theorem left_at (k : Fin 8) (i : Fin 1024) (j : Fin 384) :
    outsAt0 m c 3 last_lt (ix3 k i j) = ∑ r, term (argH m c) (argD m c) i (col k j) r := by
  rw [outs_succ m c 2 _ (by decide), added m c _ 3 _ (by decide), outs_succ m c 1 _ (by decide), added m c _ 2 _ (by decide),
    outs_succ m c 0 _ (by decide), added m c _ 1 _ (by decide), outs_zero, added m c _ 0 _ (by decide), zero_at]
  exact sum_parts _

theorem index2 (t : Fin cfg0.N) : win0_2.index t 0 = 0 ∧ win0_2.index t 1 = 0 ∧ win0_2.index t 2 = 0 := by
  have h : ∀ t : Fin grid0.N, win0_2.index t 0 = 0 ∧ win0_2.index t 1 = 0 ∧ win0_2.index t 2 = 0 := by decide +kernel
  exact h t

/-- What the last point leaves, as the result's contents. -/
def result : Buf (Elt Ideal) ((c : Thread nD τ).loc main_v0) := outsAt0 m c 3 last_lt

theorem outs_last (t : Fin cfg0.N) (ht : t = ⟨3, last_lt⟩) : outsAt0 m c t.val t.isLt = result m c := by
  subst ht
  rfl

/-- A block is the whole array. -/
theorem block_whole (t : Fin cfg0.N) (X : Vec Ideal S8x1024x384 .f32) :
    (cfg0.win 2).cut (grid0.coords t) X = ((cfg0.win 2).blk t).view.read (Elt Ideal) X := by
  funext y
  show X ((cfg0.win 2).xinj (grid0.coords t) y) = X (((cfg0.win 2).blk t).view.emb y)
  refine congrArg X (funext fun a => Fin.ext ?_)
  obtain ⟨e0, e1, e2⟩ := index2 t
  match a with
  | ⟨0, _⟩ => show (y 0).val = win0_2.index t 0 * 8 + 1 * (y 0).val; rw [e0, Nat.zero_mul, Nat.zero_add, Nat.one_mul]
  | ⟨1, _⟩ => show (y 1).val = win0_2.index t 1 * 1024 + 1 * (y 1).val; rw [e1, Nat.zero_mul, Nat.zero_add, Nat.one_mul]
  | ⟨2, _⟩ => show (y 2).val = win0_2.index t 2 * 384 + 1 * (y 2).val; rw [e2, Nat.zero_mul, Nat.zero_add, Nat.one_mul]

/-- Only the last point writes the result back. -/
theorem final : (dats m 0 c).arrAt 2 cfg0.N = result m c := by
  refine (dats m 0 c).arrAt_eq_of_cover 2 _ (fun t hf => ?_) (fun y => ⟨⟨3, last_lt⟩, (flush0_2 ⟨3, last_lt⟩).mpr rfl, ?_⟩)
  · have hm : t.val % 4 = 3 := (flush0_2 t).mp hf
    have hN : t.val < 4 := lt_of_lt_of_eq t.isLt N_0
    rw [flushed2, outs_last m c t (Fin.ext (show t.val = 3 by omega))]
    exact block_whole t _
  · show y ∈ ((View.whole main_v0).slice (win0_2.rect ⟨3, last_lt⟩)).set
    rw [View.set_slice_whole, Rect.mem_set_unit]
    obtain ⟨e0, e1, e2⟩ := index2 ⟨3, last_lt⟩
    have h0 : (y 0).val < 8 := (y 0).isLt
    have h1 : (y 1).val < 1024 := (y 1).isLt
    have h2 : (y 2).val < 384 := (y 2).isLt
    intro a
    match a with
    | ⟨0, _⟩ => show win0_2.index ⟨3, last_lt⟩ 0 * 8 ≤ (y 0).val ∧ (y 0).val < win0_2.index ⟨3, last_lt⟩ 0 * 8 + 8; rw [e0]; omega
    | ⟨1, _⟩ => show win0_2.index ⟨3, last_lt⟩ 1 * 1024 ≤ (y 1).val ∧ (y 1).val < win0_2.index ⟨3, last_lt⟩ 1 * 1024 + 1024; rw [e1]; omega
    | ⟨2, _⟩ => show win0_2.index ⟨3, last_lt⟩ 2 * 384 ≤ (y 2).val ∧ (y 2).val < win0_2.index ⟨3, last_lt⟩ 2 * 384 + 384; rw [e2]; omega

/-- The reference's result. -/
theorem reference_at (h : FVec Ideal S8192x1024 .bf16) (d : FVec Ideal S8192x3072 .bf16) (k : Fin 8) (i : Fin 1024) (j : Fin 384) :
    transpose Cert.Reference4Ideal.S8x1024x384 [1, 0, 2] (shapeCast Cert.Reference4Ideal.S1024x8x384 (transpose Cert.Reference4Ideal.S1024x3072 [1, 0] (Host.dotGeneral Cert.Reference4Ideal.dot_S8192x3072_S8192x1024_S3072x1024_0_0_1_1_n_n none (extf .f32 d Cert.Reference4Ideal.Gen.bitsLt_bf16_f32) (extf .f32 h Cert.Reference4Ideal.Gen.bitsLt_bf16_f32)) Cert.Reference4Ideal.Gen.transposes_S3072x1024_S1024x3072_1_0) Cert.Reference4Ideal.Gen.shapeCasts_S1024x3072_S1024x8x384) Cert.Reference4Ideal.Gen.transposes_S1024x8x384_S8x1024x384_1_0_2 (ix3 k i j)
      = ∑ r, d (ix2 r (col k j)) * h (ix2 r i) := by
  pointwise [col]

end Cert.Kernel4Ideal.Weight

namespace Cert.Proof

open Idealize.ShloMosaic Idealize.ShloMosaic.TcCoe Idealize.SL.Sem

theorem agree_4 : Cert.algebraic_Kernel4Ideal_Reference4Ideal := by
  intro m ρ m' ρ' _ hm
  refine ⟨fun c => Cert.Kernel4Ideal.Weight.result m c,
    (θ_run Cert.Kernel4Ideal.defs _ _).mono (fun r hr c => ⟨(hr c).1.trans (Cert.Kernel4Ideal.Weight.final m c), (hr c).2⟩) (Cert.Kernel4Ideal.Value.run_blocks m ρ), ?_⟩
  refine (θ_run Cert.Reference4Ideal.defs _ _).mono (fun r hr c => ?_) (Cert.Reference4Ideal.Value.run m' ρ')
  obtain ⟨e, ha⟩ := hr c
  refine ⟨e.trans ?_, ha⟩
  obtain ⟨h0, h1⟩ := hm c
  rw [h0, h1]
  refine funext fun (x : Cert.Kernel4Ideal.S8x1024x384.Idx) => ?_
  rw [eq_ix3 x]
  exact (Cert.Kernel4Ideal.Weight.reference_at _ _ _ _ _).trans ((Finset.sum_congr rfl fun r _ => mul_comm _ _).trans (Cert.Kernel4Ideal.Weight.left_at m c _ _ _).symm)

end Cert.Proof
end
-- ==== Proof.Weight5.lean ====
/-
  The gradient of the RG-LRU layer's output projection's weight: the kernel adds the products of four blocks of 2048 rows, and
  the reference takes one product of all 8192 rows.
-/
module

public import proofs.«01_k».proof.Defs
public import proofs.«01_k».proof.Proof.RowBlocks
public import proofs.«01_k».proof.Proof.Gen.Kernel5Ideal.Value
public import proofs.«01_k».proof.Proof.Gen.Reference5Ideal.Run
public import Idealize.ShloMosaic.Lib.Pointwise

@[expose] public section

set_option maxRecDepth 8192

noncomputable section

namespace Cert.Kernel5Ideal.Weight

open Idealize.ShloMosaic Idealize.ShloMosaic.TcCoe Idealize.SL.Sem Cert.RowBlocks
open Cert.Kernel5Ideal Cert.Kernel5Ideal.Gen Cert.Kernel5Ideal.Value

/-- The product's terms at entry `(i, j)`, row by row. -/
def term (h : S8192x1536.Idx → EReal) (d : S8192x1024.Idx → EReal) (i : Fin 1536) (j : Fin 1024) (r : Fin 8192) : EReal :=
  h (ix2 r i) * d (ix2 r j)

theorem zero_at (i : Fin 1536) (j : Fin 1024) : k0_pay1 (F := Ideal) (ix2 i j) = 0 := by
  pointwise [k0_pay1]

theorem add_at (a : Vec Ideal S1536x1024 .f32) (h : Vec Ideal S2048x1536 .bf16) (d : Vec Ideal S2048x1024 .bf16) (i : Fin 1536) (j : Fin 1024) :
    k0_pay2 a h d (ix2 i j) = a (ix2 i j) + ∑ s : Fin 2048, h (ix2 s i) * d (ix2 s j) := by
  pointwise [k0_pay2]

theorem index0 (t : Fin cfg0.N) : win0_0.index t 0 = t.val ∧ win0_0.index t 1 = 0 := by
  have h : ∀ t : Fin grid0.N, win0_0.index t 0 = t.val ∧ win0_0.index t 1 = 0 := by decide +kernel
  exact h t

theorem index1 (t : Fin cfg0.N) : win0_1.index t 0 = t.val ∧ win0_1.index t 1 = 0 := by
  have h : ∀ t : Fin grid0.N, win0_1.index t 0 = t.val ∧ win0_1.index t 1 = 0 := by decide +kernel
  exact h t

variable (m : (ℓ : Loc nD τ sig) → Buf (Elt Ideal) ℓ) (c : Dev nD)

/-- The two arguments. -/
abbrev argH : S8192x1536.Idx → EReal := m ((c : Thread nD τ).loc main_arg0)
abbrev argD : S8192x1024.Idx → EReal := m ((c : Thread nD τ).loc main_arg1)

/-- A point's blocks are its 2048 rows of the arguments. -/
theorem blk0 (n : ℕ) (hn : n < cfg0.N) (hn' : n < 4) (s : Fin 2048) (i : Fin 1536) :
    (iblk m c 0 ⟨n, hn⟩ : Vec Ideal S2048x1536 .bf16) (ix2 s i) = argH m c (ix2 (row ⟨n, hn'⟩ s) i) := by
  unfold iblk
  rw [View.read_apply]
  show V m c main_arg0 _ = _
  rw [V_main_arg0]
  refine congrArg (argH m c) (funext fun a => Fin.ext ?_)
  match a with
  | ⟨0, _⟩ => show win0_0.index ⟨n, hn⟩ 0 * 2048 + 1 * s.val = n * 2048 + s.val; rw [(index0 ⟨n, hn⟩).1]; show n * 2048 + 1 * s.val = _; omega
  | ⟨1, _⟩ => show win0_0.index ⟨n, hn⟩ 1 * 1536 + 1 * i.val = i.val; rw [(index0 ⟨n, hn⟩).2]; omega

theorem blk1 (n : ℕ) (hn : n < cfg0.N) (hn' : n < 4) (s : Fin 2048) (j : Fin 1024) :
    (iblk m c 1 ⟨n, hn⟩ : Vec Ideal S2048x1024 .bf16) (ix2 s j) = argD m c (ix2 (row ⟨n, hn'⟩ s) j) := by
  unfold iblk
  rw [View.read_apply]
  show V m c main_arg1 _ = _
  rw [V_main_arg1]
  refine congrArg (argD m c) (funext fun a => Fin.ext ?_)
  match a with
  | ⟨0, _⟩ => show win0_1.index ⟨n, hn⟩ 0 * 2048 + 1 * s.val = n * 2048 + s.val; rw [(index1 ⟨n, hn⟩).1]; show n * 2048 + 1 * s.val = _; omega
  | ⟨1, _⟩ => show win0_1.index ⟨n, hn⟩ 1 * 1024 + 1 * j.val = j.val; rw [(index1 ⟨n, hn⟩).2]; omega

/-- A point adds its rows' part of the sum. -/
theorem added (a : Vec Ideal S1536x1024 .f32) (n : ℕ) (hn : n < cfg0.N) (hn' : n < 4) (i : Fin 1536) (j : Fin 1024) :
    k0_pay2 a (iblk m c 0 ⟨n, hn⟩) (iblk m c 1 ⟨n, hn⟩) (ix2 i j)
      = a (ix2 i j) + part (term (argH m c) (argD m c) i j) ⟨n, hn'⟩ := by
  rw [add_at]
  refine congrArg (_ + ·) (Finset.sum_congr rfl fun s _ => ?_)
  rw [blk0 m c n hn hn', blk1 m c n hn hn']
  rfl

/-- What the array ends holding. -/
theorem left_at (i : Fin 1536) (j : Fin 1024) : G2 m c (ix2 i j) = ∑ r, term (argH m c) (argD m c) i j r := by
  have hi : (i.val / 1536) = 0 := Nat.div_eq_of_lt i.isLt
  have hj : (j.val / 1024) = 0 := Nat.div_eq_of_lt j.isLt
  have hr : run2Of (ix2 i j) = 0 := by
    show 1 * (i.val / 1536 - 0) + 1 * (j.val / 1024 - 0) = 0
    rw [hi, hj]
  have hl : loc2Of (ix2 i j) = ix2 i j := by
    funext a
    apply Fin.ext
    match a with
    | ⟨0, _⟩ => show i.val % 1536 = i.val; exact Nat.mod_eq_of_lt i.isLt
    | ⟨1, _⟩ => show j.val % 1024 = j.val; exact Nat.mod_eq_of_lt j.isLt
  have hN : cfg0.N = 4 := N_0
  unfold G2
  rw [dif_pos (by rw [hr, hN]; decide), hl]
  have e : ∀ (b : ℕ) (h : b + 3 < cfg0.N), b = 0 →
      Pipeline.accAt (reset2 m c) (step2 m c) b 3 h = Pipeline.accAt (reset2 m c) (step2 m c) 0 3 (by rw [hN]; decide) := by
    intro b h hb; subst hb; rfl
  rw [e _ _ (by rw [hr])]
  rw [Pipeline.accAt_succ, Pipeline.accAt_succ, Pipeline.accAt_succ, Pipeline.accAt_zero]
  unfold reset2 step2
  rw [added m c _ 3 _ (by decide), added m c _ 2 _ (by decide), added m c _ 1 _ (by decide), added m c _ 0 _ (by decide), zero_at]
  exact sum_parts _

/-- The reference's result. -/
theorem reference_at (h : FVec Ideal S8192x1536 .bf16) (d : FVec Ideal S8192x1024 .bf16) (i : Fin 1536) (j : Fin 1024) :
    transpose S1536x1024 [1, 0] (Host.dotGeneral Cert.Reference5Ideal.dot_S8192x1024_S8192x1536_S1024x1536_0_0_1_1_n_n none (extf .f32 d Cert.Reference5Ideal.Gen.bitsLt_bf16_f32) (extf .f32 h Cert.Reference5Ideal.Gen.bitsLt_bf16_f32)) Cert.Reference5Ideal.Gen.transposes_S1024x1536_S1536x1024_1_0 (ix2 i j)
      = ∑ r, d (ix2 r j) * h (ix2 r i) := by
  pointwise []

end Cert.Kernel5Ideal.Weight

namespace Cert.Proof

open Idealize.ShloMosaic Idealize.ShloMosaic.TcCoe Idealize.SL.Sem

theorem agree_5 : Cert.algebraic_Kernel5Ideal_Reference5Ideal := by
  intro m ρ m' ρ' _ hm
  refine ⟨fun c => Cert.Kernel5Ideal.Value.G2 m c, Cert.Kernel5Ideal.Value.run m ρ, ?_⟩
  refine (θ_run Cert.Reference5Ideal.defs _ _).mono (fun r hr c => ?_) (Cert.Reference5Ideal.Value.run m' ρ')
  obtain ⟨e, ha⟩ := hr c
  refine ⟨e.trans ?_, ha⟩
  obtain ⟨h0, h1⟩ := hm c
  rw [h0, h1]
  refine funext fun (x : Cert.Kernel5Ideal.S1536x1024.Idx) => ?_
  rw [eq_ix2 x]
  exact (Cert.Kernel5Ideal.Weight.reference_at _ _ _ _).trans ((Finset.sum_congr rfl fun r _ => mul_comm _ _).trans (Cert.Kernel5Ideal.Weight.left_at m c _ _).symm)

end Cert.Proof
end
-- ==== Proof.Weight6.lean ====
/-
  The gradient of the forget gates' projection's weight: the kernel adds the products of four blocks of 2048 rows, and
  the reference takes one product of all 8192 rows.
-/
module

public import proofs.«01_k».proof.Defs
public import proofs.«01_k».proof.Proof.RowBlocks
public import proofs.«01_k».proof.Proof.Gen.Kernel6Ideal.Value
public import proofs.«01_k».proof.Proof.Gen.Reference6Ideal.Run
public import Idealize.ShloMosaic.Lib.Pointwise

@[expose] public section

set_option maxRecDepth 8192

noncomputable section

namespace Cert.Kernel6Ideal.Weight

open Idealize.ShloMosaic Idealize.ShloMosaic.TcCoe Idealize.SL.Sem Cert.RowBlocks
open Cert.Kernel6Ideal Cert.Kernel6Ideal.Gen Cert.Kernel6Ideal.Value

/-- The product's terms at entry `(i, j)`, row by row. -/
def term (h : S8192x1024.Idx → EReal) (d : S8192x128.Idx → EReal) (i : Fin 1024) (j : Fin 128) (r : Fin 8192) : EReal :=
  h (ix2 r i) * d (ix2 r j)

theorem zero_at (i : Fin 1024) (j : Fin 128) : k0_pay1 (F := Ideal) (ix2 i j) = 0 := by
  pointwise [k0_pay1]

theorem add_at (a : Vec Ideal S1024x128 .f32) (h : Vec Ideal S2048x1024 .bf16) (d : Vec Ideal S2048x128 .bf16) (i : Fin 1024) (j : Fin 128) :
    k0_pay2 a h d (ix2 i j) = a (ix2 i j) + ∑ s : Fin 2048, h (ix2 s i) * d (ix2 s j) := by
  pointwise [k0_pay2]

theorem index0 (t : Fin cfg0.N) : win0_0.index t 0 = t.val ∧ win0_0.index t 1 = 0 := by
  have h : ∀ t : Fin grid0.N, win0_0.index t 0 = t.val ∧ win0_0.index t 1 = 0 := by decide +kernel
  exact h t

theorem index1 (t : Fin cfg0.N) : win0_1.index t 0 = t.val ∧ win0_1.index t 1 = 0 := by
  have h : ∀ t : Fin grid0.N, win0_1.index t 0 = t.val ∧ win0_1.index t 1 = 0 := by decide +kernel
  exact h t

variable (m : (ℓ : Loc nD τ sig) → Buf (Elt Ideal) ℓ) (c : Dev nD)

/-- The two arguments. -/
abbrev argH : S8192x1024.Idx → EReal := m ((c : Thread nD τ).loc main_arg0)
abbrev argD : S8192x128.Idx → EReal := m ((c : Thread nD τ).loc main_arg1)

/-- A point's blocks are its 2048 rows of the arguments. -/
theorem blk0 (n : ℕ) (hn : n < cfg0.N) (hn' : n < 4) (s : Fin 2048) (i : Fin 1024) :
    (iblk m c 0 ⟨n, hn⟩ : Vec Ideal S2048x1024 .bf16) (ix2 s i) = argH m c (ix2 (row ⟨n, hn'⟩ s) i) := by
  unfold iblk
  rw [View.read_apply]
  show V m c main_arg0 _ = _
  rw [V_main_arg0]
  refine congrArg (argH m c) (funext fun a => Fin.ext ?_)
  match a with
  | ⟨0, _⟩ => show win0_0.index ⟨n, hn⟩ 0 * 2048 + 1 * s.val = n * 2048 + s.val; rw [(index0 ⟨n, hn⟩).1]; show n * 2048 + 1 * s.val = _; omega
  | ⟨1, _⟩ => show win0_0.index ⟨n, hn⟩ 1 * 1024 + 1 * i.val = i.val; rw [(index0 ⟨n, hn⟩).2]; omega

theorem blk1 (n : ℕ) (hn : n < cfg0.N) (hn' : n < 4) (s : Fin 2048) (j : Fin 128) :
    (iblk m c 1 ⟨n, hn⟩ : Vec Ideal S2048x128 .bf16) (ix2 s j) = argD m c (ix2 (row ⟨n, hn'⟩ s) j) := by
  unfold iblk
  rw [View.read_apply]
  show V m c main_arg1 _ = _
  rw [V_main_arg1]
  refine congrArg (argD m c) (funext fun a => Fin.ext ?_)
  match a with
  | ⟨0, _⟩ => show win0_1.index ⟨n, hn⟩ 0 * 2048 + 1 * s.val = n * 2048 + s.val; rw [(index1 ⟨n, hn⟩).1]; show n * 2048 + 1 * s.val = _; omega
  | ⟨1, _⟩ => show win0_1.index ⟨n, hn⟩ 1 * 128 + 1 * j.val = j.val; rw [(index1 ⟨n, hn⟩).2]; omega

/-- A point adds its rows' part of the sum. -/
theorem added (a : Vec Ideal S1024x128 .f32) (n : ℕ) (hn : n < cfg0.N) (hn' : n < 4) (i : Fin 1024) (j : Fin 128) :
    k0_pay2 a (iblk m c 0 ⟨n, hn⟩) (iblk m c 1 ⟨n, hn⟩) (ix2 i j)
      = a (ix2 i j) + part (term (argH m c) (argD m c) i j) ⟨n, hn'⟩ := by
  rw [add_at]
  refine congrArg (_ + ·) (Finset.sum_congr rfl fun s _ => ?_)
  rw [blk0 m c n hn hn', blk1 m c n hn hn']
  rfl

/-- What the array ends holding. -/
theorem left_at (i : Fin 1024) (j : Fin 128) : G2 m c (ix2 i j) = ∑ r, term (argH m c) (argD m c) i j r := by
  have hi : (i.val / 1024) = 0 := Nat.div_eq_of_lt i.isLt
  have hj : (j.val / 128) = 0 := Nat.div_eq_of_lt j.isLt
  have hr : run2Of (ix2 i j) = 0 := by
    show 1 * (i.val / 1024 - 0) + 1 * (j.val / 128 - 0) = 0
    rw [hi, hj]
  have hl : loc2Of (ix2 i j) = ix2 i j := by
    funext a
    apply Fin.ext
    match a with
    | ⟨0, _⟩ => show i.val % 1024 = i.val; exact Nat.mod_eq_of_lt i.isLt
    | ⟨1, _⟩ => show j.val % 128 = j.val; exact Nat.mod_eq_of_lt j.isLt
  have hN : cfg0.N = 4 := N_0
  unfold G2
  rw [dif_pos (by rw [hr, hN]; decide), hl]
  have e : ∀ (b : ℕ) (h : b + 3 < cfg0.N), b = 0 →
      Pipeline.accAt (reset2 m c) (step2 m c) b 3 h = Pipeline.accAt (reset2 m c) (step2 m c) 0 3 (by rw [hN]; decide) := by
    intro b h hb; subst hb; rfl
  rw [e _ _ (by rw [hr])]
  rw [Pipeline.accAt_succ, Pipeline.accAt_succ, Pipeline.accAt_succ, Pipeline.accAt_zero]
  unfold reset2 step2
  rw [added m c _ 3 _ (by decide), added m c _ 2 _ (by decide), added m c _ 1 _ (by decide), added m c _ 0 _ (by decide), zero_at]
  exact sum_parts _

/-- The reference's result. -/
theorem reference_at (h : FVec Ideal S8192x1024 .bf16) (d : FVec Ideal S8192x128 .bf16) (i : Fin 1024) (j : Fin 128) :
    transpose S1024x128 [1, 0] (Host.dotGeneral Cert.Reference6Ideal.dot_S8192x128_S8192x1024_S128x1024_0_0_1_1_n_n none (extf .f32 d Cert.Reference6Ideal.Gen.bitsLt_bf16_f32) (extf .f32 h Cert.Reference6Ideal.Gen.bitsLt_bf16_f32)) Cert.Reference6Ideal.Gen.transposes_S128x1024_S1024x128_1_0 (ix2 i j)
      = ∑ r, d (ix2 r j) * h (ix2 r i) := by
  pointwise []

end Cert.Kernel6Ideal.Weight

namespace Cert.Proof

open Idealize.ShloMosaic Idealize.ShloMosaic.TcCoe Idealize.SL.Sem

theorem agree_6 : Cert.algebraic_Kernel6Ideal_Reference6Ideal := by
  intro m ρ m' ρ' _ hm
  refine ⟨fun c => Cert.Kernel6Ideal.Value.G2 m c, Cert.Kernel6Ideal.Value.run m ρ, ?_⟩
  refine (θ_run Cert.Reference6Ideal.defs _ _).mono (fun r hr c => ?_) (Cert.Reference6Ideal.Value.run m' ρ')
  obtain ⟨e, ha⟩ := hr c
  refine ⟨e.trans ?_, ha⟩
  obtain ⟨h0, h1⟩ := hm c
  rw [h0, h1]
  refine funext fun (x : Cert.Kernel6Ideal.S1024x128.Idx) => ?_
  rw [eq_ix2 x]
  exact (Cert.Kernel6Ideal.Weight.reference_at _ _ _ _).trans ((Finset.sum_congr rfl fun r _ => mul_comm _ _).trans (Cert.Kernel6Ideal.Weight.left_at m c _ _).symm)

end Cert.Proof
end
-- ==== Proof.PadHeads.lean ====
/-
  Sixteen heads of 64 columns, each spread over 128 lanes, zeros after its columns: as the kernel stacks them, from pairs of heads,
  the second of a pair rotated into the first one's place.
-/
module

public import Idealize.ShloMosaic.Lib.Pointwise

@[expose] public section

set_option maxRecDepth 8192

noncomputable section

namespace Cert.PadHeads

open Idealize.ShloMosaic

abbrev Cols : Shape := ⟨2, ![512, 1024]⟩
abbrev Lanes : Shape := ⟨2, ![512, 128]⟩
abbrev All : Shape := ⟨2, ![512, 2048]⟩

/-- The column of lane `j`, if it has one. -/
def spread (f : Fin 1024 → EReal) (j : Fin 2048) : EReal :=
  if h : j.val % 128 < 64 then f ⟨j.val / 128 * 64 + j.val % 128, by omega⟩ else 0

theorem spread_congr {f g : Fin 1024 → EReal} (h : ∀ k, f k = g k) (j : Fin 2048) : spread f j = spread g j :=
  congrArg (spread · j) (funext h)

/-- The value the reference pads with. -/
theorem pad_zero : FloatOps.sitofp (F := Ideal) .f32 (0#32 : BitVec 32) = (0 : EReal) := by
  show (((0#32 : BitVec 32).toInt : ℝ) : EReal) = 0
  simp

/-- As the reference spreads the heads: each one's columns and zeros after them. -/
theorem padded_at (u : FVec Ideal ⟨2, ![8192, 1024]⟩ .f32) {one : Shape} (h1) (h2) (h3 : 0 < one.numel) (h4) (r : Fin 8192) (j : Fin 2048) :
    shapeCast ⟨2, ![8192, 2048]⟩ (pad ⟨3, ![8192, 16, 128]⟩ ![0, 0, 0] ![0, 0, 64] ![0, 0, 0] (shapeCast ⟨3, ![8192, 16, 64]⟩ u h1)
      (sitofp (F := Ideal) .f32 (constantI one 32 0#32)) h2 h3) h4 (ix2 r j) = spread (fun k => u (ix2 r k)) j := by
  pointwise [spread]
  have hj : j.val / 128 < 16 := by omega
  by_cases hl : j.val % 128 < 64
  · rw [dif_pos ⟨hj, hl⟩, dif_pos hl]
  · rw [dif_neg fun h => hl h.2, dif_neg hl]
    exact pad_zero

/-- An array given a first axis of one entry. -/
theorem lift_at (x : FVec Ideal ⟨2, ![8192, 2048]⟩ .f32) (h) (q : Fin 1) (r : Fin 8192) (j : Fin 2048) :
    broadcastInDim ⟨3, ![1, 8192, 2048]⟩ ![1, 2] h x (ix3 q r j) = x (ix2 r j) := by
  pointwise []

/-- Head `k` of `u`, spread over its lanes. -/
def head (u : Cols.Idx → EReal) (k : Fin 16) : Lanes.Idx → EReal := fun y =>
  if h : (y 1).val < 64 then u (ix2 (y 0 : Fin 512) (⟨k.val * 64 + (y 1).val, by omega⟩ : Fin 1024)) else 0

/-- The mask of a head's own lanes. -/
theorem mask_at : ∀ l : Fin 128, IntOp.cmpi .slt (BitVec.ofNat 32 l.val) 64#32 = if l.val < 64 then 1#1 else 0#1 := by
  decide +kernel

theorem select_mask (l : Fin 128) (x y : EReal) :
    Scalar.select (IntOp.cmpi .slt (BitVec.ofNat 32 l.val) 64#32) x y = if l.val < 64 then x else y := by
  rw [mask_at]
  split <;> rfl

/-- The first head of a pair, the lanes past it masked. -/
theorem first_head (u : FVec Ideal Cols .f32) (k : Fin 16) (off : ℕ) (ho : off = k.val * 64) (hi) (hs) :
    select (cmpi .slt (iota .tc Lanes 32 [1] hi) (broadcast Lanes 64#32)) (extractStridedSlice Lanes ![0, off] u hs) (broadcast Lanes (Scalar.ofBits (F := Ideal) .f32 0x00000000#32))
      = head u k := by
  subst ho
  refine funext fun y => ?_
  obtain ⟨s, l, rfl⟩ : ∃ (s : Fin 512) (l : Fin 128), y = ix2 s l := ⟨_, _, eq_ix2 y⟩
  pointwise [head]
  rw [select_mask]
  rfl

/-- The second head of a pair, rotated into the first one's lanes. -/
theorem second_head (u : FVec Ideal Cols .f32) (k : Fin 16) (off : ℕ) (ho : off + 64 = k.val * 64) (hi) (hs) (hr) :
    select (cmpi .slt (iota .tc Lanes 32 [1] hi) (broadcast Lanes 64#32)) (dynamicRotate 1 64#32 none (extractStridedSlice Lanes ![0, off] u hs) hr) (broadcast Lanes (Scalar.ofBits (F := Ideal) .f32 0x00000000#32))
      = head u k := by
  refine funext fun y => ?_
  obtain ⟨s, l, rfl⟩ : ∃ (s : Fin 512) (l : Fin 128), y = ix2 s l := ⟨_, _, eq_ix2 y⟩
  pointwise [head]
  rw [select_mask]
  by_cases h : l.val < 64
  · rw [if_pos h, dif_pos h]
    exact congrArg u (congrArg (ix2 s) (Fin.ext (show off + (l.val + 128 - 64) % 128 = k.val * 64 + l.val by omega)))
  · rw [if_neg h, dif_neg h]

/-- The sixteen heads one after another. -/
theorem heads_at (u : Cols.Idx → EReal) {p0 p1 p2 p3 p4 p5 p6 p7 p8 p9 p10 p11 p12 p13 p14 p15 : Lanes.Idx → EReal}
    (h0 : p0 = head u 0) (h1 : p1 = head u 1) (h2 : p2 = head u 2) (h3 : p3 = head u 3) (h4 : p4 = head u 4) (h5 : p5 = head u 5) (h6 : p6 = head u 6) (h7 : p7 = head u 7)
    (h8 : p8 = head u 8) (h9 : p9 = head u 9) (h10 : p10 = head u 10) (h11 : p11 = head u 11) (h12 : p12 = head u 12) (h13 : p13 = head u 13) (h14 : p14 = head u 14) (h15 : p15 = head u 15) (h) (s : Fin 512) (j : Fin 2048) :
    concatenate All 1 [⟨Lanes, p0⟩, ⟨Lanes, p1⟩, ⟨Lanes, p2⟩, ⟨Lanes, p3⟩, ⟨Lanes, p4⟩, ⟨Lanes, p5⟩, ⟨Lanes, p6⟩, ⟨Lanes, p7⟩, ⟨Lanes, p8⟩, ⟨Lanes, p9⟩, ⟨Lanes, p10⟩, ⟨Lanes, p11⟩, ⟨Lanes, p12⟩, ⟨Lanes, p13⟩, ⟨Lanes, p14⟩, ⟨Lanes, p15⟩] h (ix2 s j)
      = spread (fun c => u (ix2 s c)) j := by
  subst h0 h1 h2 h3 h4 h5 h6 h7 h8 h9 h10 h11 h12 h13 h14 h15
  refine (concatenate_ofFn_apply (t := All) (s₁ := Lanes) 1 (head u) h rfl 128 rfl (ix2 s j) (⟨j.val / 128, by omega⟩ : Fin 16) rfl
    (ix2 s (⟨j.val % 128, by omega⟩ : Fin 128)) rfl fun b hb => ?_).trans rfl
  match b with
  | ⟨0, _⟩ => rfl
  | ⟨1, _⟩ => exact absurd rfl hb

end Cert.PadHeads
end
-- ==== Proof.Gate7.lean ====
/-
  The attention layer's gate projection: each grid point multiplies 512 rows by the gate's 1024 columns of the layer's weight and
  spreads the heads' columns over their lanes; the reference takes one product of all the rows and pads its heads.
-/
module

public import proofs.«01_k».proof.Defs
public import proofs.«01_k».proof.Proof.PadHeads
public import proofs.«01_k».proof.Proof.Gen.Kernel7Ideal.Value
public import proofs.«01_k».proof.Proof.Gen.Reference7Ideal.Run
public import Idealize.ShloMosaic.Lib.Pointwise
public import Idealize.ShloMosaic.Lib.Pipeline.ReadBack

@[expose] public section

set_option maxRecDepth 16384

noncomputable section

namespace Cert.Kernel7Ideal.Gate

open Idealize.ShloMosaic Idealize.ShloMosaic.TcCoe Idealize.SL.Sem Cert.PadHeads
open Cert.Kernel7Ideal Cert.Kernel7Ideal.Gen Cert.Kernel7Ideal.Value

/-- A point's product. -/
def prod {F : FTy → Type} [FloatOps F] (x0 : Vec F S512x1024 .bf16) (x1 : Vec F S1024x1024 .bf16) : FVec F S512x1024 .f32 :=
  matmul dot_S512x1024_S1024x1024_S512x1024_1_0_0_1_n_n none x0 x1 (constant S512x1024 .f32 0x00000000#32)

theorem prod_at (x0 : Vec Ideal S512x1024 .bf16) (x1 : Vec Ideal S1024x1024 .bf16) (s : Fin 512) (c : Fin 1024) :
    prod (F := Ideal) x0 x1 (ix2 s c) = ∑ i : Fin 1024, x0 (ix2 s i) * x1 (ix2 i c) := by
  pointwise [prod]

theorem stacked_at (x0 : Vec Ideal S512x1024 .bf16) (x1 : Vec Ideal S1024x1024 .bf16) (s : Fin 512) (j : Fin 2048) :
    k0_pay2 x0 x1 (ix2 s j) = spread (fun c => ∑ i : Fin 1024, x0 (ix2 s i) * x1 (ix2 i c)) j := by
  refine Eq.trans ?_ (spread_congr (prod_at x0 x1 s) j)
  exact heads_at (prod (F := Ideal) x0 x1)
    (first_head _ 0 0 rfl _ _) (second_head _ 1 0 rfl _ _ _)
    (first_head _ 2 128 rfl _ _) (second_head _ 3 128 rfl _ _ _)
    (first_head _ 4 256 rfl _ _) (second_head _ 5 256 rfl _ _ _)
    (first_head _ 6 384 rfl _ _) (second_head _ 7 384 rfl _ _ _)
    (first_head _ 8 512 rfl _ _) (second_head _ 9 512 rfl _ _ _)
    (first_head _ 10 640 rfl _ _) (second_head _ 11 640 rfl _ _ _)
    (first_head _ 12 768 rfl _ _) (second_head _ 13 768 rfl _ _ _)
    (first_head _ 14 896 rfl _ _) (second_head _ 15 896 rfl _ _ _)
    concatenates_S512x128_S512x128_S512x128_S512x128_S512x128_S512x128_S512x128_S512x128_S512x128_S512x128_S512x128_S512x128_S512x128_S512x128_S512x128_S512x128_S512x2048_d1 s j

theorem hz2 : (![0, 0] : Fin 2 → ℕ) = fun _ => 0 := by
  funext a
  match a with
  | ⟨0, _⟩ => rfl
  | ⟨1, _⟩ => rfl

theorem hz3 : (![0, 0, 0] : Fin 3 → ℕ) = fun _ => 0 := by
  funext a
  match a with
  | ⟨0, _⟩ => rfl
  | ⟨1, _⟩ => rfl
  | ⟨2, _⟩ => rfl

/-- What a point's store leaves. -/
theorem out_eq (c : Dev nD) (i : grid0.Coords) (arg2 : Memref sig .tc .vmem S512x1024 .bf16) (harg2 : arg2.IsWhole) (arg3 : Memref sig .tc .vmem S1024x1024 .bf16) (harg3 : arg3.IsWhole)
    (arg4 : Memref sig .tc .vmem S1x512x2048 .f32) (harg4 : arg4.IsWhole) (x0 : Vec Ideal S512x1024 .bf16) (x1 : Vec Ideal S1024x1024 .bf16) :
    out0_A_2 c i arg2 harg2 arg3 harg3 arg4 harg4 x0 x1 = k0_pay1 (k0_pay2 x0 x1) := by
  unfold out0_A_2
  rw [View.read_writes_eq_canon _ _ _ (cover0_A_2 c i arg2 harg2 arg3 harg3 arg4 harg4 x0 x1)]
  unfold kernelRun0_A
  dsimp only
  rw [View.canon_cons_unit_zero (S := S1x512x2048) hz3]
  unfold kernelRun0_A.sl.r
  rw [View.readAt_eq_ld, View.readAt_eq_ld, harg2.read_unread, harg3.read_unread, View.ld_unit_zero (S := S512x1024) hz2, View.ld_unit_zero (S := S1024x1024) hz2]

theorem cast_at (v : FVec Ideal S512x2048 .f32) (q : Fin 1) (s : Fin 512) (j : Fin 2048) : k0_pay1 v (ix3 q s j) = v (ix2 s j) := by
  obtain rfl : q = 0 := Subsingleton.elim _ _
  pointwise [k0_pay1]

variable (m : (ℓ : Loc nD τ sig) → Buf (Elt Ideal) ℓ) (c : Dev nD)

/-- The two arguments. -/
abbrev argH : S8192x1024.Idx → EReal := m ((c : Thread nD τ).loc main_arg0)
abbrev argW : S1024x4112.Idx → EReal := m ((c : Thread nD τ).loc main_arg1)

theorem index0 (t : Fin cfg0.N) : win0_0.index t 0 = t.val ∧ win0_0.index t 1 = 0 := by
  have h : ∀ t : Fin grid0.N, win0_0.index t 0 = t.val ∧ win0_0.index t 1 = 0 := by decide +kernel
  exact h t

theorem index1 (t : Fin cfg0.N) : win0_1.index t 0 = 0 ∧ win0_1.index t 1 = 3 := by
  have h : ∀ t : Fin grid0.N, win0_1.index t 0 = 0 ∧ win0_1.index t 1 = 3 := by decide +kernel
  exact h t

theorem index2 (t : Fin cfg0.N) : win0_2.index t 0 = 0 ∧ win0_2.index t 1 = t.val ∧ win0_2.index t 2 = 0 := by
  have h : ∀ t : Fin grid0.N, win0_2.index t 0 = 0 ∧ win0_2.index t 1 = t.val ∧ win0_2.index t 2 = 0 := by decide +kernel
  exact h t

/-- A point's rows. -/
theorem blk0 (t : Fin cfg0.N) (s : Fin 512) (i : Fin 1024) (r : Fin 8192) (hr : r.val = t.val * 512 + s.val) :
    (iblk m c 0 t : Vec Ideal S512x1024 .bf16) (ix2 s i) = argH m c (ix2 r i) := by
  unfold iblk
  rw [View.read_apply]
  show V m c main_arg0 _ = _
  rw [V_main_arg0]
  refine congrArg (argH m c) (funext fun a => Fin.ext ?_)
  match a with
  | ⟨0, _⟩ => show win0_0.index t 0 * 512 + 1 * s.val = r.val; rw [(index0 t).1]; omega
  | ⟨1, _⟩ => show win0_0.index t 1 * 1024 + 1 * i.val = i.val; rw [(index0 t).2]; omega

/-- The gate's columns of the weight. -/
theorem blk1 (t : Fin cfg0.N) (i k : Fin 1024) :
    (X0_1 m c t : Vec Ideal S1024x1024 .bf16) (ix2 i k) = argW m c (ix2 i (⟨3072 + k.val, by omega⟩ : Fin 4112)) := by
  unfold X0_1 Pipeline.Window.fill
  rw [dif_pos (moved0_1 t _)]
  unfold iblk
  rw [View.read_apply]
  show V m c main_arg1 _ = _
  rw [V_main_arg1]
  refine congrArg (argW m c) (funext fun a => Fin.ext ?_)
  match a with
  | ⟨0, _⟩ => show win0_1.index t 0 * 1024 + 1 * i.val = i.val; rw [(index1 t).1]; omega
  | ⟨1, _⟩ => show win0_1.index t 1 * 1024 + 1 * k.val = 3072 + k.val; rw [(index1 t).2]; omega

/-- What the array ends holding. -/
theorem left_at (q : Fin 1) (r : Fin 8192) (j : Fin 2048) :
    (dats m 0 c).arrAt 2 cfg0.N (ix3 q r j)
      = spread (fun k => ∑ i : Fin 1024, argH m c (ix2 r i) * argW m c (ix2 i (⟨3072 + k.val, by omega⟩ : Fin 4112))) j := by
  obtain rfl : q = 0 := Subsingleton.elim _ _
  have hN : cfg0.N = 16 := N_0
  let t : Fin cfg0.N := ⟨r.val / 512, by rw [hN]; omega⟩
  let s : Fin 512 := ⟨r.val % 512, by omega⟩
  have hr : r.val = t.val * 512 + s.val := by show r.val = r.val / 512 * 512 + r.val % 512; omega
  have e := congrFun (blocks2 m c t (flush0_2 t)) (ix3 (0 : Fin 1) s j)
  rw [View.read_apply, flushed2_A] at e
  have hx : ((cfg0.win 2).blk t).view.emb (ix3 (0 : Fin 1) s j) = (ix3 (0 : Fin 1) r j : S1x8192x2048.Idx) := by
    refine funext fun a => Fin.ext ?_
    obtain ⟨e0, e1, e2⟩ := index2 t
    match a with
    | ⟨0, _⟩ => show win0_2.index t 0 * 1 + 1 * 0 = 0; rw [e0]
    | ⟨1, _⟩ => show win0_2.index t 1 * 512 + 1 * s.val = r.val; rw [e1]; omega
    | ⟨2, _⟩ => show win0_2.index t 2 * 2048 + 1 * j.val = j.val; rw [e2]; omega
  refine (congrArg ((dats m 0 c).arrAt 2 cfg0.N) hx.symm).trans (e.trans ?_)
  rw [out_eq]
  refine (cast_at _ 0 s j).trans ((stacked_at _ _ s j).trans (spread_congr (fun k => Finset.sum_congr rfl fun i _ => ?_) j))
  rw [blk0 m c t s i r hr, blk1 m c t i k]

/-- The reference's result. -/
theorem reference_at (h : FVec Ideal S8192x1024 .bf16) (w : FVec Ideal S1024x4112 .bf16) (q : Fin 1) (r : Fin 8192) (j : Fin 2048) :
    broadcastInDim Cert.Reference7Ideal.S1x8192x2048 ![1, 2] Cert.Reference7Ideal.Gen.bcast_S8192x2048_S1x8192x2048_1_2 (shapeCast Cert.Reference7Ideal.S8192x2048 (pad Cert.Reference7Ideal.S8192x16x128 ![0, 0, 0] ![0, 0, 64] ![0, 0, 0] (shapeCast Cert.Reference7Ideal.S8192x16x64 (Host.dotGeneral Cert.Reference7Ideal.dot_S8192x1024_S1024x1024_S8192x1024_1_0_0_1_n_n none (extf .f32 h Cert.Reference7Ideal.Gen.bitsLt_bf16_f32) (extf .f32 (extractStridedSlice Cert.Reference7Ideal.S1024x1024 ![0, 3072] w Cert.Reference7Ideal.Gen.slices_S1024x4112_S1024x1024_0_3072) Cert.Reference7Ideal.Gen.bitsLt_bf16_f32)) Cert.Reference7Ideal.Gen.shapeCasts_S8192x1024_S8192x16x64) (sitofp (F := Ideal) .f32 (constantI Cert.Reference7Ideal.S_ 32 0#32)) Cert.Reference7Ideal.Gen.pads_S8192x16x64_S8192x16x128_000_000_0640 Cert.Reference7Ideal.Gen.h_S_) Cert.Reference7Ideal.Gen.shapeCasts_S8192x16x128_S8192x2048) (ix3 q r j)
      = spread (fun k => ∑ i : Fin 1024, h (ix2 r i) * w (ix2 i (⟨3072 + k.val, by omega⟩ : Fin 4112))) j := by
  refine (lift_at _ _ q r j).trans ((padded_at _ _ _ _ _ r j).trans (spread_congr (fun k => ?_) j))
  pointwise []

end Cert.Kernel7Ideal.Gate

namespace Cert.Proof

open Idealize.ShloMosaic Idealize.ShloMosaic.TcCoe Idealize.SL.Sem

theorem agree_7 : Cert.algebraic_Kernel7Ideal_Reference7Ideal := by
  intro m ρ m' ρ' _ hm
  refine ⟨fun c => (Cert.Kernel7Ideal.Gen.dats m 0 c).arrAt 2 Cert.Kernel7Ideal.cfg0.N, Cert.Kernel7Ideal.Value.run_blocks m ρ, ?_⟩
  refine (θ_run Cert.Reference7Ideal.defs _ _).mono (fun r hr c => ?_) (Cert.Reference7Ideal.Value.run m' ρ')
  obtain ⟨e, ha⟩ := hr c
  refine ⟨e.trans ?_, ha⟩
  obtain ⟨h0, h1⟩ := hm c
  rw [h0, h1]
  refine funext fun (x : Cert.Kernel7Ideal.S1x8192x2048.Idx) => ?_
  obtain ⟨q, r, j, rfl⟩ : ∃ (q : Fin 1) (r : Fin 8192) (j : Fin 2048), x = ix3 q r j := ⟨_, _, _, eq_ix3 x⟩
  exact (Cert.Kernel7Ideal.Gate.reference_at _ _ _ _ _).trans (Cert.Kernel7Ideal.Gate.left_at m c _ _ _).symm

end Cert.Proof
end
-- ==== Proof.Qkv8.lean ====
/-
  The attention layer's projections of queries, keys and values, stacked: a grid point takes one of the three and 512 rows, multiplies
  the rows by its 1024 columns of the layer's weight, scales the queries, spreads the heads' columns over their lanes, and adds
  the parts of the cumulative log gates, placed by the selectors, and the bias; the reference takes the products of all the rows.
-/
module

public import proofs.«01_k».proof.Defs
public import proofs.«01_k».proof.Proof.PadHeads
public import proofs.«01_k».proof.Proof.Gen.Kernel8Ideal.Value
public import proofs.«01_k».proof.Proof.Gen.Reference8Ideal.Run
public import Idealize.ShloMosaic.Lib.Pointwise
public import Idealize.ShloMosaic.Lib.Pipeline.ReadBack

@[expose] public section

set_option maxRecDepth 16384

noncomputable section

namespace Cert.Kernel8Ideal.Qkv

open Idealize.ShloMosaic Idealize.ShloMosaic.TcCoe Idealize.SL.Sem Cert.PadHeads
open Cert.Kernel8Ideal Cert.Kernel8Ideal.Gen Cert.Kernel8Ideal.Value

/-- One eighth, by which the queries alone are scaled. -/
def eighth : EReal := Scalar.ofBits (F := Ideal) .f32 0x3E000000#32

def scale (g : Fin 3) : EReal := if g.val = 0 then eighth else 1

/-- Column `k` of projection `g` in the layer's weight. -/
def col (g : Fin 3) (k : Fin 1024) : Fin 4112 := ⟨g.val * 1024 + k.val, by omega⟩

/-- Entry `(g, r, j)` of the result. -/
def entry (h : S8192x1024.Idx → EReal) (p : S8192x128.Idx → EReal) (w : S1024x4112.Idx → EReal) (e : S3x128x2048.Idx → EReal) (b : S3x1x2048.Idx → EReal)
    (g : Fin 3) (r : Fin 8192) (j : Fin 2048) : EReal :=
  spread (fun k => (∑ i : Fin 1024, h (ix2 r i) * w (ix2 i (col g k))) * scale g) j
    + ((∑ z : Fin 128, p (ix2 r z) * e (ix3 g z j)) + b (ix3 g (0 : Fin 1) j))

theorem one_bits : Scalar.ofBits (F := Ideal) .f32 0x3F800000#32 = (1 : EReal) := by
  pointwise []

/-- The scale as a grid point picks it. -/
theorem scale_at (i : grid0.Coords) (g : Fin 3) (hi : (i 0).val = g.val) :
    Scalar.select (Scalar.cmpi .eq (BitVec.ofNat 32 (i 0).val) 0#32) (Scalar.ofBits (F := Ideal) .f32 0x3E000000#32) (Scalar.ofBits (F := Ideal) .f32 0x3F800000#32) = scale g := by
  rw [hi, one_bits]
  match g with
  | ⟨0, _⟩ => rfl
  | ⟨1, _⟩ => rfl
  | ⟨2, _⟩ => rfl

theorem prod_at (i : grid0.Coords) (g : Fin 3) (hi : (i 0).val = g.val) (x0 : Vec Ideal S512x1024 .bf16) (x2 : Vec Ideal S1024x1024 .bf16) (s : Fin 512) (c : Fin 1024) :
    k0_pay3 (F := Ideal) i x0 x2 (ix2 s c) = (∑ k : Fin 1024, x0 (ix2 s k) * x2 (ix2 k c)) * scale g := by
  rw [← scale_at i g hi]
  pointwise [k0_pay3]

/-- A point's heads, one after another. -/
def heads {F : FTy → Type} [FloatOps F] (i : grid0.Coords) (x0 : Vec F S512x1024 .bf16) (x2 : Vec F S1024x1024 .bf16) : FVec F S512x2048 .f32 :=
  concatenate S512x2048 1 [⟨S512x128, k0_pay7 i x0 x2⟩, ⟨S512x128, k0_pay8 i x0 x2⟩, ⟨S512x128, k0_pay10 i x0 x2⟩, ⟨S512x128, k0_pay11 i x0 x2⟩,
    ⟨S512x128, k0_pay13 i x0 x2⟩, ⟨S512x128, k0_pay14 i x0 x2⟩, ⟨S512x128, k0_pay16 i x0 x2⟩, ⟨S512x128, k0_pay17 i x0 x2⟩,
    ⟨S512x128, k0_pay19 i x0 x2⟩, ⟨S512x128, k0_pay20 i x0 x2⟩, ⟨S512x128, k0_pay22 i x0 x2⟩, ⟨S512x128, k0_pay23 i x0 x2⟩,
    ⟨S512x128, k0_pay25 i x0 x2⟩, ⟨S512x128, k0_pay26 i x0 x2⟩, ⟨S512x128, k0_pay28 i x0 x2⟩, ⟨S512x128, k0_pay1 k0_pay4 (k0_pay5 (F := F)) (k0_pay27 i x0 x2)⟩]
    concatenates_S512x128_S512x128_S512x128_S512x128_S512x128_S512x128_S512x128_S512x128_S512x128_S512x128_S512x128_S512x128_S512x128_S512x128_S512x128_S512x128_S512x2048_d1

theorem stacked_at (i : grid0.Coords) (x0 : Vec Ideal S512x1024 .bf16) (x2 : Vec Ideal S1024x1024 .bf16) (s : Fin 512) (j : Fin 2048) :
    heads (F := Ideal) i x0 x2 (ix2 s j) = spread (fun c => k0_pay3 (F := Ideal) i x0 x2 (ix2 s c)) j :=
  heads_at (k0_pay3 (F := Ideal) i x0 x2)
    (first_head _ 0 0 rfl iota_S512x128_d1_w32 slices_S512x1024_o0_0_S512x128)
    (second_head _ 1 0 rfl iota_S512x128_d1_w32 slices_S512x1024_o0_0_S512x128 rotates_S512x128_d1)
    (first_head _ 2 128 rfl iota_S512x128_d1_w32 slices_S512x1024_o0_128_S512x128)
    (second_head _ 3 128 rfl iota_S512x128_d1_w32 slices_S512x1024_o0_128_S512x128 rotates_S512x128_d1)
    (first_head _ 4 256 rfl iota_S512x128_d1_w32 slices_S512x1024_o0_256_S512x128)
    (second_head _ 5 256 rfl iota_S512x128_d1_w32 slices_S512x1024_o0_256_S512x128 rotates_S512x128_d1)
    (first_head _ 6 384 rfl iota_S512x128_d1_w32 slices_S512x1024_o0_384_S512x128)
    (second_head _ 7 384 rfl iota_S512x128_d1_w32 slices_S512x1024_o0_384_S512x128 rotates_S512x128_d1)
    (first_head _ 8 512 rfl iota_S512x128_d1_w32 slices_S512x1024_o0_512_S512x128)
    (second_head _ 9 512 rfl iota_S512x128_d1_w32 slices_S512x1024_o0_512_S512x128 rotates_S512x128_d1)
    (first_head _ 10 640 rfl iota_S512x128_d1_w32 slices_S512x1024_o0_640_S512x128)
    (second_head _ 11 640 rfl iota_S512x128_d1_w32 slices_S512x1024_o0_640_S512x128 rotates_S512x128_d1)
    (first_head _ 12 768 rfl iota_S512x128_d1_w32 slices_S512x1024_o0_768_S512x128)
    (second_head _ 13 768 rfl iota_S512x128_d1_w32 slices_S512x1024_o0_768_S512x128 rotates_S512x128_d1)
    (first_head _ 14 896 rfl iota_S512x128_d1_w32 slices_S512x1024_o0_896_S512x128)
    (second_head _ 15 896 rfl iota_S512x128_d1_w32 slices_S512x1024_o0_896_S512x128 rotates_S512x128_d1)
    concatenates_S512x128_S512x128_S512x128_S512x128_S512x128_S512x128_S512x128_S512x128_S512x128_S512x128_S512x128_S512x128_S512x128_S512x128_S512x128_S512x128_S512x2048_d1 s j

/-- What a point stores. -/
theorem stored_at (v : FVec Ideal S512x2048 .f32) (x1 : Vec Ideal S512x128 .bf16) (x3 : Vec Ideal S1x128x2048 .bf16) (x4 : Vec Ideal S1x1x2048 .f32) (q : Fin 1) (s : Fin 512) (j : Fin 2048) :
    k0_pay2 (F := Ideal) v x1 x3 x4 (ix3 q s j)
      = (v (ix2 s j) + (∑ z : Fin 128, x1 (ix2 s z) * x3 (ix3 (0 : Fin 1) z j)) + x4 (ix3 (0 : Fin 1) (0 : Fin 1) j) : EReal) := by
  obtain rfl : q = 0 := Subsingleton.elim _ _
  pointwise [k0_pay2]

theorem hz2 : (![0, 0] : Fin 2 → ℕ) = fun _ => 0 := by
  funext a
  match a with
  | ⟨0, _⟩ => rfl
  | ⟨1, _⟩ => rfl

theorem hz3 : (![0, 0, 0] : Fin 3 → ℕ) = fun _ => 0 := by
  funext a
  match a with
  | ⟨0, _⟩ => rfl
  | ⟨1, _⟩ => rfl
  | ⟨2, _⟩ => rfl

/-- The blocks as the body loads them. -/
theorem load0 (arg2 : Memref sig .tc .vmem S512x1024 .bf16) (harg2 : arg2.IsWhole) (x0 : Vec Ideal S512x1024 .bf16) :
    View.readAt (Elt Ideal) arg2.view (Rect.unit (s := S512x1024) ![0, 0] S512x1024.size inb_S512x1024_S512x1024_0_0).toLoadRect (harg2.unread x0) = x0 := by
  rw [View.readAt_eq_ld, harg2.read_unread, View.ld_unit_zero (S := S512x1024) hz2]

theorem load1 (arg3 : Memref sig .tc .vmem S512x128 .bf16) (harg3 : arg3.IsWhole) (x1 : Vec Ideal S512x128 .bf16) :
    View.readAt (Elt Ideal) arg3.view (Rect.unit (s := S512x128) ![0, 0] S512x128.size inb_S512x128_S512x128_0_0).toLoadRect (harg3.unread x1) = x1 := by
  rw [View.readAt_eq_ld, harg3.read_unread, View.ld_unit_zero (S := S512x128) hz2]

theorem load2 (arg4 : Memref sig .tc .vmem S1024x1024 .bf16) (harg4 : arg4.IsWhole) (x2 : Vec Ideal S1024x1024 .bf16) :
    View.readAt (Elt Ideal) arg4.view (Rect.unit (s := S1024x1024) ![0, 0] S1024x1024.size inb_S1024x1024_S1024x1024_0_0).toLoadRect (harg4.unread x2) = x2 := by
  rw [View.readAt_eq_ld, harg4.read_unread, View.ld_unit_zero (S := S1024x1024) hz2]

theorem load3 (arg5 : Memref sig .tc .vmem S1x128x2048 .bf16) (harg5 : arg5.IsWhole) (x3 : Vec Ideal S1x128x2048 .bf16) :
    View.readAt (Elt Ideal) arg5.view (Rect.unit (s := S1x128x2048) ![0, 0, 0] S1x128x2048.size inb_S1x128x2048_S1x128x2048_0_0_0).toLoadRect (harg5.unread x3) = x3 := by
  rw [View.readAt_eq_ld, harg5.read_unread, View.ld_unit_zero (S := S1x128x2048) hz3]

theorem load4 (arg6 : Memref sig .tc .vmem S1x1x2048 .f32) (harg6 : arg6.IsWhole) (x4 : Vec Ideal S1x1x2048 .f32) :
    View.readAt (Elt Ideal) arg6.view (Rect.unit (s := S1x1x2048) ![0, 0, 0] S1x1x2048.size inb_S1x1x2048_S1x1x2048_0_0_0).toLoadRect (harg6.unread x4) = x4 := by
  rw [View.readAt_eq_ld, harg6.read_unread, View.ld_unit_zero (S := S1x1x2048) hz3]

/-- What a point's store leaves. -/
theorem out_eq (c : Dev nD) (i : grid0.Coords) (arg2 : Memref sig .tc .vmem S512x1024 .bf16) (harg2 : arg2.IsWhole) (arg3 : Memref sig .tc .vmem S512x128 .bf16) (harg3 : arg3.IsWhole)
    (arg4 : Memref sig .tc .vmem S1024x1024 .bf16) (harg4 : arg4.IsWhole) (arg5 : Memref sig .tc .vmem S1x128x2048 .bf16) (harg5 : arg5.IsWhole)
    (arg6 : Memref sig .tc .vmem S1x1x2048 .f32) (harg6 : arg6.IsWhole) (arg7 : Memref sig .tc .vmem S1x512x2048 .bf16) (harg7 : arg7.IsWhole)
    (x0 : Vec Ideal S512x1024 .bf16) (x1 : Vec Ideal S512x128 .bf16) (x2 : Vec Ideal S1024x1024 .bf16) (x3 : Vec Ideal S1x128x2048 .bf16) (x4 : Vec Ideal S1x1x2048 .f32) :
    out0_A_5 c i arg2 harg2 arg3 harg3 arg4 harg4 arg5 harg5 arg6 harg6 arg7 harg7 x0 x1 x2 x3 x4 = k0_pay2 (heads (F := Ideal) i x0 x2) x1 x3 x4 := by
  unfold out0_A_5
  rw [View.read_writes_eq_canon _ _ _ (cover0_A_5 c i arg2 harg2 arg3 harg3 arg4 harg4 arg5 harg5 arg6 harg6 arg7 harg7 x0 x1 x2 x3 x4)]
  unfold kernelRun0_A
  dsimp only
  rw [View.canon_cons_unit_zero (S := S1x512x2048) hz3]
  show k0_pay2 (heads (F := Ideal) i (View.readAt (Elt Ideal) arg2.view (Rect.unit (s := S512x1024) ![0, 0] S512x1024.size inb_S512x1024_S512x1024_0_0).toLoadRect (harg2.unread x0))
      (View.readAt (Elt Ideal) arg4.view (Rect.unit (s := S1024x1024) ![0, 0] S1024x1024.size inb_S1024x1024_S1024x1024_0_0).toLoadRect (harg4.unread x2)))
    (View.readAt (Elt Ideal) arg3.view (Rect.unit (s := S512x128) ![0, 0] S512x128.size inb_S512x128_S512x128_0_0).toLoadRect (harg3.unread x1))
    (View.readAt (Elt Ideal) arg5.view (Rect.unit (s := S1x128x2048) ![0, 0, 0] S1x128x2048.size inb_S1x128x2048_S1x128x2048_0_0_0).toLoadRect (harg5.unread x3))
    (View.readAt (Elt Ideal) arg6.view (Rect.unit (s := S1x1x2048) ![0, 0, 0] S1x1x2048.size inb_S1x1x2048_S1x1x2048_0_0_0).toLoadRect (harg6.unread x4)) = _
  rw [load0, load1, load2, load3, load4]

variable (m : (ℓ : Loc nD τ sig) → Buf (Elt Ideal) ℓ) (c : Dev nD)

/-- The five arguments. -/
abbrev argH : S8192x1024.Idx → EReal := m ((c : Thread nD τ).loc main_arg0)
abbrev argP : S8192x128.Idx → EReal := m ((c : Thread nD τ).loc main_arg1)
abbrev argW : S1024x4112.Idx → EReal := m ((c : Thread nD τ).loc main_arg2)
abbrev argE : S3x128x2048.Idx → EReal := m ((c : Thread nD τ).loc main_arg3)
abbrev argB : S3x1x2048.Idx → EReal := m ((c : Thread nD τ).loc main_arg4)

theorem coord (t : Fin cfg0.N) : (grid0.coords t 0).val = t.val / 16 := by
  have h : ∀ t : Fin grid0.N, (grid0.coords t 0).val = t.val / 16 := by decide +kernel
  exact h t

theorem index0 (t : Fin cfg0.N) : win0_0.index t 0 = t.val % 16 ∧ win0_0.index t 1 = 0 := by
  have h : ∀ t : Fin grid0.N, win0_0.index t 0 = t.val % 16 ∧ win0_0.index t 1 = 0 := by decide +kernel
  exact h t

theorem index1 (t : Fin cfg0.N) : win0_1.index t 0 = t.val % 16 ∧ win0_1.index t 1 = 0 := by
  have h : ∀ t : Fin grid0.N, win0_1.index t 0 = t.val % 16 ∧ win0_1.index t 1 = 0 := by decide +kernel
  exact h t

theorem index2 (t : Fin cfg0.N) : win0_2.index t 0 = 0 ∧ win0_2.index t 1 = t.val / 16 := by
  have h : ∀ t : Fin grid0.N, win0_2.index t 0 = 0 ∧ win0_2.index t 1 = t.val / 16 := by decide +kernel
  exact h t

theorem index3 (t : Fin cfg0.N) : win0_3.index t 0 = t.val / 16 ∧ win0_3.index t 1 = 0 ∧ win0_3.index t 2 = 0 := by
  have h : ∀ t : Fin grid0.N, win0_3.index t 0 = t.val / 16 ∧ win0_3.index t 1 = 0 ∧ win0_3.index t 2 = 0 := by decide +kernel
  exact h t

theorem index4 (t : Fin cfg0.N) : win0_4.index t 0 = t.val / 16 ∧ win0_4.index t 1 = 0 ∧ win0_4.index t 2 = 0 := by
  have h : ∀ t : Fin grid0.N, win0_4.index t 0 = t.val / 16 ∧ win0_4.index t 1 = 0 ∧ win0_4.index t 2 = 0 := by decide +kernel
  exact h t

theorem index5 (t : Fin cfg0.N) : win0_5.index t 0 = t.val / 16 ∧ win0_5.index t 1 = t.val % 16 ∧ win0_5.index t 2 = 0 := by
  have h : ∀ t : Fin grid0.N, win0_5.index t 0 = t.val / 16 ∧ win0_5.index t 1 = t.val % 16 ∧ win0_5.index t 2 = 0 := by decide +kernel
  exact h t

/-- A point's rows. -/
theorem blk0 (t : Fin cfg0.N) (s : Fin 512) (i : Fin 1024) (r : Fin 8192) (hr : r.val = t.val % 16 * 512 + s.val) :
    (iblk m c 0 t : Vec Ideal S512x1024 .bf16) (ix2 s i) = argH m c (ix2 r i) := by
  unfold iblk
  rw [View.read_apply]
  show V m c main_arg0 _ = _
  rw [V_main_arg0]
  refine congrArg (argH m c) (funext fun a => Fin.ext ?_)
  obtain ⟨e0, e1⟩ := index0 t
  match a with
  | ⟨0, _⟩ => show win0_0.index t 0 * 512 + 1 * s.val = r.val; rw [e0]; omega
  | ⟨1, _⟩ => show win0_0.index t 1 * 1024 + 1 * i.val = i.val; rw [e1]; omega

/-- Their parts of the cumulative log gates. -/
theorem blk1 (t : Fin cfg0.N) (s : Fin 512) (i : Fin 128) (r : Fin 8192) (hr : r.val = t.val % 16 * 512 + s.val) :
    (iblk m c 1 t : Vec Ideal S512x128 .bf16) (ix2 s i) = argP m c (ix2 r i) := by
  unfold iblk
  rw [View.read_apply]
  show V m c main_arg1 _ = _
  rw [V_main_arg1]
  refine congrArg (argP m c) (funext fun a => Fin.ext ?_)
  obtain ⟨e0, e1⟩ := index1 t
  match a with
  | ⟨0, _⟩ => show win0_1.index t 0 * 512 + 1 * s.val = r.val; rw [e0]; omega
  | ⟨1, _⟩ => show win0_1.index t 1 * 128 + 1 * i.val = i.val; rw [e1]; omega

/-- The projection's columns of the weight. -/
theorem blk2 (t : Fin cfg0.N) (i k : Fin 1024) (g : Fin 3) (hg : g.val = t.val / 16) :
    (X0_2 m c t : Vec Ideal S1024x1024 .bf16) (ix2 i k) = argW m c (ix2 i (col g k)) := by
  unfold X0_2 Pipeline.Window.fill
  rw [dif_pos (moved0_2 t _)]
  unfold iblk
  rw [View.read_apply]
  show V m c main_arg2 _ = _
  rw [V_main_arg2]
  refine congrArg (argW m c) (funext fun a => Fin.ext ?_)
  obtain ⟨e0, e1⟩ := index2 t
  match a with
  | ⟨0, _⟩ => show win0_2.index t 0 * 1024 + 1 * i.val = i.val; rw [e0]; omega
  | ⟨1, _⟩ => show win0_2.index t 1 * 1024 + 1 * k.val = g.val * 1024 + k.val; rw [e1]; omega

/-- Its selectors. -/
theorem blk3 (t : Fin cfg0.N) (q : Fin 1) (z : Fin 128) (j : Fin 2048) (g : Fin 3) (hg : g.val = t.val / 16) :
    (iblk m c 3 t : Vec Ideal S1x128x2048 .bf16) (ix3 q z j) = argE m c (ix3 g z j) := by
  unfold iblk
  rw [View.read_apply]
  show V m c main_arg3 _ = _
  rw [V_main_arg3]
  refine congrArg (argE m c) (funext fun a => Fin.ext ?_)
  obtain ⟨e0, e1, e2⟩ := index3 t
  match a with
  | ⟨0, _⟩ => show win0_3.index t 0 * 1 + 1 * q.val = g.val; rw [e0]; omega
  | ⟨1, _⟩ => show win0_3.index t 1 * 128 + 1 * z.val = z.val; rw [e1]; omega
  | ⟨2, _⟩ => show win0_3.index t 2 * 2048 + 1 * j.val = j.val; rw [e2]; omega

/-- Its bias. -/
theorem blk4 (t : Fin cfg0.N) (q z : Fin 1) (j : Fin 2048) (g : Fin 3) (hg : g.val = t.val / 16) :
    (iblk m c 4 t : Vec Ideal S1x1x2048 .f32) (ix3 q z j) = argB m c (ix3 g (0 : Fin 1) j) := by
  unfold iblk
  rw [View.read_apply]
  show V m c main_arg4 _ = _
  rw [V_main_arg4]
  refine congrArg (argB m c) (funext fun a => Fin.ext ?_)
  obtain ⟨e0, e1, e2⟩ := index4 t
  match a with
  | ⟨0, _⟩ => show win0_4.index t 0 * 1 + 1 * q.val = g.val; rw [e0]; omega
  | ⟨1, _⟩ => show win0_4.index t 1 * 1 + 1 * z.val = 0; rw [e1]; omega
  | ⟨2, _⟩ => show win0_4.index t 2 * 2048 + 1 * j.val = j.val; rw [e2]; omega

/-- What the array ends holding. -/
theorem left_at (g : Fin 3) (r : Fin 8192) (j : Fin 2048) :
    (dats m 0 c).arrAt 5 cfg0.N (ix3 g r j) = entry (argH m c) (argP m c) (argW m c) (argE m c) (argB m c) g r j := by
  have hN : cfg0.N = 48 := N_0
  let t : Fin cfg0.N := ⟨g.val * 16 + r.val / 512, by rw [hN]; omega⟩
  let s : Fin 512 := ⟨r.val % 512, by omega⟩
  have hg : g.val = t.val / 16 := by show g.val = (g.val * 16 + r.val / 512) / 16; omega
  have hr : r.val = t.val % 16 * 512 + s.val := by show r.val = (g.val * 16 + r.val / 512) % 16 * 512 + r.val % 512; omega
  have e := congrFun (blocks5 m c t (flush0_5 t)) (ix3 (0 : Fin 1) s j)
  rw [View.read_apply, flushed5_A] at e
  have hx : ((cfg0.win 5).blk t).view.emb (ix3 (0 : Fin 1) s j) = (ix3 g r j : S3x8192x2048.Idx) := by
    refine funext fun a => Fin.ext ?_
    obtain ⟨e0, e1, e2⟩ := index5 t
    match a with
    | ⟨0, _⟩ => show win0_5.index t 0 * 1 + 1 * 0 = g.val; rw [e0]; omega
    | ⟨1, _⟩ => show win0_5.index t 1 * 512 + 1 * s.val = r.val; rw [e1]; omega
    | ⟨2, _⟩ => show win0_5.index t 2 * 2048 + 1 * j.val = j.val; rw [e2]; omega
  refine (congrArg ((dats m 0 c).arrAt 5 cfg0.N) hx.symm).trans (e.trans ?_)
  rw [out_eq]
  refine (stored_at _ _ _ _ 0 s j).trans ?_
  rw [stacked_at, add_assoc, blk4 m c t 0 0 j g hg]
  unfold entry
  congr 1
  · refine spread_congr (fun k => ?_) j
    rw [prod_at _ g ((coord t).trans hg.symm)]
    refine congrArg (· * scale g) (Finset.sum_congr rfl fun i _ => ?_)
    rw [blk0 m c t s i r hr, blk2 m c t i k g hg]
  · refine congrArg (· + _) (Finset.sum_congr rfl fun z _ => ?_)
    rw [blk1 m c t s z r hr, blk3 m c t 0 z j g hg]

/-- Three arrays stacked. -/
theorem stack_at (x0 x1 x2 : FVec Ideal Cert.Reference8Ideal.S1x8192x2048 .f32) (h) (f : Fin 3 → Fin 8192 → Fin 2048 → EReal)
    (h0 : ∀ r j, x0 (ix3 (0 : Fin 1) r j) = f 0 r j) (h1 : ∀ r j, x1 (ix3 (0 : Fin 1) r j) = f 1 r j) (h2 : ∀ r j, x2 (ix3 (0 : Fin 1) r j) = f 2 r j)
    (g : Fin 3) (r : Fin 8192) (j : Fin 2048) :
    concatenate S3x8192x2048 0 [⟨Cert.Reference8Ideal.S1x8192x2048, x0⟩, ⟨Cert.Reference8Ideal.S1x8192x2048, x1⟩, ⟨Cert.Reference8Ideal.S1x8192x2048, x2⟩] h (ix3 g r j) = f g r j := by
  refine (concatenate_ofFn_apply (t := S3x8192x2048) (s₁ := Cert.Reference8Ideal.S1x8192x2048) 0 ![x0, x1, x2] h rfl 1 rfl (ix3 g r j) g (Nat.div_one _) (ix3 (0 : Fin 1) r j)
    (Nat.mod_one _).symm fun b hb => ?_).trans ?_
  · match b with
    | ⟨0, _⟩ => exact absurd rfl hb
    | ⟨1, _⟩ => rfl
    | ⟨2, _⟩ => rfl
  · match g with
    | ⟨0, _⟩ => exact h0 r j
    | ⟨1, _⟩ => exact h1 r j
    | ⟨2, _⟩ => exact h2 r j

/-- The reference's product with all the weight's columns. -/
def allCols (h : FVec Ideal S8192x1024 .bf16) (w : FVec Ideal S1024x4112 .bf16) : FVec Ideal Cert.Reference8Ideal.S8192x4112 .f32 :=
  Host.dotGeneral Cert.Reference8Ideal.dot_S8192x1024_S1024x4112_S8192x4112_1_0_0_1_n_n none (extf .f32 h Cert.Reference8Ideal.Gen.bitsLt_bf16_f32) (extf .f32 w Cert.Reference8Ideal.Gen.bitsLt_bf16_f32)

/-- The reference's three projections, stacked. -/
theorem projections_at (h : FVec Ideal S8192x1024 .bf16) (w : FVec Ideal S1024x4112 .bf16) (hc) (g : Fin 3) (r : Fin 8192) (j : Fin 2048) :
    concatenate Cert.Reference8Ideal.S3x8192x2048 0 [⟨Cert.Reference8Ideal.S1x8192x2048, (broadcastInDim Cert.Reference8Ideal.S1x8192x2048 ![1, 2] Cert.Reference8Ideal.Gen.bcast_S8192x2048_S1x8192x2048_1_2 (shapeCast Cert.Reference8Ideal.S8192x2048 (pad Cert.Reference8Ideal.S8192x16x128 ![0, 0, 0] ![0, 0, 64] ![0, 0, 0] (shapeCast Cert.Reference8Ideal.S8192x16x64 (mulf (extractStridedSlice Cert.Reference8Ideal.S8192x1024 ![0, 0] (allCols h w) Cert.Reference8Ideal.Gen.slices_S8192x4112_S8192x1024_0_0) (broadcastInDim Cert.Reference8Ideal.S8192x1024 ![] Cert.Reference8Ideal.Gen.bcast_S_S8192x1024 (constant (F := Ideal) Cert.Reference8Ideal.S_ .f32 0x3E000000#32))) Cert.Reference8Ideal.Gen.shapeCasts_S8192x1024_S8192x16x64) (sitofp (F := Ideal) .f32 (constantI Cert.Reference8Ideal.S_ 32 0#32)) Cert.Reference8Ideal.Gen.pads_S8192x16x64_S8192x16x128_000_000_0640 Cert.Reference8Ideal.Gen.h_S_) Cert.Reference8Ideal.Gen.shapeCasts_S8192x16x128_S8192x2048))⟩,
      ⟨Cert.Reference8Ideal.S1x8192x2048, (broadcastInDim Cert.Reference8Ideal.S1x8192x2048 ![1, 2] Cert.Reference8Ideal.Gen.bcast_S8192x2048_S1x8192x2048_1_2 (shapeCast Cert.Reference8Ideal.S8192x2048 (pad Cert.Reference8Ideal.S8192x16x128 ![0, 0, 0] ![0, 0, 64] ![0, 0, 0] (shapeCast Cert.Reference8Ideal.S8192x16x64 (extractStridedSlice Cert.Reference8Ideal.S8192x1024 ![0, 1024] (allCols h w) Cert.Reference8Ideal.Gen.slices_S8192x4112_S8192x1024_0_1024) Cert.Reference8Ideal.Gen.shapeCasts_S8192x1024_S8192x16x64) (sitofp (F := Ideal) .f32 (constantI Cert.Reference8Ideal.S_ 32 0#32)) Cert.Reference8Ideal.Gen.pads_S8192x16x64_S8192x16x128_000_000_0640 Cert.Reference8Ideal.Gen.h_S_) Cert.Reference8Ideal.Gen.shapeCasts_S8192x16x128_S8192x2048))⟩,
      ⟨Cert.Reference8Ideal.S1x8192x2048, (broadcastInDim Cert.Reference8Ideal.S1x8192x2048 ![1, 2] Cert.Reference8Ideal.Gen.bcast_S8192x2048_S1x8192x2048_1_2 (shapeCast Cert.Reference8Ideal.S8192x2048 (pad Cert.Reference8Ideal.S8192x16x128 ![0, 0, 0] ![0, 0, 64] ![0, 0, 0] (shapeCast Cert.Reference8Ideal.S8192x16x64 (extractStridedSlice Cert.Reference8Ideal.S8192x1024 ![0, 2048] (allCols h w) Cert.Reference8Ideal.Gen.slices_S8192x4112_S8192x1024_0_2048) Cert.Reference8Ideal.Gen.shapeCasts_S8192x1024_S8192x16x64) (sitofp (F := Ideal) .f32 (constantI Cert.Reference8Ideal.S_ 32 0#32)) Cert.Reference8Ideal.Gen.pads_S8192x16x64_S8192x16x128_000_000_0640 Cert.Reference8Ideal.Gen.h_S_) Cert.Reference8Ideal.Gen.shapeCasts_S8192x16x128_S8192x2048))⟩] hc (ix3 g r j)
      = spread (fun k => (∑ i : Fin 1024, h (ix2 r i) * w (ix2 i (col g k))) * scale g) j := by
  refine stack_at _ _ _ hc (fun g r j => spread (fun k => (∑ i : Fin 1024, h (ix2 r i) * w (ix2 i (col g k))) * scale g) j)
    (fun r j => ?_) (fun r j => ?_) (fun r j => ?_) g r j
  · refine (lift_at _ _ 0 r j).trans ((padded_at _ _ _ _ _ r j).trans (spread_congr (fun k => ?_) j))
    pointwise [allCols, col, scale, eighth]
  · refine (lift_at _ _ 0 r j).trans ((padded_at _ _ _ _ _ r j).trans (spread_congr (fun k => ?_) j))
    pointwise [allCols, col, scale]
  · refine (lift_at _ _ 0 r j).trans ((padded_at _ _ _ _ _ r j).trans (spread_congr (fun k => ?_) j))
    pointwise [allCols, col, scale]

/-- The reference's lanes of the gates. -/
theorem lanes_at (p : FVec Ideal S8192x128 .bf16) (e : FVec Ideal S3x128x2048 .bf16) (b : FVec Ideal S3x1x2048 .f32) (g : Fin 3) (r : Fin 8192) (j : Fin 2048) :
    addf (transpose Cert.Reference8Ideal.S3x8192x2048 [0, 2, 1] (Host.dotGeneral Cert.Reference8Ideal.dot_S3x128x2048_S8192x128_S3x2048x8192_1_1_02_0_n_n none (extf .f32 e Cert.Reference8Ideal.Gen.bitsLt_bf16_f32) (extf .f32 p Cert.Reference8Ideal.Gen.bitsLt_bf16_f32)) Cert.Reference8Ideal.Gen.transposes_S3x2048x8192_S3x8192x2048_0_2_1)
      (broadcastInDim Cert.Reference8Ideal.S3x8192x2048 ![0, 1, 2] Cert.Reference8Ideal.Gen.bcast_S3x1x2048_S3x8192x2048_0_1_2 b) (ix3 g r j)
      = ((∑ z : Fin 128, e (ix3 g z j) * p (ix2 r z)) + b (ix3 g (0 : Fin 1) j) : EReal) := by
  pointwise []

end Cert.Kernel8Ideal.Qkv

namespace Cert.Proof

open Idealize.ShloMosaic Idealize.ShloMosaic.TcCoe Idealize.SL.Sem Cert.Kernel8Ideal.Qkv

theorem agree_8 : Cert.algebraic_Kernel8Ideal_Reference8Ideal := by
  intro m ρ m' ρ' _ hm
  refine ⟨fun c => (Cert.Kernel8Ideal.Gen.dats m 0 c).arrAt 5 Cert.Kernel8Ideal.cfg0.N, Cert.Kernel8Ideal.Value.run_blocks m ρ, ?_⟩
  refine (θ_run Cert.Reference8Ideal.defs _ _).mono (fun r hr c => ?_) (Cert.Reference8Ideal.Value.run m' ρ')
  obtain ⟨e, ha⟩ := hr c
  refine ⟨e.trans ?_, ha⟩
  obtain ⟨h0, h1, h2, h3, h4⟩ := hm c
  rw [h0, h1, h2, h3, h4]
  refine funext fun (x : Cert.Kernel8Ideal.S3x8192x2048.Idx) => ?_
  obtain ⟨g, r, j, rfl⟩ : ∃ (g : Fin 3) (r : Fin 8192) (j : Fin 2048), x = ix3 g r j := ⟨_, _, _, eq_ix3 x⟩
  refine Eq.trans ?_ (left_at m c g r j).symm
  refine (congrArg₂ (fun a b : EReal => a + b) (projections_at _ _ _ g r j) (lanes_at _ _ _ g r j)).trans ?_
  unfold entry
  rw [Finset.sum_congr rfl fun z _ => mul_comm _ _]

end Cert.Proof
end
-- ==== Proof.lean ====
/-
  The claims assembled: the programs run, leave their arguments alone and end with every counter at zero; from finite
  arguments the attention kernel's four gradients are the reference's; and the weight gradients are the references', and
  the forward projections of the attention layer too.
-/
module

public import proofs.«01_k».proof.Defs
public import proofs.«01_k».proof.Proof.Run
public import proofs.«01_k».proof.Proof.Same
public import proofs.«01_k».proof.Proof.Agree
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Weight2
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Weight3
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Weight4
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Weight5
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Weight6
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gate7
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Qkv8
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import Idealize.ShloMosaic.Lib.Quiescent
public import Idealize.ShloMosaic.Adequacy
public import Idealize.ShloMosaic.Init

@[expose] public section

set_option maxRecDepth 8192
set_option maxHeartbeats 4000000

noncomputable section

namespace Cert.Proof

open Idealize.ShloMosaic Idealize.ShloMosaic.TcCoe Idealize.SL.Sem

/-- The kernel's text and its idealisation's are the same, so one run serves both. -/
theorem frame_kernel : Cert.quiescent_Kernel := fun m ρ _ =>
  Cert.KernelIdeal.Bwd.kernel_run _ _ (Cert.KernelIdeal.Bwd.frame (F := Bits) m ρ)

theorem frame_ideal : Cert.quiescent_KernelIdeal := fun m ρ _ => Cert.KernelIdeal.Bwd.frame (F := Ideal) m ρ

/-- The reference declares no counter. -/
theorem frame_reference : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

theorem frame_reference_2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_reference_3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_reference_4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem frame_reference_5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_reference_6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem frame_reference_7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem frame_reference_8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Kernel10.Gen.facts, Cert.Kernel10Ideal.Gen.facts,
    Cert.Pre_all_finite.facts,
    frame_kernel, frame_ideal, fun m ρ _ => frame_ideal m ρ trivial, frame_reference, fun m ρ _ => frame_reference m ρ trivial,
    fun m ρ _ => Cert.Kernel2.Gen.frame m ρ, fun m ρ _ => Cert.Kernel2Ideal.Gen.frame m ρ, frame_reference_2,
    fun m ρ _ => Cert.Kernel3.Gen.frame m ρ, fun m ρ _ => Cert.Kernel3Ideal.Gen.frame m ρ, frame_reference_3,
    fun m ρ _ => Cert.Kernel4.Gen.frame m ρ, fun m ρ _ => Cert.Kernel4Ideal.Gen.frame m ρ, frame_reference_4,
    fun m ρ _ => Cert.Kernel5.Gen.frame m ρ, fun m ρ _ => Cert.Kernel5Ideal.Gen.frame m ρ, frame_reference_5,
    fun m ρ _ => Cert.Kernel6.Gen.frame m ρ, fun m ρ _ => Cert.Kernel6Ideal.Gen.frame m ρ, frame_reference_6,
    fun m ρ _ => Cert.Kernel7.Gen.frame m ρ, fun m ρ _ => Cert.Kernel7Ideal.Gen.frame m ρ, frame_reference_7,
    fun m ρ _ => Cert.Kernel8.Gen.frame m ρ, fun m ρ _ => Cert.Kernel8Ideal.Gen.frame m ρ, frame_reference_8,
    fun m ρ _ => Cert.Kernel9.Gen.frame m ρ, fun m ρ _ => Cert.Kernel9Ideal.Gen.frame m ρ,
    fun m ρ _ => Cert.Kernel10.Gen.frame m ρ, fun m ρ _ => Cert.Kernel10Ideal.Gen.frame m ρ,
    trivial, agree,
    trivial, agree_2,
    trivial, agree_3,
    trivial, agree_4,
    trivial, agree_5,
    trivial, agree_6,
    trivial, agree_7,
    trivial, agree_8,
    trivial, trivial⟩

end Cert.Proof

end
